-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ones_mask [hPre_ones_mask : Cert.Pre_ones_mask.Facts] (m : (ℓ : Loc Cert.KernelIdeal.nD Cert.KernelIdeal.τ Cert.KernelIdeal.sig) → Buf (Elt Ideal) ℓ) : Prop :=
  ∀ c : Dev Cert.KernelIdeal.nD,
    (Cert.Pre_ones_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_mask [hPre_ones_mask : Cert.Pre_ones_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ones_mask [hKernelIdeal : Cert.KernelIdeal.Facts] [hPre_ones_mask : Cert.Pre_ones_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ones_mask [hReferenceIdeal : Cert.ReferenceIdeal.Facts] [hPre_ones_mask : Cert.Pre_ones_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ones_mask [hKernelIdeal : Cert.KernelIdeal.Facts] [hReferenceIdeal : Cert.ReferenceIdeal.Facts] [hPre_ones_mask : Cert.Pre_ones_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ones_mask : Cert.Pre_ones_mask.Facts),
    quiescent_Kernel (hKernel := hKernel)
    ∧ quiescent_KernelIdeal (hKernelIdeal := hKernelIdeal)
    ∧ quiescent_KernelIdeal_pre_ones_mask (hKernelIdeal := hKernelIdeal) (hPre_ones_mask := hPre_ones_mask)
    ∧ quiescent_ReferenceIdeal (hReferenceIdeal := hReferenceIdeal)
    ∧ quiescent_ReferenceIdeal_pre_ones_mask (hReferenceIdeal := hReferenceIdeal) (hPre_ones_mask := hPre_ones_mask)
    ∧ preserves_Kernel_KernelIdeal
    ∧ algebraic_KernelIdeal_ReferenceIdeal_pre_ones_mask (hKernelIdeal := hKernelIdeal) (hReferenceIdeal := hReferenceIdeal) (hPre_ones_mask := hPre_ones_mask)
-- ==== Pre_ones_mask.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) : IVec S_ 1 :=
  let main_cst : FVec F S_ .f32 := constant S_ .f32 0x3F800000#32
  let main_v0 : FVec F S8x2048x512 .f32 := broadcastInDim S8x2048x512 ![] bcast_S_S8x2048x512 main_cst
  let main_v1 : IVec S8x2048x512 1 := cmpf .oeq main_arg1 main_v0
  let main_c : IVec S_ 1 := constantI S_ 1 1#1
  let main_v2 : IVec S_ 1 := (fun x v => Host.reduce IntOp.andi x v reducesTo_S8x2048x512_S_d0_1_2 h_S_) main_v1 main_c
  main_v2
-- ==== Kernel.lean ====
abbrev S8x2048x512 : Shape := ⟨3, ![8, 2048, 512]⟩
abbrev S8x2048x64x8 : Shape := ⟨4, ![8, 2048, 64, 8]⟩
abbrev S2048x8x8x64 : Shape := ⟨4, ![2048, 8, 8, 64]⟩
abbrev S512x8x8x64 : Shape := ⟨4, ![512, 8, 8, 64]⟩
abbrev S8x512x512 : Shape := ⟨3, ![8, 512, 512]⟩
abbrev S64x8x8x64 : Shape := ⟨4, ![64, 8, 8, 64]⟩
abbrev S8x8x64 : Shape := ⟨3, ![8, 8, 64]⟩
abbrev S8x2 : Shape := ⟨2, ![8, 2]⟩
abbrev S512x8 : Shape := ⟨2, ![512, 8]⟩
abbrev S8x64 : Shape := ⟨2, ![8, 64]⟩
abbrev S1x1x8x64 : Shape := ⟨4, ![1, 1, 8, 64]⟩
abbrev S8x1 : Shape := ⟨2, ![8, 1]⟩
abbrev S8x63 : Shape := ⟨2, ![8, 63]⟩
abbrev S1x8x64 : Shape := ⟨3, ![1, 8, 64]⟩
abbrev S8 : Shape := ⟨1, ![8]⟩
abbrev S1x8 : Shape := ⟨2, ![1, 8]⟩
abbrev S512x512 : Shape := ⟨2, ![512, 512]⟩
abbrev S512x1 : Shape := ⟨2, ![512, 1]⟩
abbrev S1x512x512 : Shape := ⟨3, ![1, 512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x64x8, .f32⟩
  | .hbm, ⟨3, _⟩ => ⟨S2048x8x8x64, .f32⟩
  | .hbm, ⟨4, _⟩ => ⟨S8x2048x512, .f32⟩
  | .local _ .vmem, ⟨0, _⟩ => ⟨S512x8x8x64, .f32⟩
  | .local _ .vmem, ⟨1, _⟩ => ⟨S512x8x8x64, .f32⟩
  | .local _ .vmem, ⟨2, _⟩ => ⟨S8x512x512, .f32⟩
  | .local _ .vmem, ⟨3, _⟩ => ⟨S8x512x512, .f32⟩
  | .local _ .vmem, ⟨4, _⟩ => ⟨S64x8x8x64, .i32⟩
  | .local _ .vmem, ⟨5, _⟩ => ⟨S8x8x64, .f32⟩
  | .local _ .vmem, ⟨6, _⟩ => ⟨S8x8x64, .i32⟩
  | .local _ .vmem, ⟨7, _⟩ => ⟨S8x8x64, .f32⟩
  | .local _ .vmem, ⟨8, _⟩ => ⟨S8x2, .i32⟩
  | .local _ .vmem, ⟨9, _⟩ => ⟨S512x8, .i32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_8 : BitVec 32 := 0#32
  let v35 : BitVec 1 := Scalar.cmpi .eq arg0 c0_i32_8
  let v36 : BitVec 32 := Scalar.extui v35
  let c0_i32_9 : BitVec 32 := 0#32
  let v37 : BitVec 1 := Scalar.cmpi .ne v36 c0_i32_9
  v37

@[reducible] def k0_t1_loop : Scf.Loop 32 :=
  let c1_i32_57 : BitVec 32 := 1#32
  let c511_i32 : BitVec 32 := 511#32
  let v85 : BitVec 32 := Scalar.addi c1_i32_57 c511_i32
  let c1_i32_58 : BitVec 32 := 1#32
  ⟨c1_i32_57, v85, c1_i32_58⟩
def k0_off1 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v135 : Index := Scalar.indexCast arg9
  let c0_108 : Index := 0#32
  let c0_109 : Index := 0#32
  let c0_110 : Index := 0#32
  ![v135.toNat, 0, 0, 0]
def k0_off2 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v138 : Index := Scalar.indexCast arg9
  let c1_111 : Index := 1#32
  let c0_112 : Index := 0#32
  let c0_113 : Index := 0#32
  ![v138.toNat, 1, 0, 0]
def k0_off3 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v141 : Index := Scalar.indexCast arg9
  let c2_114 : Index := 2#32
  let c0_115 : Index := 0#32
  let c0_116 : Index := 0#32
  ![v141.toNat, 2, 0, 0]
def k0_off4 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v144 : Index := Scalar.indexCast arg9
  let c3_117 : Index := 3#32
  let c0_118 : Index := 0#32
  let c0_119 : Index := 0#32
  ![v144.toNat, 3, 0, 0]
def k0_off5 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v147 : Index := Scalar.indexCast arg9
  let c4_120 : Index := 4#32
  let c0_121 : Index := 0#32
  let c0_122 : Index := 0#32
  ![v147.toNat, 4, 0, 0]
def k0_off6 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v150 : Index := Scalar.indexCast arg9
  let c5_123 : Index := 5#32
  let c0_124 : Index := 0#32
  let c0_125 : Index := 0#32
  ![v150.toNat, 5, 0, 0]
def k0_off7 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v153 : Index := Scalar.indexCast arg9
  let c6_126 : Index := 6#32
  let c0_127 : Index := 0#32
  let c0_128 : Index := 0#32
  ![v153.toNat, 6, 0, 0]
def k0_off8 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let v156 : Index := Scalar.indexCast arg9
  let c7_129 : Index := 7#32
  let c0_130 : Index := 0#32
  let c0_131 : Index := 0#32
  ![v156.toNat, 7, 0, 0]
def k0_off9 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_140 : BitVec 32 := 5#32
  let v237 : BitVec 32 := Scalar.shrsi arg9 c5_i32_140
  let v238 : Index := Scalar.indexCast v237
  let c0_141 : Index := 0#32
  let c0_142 : Index := 0#32
  let c0_143 : Index := 0#32
  ![v238.toNat, 0, 0, 0]
def k0_off10 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_144 : BitVec 32 := 5#32
  let v242 : BitVec 32 := Scalar.shrsi arg9 c5_i32_144
  let v243 : Index := Scalar.indexCast v242
  let c1_145 : Index := 1#32
  let c0_146 : Index := 0#32
  let c0_147 : Index := 0#32
  ![v243.toNat, 1, 0, 0]
def k0_off11 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_148 : BitVec 32 := 5#32
  let v247 : BitVec 32 := Scalar.shrsi arg9 c5_i32_148
  let v248 : Index := Scalar.indexCast v247
  let c2_149 : Index := 2#32
  let c0_150 : Index := 0#32
  let c0_151 : Index := 0#32
  ![v248.toNat, 2, 0, 0]
def k0_off12 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_152 : BitVec 32 := 5#32
  let v252 : BitVec 32 := Scalar.shrsi arg9 c5_i32_152
  let v253 : Index := Scalar.indexCast v252
  let c3_153 : Index := 3#32
  let c0_154 : Index := 0#32
  let c0_155 : Index := 0#32
  ![v253.toNat, 3, 0, 0]
def k0_off13 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_156 : BitVec 32 := 5#32
  let v257 : BitVec 32 := Scalar.shrsi arg9 c5_i32_156
  let v258 : Index := Scalar.indexCast v257
  let c4_157 : Index := 4#32
  let c0_158 : Index := 0#32
  let c0_159 : Index := 0#32
  ![v258.toNat, 4, 0, 0]
def k0_off14 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_160 : BitVec 32 := 5#32
  let v262 : BitVec 32 := Scalar.shrsi arg9 c5_i32_160
  let v263 : Index := Scalar.indexCast v262
  let c5_161 : Index := 5#32
  let c0_162 : Index := 0#32
  let c0_163 : Index := 0#32
  ![v263.toNat, 5, 0, 0]
def k0_off15 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_164 : BitVec 32 := 5#32
  let v267 : BitVec 32 := Scalar.shrsi arg9 c5_i32_164
  let v268 : Index := Scalar.indexCast v267
  let c6_165 : Index := 6#32
  let c0_166 : Index := 0#32
  let c0_167 : Index := 0#32
  ![v268.toNat, 6, 0, 0]
def k0_off16 (k0_t1 : Fin k0_t1_loop.trips) : Fin 4 → Nat :=
  let c1_i32_57 : BitVec 32 := 1#32
  let c1_i32_58 : BitVec 32 := 1#32
  let arg9 : BitVec 32 := Scf.iv c1_i32_57 c1_i32_58 k0_t1
  let c5_i32_168 : BitVec 32 := 5#32
  let v272 : BitVec 32 := Scalar.shrsi arg9 c5_i32_168
  let v273 : Index := Scalar.indexCast v272
  let c7_169 : Index := 7#32
  let c0_170 : Index := 0#32
  let c0_171 : Index := 0#32
  ![v273.toNat, 7, 0, 0]
def k0_cond2 (i : grid0.Coords) : BitVec 1 :=
  let arg0 : BitVec 32 := BitVec.ofNat 32 (i 0).val
  let c1_i32_10 : BitVec 32 := 1#32
  let v38 : BitVec 1 := Scalar.cmpi .eq arg0 c1_i32_10
  let c2_i32_11 : BitVec 32 := 2#32
  let v39 : BitVec 1 := Scalar.cmpi .eq arg0 c2_i32_11
  let v40 : BitVec 1 := Scalar.ori v38 v39
  let v41 : BitVec 32 := Scalar.extui v40
  let c0_i32_12 : BitVec 32 := 0#32
  let v42 : BitVec 1 := Scalar.cmpi .ne v41 c0_i32_12
  v42

@[reducible] def k0_t2_loop : Scf.Loop 32 :=
  let c0_i32_65 : BitVec 32 := 0#32
  let c512_i32 : BitVec 32 := 512#32
  let v93 : BitVec 32 := Scalar.addi c0_i32_65 c512_i32
  let c1_i32_66 : BitVec 32 := 1#32
  ⟨c0_i32_65, v93, c1_i32_66⟩
def k0_off17 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v145 : Index := Scalar.indexCast arg9
  let c0_117 : Index := 0#32
  let c0_118 : Index := 0#32
  let c0_119 : Index := 0#32
  ![v145.toNat, 0, 0, 0]
def k0_off18 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v148 : Index := Scalar.indexCast arg9
  let c1_120 : Index := 1#32
  let c0_121 : Index := 0#32
  let c0_122 : Index := 0#32
  ![v148.toNat, 1, 0, 0]
def k0_off19 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v151 : Index := Scalar.indexCast arg9
  let c2_123 : Index := 2#32
  let c0_124 : Index := 0#32
  let c0_125 : Index := 0#32
  ![v151.toNat, 2, 0, 0]
def k0_off20 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v154 : Index := Scalar.indexCast arg9
  let c3_126 : Index := 3#32
  let c0_127 : Index := 0#32
  let c0_128 : Index := 0#32
  ![v154.toNat, 3, 0, 0]
def k0_off21 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v157 : Index := Scalar.indexCast arg9
  let c4_129 : Index := 4#32
  let c0_130 : Index := 0#32
  let c0_131 : Index := 0#32
  ![v157.toNat, 4, 0, 0]
def k0_off22 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v160 : Index := Scalar.indexCast arg9
  let c5_132 : Index := 5#32
  let c0_133 : Index := 0#32
  let c0_134 : Index := 0#32
  ![v160.toNat, 5, 0, 0]
def k0_off23 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v163 : Index := Scalar.indexCast arg9
  let c6_135 : Index := 6#32
  let c0_136 : Index := 0#32
  let c0_137 : Index := 0#32
  ![v163.toNat, 6, 0, 0]
def k0_off24 (k0_t2 : Fin k0_t2_loop.trips) : Fin 4 → Nat :=
  let c0_i32_65 : BitVec 32 := 0#32
  let c1_i32_66 : BitVec 32 := 1#32
  let arg9 : BitVec 32 := Scf.iv c0_i32_65 c1_i32_66 k0_t2
  let v166 : Index := Scalar.indexCast arg9
  let c7_138 : Index := 7#32
  let c0_139 : Index := 0#32
  let c0_140 : Index := 0#32
  ![v166.toNat, 7, 0, 0]
def k0_off25 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_149 : BitVec 32 := 5#32
  let v247 : BitVec 32 := Scalar.shrsi v144 c5_i32_149
  let v248 : Index := Scalar.indexCast v247
  let c0_150 : Index := 0#32
  let c0_151 : Index := 0#32
  let c0_152 : Index := 0#32
  ![v248.toNat, 0, 0, 0]
def k0_off26 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_153 : BitVec 32 := 5#32
  let v252 : BitVec 32 := Scalar.shrsi v144 c5_i32_153
  let v253 : Index := Scalar.indexCast v252
  let c1_154 : Index := 1#32
  let c0_155 : Index := 0#32
  let c0_156 : Index := 0#32
  ![v253.toNat, 1, 0, 0]
def k0_off27 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_157 : BitVec 32 := 5#32
  let v257 : BitVec 32 := Scalar.shrsi v144 c5_i32_157
  let v258 : Index := Scalar.indexCast v257
  let c2_158 : Index := 2#32
  let c0_159 : Index := 0#32
  let c0_160 : Index := 0#32
  ![v258.toNat, 2, 0, 0]
def k0_off28 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_161 : BitVec 32 := 5#32
  let v262 : BitVec 32 := Scalar.shrsi v144 c5_i32_161
  let v263 : Index := Scalar.indexCast v262
  let c3_162 : Index := 3#32
  let c0_163 : Index := 0#32
  let c0_164 : Index := 0#32
  ![v263.toNat, 3, 0, 0]
def k0_off29 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_165 : BitVec 32 := 5#32
  let v267 : BitVec 32 := Scalar.shrsi v144 c5_i32_165
  let v268 : Index := Scalar.indexCast v267
  let c4_166 : Index := 4#32
  let c0_167 : Index := 0#32
  let c0_168 : Index := 0#32
  ![v268.toNat, 4, 0, 0]
def k0_off30 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_169 : BitVec 32 := 5#32
  let v272 : BitVec 32 := Scalar.shrsi v144 c5_i32_169
  let v273 : Index := Scalar.indexCast v272
  let c5_170 : Index := 5#32
  let c0_171 : Index := 0#32
  let c0_172 : Index := 0#32
  ![v273.toNat, 5, 0, 0]
def k0_off31 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_173 : BitVec 32 := 5#32
  let v277 : BitVec 32 := Scalar.shrsi v144 c5_i32_173
  let v278 : Index := Scalar.indexCast v277
  let c6_174 : Index := 6#32
  let c0_175 : Index := 0#32
  let c0_176 : Index := 0#32
  ![v278.toNat, 6, 0, 0]
def k0_off32 (i : grid0.Coords) (k0_t2 : Fin k0_t2_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t2
  let v144 : BitVec 32 := Scalar.addi v143 arg9
  let c5_i32_177 : BitVec 32 := 5#32
  let v282 : BitVec 32 := Scalar.shrsi v144 c5_i32_177
  let v283 : Index := Scalar.indexCast v282
  let c7_178 : Index := 7#32
  let c0_179 : Index := 0#32
  let c0_180 : Index := 0#32
  ![v283.toNat, 7, 0, 0]
def k0_cond3 (i : grid0.Coords) : BitVec 1 :=
  let arg0 : BitVec 32 := BitVec.ofNat 32 (i 0).val
  let c3_i32_13 : BitVec 32 := 3#32
  let v43 : BitVec 1 := Scalar.cmpi .eq arg0 c3_i32_13
  let v44 : BitVec 32 := Scalar.extui v43
  let c0_i32_14 : BitVec 32 := 0#32
  let v45 : BitVec 1 := Scalar.cmpi .ne v44 c0_i32_14
  v45

@[reducible] def k0_t3_loop : Scf.Loop 32 :=
  let c0_i32_65 : BitVec 32 := 0#32
  let c512_i32 : BitVec 32 := 512#32
  let v93 : BitVec 32 := Scalar.addi c0_i32_65 c512_i32
  let c1_i32_66 : BitVec 32 := 1#32
  ⟨c0_i32_65, v93, c1_i32_66⟩
def k0_off33 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v145 : Index := Scalar.indexCast arg9
  let c0_117 : Index := 0#32
  let c0_118 : Index := 0#32
  let c0_119 : Index := 0#32
  ![v145.toNat, 0, 0, 0]
def k0_off34 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v148 : Index := Scalar.indexCast arg9
  let c1_120 : Index := 1#32
  let c0_121 : Index := 0#32
  let c0_122 : Index := 0#32
  ![v148.toNat, 1, 0, 0]
def k0_off35 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v151 : Index := Scalar.indexCast arg9
  let c2_123 : Index := 2#32
  let c0_124 : Index := 0#32
  let c0_125 : Index := 0#32
  ![v151.toNat, 2, 0, 0]
def k0_off36 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v154 : Index := Scalar.indexCast arg9
  let c3_126 : Index := 3#32
  let c0_127 : Index := 0#32
  let c0_128 : Index := 0#32
  ![v154.toNat, 3, 0, 0]
def k0_off37 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v157 : Index := Scalar.indexCast arg9
  let c4_129 : Index := 4#32
  let c0_130 : Index := 0#32
  let c0_131 : Index := 0#32
  ![v157.toNat, 4, 0, 0]
def k0_off38 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v160 : Index := Scalar.indexCast arg9
  let c5_132 : Index := 5#32
  let c0_133 : Index := 0#32
  let c0_134 : Index := 0#32
  ![v160.toNat, 5, 0, 0]
def k0_off39 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v163 : Index := Scalar.indexCast arg9
  let c6_135 : Index := 6#32
  let c0_136 : Index := 0#32
  let c0_137 : Index := 0#32
  ![v163.toNat, 6, 0, 0]
def k0_off40 (k0_t3 : Fin k0_t3_loop.trips) : Fin 4 → Nat :=
  let c0_i32_65 : BitVec 32 := 0#32
  let c1_i32_66 : BitVec 32 := 1#32
  let arg9 : BitVec 32 := Scf.iv c0_i32_65 c1_i32_66 k0_t3
  let v166 : Index := Scalar.indexCast arg9
  let c7_138 : Index := 7#32
  let c0_139 : Index := 0#32
  let c0_140 : Index := 0#32
  ![v166.toNat, 7, 0, 0]
def k0_off41 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_149 : BitVec 32 := 5#32
  let v247 : BitVec 32 := Scalar.shrsi v144 c5_i32_149
  let v248 : Index := Scalar.indexCast v247
  let c0_150 : Index := 0#32
  let c0_151 : Index := 0#32
  let c0_152 : Index := 0#32
  ![v248.toNat, 0, 0, 0]
def k0_off42 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_153 : BitVec 32 := 5#32
  let v252 : BitVec 32 := Scalar.shrsi v144 c5_i32_153
  let v253 : Index := Scalar.indexCast v252
  let c1_154 : Index := 1#32
  let c0_155 : Index := 0#32
  let c0_156 : Index := 0#32
  ![v253.toNat, 1, 0, 0]
def k0_off43 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_157 : BitVec 32 := 5#32
  let v257 : BitVec 32 := Scalar.shrsi v144 c5_i32_157
  let v258 : Index := Scalar.indexCast v257
  let c2_158 : Index := 2#32
  let c0_159 : Index := 0#32
  let c0_160 : Index := 0#32
  ![v258.toNat, 2, 0, 0]
def k0_off44 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_161 : BitVec 32 := 5#32
  let v262 : BitVec 32 := Scalar.shrsi v144 c5_i32_161
  let v263 : Index := Scalar.indexCast v262
  let c3_162 : Index := 3#32
  let c0_163 : Index := 0#32
  let c0_164 : Index := 0#32
  ![v263.toNat, 3, 0, 0]
def k0_off45 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_165 : BitVec 32 := 5#32
  let v267 : BitVec 32 := Scalar.shrsi v144 c5_i32_165
  let v268 : Index := Scalar.indexCast v267
  let c4_166 : Index := 4#32
  let c0_167 : Index := 0#32
  let c0_168 : Index := 0#32
  ![v268.toNat, 4, 0, 0]
def k0_off46 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_169 : BitVec 32 := 5#32
  let v272 : BitVec 32 := Scalar.shrsi v144 c5_i32_169
  let v273 : Index := Scalar.indexCast v272
  let c5_170 : Index := 5#32
  let c0_171 : Index := 0#32
  let c0_172 : Index := 0#32
  ![v273.toNat, 5, 0, 0]
def k0_off47 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_173 : BitVec 32 := 5#32
  let v277 : BitVec 32 := Scalar.shrsi v144 c5_i32_173
  let v278 : Index := Scalar.indexCast v277
  let c6_174 : Index := 6#32
  let c0_175 : Index := 0#32
  let c0_176 : Index := 0#32
  ![v278.toNat, 6, 0, 0]
def k0_off48 (i : grid0.Coords) (k0_t3 : Fin k0_t3_loop.trips) : Fin 4 → Nat :=
  let arg0 : BitVec 32 := BitVec.ofNat 32 (i 0).val
  let c512_i32_116 : BitVec 32 := 512#32
  let v143 : BitVec 32 := Scalar.muli arg0 c512_i32_116
  let c0_i32_65 : BitVec 32 := 0#32
  let c1_i32_66 : BitVec 32 := 1#32
  let arg9 : BitVec 32 := Scf.iv c0_i32_65 c1_i32_66 k0_t3
  let v144 : BitVec 32 := Scalar.addi v143 arg9
  let c5_i32_177 : BitVec 32 := 5#32
  let v282 : BitVec 32 := Scalar.shrsi v144 c5_i32_177
  let v283 : Index := Scalar.indexCast v282
  let c7_178 : Index := 7#32
  let c0_179 : Index := 0#32
  let c0_180 : Index := 0#32
  ![v283.toNat, 7, 0, 0]
def k0_cond4 (i : grid0.Coords) : BitVec 1 :=
  let arg0 : BitVec 32 := BitVec.ofNat 32 (i 0).val
  let c4_i32_16 : BitVec 32 := 4#32
  let v47 : BitVec 1 := Scalar.cmpi .eq arg0 c4_i32_16
  let v48 : BitVec 32 := Scalar.extui v47
  let c0_i32_17 : BitVec 32 := 0#32
  let v49 : BitVec 1 := Scalar.cmpi .ne v48 c0_i32_17
  v49

@[reducible] def k0_t4_loop : Scf.Loop 32 :=
  let c0_i32_32 : BitVec 32 := 0#32
  let c512_i32 : BitVec 32 := 512#32
  let v74 : BitVec 32 := Scalar.addi c0_i32_32 c512_i32
  let c1_i32_33 : BitVec 32 := 1#32
  ⟨c0_i32_32, v74, c1_i32_33⟩
def k0_off49 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_57 : BitVec 32 := 5#32
  let v109 : BitVec 32 := Scalar.shrsi v108 c5_i32_57
  let v110 : Index := Scalar.indexCast v109
  let c0_58 : Index := 0#32
  let c0_59 : Index := 0#32
  let c0_60 : Index := 0#32
  ![v110.toNat, 0, 0, 0]
def k0_off50 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_61 : BitVec 32 := 5#32
  let v113 : BitVec 32 := Scalar.shrsi v108 c5_i32_61
  let v114 : Index := Scalar.indexCast v113
  let c1_62 : Index := 1#32
  let c0_63 : Index := 0#32
  let c0_64 : Index := 0#32
  ![v114.toNat, 1, 0, 0]
def k0_off51 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_65 : BitVec 32 := 5#32
  let v117 : BitVec 32 := Scalar.shrsi v108 c5_i32_65
  let v118 : Index := Scalar.indexCast v117
  let c2_66 : Index := 2#32
  let c0_67 : Index := 0#32
  let c0_68 : Index := 0#32
  ![v118.toNat, 2, 0, 0]
def k0_off52 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_69 : BitVec 32 := 5#32
  let v121 : BitVec 32 := Scalar.shrsi v108 c5_i32_69
  let v122 : Index := Scalar.indexCast v121
  let c3_70 : Index := 3#32
  let c0_71 : Index := 0#32
  let c0_72 : Index := 0#32
  ![v122.toNat, 3, 0, 0]
def k0_off53 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_73 : BitVec 32 := 5#32
  let v125 : BitVec 32 := Scalar.shrsi v108 c5_i32_73
  let v126 : Index := Scalar.indexCast v125
  let c4_74 : Index := 4#32
  let c0_75 : Index := 0#32
  let c0_76 : Index := 0#32
  ![v126.toNat, 4, 0, 0]
def k0_off54 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_77 : BitVec 32 := 5#32
  let v129 : BitVec 32 := Scalar.shrsi v108 c5_i32_77
  let v130 : Index := Scalar.indexCast v129
  let c5_78 : Index := 5#32
  let c0_79 : Index := 0#32
  let c0_80 : Index := 0#32
  ![v130.toNat, 5, 0, 0]
def k0_off55 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_81 : BitVec 32 := 5#32
  let v133 : BitVec 32 := Scalar.shrsi v108 c5_i32_81
  let v134 : Index := Scalar.indexCast v133
  let c6_82 : Index := 6#32
  let c0_83 : Index := 0#32
  let c0_84 : Index := 0#32
  ![v134.toNat, 6, 0, 0]
def k0_off56 (i : grid0.Coords) (k0_t4 : Fin k0_t4_loop.trips) : Fin 4 → Nat :=
  let c7_i32_15 : BitVec 32 := 7#32
  let arg0 : BitVec 32 := BitVec.ofNat 32 (i 0).val
  let v46 : BitVec 32 := Scalar.subi c7_i32_15 arg0
  let c512_i32_56 : BitVec 32 := 512#32
  let v107 : BitVec 32 := Scalar.muli v46 c512_i32_56
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v108 : BitVec 32 := Scalar.addi v107 v106
  let c5_i32_85 : BitVec 32 := 5#32
  let v137 : BitVec 32 := Scalar.shrsi v108 c5_i32_85
  let v138 : Index := Scalar.indexCast v137
  let c7_86 : Index := 7#32
  let c0_87 : Index := 0#32
  let c0_88 : Index := 0#32
  ![v138.toNat, 7, 0, 0]
def k0_off57 (k0_t4 : Fin k0_t4_loop.trips) : Fin 2 → Nat :=
  let c511_i32_55 : BitVec 32 := 511#32
  let c0_i32_32 : BitVec 32 := 0#32
  let c1_i32_33 : BitVec 32 := 1#32
  let arg9 : BitVec 32 := Scf.iv c0_i32_32 c1_i32_33 k0_t4
  let v106 : BitVec 32 := Scalar.subi c511_i32_55 arg9
  let v145 : Index := Scalar.indexCast v106
  let c0_90 : Index := 0#32
  ![v145.toNat, 0]
def k0_cond5 (i : grid0.Coords) : BitVec 1 :=
  let arg0 : BitVec 32 := BitVec.ofNat 32 (i 0).val
  let c5_i32_18 : BitVec 32 := 5#32
  let v50 : BitVec 1 := Scalar.cmpi .eq arg0 c5_i32_18
  let c6_i32_19 : BitVec 32 := 6#32
  let v51 : BitVec 1 := Scalar.cmpi .eq arg0 c6_i32_19
  let v52 : BitVec 1 := Scalar.ori v50 v51
  let v53 : BitVec 32 := Scalar.extui v52
  let c0_i32_20 : BitVec 32 := 0#32
  let v54 : BitVec 1 := Scalar.cmpi .ne v53 c0_i32_20
  v54

@[reducible] def k0_t5_loop : Scf.Loop 32 :=
  let c0_i32_45 : BitVec 32 := 0#32
  let c512_i32 : BitVec 32 := 512#32
  let v79 : BitVec 32 := Scalar.addi c0_i32_45 c512_i32
  let c1_i32_46 : BitVec 32 := 1#32
  ⟨c0_i32_45, v79, c1_i32_46⟩
def k0_off58 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_77 : BitVec 32 := 5#32
  let v114 : BitVec 32 := Scalar.shrsi v113 c5_i32_77
  let v115 : Index := Scalar.indexCast v114
  let c0_78 : Index := 0#32
  let c0_79 : Index := 0#32
  let c0_80 : Index := 0#32
  ![v115.toNat, 0, 0, 0]
def k0_off59 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_81 : BitVec 32 := 5#32
  let v118 : BitVec 32 := Scalar.shrsi v113 c5_i32_81
  let v119 : Index := Scalar.indexCast v118
  let c1_82 : Index := 1#32
  let c0_83 : Index := 0#32
  let c0_84 : Index := 0#32
  ![v119.toNat, 1, 0, 0]
def k0_off60 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_85 : BitVec 32 := 5#32
  let v122 : BitVec 32 := Scalar.shrsi v113 c5_i32_85
  let v123 : Index := Scalar.indexCast v122
  let c2_86 : Index := 2#32
  let c0_87 : Index := 0#32
  let c0_88 : Index := 0#32
  ![v123.toNat, 2, 0, 0]
def k0_off61 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_89 : BitVec 32 := 5#32
  let v126 : BitVec 32 := Scalar.shrsi v113 c5_i32_89
  let v127 : Index := Scalar.indexCast v126
  let c3_90 : Index := 3#32
  let c0_91 : Index := 0#32
  let c0_92 : Index := 0#32
  ![v127.toNat, 3, 0, 0]
def k0_off62 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_93 : BitVec 32 := 5#32
  let v130 : BitVec 32 := Scalar.shrsi v113 c5_i32_93
  let v131 : Index := Scalar.indexCast v130
  let c4_94 : Index := 4#32
  let c0_95 : Index := 0#32
  let c0_96 : Index := 0#32
  ![v131.toNat, 4, 0, 0]
def k0_off63 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_97 : BitVec 32 := 5#32
  let v134 : BitVec 32 := Scalar.shrsi v113 c5_i32_97
  let v135 : Index := Scalar.indexCast v134
  let c5_98 : Index := 5#32
  let c0_99 : Index := 0#32
  let c0_100 : Index := 0#32
  ![v135.toNat, 5, 0, 0]
def k0_off64 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_101 : BitVec 32 := 5#32
  let v138 : BitVec 32 := Scalar.shrsi v113 c5_i32_101
  let v139 : Index := Scalar.indexCast v138
  let c6_102 : Index := 6#32
  let c0_103 : Index := 0#32
  let c0_104 : Index := 0#32
  ![v139.toNat, 6, 0, 0]
def k0_off65 (i : grid0.Coords) (k0_t5 : Fin k0_t5_loop.trips) : Fin 4 → Nat :=
  let c7_i32_15 : BitVec 32 := 7#32
  let arg0 : BitVec 32 := BitVec.ofNat 32 (i 0).val
  let v46 : BitVec 32 := Scalar.subi c7_i32_15 arg0
  let c512_i32_76 : BitVec 32 := 512#32
  let v112 : BitVec 32 := Scalar.muli v46 c512_i32_76
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v113 : BitVec 32 := Scalar.addi v112 v111
  let c5_i32_105 : BitVec 32 := 5#32
  let v142 : BitVec 32 := Scalar.shrsi v113 c5_i32_105
  let v143 : Index := Scalar.indexCast v142
  let c7_106 : Index := 7#32
  let c0_107 : Index := 0#32
  let c0_108 : Index := 0#32
  ![v143.toNat, 7, 0, 0]
def k0_off66 (k0_t5 : Fin k0_t5_loop.trips) : Fin 2 → Nat :=
  let c511_i32 : BitVec 32 := 511#32
  let c0_i32_45 : BitVec 32 := 0#32
  let c1_i32_46 : BitVec 32 := 1#32
  let arg9 : BitVec 32 := Scf.iv c0_i32_45 c1_i32_46 k0_t5
  let v111 : BitVec 32 := Scalar.subi c511_i32 arg9
  let v150 : Index := Scalar.indexCast v111
  let c0_110 : Index := 0#32
  ![v150.toNat, 0]
def k0_cond6 (i : grid0.Coords) : BitVec 1 :=
  let arg0 : BitVec 32 := BitVec.ofNat 32 (i 0).val
  let c7_i32_21 : BitVec 32 := 7#32
  let v55 : BitVec 1 := Scalar.cmpi .eq arg0 c7_i32_21
  let v56 : BitVec 32 := Scalar.extui v55
  let c0_i32_22 : BitVec 32 := 0#32
  let v57 : BitVec 1 := Scalar.cmpi .ne v56 c0_i32_22
  v57

@[reducible] def k0_t6_loop : Scf.Loop 32 :=
  let c0_i32_45 : BitVec 32 := 0#32
  let c512_i32 : BitVec 32 := 512#32
  let v79 : BitVec 32 := Scalar.addi c0_i32_45 c512_i32
  let c1_i32_46 : BitVec 32 := 1#32
  ⟨c0_i32_45, v79, c1_i32_46⟩
def k0_off67 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_48 : BitVec 32 := 5#32
  let v82 : BitVec 32 := Scalar.shrsi v81 c5_i32_48
  let v83 : Index := Scalar.indexCast v82
  let c0_49 : Index := 0#32
  let c0_50 : Index := 0#32
  let c0_51 : Index := 0#32
  ![v83.toNat, 0, 0, 0]
def k0_off68 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_52 : BitVec 32 := 5#32
  let v86 : BitVec 32 := Scalar.shrsi v81 c5_i32_52
  let v87 : Index := Scalar.indexCast v86
  let c1_53 : Index := 1#32
  let c0_54 : Index := 0#32
  let c0_55 : Index := 0#32
  ![v87.toNat, 1, 0, 0]
def k0_off69 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_56 : BitVec 32 := 5#32
  let v90 : BitVec 32 := Scalar.shrsi v81 c5_i32_56
  let v91 : Index := Scalar.indexCast v90
  let c2_57 : Index := 2#32
  let c0_58 : Index := 0#32
  let c0_59 : Index := 0#32
  ![v91.toNat, 2, 0, 0]
def k0_off70 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_60 : BitVec 32 := 5#32
  let v94 : BitVec 32 := Scalar.shrsi v81 c5_i32_60
  let v95 : Index := Scalar.indexCast v94
  let c3_61 : Index := 3#32
  let c0_62 : Index := 0#32
  let c0_63 : Index := 0#32
  ![v95.toNat, 3, 0, 0]
def k0_off71 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_64 : BitVec 32 := 5#32
  let v98 : BitVec 32 := Scalar.shrsi v81 c5_i32_64
  let v99 : Index := Scalar.indexCast v98
  let c4_65 : Index := 4#32
  let c0_66 : Index := 0#32
  let c0_67 : Index := 0#32
  ![v99.toNat, 4, 0, 0]
def k0_off72 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_68 : BitVec 32 := 5#32
  let v102 : BitVec 32 := Scalar.shrsi v81 c5_i32_68
  let v103 : Index := Scalar.indexCast v102
  let c5_69 : Index := 5#32
  let c0_70 : Index := 0#32
  let c0_71 : Index := 0#32
  ![v103.toNat, 5, 0, 0]
def k0_off73 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_72 : BitVec 32 := 5#32
  let v106 : BitVec 32 := Scalar.shrsi v81 c5_i32_72
  let v107 : Index := Scalar.indexCast v106
  let c6_73 : Index := 6#32
  let c0_74 : Index := 0#32
  let c0_75 : Index := 0#32
  ![v107.toNat, 6, 0, 0]
def k0_off74 (k0_t6 : Fin k0_t6_loop.trips) : Fin 4 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let c5_i32_76 : BitVec 32 := 5#32
  let v110 : BitVec 32 := Scalar.shrsi v81 c5_i32_76
  let v111 : Index := Scalar.indexCast v110
  let c7_77 : Index := 7#32
  let c0_78 : Index := 0#32
  let c0_79 : Index := 0#32
  ![v111.toNat, 7, 0, 0]
def k0_off75 (k0_t6 : Fin k0_t6_loop.trips) : Fin 2 → Nat :=
  let c511_i32 : BitVec 32 := 511#32
  let c0_i32_45 : BitVec 32 := 0#32
  let c1_i32_46 : BitVec 32 := 1#32
  let arg9 : BitVec 32 := Scf.iv c0_i32_45 c1_i32_46 k0_t6
  let v81 : BitVec 32 := Scalar.subi c511_i32 arg9
  let v118 : Index := Scalar.indexCast v81
  let c0_81 : Index := 0#32
  ![v118.toNat, 0]
def k0_cond7 (i : grid0.Coords) : BitVec 1 :=
  let arg0 : BitVec 32 := BitVec.ofNat 32 (i 0).val
  let c4_i32_23 : BitVec 32 := 4#32
  let v58 : BitVec 1 := Scalar.cmpi .sge arg0 c4_i32_23
  let v59 : BitVec 32 := Scalar.extui v58
  let c0_i32_24 : BitVec 32 := 0#32
  let v60 : BitVec 1 := Scalar.cmpi .ne v59 c0_i32_24
  v60

def cc0_transform_0 (i : grid0.Coords) : Fin 4 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 3 → Nat :=
  let arg0 : BitVec 32 := BitVec.ofNat 32 (i 0).val
  let c4_i32 : BitVec 32 := 4#32
  let v0 : BitVec 1 := Scalar.cmpi .slt arg0 c4_i32
  let c7_i32 : BitVec 32 := 7#32
  let v1 : BitVec 32 := Scalar.subi c7_i32 arg0
  let c3_i32 : BitVec 32 := 3#32
  let v2 : BitVec 32 := Scalar.select v0 c3_i32 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S512x8x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x2048x512 : Shape := ⟨3, ![8, 2048, 512]⟩
abbrev S_ : Shape := ⟨0, ![]⟩
abbrev S8x2048 : Shape := ⟨2, ![8, 2048]⟩
abbrev S8x1 : Shape := ⟨2, ![8, 1]⟩
abbrev S8 : Shape := ⟨1, ![8]⟩
abbrev S8x512 : Shape := ⟨2, ![8, 512]⟩
abbrev S512 : Shape := ⟨1, ![512]⟩
abbrev S1x512 : Shape := ⟨2, ![1, 512]⟩
abbrev S8x1x512 : Shape := ⟨3, ![8, 1, 512]⟩
abbrev S2048 : Shape := ⟨1, ![2048]⟩
abbrev S2048x8x512 : Shape := ⟨3, ![2048, 8, 512]⟩
abbrev S1 : Shape := ⟨1, ![1]⟩
abbrev S1x8x512 : Shape := ⟨3, ![1, 8, 512]⟩
abbrev S8x511 : Shape := ⟨2, ![8, 511]⟩
abbrev S8x1x1 : Shape := ⟨3, ![8, 1, 1]⟩
abbrev S8x3 : Shape := ⟨2, ![8, 3]⟩

abbrev nBuf : Space → Nat
  | .hbm => 262
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x512, .f32⟩
  | 3 => ⟨S_, .f32⟩
  | 4 => ⟨S8x2048, .f32⟩
  | 5 => ⟨S8x1, .f32⟩
  | 6 => ⟨S8, .f32⟩
  | 7 => ⟨S8, .i32⟩
  | 8 => ⟨S_, .f32⟩
  | 9 => ⟨S8x512, .f32⟩
  | 10 => ⟨S8x1, .f32⟩
  | 11 => ⟨S8, .f32⟩
  | 12 => ⟨S8, .i32⟩
  | 13 => ⟨S512, .i32⟩
  | 14 => ⟨S1x512, .i32⟩
  | 15 => ⟨S8x1x512, .f32⟩
  | 16 => ⟨S8x512, .f32⟩
  | 17 => ⟨S2048, .i32⟩
  | 18 => ⟨S2048x8x512, .f32⟩
  | 19 => ⟨S_, .f32⟩
  | 20 => ⟨S2048x8x512, .f32⟩
  | 21 => ⟨S_, .i32⟩
  | 22 => ⟨S2048, .i32⟩
  | 23 => ⟨S2048x8x512, .f32⟩
  | 24 => ⟨S8, .i32⟩
  | 25 => ⟨S8, .i32⟩
  | 26 => ⟨S1x512, .i32⟩
  | 27 => ⟨S_, .i32⟩
  | 28 => ⟨S8x512, .f32⟩
  | 29 => ⟨S2048x8x512, .f32⟩
  | 30 => ⟨S_, .i32⟩
  | 31 => ⟨S_, .i1⟩
  | 32 => ⟨S1, .i32⟩
  | 33 => ⟨S_, .i32⟩
  | 34 => ⟨S_, .i32⟩
  | 35 => ⟨S_, .i32⟩
  | 36 => ⟨S1x8x512, .f32⟩
  | 37 => ⟨S8x512, .f32⟩
  | 38 => ⟨S8, .i32⟩
  | 39 => ⟨S8, .i32⟩
  | 40 => ⟨S8, .i32⟩
  | 41 => ⟨S_, .i32⟩
  | 42 => ⟨S8, .i32⟩
  | 43 => ⟨S8, .i32⟩
  | 44 => ⟨S8x1, .i32⟩
  | 45 => ⟨S_, .i32⟩
  | 46 => ⟨S_, .i32⟩
  | 47 => ⟨S8, .i32⟩
  | 48 => ⟨S8, .i32⟩
  | 49 => ⟨S8x1, .i32⟩
  | 50 => ⟨S8x512, .i32⟩
  | 51 => ⟨S8x512, .i32⟩
  | 52 => ⟨S8x512, .i1⟩
  | 53 => ⟨S8x512, .i32⟩
  | 54 => ⟨S8x512, .i32⟩
  | 55 => ⟨S8x512, .i1⟩
  | 56 => ⟨S8x512, .i1⟩
  | 57 => ⟨S8, .i32⟩
  | 58 => ⟨S8, .i1⟩
  | 59 => ⟨S8x1, .i1⟩
  | 60 => ⟨S8x512, .i1⟩
  | 61 => ⟨S8x512, .i1⟩
  | 62 => ⟨S1x512, .i32⟩
  | 63 => ⟨S1x512, .i1⟩
  | 64 => ⟨S_, .f32⟩
  | 65 => ⟨S_, .f32⟩
  | 66 => ⟨S8x512, .i1⟩
  | 67 => ⟨S8x512, .f32⟩
  | 68 => ⟨S8x512, .f32⟩
  | 69 => ⟨S_, .i32⟩
  | 70 => ⟨S_, .i1⟩
  | 71 => ⟨S_, .f32⟩
  | 72 => ⟨S_, .f32⟩
  | 73 => ⟨S_, .f32⟩
  | 74 => ⟨S8x1, .f32⟩
  | 75 => ⟨S8x511, .f32⟩
  | 76 => ⟨S8x512, .f32⟩
  | 77 => ⟨S8x512, .f32⟩
  | 78 => ⟨S8x512, .f32⟩
  | 79 => ⟨S8x512, .f32⟩
  | 80 => ⟨S1x8x512, .f32⟩
  | 81 => ⟨S_, .i32⟩
  | 82 => ⟨S_, .i32⟩
  | 83 => ⟨S2048x8x512, .f32⟩
  | 84 => ⟨S_, .i32⟩
  | 85 => ⟨S_, .i32⟩
  | 86 => ⟨S8, .i32⟩
  | 87 => ⟨S8x2048x512, .i32⟩
  | 88 => ⟨S8x2048x512, .i32⟩
  | 89 => ⟨S_, .i32⟩
  | 90 => ⟨S8x2048x512, .i32⟩
  | 91 => ⟨S_, .i32⟩
  | 92 => ⟨S8, .i32⟩
  | 93 => ⟨S8, .i32⟩
  | 94 => ⟨S_, .i32⟩
  | 95 => ⟨S_, .i32⟩
  | 96 => ⟨S8, .i32⟩
  | 97 => ⟨S8x2048x512, .i32⟩
  | 98 => ⟨S8x2048x512, .i32⟩
  | 99 => ⟨S8, .i32⟩
  | 100 => ⟨S2048x8x512, .f32⟩
  | 101 => ⟨S_, .i32⟩
  | 102 => ⟨S_, .i32⟩
  | 103 => ⟨S8x2048x512, .i32⟩
  | 104 => ⟨S8, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S8, .i32⟩
  | 113 => ⟨S8, .i1⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S8, .i32⟩
  | 121 => ⟨S8, .i32⟩
  | 122 => ⟨S_, .i32⟩
  | 123 => ⟨S8, .i32⟩
  | 124 => ⟨S8, .i1⟩
  | 125 => ⟨S_, .i32⟩
  | 126 => ⟨S8, .i32⟩
  | 127 => ⟨S8, .i1⟩
  | _ => ⟨S8x2048x512, .f32⟩

abbrev hbmTy0_1 (i : Nat) : BufTy := match i % 128 with
  | 0 => ⟨S_, .i32⟩
  | 1 => ⟨S_, .i1⟩
  | 2 => ⟨S8, .i1⟩
  | 3 => ⟨S8, .i1⟩
  | 4 => ⟨S8, .i1⟩
  | 5 => ⟨S8, .i32⟩
  | 6 => ⟨S8, .i32⟩
  | 7 => ⟨S8, .i32⟩
  | 8 => ⟨S_, .i32⟩
  | 9 => ⟨S8x2048x512, .i32⟩
  | 10 => ⟨S8x2048x512, .i1⟩
  | 11 => ⟨S8x1x1, .i32⟩
  | 12 => ⟨S8x2048x512, .i32⟩
  | 13 => ⟨S8x2048x512, .i1⟩
  | 14 => ⟨S8x2048x512, .i1⟩
  | 15 => ⟨S8x1x1, .i1⟩
  | 16 => ⟨S8x2048x512, .i1⟩
  | 17 => ⟨S8x2048x512, .i1⟩
  | 18 => ⟨S_, .i32⟩
  | 19 => ⟨S_, .i32⟩
  | 20 => ⟨S8x2048x512, .i32⟩
  | 21 => ⟨S8x2048x512, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i1⟩
  | 34 => ⟨S_, .i32⟩
  | 35 => ⟨S_, .i1⟩
  | 36 => ⟨S_, .i1⟩
  | 37 => ⟨S_, .i1⟩
  | 38 => ⟨S_, .i32⟩
  | 39 => ⟨S_, .i32⟩
  | 40 => ⟨S_, .i32⟩
  | 41 => ⟨S8, .i32⟩
  | 42 => ⟨S8, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S8, .i32⟩
  | 50 => ⟨S8, .i32⟩
  | 51 => ⟨S_, .i32⟩
  | 52 => ⟨S8, .i32⟩
  | 53 => ⟨S8, .i1⟩
  | 54 => ⟨S_, .i32⟩
  | 55 => ⟨S8, .i32⟩
  | 56 => ⟨S8, .i1⟩
  | 57 => ⟨S_, .i32⟩
  | 58 => ⟨S_, .i1⟩
  | 59 => ⟨S8, .i1⟩
  | 60 => ⟨S8, .i1⟩
  | 61 => ⟨S8, .i1⟩
  | 62 => ⟨S8, .i32⟩
  | 63 => ⟨S8, .i32⟩
  | 64 => ⟨S8, .i32⟩
  | 65 => ⟨S_, .i32⟩
  | 66 => ⟨S8, .i32⟩
  | 67 => ⟨S8, .i1⟩
  | 68 => ⟨S_, .i32⟩
  | 69 => ⟨S8, .i32⟩
  | 70 => ⟨S8, .i1⟩
  | 71 => ⟨S8, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S8, .i32⟩
  | 79 => ⟨S8, .i1⟩
  | 80 => ⟨S_, .i32⟩
  | 81 => ⟨S8, .i32⟩
  | 82 => ⟨S8, .i32⟩
  | 83 => ⟨S8, .i32⟩
  | 84 => ⟨S_, .i32⟩
  | 85 => ⟨S8, .i32⟩
  | 86 => ⟨S8, .i1⟩
  | 87 => ⟨S_, .i32⟩
  | 88 => ⟨S8, .i32⟩
  | 89 => ⟨S8, .i32⟩
  | 90 => ⟨S8, .i32⟩
  | 91 => ⟨S8, .i32⟩
  | 92 => ⟨S8, .i32⟩
  | 93 => ⟨S8x1, .i32⟩
  | 94 => ⟨S8x1, .i32⟩
  | 95 => ⟨S8x1, .i32⟩
  | 96 => ⟨S8x3, .i32⟩
  | 97 => ⟨S8, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S8, .i32⟩
  | 105 => ⟨S8, .i1⟩
  | 106 => ⟨S_, .i32⟩
  | 107 => ⟨S8, .i32⟩
  | 108 => ⟨S8, .i32⟩
  | 109 => ⟨S8, .i32⟩
  | 110 => ⟨S_, .i32⟩
  | 111 => ⟨S8, .i32⟩
  | 112 => ⟨S8, .i1⟩
  | 113 => ⟨S_, .i32⟩
  | 114 => ⟨S8, .i32⟩
  | 115 => ⟨S8, .i32⟩
  | 116 => ⟨S8, .i32⟩
  | 117 => ⟨S8, .i32⟩
  | 118 => ⟨S8, .i32⟩
  | 119 => ⟨S8x1, .i32⟩
  | 120 => ⟨S8x1, .i32⟩
  | 121 => ⟨S8x1, .i32⟩
  | 122 => ⟨S8x3, .i32⟩
  | 123 => ⟨S8, .f32⟩
  | 124 => ⟨S8, .i1⟩
  | 125 => ⟨S8, .i1⟩
  | 126 => ⟨S8, .i1⟩
  | 127 => ⟨S_, .i32⟩
  | _ => ⟨S8x2048x512, .f32⟩

abbrev hbmTy0_2 (i : Nat) : BufTy := match i % 128 with
  | 0 => ⟨S8, .i32⟩
  | 1 => ⟨S8, .i32⟩
  | 2 => ⟨S8, .i32⟩
  | 3 => ⟨S_, .i32⟩
  | 4 => ⟨S_, .i32⟩
  | 5 => ⟨S8x2048x512, .f32⟩
  | _ => ⟨S8x2048x512, .f32⟩

abbrev hbmTy (i : Nat) : BufTy := match i / 128 with
  | 0 => hbmTy0_0 i
  | 1 => hbmTy0_1 i
  | 2 => hbmTy0_2 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_c : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev main_v16_5 : Ref sig .tc := ⟨.hbm, 27, rfl⟩
abbrev main_v16_6 : Ref sig .tc := ⟨.hbm, 28, rfl⟩
abbrev main_v16_7 : Ref sig .tc := ⟨.hbm, 29, rfl⟩
abbrev main_while0c_c_13 : Ref sig .tc := ⟨.hbm, 30, rfl⟩
abbrev main_while0c_v25 : Ref sig .tc := ⟨.hbm, 31, rfl⟩
abbrev main_while0b_call0_v0 : Ref sig .tc := ⟨.hbm, 32, rfl⟩
abbrev main_while0b_v25 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v26 : Ref sig .tc := ⟨.hbm, 37, rfl⟩
abbrev main_while0b_v27 : Ref sig .tc := ⟨.hbm, 38, rfl⟩
abbrev main_while0b_v28 : Ref sig .tc := ⟨.hbm, 39, rfl⟩
abbrev main_while0b_v29 : Ref sig .tc := ⟨.hbm, 40, rfl⟩
abbrev main_while0b_c_13 : Ref sig .tc := ⟨.hbm, 41, rfl⟩
abbrev main_while0b_v30 : Ref sig .tc := ⟨.hbm, 42, rfl⟩
abbrev main_while0b_v31 : Ref sig .tc := ⟨.hbm, 43, rfl⟩
abbrev main_while0b_v32 : Ref sig .tc := ⟨.hbm, 44, rfl⟩
abbrev main_while0b_c_14 : Ref sig .tc := ⟨.hbm, 45, rfl⟩
abbrev main_while0b_v33 : Ref sig .tc := ⟨.hbm, 46, rfl⟩
abbrev main_while0b_v34 : Ref sig .tc := ⟨.hbm, 47, rfl⟩
abbrev main_while0b_v35 : Ref sig .tc := ⟨.hbm, 48, rfl⟩
abbrev main_while0b_v36 : Ref sig .tc := ⟨.hbm, 49, rfl⟩
abbrev main_while0b_v37 : Ref sig .tc := ⟨.hbm, 50, rfl⟩
abbrev main_while0b_v38 : Ref sig .tc := ⟨.hbm, 51, rfl⟩
abbrev main_while0b_v39 : Ref sig .tc := ⟨.hbm, 52, rfl⟩
abbrev main_while0b_v40 : Ref sig .tc := ⟨.hbm, 53, rfl⟩
abbrev main_while0b_v41 : Ref sig .tc := ⟨.hbm, 54, rfl⟩
abbrev main_while0b_v42 : Ref sig .tc := ⟨.hbm, 55, rfl⟩
abbrev main_while0b_v43 : Ref sig .tc := ⟨.hbm, 56, rfl⟩
abbrev main_while0b_v44 : Ref sig .tc := ⟨.hbm, 57, rfl⟩
abbrev main_while0b_v45 : Ref sig .tc := ⟨.hbm, 58, rfl⟩
abbrev main_while0b_v46 : Ref sig .tc := ⟨.hbm, 59, rfl⟩
abbrev main_while0b_v47 : Ref sig .tc := ⟨.hbm, 60, rfl⟩
abbrev main_while0b_v48 : Ref sig .tc := ⟨.hbm, 61, rfl⟩
abbrev main_while0b_v49 : Ref sig .tc := ⟨.hbm, 62, rfl⟩
abbrev main_while0b_v50 : Ref sig .tc := ⟨.hbm, 63, rfl⟩
abbrev main_while0b_cst_15 : Ref sig .tc := ⟨.hbm, 64, rfl⟩
abbrev main_while0b_call2_v0 : Ref sig .tc := ⟨.hbm, 65, rfl⟩
abbrev main_while0b_call2_v1 : Ref sig .tc := ⟨.hbm, 66, rfl⟩
abbrev main_while0b_call2_v2 : Ref sig .tc := ⟨.hbm, 67, rfl⟩
abbrev main_while0b_v51 : Ref sig .tc := ⟨.hbm, 68, rfl⟩
abbrev main_while0b_c_16 : Ref sig .tc := ⟨.hbm, 69, rfl⟩
abbrev main_while0b_v52 : Ref sig .tc := ⟨.hbm, 70, rfl⟩
abbrev main_while0b_cst_17 : Ref sig .tc := ⟨.hbm, 71, rfl⟩
abbrev main_while0b_cst_18 : Ref sig .tc := ⟨.hbm, 72, rfl⟩
abbrev main_while0b_v53 : Ref sig .tc := ⟨.hbm, 73, rfl⟩
abbrev main_while0b_v54 : Ref sig .tc := ⟨.hbm, 74, rfl⟩
abbrev main_while0b_v55 : Ref sig .tc := ⟨.hbm, 75, rfl⟩
abbrev main_while0b_v56 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_call5_v0 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_v60 : Ref sig .tc := ⟨.hbm, 83, rfl⟩
abbrev main_while0b_c_19 : Ref sig .tc := ⟨.hbm, 84, rfl⟩
abbrev main_while0b_v61 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_c_2 : Ref sig .tc := ⟨.hbm, 89, rfl⟩
abbrev main_v20 : Ref sig .tc := ⟨.hbm, 90, rfl⟩
abbrev main_c_3 : Ref sig .tc := ⟨.hbm, 91, rfl⟩
abbrev main_v21 : Ref sig .tc := ⟨.hbm, 92, rfl⟩
abbrev main_v22 : Ref sig .tc := ⟨.hbm, 93, rfl⟩
abbrev main_c_4 : Ref sig .tc := ⟨.hbm, 94, rfl⟩
abbrev main_c_5 : Ref sig .tc := ⟨.hbm, 95, rfl⟩
abbrev main_v23_0 : Ref sig .tc := ⟨.hbm, 96, rfl⟩
abbrev main_v23_1 : Ref sig .tc := ⟨.hbm, 97, rfl⟩
abbrev main_v23_2 : Ref sig .tc := ⟨.hbm, 98, rfl⟩
abbrev main_v23_3 : Ref sig .tc := ⟨.hbm, 99, rfl⟩
abbrev main_v23_4 : Ref sig .tc := ⟨.hbm, 100, rfl⟩
abbrev main_v23_5 : Ref sig .tc := ⟨.hbm, 101, rfl⟩
abbrev main_v23_6 : Ref sig .tc := ⟨.hbm, 102, rfl⟩
abbrev main_v23_7 : Ref sig .tc := ⟨.hbm, 103, rfl⟩
abbrev main_v23_8 : Ref sig .tc := ⟨.hbm, 104, rfl⟩
abbrev main_while1c_c_14 : Ref sig .tc := ⟨.hbm, 105, rfl⟩
abbrev main_while1c_v25 : Ref sig .tc := ⟨.hbm, 106, rfl⟩
abbrev main_while1b_c_14 : Ref sig .tc := ⟨.hbm, 107, rfl⟩
abbrev main_while1b_v25 : Ref sig .tc := ⟨.hbm, 108, rfl⟩
abbrev main_while1b_c_15 : Ref sig .tc := ⟨.hbm, 109, rfl⟩
abbrev main_while1b_v26 : Ref sig .tc := ⟨.hbm, 110, rfl⟩
abbrev main_while1b_v27 : Ref sig .tc := ⟨.hbm, 111, rfl⟩
abbrev main_while1b_v28 : Ref sig .tc := ⟨.hbm, 112, rfl⟩
abbrev main_while1b_v29 : Ref sig .tc := ⟨.hbm, 113, rfl⟩
abbrev main_while1b_c_16 : Ref sig .tc := ⟨.hbm, 114, rfl⟩
abbrev main_while1b_call6_v0 : Ref sig .tc := ⟨.hbm, 115, rfl⟩
abbrev main_while1b_call6_c : Ref sig .tc := ⟨.hbm, 116, rfl⟩
abbrev main_while1b_call6_v1 : Ref sig .tc := ⟨.hbm, 117, rfl⟩
abbrev main_while1b_call6_c_0 : Ref sig .tc := ⟨.hbm, 118, rfl⟩
abbrev main_while1b_call6_v2 : Ref sig .tc := ⟨.hbm, 119, rfl⟩
abbrev main_while1b_call6_v3 : Ref sig .tc := ⟨.hbm, 120, rfl⟩
abbrev main_while1b_call6_v4 : Ref sig .tc := ⟨.hbm, 121, rfl⟩
abbrev main_while1b_call6_c_1 : Ref sig .tc := ⟨.hbm, 122, rfl⟩
abbrev main_while1b_call6_v5 : Ref sig .tc := ⟨.hbm, 123, rfl⟩
abbrev main_while1b_call6_v6 : Ref sig .tc := ⟨.hbm, 124, rfl⟩
abbrev main_while1b_call6_c_2 : Ref sig .tc := ⟨.hbm, 125, rfl⟩
abbrev main_while1b_call6_v7 : Ref sig .tc := ⟨.hbm, 126, rfl⟩
abbrev main_while1b_call6_v8 : Ref sig .tc := ⟨.hbm, 127, rfl⟩
abbrev main_while1b_call6_c_3 : Ref sig .tc := ⟨.hbm, 128, rfl⟩
abbrev main_while1b_call6_v9 : Ref sig .tc := ⟨.hbm, 129, rfl⟩
abbrev main_while1b_call6_v10 : Ref sig .tc := ⟨.hbm, 130, rfl⟩
abbrev main_while1b_call6_v11 : Ref sig .tc := ⟨.hbm, 131, rfl⟩
abbrev main_while1b_call6_v12 : Ref sig .tc := ⟨.hbm, 132, rfl⟩
abbrev main_while1b_call6_v13 : Ref sig .tc := ⟨.hbm, 133, rfl⟩
abbrev main_while1b_call6_v14 : Ref sig .tc := ⟨.hbm, 134, rfl⟩
abbrev main_while1b_v30 : Ref sig .tc := ⟨.hbm, 135, rfl⟩
abbrev main_while1b_v31 : Ref sig .tc := ⟨.hbm, 136, rfl⟩
abbrev main_while1b_v32 : Ref sig .tc := ⟨.hbm, 137, rfl⟩
abbrev main_while1b_v33 : Ref sig .tc := ⟨.hbm, 138, rfl⟩
abbrev main_while1b_v34 : Ref sig .tc := ⟨.hbm, 139, rfl⟩
abbrev main_while1b_v35 : Ref sig .tc := ⟨.hbm, 140, rfl⟩
abbrev main_while1b_v36 : Ref sig .tc := ⟨.hbm, 141, rfl⟩
abbrev main_while1b_v37 : Ref sig .tc := ⟨.hbm, 142, rfl⟩
abbrev main_while1b_v38 : Ref sig .tc := ⟨.hbm, 143, rfl⟩
abbrev main_while1b_v39 : Ref sig .tc := ⟨.hbm, 144, rfl⟩
abbrev main_while1b_v40 : Ref sig .tc := ⟨.hbm, 145, rfl⟩
abbrev main_while1b_c_17 : Ref sig .tc := ⟨.hbm, 146, rfl⟩
abbrev main_while1b_call7_v0 : Ref sig .tc := ⟨.hbm, 147, rfl⟩
abbrev main_while1b_call7_v1 : Ref sig .tc := ⟨.hbm, 148, rfl⟩
abbrev main_while1b_v41 : Ref sig .tc := ⟨.hbm, 149, rfl⟩
abbrev main_while1b_c_18 : Ref sig .tc := ⟨.hbm, 150, rfl⟩
abbrev main_while1b_v42 : Ref sig .tc := ⟨.hbm, 151, rfl⟩
abbrev main_while1b_c_19 : Ref sig .tc := ⟨.hbm, 152, rfl⟩
abbrev main_while1b_call8_c : Ref sig .tc := ⟨.hbm, 153, rfl⟩
abbrev main_while1b_call8_v0 : Ref sig .tc := ⟨.hbm, 154, rfl⟩
abbrev main_while1b_call8_c_0 : Ref sig .tc := ⟨.hbm, 155, rfl⟩
abbrev main_while1b_call8_v1 : Ref sig .tc := ⟨.hbm, 156, rfl⟩
abbrev main_while1b_call8_v2 : Ref sig .tc := ⟨.hbm, 157, rfl⟩
abbrev main_while1b_call8_c_1 : Ref sig .tc := ⟨.hbm, 158, rfl⟩
abbrev main_while1b_call8_v3 : Ref sig .tc := ⟨.hbm, 159, rfl⟩
abbrev main_while1b_call8_c_2 : Ref sig .tc := ⟨.hbm, 160, rfl⟩
abbrev main_while1b_call8_v4 : Ref sig .tc := ⟨.hbm, 161, rfl⟩
abbrev main_while1b_call8_c_3 : Ref sig .tc := ⟨.hbm, 162, rfl⟩
abbrev main_while1b_call8_v5 : Ref sig .tc := ⟨.hbm, 163, rfl⟩
abbrev main_while1b_call8_v6 : Ref sig .tc := ⟨.hbm, 164, rfl⟩
abbrev main_while1b_call8_v7 : Ref sig .tc := ⟨.hbm, 165, rfl⟩
abbrev main_while1b_call8_v8 : Ref sig .tc := ⟨.hbm, 166, rfl⟩
abbrev main_while1b_v43 : Ref sig .tc := ⟨.hbm, 167, rfl⟩
abbrev main_while1b_c_20 : Ref sig .tc := ⟨.hbm, 168, rfl⟩
abbrev main_while1b_v44 : Ref sig .tc := ⟨.hbm, 169, rfl⟩
abbrev main_while1b_v45 : Ref sig .tc := ⟨.hbm, 170, rfl⟩
abbrev main_while1b_c_21 : Ref sig .tc := ⟨.hbm, 171, rfl⟩
abbrev main_while1b_call9_v0 : Ref sig .tc := ⟨.hbm, 172, rfl⟩
abbrev main_while1b_call9_c : Ref sig .tc := ⟨.hbm, 173, rfl⟩
abbrev main_while1b_call9_v1 : Ref sig .tc := ⟨.hbm, 174, rfl⟩
abbrev main_while1b_call9_c_0 : Ref sig .tc := ⟨.hbm, 175, rfl⟩
abbrev main_while1b_call9_v2 : Ref sig .tc := ⟨.hbm, 176, rfl⟩
abbrev main_while1b_call9_v3 : Ref sig .tc := ⟨.hbm, 177, rfl⟩
abbrev main_while1b_call9_v4 : Ref sig .tc := ⟨.hbm, 178, rfl⟩
abbrev main_while1b_call9_c_1 : Ref sig .tc := ⟨.hbm, 179, rfl⟩
abbrev main_while1b_call9_v5 : Ref sig .tc := ⟨.hbm, 180, rfl⟩
abbrev main_while1b_call9_v6 : Ref sig .tc := ⟨.hbm, 181, rfl⟩
abbrev main_while1b_call9_c_2 : Ref sig .tc := ⟨.hbm, 182, rfl⟩
abbrev main_while1b_call9_v7 : Ref sig .tc := ⟨.hbm, 183, rfl⟩
abbrev main_while1b_call9_v8 : Ref sig .tc := ⟨.hbm, 184, rfl⟩
abbrev main_while1b_call9_c_3 : Ref sig .tc := ⟨.hbm, 185, rfl⟩
abbrev main_while1b_call9_v9 : Ref sig .tc := ⟨.hbm, 186, rfl⟩
abbrev main_while1b_call9_v10 : Ref sig .tc := ⟨.hbm, 187, rfl⟩
abbrev main_while1b_call9_v11 : Ref sig .tc := ⟨.hbm, 188, rfl⟩
abbrev main_while1b_call9_v12 : Ref sig .tc := ⟨.hbm, 189, rfl⟩
abbrev main_while1b_call9_v13 : Ref sig .tc := ⟨.hbm, 190, rfl⟩
abbrev main_while1b_call9_v14 : Ref sig .tc := ⟨.hbm, 191, rfl⟩
abbrev main_while1b_v46 : Ref sig .tc := ⟨.hbm, 192, rfl⟩
abbrev main_while1b_c_22 : Ref sig .tc := ⟨.hbm, 193, rfl⟩
abbrev main_while1b_v47 : Ref sig .tc := ⟨.hbm, 194, rfl⟩
abbrev main_while1b_v48 : Ref sig .tc := ⟨.hbm, 195, rfl⟩
abbrev main_while1b_v49 : Ref sig .tc := ⟨.hbm, 196, rfl⟩
abbrev main_while1b_v50 : Ref sig .tc := ⟨.hbm, 197, rfl⟩
abbrev main_while1b_v51 : Ref sig .tc := ⟨.hbm, 198, rfl⟩
abbrev main_while1b_v52 : Ref sig .tc := ⟨.hbm, 199, rfl⟩
abbrev main_while1b_c_23 : Ref sig .tc := ⟨.hbm, 200, rfl⟩
abbrev main_while1b_v53 : Ref sig .tc := ⟨.hbm, 201, rfl⟩
abbrev main_while1b_c_24 : Ref sig .tc := ⟨.hbm, 202, rfl⟩
abbrev main_while1b_v54 : Ref sig .tc := ⟨.hbm, 203, rfl⟩
abbrev main_while1b_v55 : Ref sig .tc := ⟨.hbm, 204, rfl⟩
abbrev main_while1b_c_25 : Ref sig .tc := ⟨.hbm, 205, rfl⟩
abbrev main_while1b_v56 : Ref sig .tc := ⟨.hbm, 206, rfl⟩
abbrev main_while1b_v57 : Ref sig .tc := ⟨.hbm, 207, rfl⟩
abbrev main_while1b_c_26 : Ref sig .tc := ⟨.hbm, 208, rfl⟩
abbrev main_while1b_v58 : Ref sig .tc := ⟨.hbm, 209, rfl⟩
abbrev main_while1b_v59 : Ref sig .tc := ⟨.hbm, 210, rfl⟩
abbrev main_while1b_v60 : Ref sig .tc := ⟨.hbm, 211, rfl⟩
abbrev main_while1b_c_27 : Ref sig .tc := ⟨.hbm, 212, rfl⟩
abbrev main_while1b_v61 : Ref sig .tc := ⟨.hbm, 213, rfl⟩
abbrev main_while1b_v62 : Ref sig .tc := ⟨.hbm, 214, rfl⟩
abbrev main_while1b_c_28 : Ref sig .tc := ⟨.hbm, 215, rfl⟩
abbrev main_while1b_v63 : Ref sig .tc := ⟨.hbm, 216, rfl⟩
abbrev main_while1b_v64 : Ref sig .tc := ⟨.hbm, 217, rfl⟩
abbrev main_while1b_v65 : Ref sig .tc := ⟨.hbm, 218, rfl⟩
abbrev main_while1b_v66 : Ref sig .tc := ⟨.hbm, 219, rfl⟩
abbrev main_while1b_v67 : Ref sig .tc := ⟨.hbm, 220, rfl⟩
abbrev main_while1b_v68 : Ref sig .tc := ⟨.hbm, 221, rfl⟩
abbrev main_while1b_v69 : Ref sig .tc := ⟨.hbm, 222, rfl⟩
abbrev main_while1b_v70 : Ref sig .tc := ⟨.hbm, 223, rfl⟩
abbrev main_while1b_v71 : Ref sig .tc := ⟨.hbm, 224, rfl⟩
abbrev main_while1b_v72 : Ref sig .tc := ⟨.hbm, 225, rfl⟩
abbrev main_while1b_c_29 : Ref sig .tc := ⟨.hbm, 226, rfl⟩
abbrev main_while1b_v73 : Ref sig .tc := ⟨.hbm, 227, rfl⟩
abbrev main_while1b_c_30 : Ref sig .tc := ⟨.hbm, 228, rfl⟩
abbrev main_while1b_v74 : Ref sig .tc := ⟨.hbm, 229, rfl⟩
abbrev main_while1b_v75 : Ref sig .tc := ⟨.hbm, 230, rfl⟩
abbrev main_while1b_c_31 : Ref sig .tc := ⟨.hbm, 231, rfl⟩
abbrev main_while1b_v76 : Ref sig .tc := ⟨.hbm, 232, rfl⟩
abbrev main_while1b_v77 : Ref sig .tc := ⟨.hbm, 233, rfl⟩
abbrev main_while1b_c_32 : Ref sig .tc := ⟨.hbm, 234, rfl⟩
abbrev main_while1b_v78 : Ref sig .tc := ⟨.hbm, 235, rfl⟩
abbrev main_while1b_v79 : Ref sig .tc := ⟨.hbm, 236, rfl⟩
abbrev main_while1b_v80 : Ref sig .tc := ⟨.hbm, 237, rfl⟩
abbrev main_while1b_c_33 : Ref sig .tc := ⟨.hbm, 238, rfl⟩
abbrev main_while1b_v81 : Ref sig .tc := ⟨.hbm, 239, rfl⟩
abbrev main_while1b_v82 : Ref sig .tc := ⟨.hbm, 240, rfl⟩
abbrev main_while1b_c_34 : Ref sig .tc := ⟨.hbm, 241, rfl⟩
abbrev main_while1b_v83 : Ref sig .tc := ⟨.hbm, 242, rfl⟩
abbrev main_while1b_v84 : Ref sig .tc := ⟨.hbm, 243, rfl⟩
abbrev main_while1b_v85 : Ref sig .tc := ⟨.hbm, 244, rfl⟩
abbrev main_while1b_v86 : Ref sig .tc := ⟨.hbm, 245, rfl⟩
abbrev main_while1b_v87 : Ref sig .tc := ⟨.hbm, 246, rfl⟩
abbrev main_while1b_v88 : Ref sig .tc := ⟨.hbm, 247, rfl⟩
abbrev main_while1b_v89 : Ref sig .tc := ⟨.hbm, 248, rfl⟩
abbrev main_while1b_v90 : Ref sig .tc := ⟨.hbm, 249, rfl⟩
abbrev main_while1b_v91 : Ref sig .tc := ⟨.hbm, 250, rfl⟩
abbrev main_while1b_v92 : Ref sig .tc := ⟨.hbm, 251, rfl⟩
abbrev main_while1b_v93 : Ref sig .tc := ⟨.hbm, 252, rfl⟩
abbrev main_while1b_v94 : Ref sig .tc := ⟨.hbm, 253, rfl⟩
abbrev main_while1b_v95 : Ref sig .tc := ⟨.hbm, 254, rfl⟩
abbrev main_while1b_c_35 : Ref sig .tc := ⟨.hbm, 255, rfl⟩
abbrev main_while1b_v96 : Ref sig .tc := ⟨.hbm, 256, rfl⟩
abbrev main_while1b_v97 : Ref sig .tc := ⟨.hbm, 257, rfl⟩
abbrev main_while1b_v98 : Ref sig .tc := ⟨.hbm, 258, rfl⟩
abbrev main_while1b_c_36 : Ref sig .tc := ⟨.hbm, 259, rfl⟩
abbrev main_while1b_v99 : Ref sig .tc := ⟨.hbm, 260, rfl⟩
abbrev main_v24 : Ref sig .tc := ⟨.hbm, 261, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.Rows.lean ====
/- The dynamic programme as iterations on rows of lanes: the scores of one frame after the other, the packed decisions,
   and the walk back through them, over any float operations. Also how a row is laid out in planes: plane `g`
   holds the lanes `8 h + g`. -/
module

public import Idealize.ShloMosaic.Lib.Pipeline.Value
public import Idealize.ShloMosaic.Lib.Pipeline.Kit

@[expose] public section

noncomputable section

namespace Cert.Mas

open Idealize.ShloMosaic

/-- A value per batch entry and lane. -/
abbrev Row (α : Type) := Fin 8 → Fin 512 → α

/-- The shape of one plane. -/
abbrev PlaneS : Shape := ⟨2, ![8, 64]⟩

/-- Column `h` of plane `g` is lane `8 h + g`. -/
def lane (g : Fin 8) (h : Fin 64) : Fin 512 := ⟨8 * h.val + g.val, by omega⟩

/-- The lane before, the last one before the first. -/
def lft (t : Fin 512) : Fin 512 := ⟨(t.val + 511) % 512, Nat.mod_lt _ (by omega)⟩

/-- The lane after, the first one after the last. -/
def rgt (t : Fin 512) : Fin 512 := ⟨(t.val + 1) % 512, Nat.mod_lt _ (by omega)⟩

/-- The batch entry and the column of a plane's index. -/
def c0 (y : PlaneS.Idx) : Fin 8 := y 0
def c1 (y : PlaneS.Idx) : Fin 64 := y 1

/-- Plane `g` of a row. -/
def plane {α : Type} (q : Row α) (g : Fin 8) : PlaneS.Idx → α := fun y => q (c0 y) (lane g (c1 y))

/-- An index of a plane. -/
def ix2 (b : Fin 8) (h : Fin 64) : PlaneS.Idx := fun | ⟨0, _⟩ => b | ⟨1, _⟩ => h

/-- An index over the batch. -/
def ix1 (b : Fin 8) : (⟨1, ![8]⟩ : Shape).Idx := fun | ⟨0, _⟩ => b

/-- The plane and the column of a lane. -/
def gOf (t : Fin 512) : Fin 8 := ⟨t.val % 8, Nat.mod_lt _ (by omega)⟩
def hOf (t : Fin 512) : Fin 64 := ⟨t.val / 8, by omega⟩

theorem lane_of (t : Fin 512) : lane (gOf t) (hOf t) = t := Fin.ext (by simp only [lane, gOf, hOf]; omega)
theorem gOf_lane (g : Fin 8) (h : Fin 64) : gOf (lane g h) = g := Fin.ext (by simp only [lane, gOf]; omega)
theorem hOf_lane (g : Fin 8) (h : Fin 64) : hOf (lane g h) = h := Fin.ext (by simp only [lane, hOf]; omega)
theorem ix2_eta (y : PlaneS.Idx) : ix2 (c0 y) (c1 y) = y := funext fun a => by
  match a with
  | ⟨0, _⟩ => rfl
  | ⟨1, _⟩ => rfl

/-- The row of eight planes, -/
def ofPlanes {α : Type} (P : Fin 8 → PlaneS.Idx → α) : Row α := fun b t => P (gOf t) (ix2 b (hOf t))

/-- and its planes. -/
theorem plane_ofPlanes {α : Type} (P : Fin 8 → PlaneS.Idx → α) (g : Fin 8) : plane (ofPlanes P) g = P g :=
  funext fun y => by
    show P (gOf (lane g (c1 y))) (ix2 (c0 y) (hOf (lane g (c1 y)))) = P g y
    rw [gOf_lane, hOf_lane, ix2_eta]

/-- A plane of the row shifted by one lane is the plane before; -/
theorem plane_lft {α : Type} (q : Row α) (g : Fin 8) (g' : Fin 8) (h : g.val = g'.val + 1) :
    plane (fun b t => q b (lft t)) g = plane q g' :=
  funext fun y => by
    simp only [plane]
    exact congrArg (q (c0 y)) (Fin.ext (by simp only [lft, lane]; omega))

/-- the first plane is the last one rolled by one column. -/
theorem plane_lft_zero {α : Type} (q : Row α)
    (h1 : PlaneS.Slices ![0, 63] ⟨2, ![8, 1]⟩) (h2 : PlaneS.Slices ![0, 0] ⟨2, ![8, 63]⟩)
    (h : Shape.Concatenates [⟨2, ![8, 1]⟩, ⟨2, ![8, 63]⟩] PlaneS 1) :
    concatenate PlaneS 1 [⟨⟨2, ![8, 1]⟩, extractStridedSlice ⟨2, ![8, 1]⟩ ![0, 63] (plane q 7) h1⟩,
        ⟨⟨2, ![8, 63]⟩, extractStridedSlice ⟨2, ![8, 63]⟩ ![0, 0] (plane q 7) h2⟩] h
      = plane (fun b t => q b (lft t)) 0 := by
  funext y
  have hy1 : (c1 y).val < 64 := (c1 y).isLt
  rcases Nat.eq_zero_or_pos (c1 y).val with h0 | hp
  · refine (concatenate_pair_apply_left (t := PlaneS) (s₁ := ⟨2, ![8, 1]⟩) (s₂ := ⟨2, ![8, 63]⟩) 1 _ _ h y rfl
      (fun a => match a with | ⟨0, _⟩ => c0 y | ⟨1, _⟩ => (⟨0, by decide⟩ : Fin 1)) ?_).trans ?_
    · intro a
      match a with
      | ⟨0, _⟩ => rfl
      | ⟨1, _⟩ => exact h0.symm
    · show q _ _ = q (c0 y) (lft (lane 0 (c1 y)))
      refine congrArg₂ q (Fin.ext (Nat.zero_add _)) (Fin.ext ?_)
      simp only [lane, lft]
      show 8 * (63 + 0) + 7 = (8 * (c1 y).val + 0 + 511) % 512
      omega
  · refine (concatenate_pair_apply_right (t := PlaneS) (s₁ := ⟨2, ![8, 1]⟩) (s₂ := ⟨2, ![8, 63]⟩) 1 _ _ h y rfl rfl
      (fun a => match a with | ⟨0, _⟩ => c0 y | ⟨1, _⟩ => (⟨(c1 y).val - 1, by omega⟩ : Fin 63)) ?_ ?_).trans ?_
    · intro a ha
      match a with
      | ⟨0, _⟩ => rfl
      | ⟨1, _⟩ => exact absurd rfl ha
    · show (c1 y).val - 1 + 1 = (c1 y).val
      omega
    · show q _ _ = q (c0 y) (lft (lane 0 (c1 y)))
      refine congrArg₂ q (Fin.ext (Nat.zero_add _)) (Fin.ext ?_)
      simp only [lane, lft]
      show 8 * (0 + ((c1 y).val - 1)) + 7 = (8 * (c1 y).val + 0 + 511) % 512
      omega

/-- A plane of the row shifted the other way is the plane after; -/
theorem plane_rgt {α : Type} (q : Row α) (g : Fin 8) (g' : Fin 8) (h : g'.val = g.val + 1) :
    plane (fun b t => q b (rgt t)) g = plane q g' :=
  funext fun y => by
    simp only [plane]
    exact congrArg (q (c0 y)) (Fin.ext (by simp only [rgt, lane]; omega))

/-- the last plane is the first one rolled back by one column. -/
theorem plane_rgt_last {α : Type} (q : Row α)
    (h1 : PlaneS.Slices ![0, 1] ⟨2, ![8, 63]⟩) (h2 : PlaneS.Slices ![0, 0] ⟨2, ![8, 1]⟩)
    (h : Shape.Concatenates [⟨2, ![8, 63]⟩, ⟨2, ![8, 1]⟩] PlaneS 1) :
    concatenate PlaneS 1 [⟨⟨2, ![8, 63]⟩, extractStridedSlice ⟨2, ![8, 63]⟩ ![0, 1] (plane q 0) h1⟩,
        ⟨⟨2, ![8, 1]⟩, extractStridedSlice ⟨2, ![8, 1]⟩ ![0, 0] (plane q 0) h2⟩] h
      = plane (fun b t => q b (rgt t)) 7 := by
  funext y
  have hy1 : (c1 y).val < 64 := (c1 y).isLt
  rcases Nat.lt_or_ge (c1 y).val 63 with h0 | hp
  · refine (concatenate_pair_apply_left (t := PlaneS) (s₁ := ⟨2, ![8, 63]⟩) (s₂ := ⟨2, ![8, 1]⟩) 1 _ _ h y rfl
      (fun a => match a with | ⟨0, _⟩ => c0 y | ⟨1, _⟩ => (⟨(c1 y).val, h0⟩ : Fin 63)) ?_).trans ?_
    · intro a
      match a with
      | ⟨0, _⟩ => rfl
      | ⟨1, _⟩ => rfl
    · show q _ _ = q (c0 y) (rgt (lane 7 (c1 y)))
      refine congrArg₂ q (Fin.ext (Nat.zero_add _)) (Fin.ext ?_)
      simp only [lane, rgt]
      show 8 * (1 + (c1 y).val) + 0 = (8 * (c1 y).val + 7 + 1) % 512
      omega
  · refine (concatenate_pair_apply_right (t := PlaneS) (s₁ := ⟨2, ![8, 63]⟩) (s₂ := ⟨2, ![8, 1]⟩) 1 _ _ h y rfl rfl
      (fun a => match a with | ⟨0, _⟩ => c0 y | ⟨1, _⟩ => (⟨(c1 y).val - 63, by omega⟩ : Fin 1)) ?_ ?_).trans ?_
    · intro a ha
      match a with
      | ⟨0, _⟩ => rfl
      | ⟨1, _⟩ => exact absurd rfl ha
    · show (c1 y).val - 63 + 63 = (c1 y).val
      omega
    · show q _ _ = q (c0 y) (rgt (lane 7 (c1 y)))
      refine congrArg₂ q (Fin.ext (Nat.zero_add _)) (Fin.ext ?_)
      simp only [lane, rgt]
      show 8 * (0 + ((c1 y).val - 63)) + 0 = (8 * (c1 y).val + 7 + 1) % 512
      omega

/-! ## The scores -/

section
variable {F : FTy → Type} [FloatOps F]

/-- The score no path has. -/
def neg : F .f32 := Scalar.ofBits .f32 0xCE6E6B28#32

/-- The score of a path coming from the lane before; there is none before lane 0. -/
def prev (q : Row (F .f32)) : Row (F .f32) := fun b t => if t.val = 0 then neg else q b (lft t)

/-- The scores of frame `f` among the first 512 from its values `x` and the scores `q` before: lanes past `f` keep their values, lane `f`
    can only be entered from the lane before. -/
def rowA (f : ℕ) (x q : Row (F .f32)) : Row (F .f32) := fun b t =>
  Scalar.select (IntOp.cmpi .sle (BitVec.ofNat 32 t.val) (BitVec.ofNat 32 f))
    (FloatOps.addf (x b t) (FloatOps.maximumf (prev q b t)
      (Scalar.select (IntOp.cmpi .eq (BitVec.ofNat 32 t.val) (BitVec.ofNat 32 f)) neg (q b t)))) (x b t)

/-- Of a frame in the middle: every lane is reachable. -/
def rowB (x q : Row (F .f32)) : Row (F .f32) := fun b t =>
  FloatOps.addf (x b t) (FloatOps.maximumf (prev q b t) (q b t))

/-- Of a frame among the last 512: lanes too far from the end keep their values. -/
def rowC (f : ℕ) (x q : Row (F .f32)) : Row (F .f32) := fun b t =>
  Scalar.select (IntOp.cmpi .sge (BitVec.ofNat 32 t.val) (IntOp.subi (BitVec.ofNat 32 f) 1536#32))
    (FloatOps.addf (x b t) (FloatOps.maximumf (prev q b t) (q b t))) (x b t)

/-- The decision bit: coming from the lane before is strictly better. -/
def bit (q : Row (F .f32)) : Row (BitVec 32) := fun b t => (FloatOps.cmpf .olt (q b t) (q b (lft t))).setWidth 32

/-- The word being packed after frame `f`: its decision bits, from the scores before it, join at position `f % 32`. -/
def pack (f : ℕ) (q : Row (F .f32)) (a : Row (BitVec 32)) : Row (BitVec 32) := fun b t =>
  Scalar.select (IntOp.cmpi .eq (IntOp.andi (BitVec.ofNat 32 f) 31#32) 0#32)
    (IntOp.shli .vector (bit q b t) (IntOp.andi (BitVec.ofNat 32 f) 31#32))
    (IntOp.ori (a b t) (IntOp.shli .vector (bit q b t) (IntOp.andi (BitVec.ofNat 32 f) 31#32)))

/-- The scores of frame `f` from those before, by the stretch the frame is in. -/
def row (f : ℕ) (x q : Row (F .f32)) : Row (F .f32) :=
  if f < 512 then rowA f x q else if f < 1536 then rowB x q else rowC f x q

/-- The scores of each frame of the input `x`. -/
def score (x : ℕ → Row (F .f32)) : ℕ → Row (F .f32)
  | 0 => x 0
  | f + 1 => row (f + 1) (x (f + 1)) (score x f)

/-- The word being packed after each frame. -/
def packed (x : ℕ → Row (F .f32)) : ℕ → Row (BitVec 32)
  | 0 => fun _ _ => 0#32
  | f + 1 => pack (f + 1) (score x f) (packed x f)

/-! ## The walk back -/

/-- The walk's state: the weight on each lane, the number of times the walk wrapped around lane 0, the lane as a word. -/
structure Walk (F : FTy → Type) where
  p : Row (F .f32)
  w : Fin 8 → BitVec 32
  tv : Fin 8 → BitVec 32

/-- Whether a lane's decision word says to step at frame `f`. -/
def tells (f : ℕ) (word : Row (BitVec 32)) : Row (BitVec 1) := fun b t =>
  IntOp.cmpi .ne (IntOp.andi (IntOp.shrsi .vector (word b t) (IntOp.andi (BitVec.ofNat 32 f) 31#32)) 1#32) 0#32

/-- In the first 512 frames the walk must also step from lane `f` itself. -/
def tellsLow (f : ℕ) (word : Row (BitVec 32)) (w : Fin 8 → BitVec 32) : Row (BitVec 1) := fun b t =>
  IntOp.ori (tells f word b t) (IntOp.andi (IntOp.cmpi .eq (BitVec.ofNat 32 t.val) (BitVec.ofNat 32 f)) (IntOp.cmpi .eq (w b) 0#32))

/-- The weight that steps. -/
def moving (cm : Row (BitVec 1)) (p : Row (F .f32)) : Row (F .f32) := fun b t =>
  Scalar.select (cm b t) (p b t) (Scalar.ofBits .f32 0x00000000#32)

/-- The planes of the moving weight summed. -/
def movingSum (mv : Row (F .f32)) : FVec F PlaneS .f32 :=
  addf (addf (addf (addf (addf (addf (addf (plane mv 0) (plane mv 1)) (plane mv 2)) (plane mv 3)) (plane mv 4)) (plane mv 5)) (plane mv 6)) (plane mv 7)

/-- One step of the walk, the moving weight given. -/
def Walk.step (mv : Row (F .f32)) (s : Walk F) : Walk F where
  p := fun b t => FloatOps.addf (mv b (rgt t)) (FloatOps.subf (s.p b t) (mv b t))
  w := fun b => IntOp.addi (s.w b) (FloatOps.fptosi 32 (mv b 0))
  tv := fun b => IntOp.subi (s.tv b)
    (FloatOps.fptosi 32 (multiReduction .add [1] (⟨1, ![8]⟩ : Shape) (movingSum mv) 0x00000000#32 (by decide) (by decide) (by decide) (ix1 b)))

/-- The step at frame `f`. -/
def Walk.back (f : ℕ) (word : Row (BitVec 32)) (s : Walk F) : Walk F :=
  s.step (moving (if f < 512 then tellsLow f word s.w else tells f word) s.p)

/-- The walk starts on the last lane. -/
def Walk.start : Walk F where
  p := fun _ t => if t.val % 8 = 7 then FloatOps.sitofp .f32 ((IntOp.cmpi .eq (BitVec.ofNat 32 (t.val / 8)) 63#32).setWidth 32)
    else Scalar.ofBits .f32 0x00000000#32
  w := fun _ => 0#32
  tv := fun _ => 511#32

/-- The state before the step at frame `2047 - n`. -/
def walk (x : ℕ → Row (F .f32)) : ℕ → Walk F
  | 0 => Walk.start
  | n + 1 => (walk x n).back (2047 - n) (packed x (32 * ((2047 - n) / 32) + 31))

/-- The lane the walk is on at frame `f`. -/
def onLane (x : ℕ → Row (F .f32)) (f : ℕ) (b : Fin 8) : BitVec 32 := IntOp.andi ((walk x (2047 - f)).tv b) 511#32

/-- The path: one at the lane the walk is on, zero elsewhere. -/
def path (x : ℕ → Row (F .f32)) (b : Fin 8) (f : ℕ) (t : Fin 512) : F .f32 :=
  FloatOps.sitofp .f32 ((IntOp.cmpi .eq (BitVec.ofNat 32 t.val) (onLane x f b)).setWidth 32)

end

end Cert.Mas

end
-- ==== Proof.Packs.lean ====
/- The packed decisions unpacked: bit `f % 32` of the word that frame `f`'s decisions are packed in is frame `f`'s decision. -/
module

public import proofs.«01_k».proof.Proof.Rows

@[expose] public section

noncomputable section

namespace Cert.Mas

open Idealize.ShloMosaic

variable {F : FTy → Type} [FloatOps F]

/-- Frame `f`'s decision at a lane: whether coming from the lane before was strictly better in the frame before. -/
def better (x : ℕ → Row (F .f32)) (f : ℕ) : Row (BitVec 1) := fun b t =>
  FloatOps.cmpf .olt (score x (f - 1) b t) (score x (f - 1) b (lft t))

theorem and31 (f : ℕ) (hf : f < 2048) : IntOp.andi (BitVec.ofNat 32 f) 31#32 = BitVec.ofNat 32 (f % 32) := by
  unfold IntOp.andi
  apply BitVec.eq_of_toNat_eq
  rw [BitVec.toNat_and, BitVec.toNat_ofNat, BitVec.toNat_ofNat, Nat.mod_eq_of_lt (by omega), BitVec.toNat_ofNat,
    Nat.mod_eq_of_lt (show f % 32 < 2 ^ 32 by omega)]
  exact Nat.and_two_pow_sub_one_eq_mod f 5

theorem shl_lt (a : BitVec 32) (s : ℕ) (hs : s < 32) : IntOp.shli .vector a (BitVec.ofNat 32 s) = a <<< s := by
  unfold IntOp.shli
  rw [if_pos (by rw [BitVec.toNat_ofNat, Nat.mod_eq_of_lt (by omega)]; exact hs), BitVec.shiftLeft_eq', BitVec.toNat_ofNat,
    Nat.mod_eq_of_lt (by omega)]

theorem eq0_iff (s : ℕ) (hs : s < 32) : IntOp.cmpi .eq (BitVec.ofNat 32 s) 0#32 = BitVec.ofBool (decide (s = 0)) := by
  unfold IntOp.cmpi
  refine congrArg BitVec.ofBool ?_
  rw [Bool.eq_iff_iff, beq_iff_eq, decide_eq_true_iff, ← BitVec.toNat_inj, BitVec.toNat_ofNat]
  simp only [BitVec.toNat_ofNat]
  omega

theorem select_ofBool {α : Type} (c : Bool) (a b : α) : Scalar.select (BitVec.ofBool c) a b = if c then a else b := by
  cases c <;> rfl

/-- Bit `i` of a decision shifted by `s`. -/
theorem bit_shl (c : BitVec 1) (s i : ℕ) (hs : s < 32) (hi : i < 32) :
    ((c.setWidth 32) <<< s).getLsbD i = (decide (i = s) && c.getLsbD 0) := by
  rw [BitVec.getLsbD_shiftLeft, BitVec.getLsbD_setWidth]
  rcases Nat.lt_trichotomy i s with h | h | h
  · simp [h, h.ne]
  · subst h; simp [hi]
  · have : c.getLsbD (i - s) = false := BitVec.getLsbD_of_ge _ _ (by omega)
    simp [this, h.ne']

/-- The word being packed after frame `f` holds, at each position up to `f % 32`, the decision of that frame, and nothing above. -/
theorem packed_bits (x : ℕ → Row (F .f32)) (b : Fin 8) (t : Fin 512) : ∀ f, f < 2048 → ∀ i, i < 32 →
    (packed x f b t).getLsbD i = (decide (i ≤ f % 32) && (decide (32 * (f / 32) + i ≠ 0) && (better x (32 * (f / 32) + i) b t).getLsbD 0))
  | 0, _, i, hi => by
    show (0#32).getLsbD i = _
    rcases Nat.eq_zero_or_pos i with rfl | hp
    · rfl
    · rw [decide_eq_false (by omega : ¬ i ≤ 0 % 32)]; simp
  | f + 1, hf, i, hi => by
    have ih := packed_bits x b t f (by omega) i hi
    have hs : (f + 1) % 32 < 32 := Nat.mod_lt _ (by decide)
    show (pack (f + 1) (score x f) (packed x f) b t).getLsbD i = _
    unfold pack bit
    rw [and31 _ hf, eq0_iff _ hs, select_ofBool, shl_lt _ _ hs]
    by_cases h0 : (f + 1) % 32 = 0
    · rw [if_pos (decide_eq_true h0), bit_shl _ _ _ hs hi, h0]
      by_cases hi0 : i = 0
      · subst hi0
        have e : 32 * ((f + 1) / 32) + 0 = f + 1 := by omega
        rw [e]; rfl
      · simp [hi0]
    · rw [if_neg (by simpa using h0)]
      unfold IntOp.ori
      rw [BitVec.getLsbD_or, bit_shl _ _ _ hs hi, ih]
      have e : (f + 1) / 32 = f / 32 := by omega
      have e' : (f + 1) % 32 = f % 32 + 1 := by omega
      rw [e, e']
      by_cases hi0 : i = f % 32 + 1
      · subst hi0
        have e2 : 32 * (f / 32) + (f % 32 + 1) = f + 1 := by omega
        rw [e2]
        simp [better]
      · have e3 : decide (i ≤ f % 32 + 1) = decide (i ≤ f % 32) := by
          rw [decide_eq_decide]; omega
        rw [e3]
        simp [hi0]

/-- The word that holds frame `f`'s decision tells it. -/
theorem tells_packed (x : ℕ → Row (F .f32)) (f : ℕ) (hf0 : f ≠ 0) (hf : f < 2048) (b : Fin 8) (t : Fin 512) :
    tells f (packed x (32 * (f / 32) + 31)) b t = better x f b t := by
  have hs : f % 32 < 32 := Nat.mod_lt _ (by decide)
  have hb := packed_bits x b t (32 * (f / 32) + 31) (by omega) (f % 32) hs
  have e1 : (32 * (f / 32) + 31) / 32 = f / 32 := by omega
  have e2 : (32 * (f / 32) + 31) % 32 = 31 := by omega
  have e3 : 32 * (f / 32) + f % 32 = f := by omega
  rw [e1, e2, e3, decide_eq_true (by omega : f % 32 ≤ 31), decide_eq_true hf0, Bool.true_and, Bool.true_and] at hb
  unfold tells
  rw [and31 _ hf]
  unfold IntOp.shrsi
  rw [if_pos (by rw [BitVec.toNat_ofNat, Nat.mod_eq_of_lt (by omega)]; exact hs)]
  generalize packed x (32 * (f / 32) + 31) b t = w at hb
  have h1 : IntOp.andi (w.sshiftRight' (BitVec.ofNat 32 (f % 32))) 1#32 = (BitVec.ofBool (w.getLsbD (f % 32))).setWidth 32 := by
    unfold IntOp.andi
    apply BitVec.eq_of_getLsbD_eq
    intro i hi
    rw [BitVec.getLsbD_and, BitVec.getLsbD_setWidth, BitVec.sshiftRight_eq', BitVec.getLsbD_sshiftRight]
    rcases Nat.eq_zero_or_pos i with rfl | hp
    · rw [BitVec.toNat_ofNat, Nat.mod_eq_of_lt (show f % 32 < 2 ^ 32 by omega)]
      simp [hs]
    · have : (BitVec.ofBool (w.getLsbD (f % 32))).getLsbD i = false := BitVec.getLsbD_of_ge _ _ (by omega)
      rw [this]
      have h2 : (1#32).getLsbD i = false := by
        simp [BitVec.getLsbD_one]; omega
      rw [h2]; simp
  rw [h1, hb]
  generalize better x f b t = c
  rcases BitVec.eq_zero_or_eq_one c with rfl | rfl <;> rfl

end Cert.Mas

end
-- ==== Proof.Spots.lean ====
/- The walk over the extended reals: its weight is one at a single lane, the spot, and zero elsewhere. -/
module

public import proofs.«01_k».proof.Proof.Packs
public import Idealize.ShloMosaic.PureOps.Ideal
public import Idealize.ShloMosaic.Lib.Pointwise

@[expose] public section

noncomputable section

namespace Cert.Mas

open Idealize.ShloMosaic

/-! ## The spot -/

section
variable {F : FTy → Type} [FloatOps F]

/-- Where the walk is: a lane, and how often the walk wrapped around lane 0. -/
abbrev Spot := Fin 512 × ℕ

/-- Whether the walk steps to the lane before at frame `f`: from lane `f` itself, or where the decision says so. -/
def goes (x : ℕ → Row (F .f32)) (b : Fin 8) (f : ℕ) (s : Spot) : Prop :=
  (s.2 = 0 ∧ s.1.val = f ∧ f ≠ 0) ∨ better x f b s.1 = 1#1

instance (x : ℕ → Row (F .f32)) (b : Fin 8) (f : ℕ) (s : Spot) : Decidable (goes x b f s) := by unfold goes; infer_instance

/-- The spot one lane before. -/
def Spot.before (s : Spot) : Spot := (lft s.1, if s.1.val = 0 then s.2 + 1 else s.2)

/-- The spot before the step at frame `2047 - n`. -/
def spot (x : ℕ → Row (F .f32)) (b : Fin 8) : ℕ → Spot
  | 0 => (⟨511, by decide⟩, 0)
  | n + 1 => if goes x b (2047 - n) (spot x b n) then (spot x b n).before else spot x b n

/-- The token that a spot is, as a word: negative once the walk has wrapped. -/
def Spot.word (s : Spot) : BitVec 32 := BitVec.ofNat 32 s.1.val - BitVec.ofNat 32 (512 * s.2)

theorem spot_le (x : ℕ → Row (F .f32)) (b : Fin 8) : ∀ n, (spot x b n).2 ≤ n
  | 0 => Nat.le_refl 0
  | n + 1 => by
    have ih := spot_le x b n
    unfold spot
    split
    · simp only [Spot.before]; split <;> omega
    · omega

/-- A token's residue is its lane. -/
theorem word_and (s : Spot) : IntOp.andi s.word 511#32 = BitVec.ofNat 32 s.1.val := by
  have hu := s.1.isLt
  unfold IntOp.andi Spot.word
  apply BitVec.eq_of_toNat_eq
  rw [BitVec.toNat_and, BitVec.toNat_sub]
  simp only [BitVec.toNat_ofNat]
  rw [show 511 % 2 ^ 32 = 2 ^ 9 - 1 from rfl, Nat.and_two_pow_sub_one_eq_mod]
  omega

/-- Stepping takes one from the token. -/
theorem word_before (s : Spot) : s.before.word = s.word - 1#32 := by
  have hu := s.1.isLt
  unfold Spot.word Spot.before
  apply BitVec.eq_of_toNat_eq
  simp only [lft, BitVec.toNat_sub, BitVec.toNat_ofNat]
  split <;> omega

end

/-! ## The walk over the extended reals -/

/-- Weight one at a lane. -/
def onehot (u : Fin 512) : Fin 512 → EReal := fun t => if t = u then 1 else 0

theorem ofBits_zero : Ideal.ofBits .f32 0x00000000#32 = 0 := by simp [Ideal.ofBits, Ideal.ieee]

theorem fptosi_zero : Ideal.fptosi 32 0 = 0#32 := by
  rw [Ideal.fptosi, show (0 : EReal) = ((0 : ℝ) : EReal) from rfl, Ideal.toIntClamped_coe]; norm_num
theorem fptosi_one : Ideal.fptosi 32 1 = 1#32 := by
  rw [Ideal.fptosi, show (1 : EReal) = ((1 : ℝ) : EReal) from rfl, Ideal.toIntClamped_coe]; norm_num

theorem lane_eq (g : Fin 8) (h : Fin 64) (u : Fin 512) : lane g h = u ↔ g = gOf u ∧ h = hOf u :=
  ⟨fun e => by subst e; exact ⟨(gOf_lane g h).symm, (hOf_lane g h).symm⟩, fun ⟨a, b⟩ => by subst a b; exact lane_of u⟩

/-- The planes of a weight one summed: one in the lane's column. -/
theorem movingSum_onehot (mv : Row (Ideal .f32)) (y : PlaneS.Idx) (u : Fin 512) (h : mv (c0 y) = onehot u) :
    movingSum mv y = if c1 y = hOf u then (1 : EReal) else 0 := by
  show (((((((mv (c0 y) (lane 0 (c1 y)) + mv (c0 y) (lane 1 (c1 y))) + mv (c0 y) (lane 2 (c1 y))) + mv (c0 y) (lane 3 (c1 y)))
    + mv (c0 y) (lane 4 (c1 y))) + mv (c0 y) (lane 5 (c1 y))) + mv (c0 y) (lane 6 (c1 y))) + mv (c0 y) (lane 7 (c1 y)) : EReal) = _
  rw [h]
  simp only [onehot, lane_eq]
  generalize gOf u = g
  by_cases hc : c1 y = hOf u
  · simp only [hc, and_true, if_true]
    fin_cases g <;> simp
  · simp only [hc, and_false, if_false, add_zero]

theorem movingSum_zero (mv : Row (Ideal .f32)) (y : PlaneS.Idx) (h : mv (c0 y) = fun _ => (0 : EReal)) :
    movingSum mv y = (0 : EReal) := by
  show (((((((mv (c0 y) (lane 0 (c1 y)) + mv (c0 y) (lane 1 (c1 y))) + mv (c0 y) (lane 2 (c1 y))) + mv (c0 y) (lane 3 (c1 y)))
    + mv (c0 y) (lane 4 (c1 y))) + mv (c0 y) (lane 5 (c1 y))) + mv (c0 y) (lane 6 (c1 y))) + mv (c0 y) (lane 7 (c1 y)) : EReal) = _
  rw [h]; simp

/-- The sum over a plane's columns. -/
theorem columns_sum (v : FVec Ideal PlaneS .f32) (b : Fin 8) (h : PlaneS.Reduces [1] (⟨1, ![8]⟩ : Shape)) (hφ : FKind.Formats .f32)
    (ha : (0x00000000#32 : BitVec 32) = FKind.add.neutral .f32 hφ) :
    multiReduction .add [1] (⟨1, ![8]⟩ : Shape) v 0x00000000#32 h hφ ha (ix1 b) = ∑ k : Fin 64, (v (ix2 b k) : EReal) := by
  show Ideal.reduceAdd h v (ix1 b) = _
  rw [Ideal.reduceAdd_r2_a1]
  refine Finset.sum_congr rfl fun k _ => congrArg v ?_
  funext i
  match i with
  | ⟨0, _⟩ => rfl
  | ⟨1, _⟩ => rfl

/-- What a step does to the spot's weight, once it is known whether the walk goes. -/
theorem step_onehot (mv : Row (Ideal .f32)) (s : Walk Ideal) (b : Fin 8) (sp : Spot) (go : Prop) [Decidable go]
    (hp : s.p b = onehot sp.1) (hw : s.w b = BitVec.ofNat 32 sp.2) (ht : s.tv b = sp.word)
    (hmv : mv b = fun t => if t = sp.1 ∧ go then (1 : EReal) else 0) :
    (s.step mv).p b = onehot (if go then sp.before else sp).1 ∧ (s.step mv).w b = BitVec.ofNat 32 (if go then sp.before else sp).2
      ∧ (s.step mv).tv b = (if go then sp.before else sp).word := by
  by_cases hg : go
  · simp only [hg, and_true, if_true] at hmv ⊢
    refine ⟨?_, ?_, ?_⟩
    · funext t
      show (mv b (rgt t) + (s.p b t - mv b t) : EReal) = _
      rw [hmv, hp]
      simp only [onehot, Spot.before]
      have e : rgt t = sp.1 ↔ t = lft sp.1 := by
        constructor
        · intro e; rw [← e]; apply Fin.ext; simp only [rgt, lft]; have := t.isLt; omega
        · intro e; rw [e]; apply Fin.ext; simp only [rgt, lft]; have := sp.1.isLt; omega
      have e1 : (if rgt t = sp.1 then (1 : EReal) else 0) = if t = lft sp.1 then 1 else 0 := if_congr e rfl rfl
      have e2 : ((1 : EReal) - 1) = 0 := by rw [← EReal.coe_one, ← EReal.coe_sub]; norm_num
      rw [e1]
      by_cases h1 : t = sp.1
      · rw [if_pos h1, e2]; exact add_zero _
      · rw [if_neg h1, sub_zero]; exact add_zero _
    · show s.w b + Ideal.fptosi 32 (mv b 0) = _
      rw [hmv, hw]
      simp only [Spot.before]
      by_cases h0 : sp.1.val = 0
      · rw [if_pos (Fin.ext h0.symm), if_pos h0, fptosi_one]
        apply BitVec.eq_of_toNat_eq; simp [BitVec.toNat_add]
      · rw [if_neg (fun h => h0 (congrArg Fin.val h.symm)), if_neg h0, fptosi_zero, BitVec.add_zero]
    · show s.tv b - Ideal.fptosi 32 (multiReduction .add [1] (⟨1, ![8]⟩ : Shape) (movingSum mv) 0x00000000#32 _ _ _ (ix1 b)) = _
      rw [columns_sum, ht, word_before]
      have : ∀ k : Fin 64, (movingSum mv (ix2 b k) : EReal) = if k = hOf sp.1 then 1 else 0 := fun k =>
        movingSum_onehot mv (ix2 b k) sp.1 hmv
      rw [Finset.sum_congr rfl fun k _ => this k, Finset.sum_ite_eq' Finset.univ (hOf sp.1) (fun _ => (1 : EReal)),
        if_pos (Finset.mem_univ _), fptosi_one]
  · simp only [hg, and_false, if_false] at hmv ⊢
    refine ⟨?_, ?_, ?_⟩
    · funext t
      show (mv b (rgt t) + (s.p b t - mv b t) : EReal) = _
      rw [hmv, hp]; simp
    · show s.w b + Ideal.fptosi 32 (mv b 0) = _
      rw [hmv, hw, fptosi_zero, BitVec.add_zero]
    · show s.tv b - Ideal.fptosi 32 (multiReduction .add [1] (⟨1, ![8]⟩ : Shape) (movingSum mv) 0x00000000#32 _ _ _ (ix1 b)) = _
      rw [columns_sum, ht, Finset.sum_congr rfl fun k _ => movingSum_zero mv (ix2 b k) hmv]
      simp [fptosi_zero]

theorem ofBool_eq_one (c : Bool) : BitVec.ofBool c = 1#1 ↔ c = true := by cases c <;> decide
theorem one_or (a b : BitVec 1) : IntOp.ori a b = 1#1 ↔ a = 1#1 ∨ b = 1#1 := by
  rcases BitVec.eq_zero_or_eq_one a with rfl | rfl <;> rcases BitVec.eq_zero_or_eq_one b with rfl | rfl <;> decide
theorem one_and (a b : BitVec 1) : IntOp.andi a b = 1#1 ↔ a = 1#1 ∧ b = 1#1 := by
  rcases BitVec.eq_zero_or_eq_one a with rfl | rfl <;> rcases BitVec.eq_zero_or_eq_one b with rfl | rfl <;> decide
theorem eq_one (a b : BitVec 32) : IntOp.cmpi .eq a b = 1#1 ↔ a = b := by
  show BitVec.ofBool (a == b) = 1#1 ↔ _
  rw [ofBool_eq_one, beq_iff_eq]
theorem ofNat_inj {a b : ℕ} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- Whether the packed decisions and the wrap count tell the walk to go. -/
theorem tells_iff (x : ℕ → Row (Ideal .f32)) (b : Fin 8) (n : ℕ) (hn : n < 2047) (w : Fin 8 → BitVec 32) (s : Spot)
    (hs : s.2 ≤ n) (hw : w b = BitVec.ofNat 32 s.2) :
    ((if 2047 - n < 512 then tellsLow (2047 - n) (packed x (32 * ((2047 - n) / 32) + 31)) w
      else tells (2047 - n) (packed x (32 * ((2047 - n) / 32) + 31))) b s.1 = 1#1) ↔ goes x b (2047 - n) s := by
  have hu := s.1.isLt
  unfold goes
  split
  · unfold tellsLow
    rw [one_or, one_and, eq_one, eq_one, hw, ofNat_inj (by omega) (by omega), show (0#32 : BitVec 32) = BitVec.ofNat 32 0 from rfl,
      ofNat_inj (by omega) (by omega), tells_packed x (2047 - n) (by omega) (by omega)]
    have : 2047 - n ≠ 0 := by omega
    tauto
  · rw [tells_packed x (2047 - n) (by omega) (by omega)]
    have : ¬ s.1.val = 2047 - n := by omega
    tauto

theorem select_same {α : Type} (c : BitVec 1) (a : α) : Scalar.select c a a = a := by unfold Scalar.select; split <;> rfl

/-- The walk's state is its spot. -/
theorem walk_spot (x : ℕ → Row (Ideal .f32)) (b : Fin 8) : ∀ n, n ≤ 2047 →
    (walk x n).p b = onehot (spot x b n).1 ∧ (walk x n).w b = BitVec.ofNat 32 (spot x b n).2 ∧ (walk x n).tv b = (spot x b n).word
  | 0, _ => by
    refine ⟨?_, rfl, show (511#32 : BitVec 32) = BitVec.ofNat 32 511 - BitVec.ofNat 32 (512 * 0) from by decide⟩
    funext t
    have ht := t.isLt
    show (if t.val % 8 = 7 then ((((IntOp.cmpi .eq (BitVec.ofNat 32 (t.val / 8)) 63#32).setWidth 32).toInt : ℝ) : EReal) else Ideal.ofBits .f32 0x00000000#32) = _
    rw [ofBits_zero]
    unfold onehot spot
    by_cases h : t.val = 511
    · have e : t = (⟨511, by decide⟩ : Fin 512) := Fin.ext h
      subst e
      simp [IntOp.cmpi]
    · rw [if_neg (fun e => h (congrArg Fin.val e))]
      split
      · have hne : ¬ BitVec.ofNat 32 (t.val / 8) = 63#32 := by
          rw [show (63#32 : BitVec 32) = BitVec.ofNat 32 63 from rfl, ofNat_inj (by omega) (by omega)]; omega
        have : IntOp.cmpi .eq (BitVec.ofNat 32 (t.val / 8)) 63#32 = 0#1 := by
          rcases BitVec.eq_zero_or_eq_one (IntOp.cmpi .eq (BitVec.ofNat 32 (t.val / 8)) 63#32) with h | h
          · exact h
          · exact absurd ((eq_one _ _).mp h) hne
        rw [this]; simp
      · rfl
  | n + 1, hn => by
    obtain ⟨hp, hw, ht⟩ := walk_spot x b n (by omega)
    have hg := tells_iff x b n (by omega) (walk x n).w (spot x b n) (spot_le x b n) hw
    have key := step_onehot (moving (if 2047 - n < 512 then tellsLow (2047 - n) (packed x (32 * ((2047 - n) / 32) + 31)) (walk x n).w
      else tells (2047 - n) (packed x (32 * ((2047 - n) / 32) + 31))) (walk x n).p) (walk x n) b (spot x b n) (goes x b (2047 - n) (spot x b n)) hp hw ht ?_
    · exact key
    · funext t
      show Scalar.select _ ((walk x n).p b t) (Ideal.ofBits .f32 0x00000000#32) = _
      rw [ofBits_zero, hp]
      unfold onehot
      by_cases h1 : t = (spot x b n).1
      · subst h1
        simp only [true_and, if_true]
        by_cases h2 : goes x b (2047 - n) (spot x b n)
        · rw [if_pos h2, hg.mpr h2]; rfl
        · rw [if_neg h2]
          rcases BitVec.eq_zero_or_eq_one ((if 2047 - n < 512 then tellsLow (2047 - n) (packed x (32 * ((2047 - n) / 32) + 31)) (walk x n).w
            else tells (2047 - n) (packed x (32 * ((2047 - n) / 32) + 31))) b (spot x b n).1) with h | h
          · rw [h]; rfl
          · exact absurd (hg.mp h) h2
      · rw [if_neg h1, if_neg (not_and_of_not_left _ h1)]
        exact select_same _ _

/-- The path over the extended reals: one at the spot's lane. -/
theorem path_spot (x : ℕ → Row (Ideal .f32)) (b : Fin 8) (f : ℕ) (hf : f < 2048) (t : Fin 512) :
    path x b f t = FloatOps.sitofp (F := Ideal) .f32 ((IntOp.cmpi .eq (BitVec.ofNat 32 t.val) (BitVec.ofNat 32 (spot x b (2047 - f)).1.val)).setWidth 32) := by
  unfold path onLane
  rw [(walk_spot x b (2047 - f) (by omega)).2.2, word_and]

end Cert.Mas

end
-- ==== Proof.Frames.lean ====
/- The problem's array as one row of values for each frame, and the mask of ones. -/
module

public import proofs.«01_k».proof.Pre_ones_mask
public import proofs.«01_k».proof.Proof.Spots
public import Idealize.ShloMosaic.Lib.ReduceAll

@[expose] public section

noncomputable section

namespace Cert.Mas

open Idealize.ShloMosaic

/-- The index of a batch, a frame and a lane. -/
def atFrameLane (b : Fin 8) (n : ℕ) (t : Fin 512) : (⟨3, ![8, 2048, 512]⟩ : Shape).Idx :=
  fun | ⟨0, _⟩ => b | ⟨1, _⟩ => (⟨n % 2048, Nat.mod_lt _ (by decide)⟩ : Fin 2048) | ⟨2, _⟩ => t

/-- Each frame's row of values. -/
def frames {α : Type} (A : (⟨3, ![8, 2048, 512]⟩ : Shape).Idx → α) : ℕ → Row α := fun n b t => A (atFrameLane b n t)

end Cert.Mas

namespace Cert.Pre_ones_mask

open Idealize.ShloMosaic

/-- The side conditions of the mask's predicate. -/
theorem facts : Facts := ⟨by decide, by decide, by decide⟩

theorem ofBits_one : Ideal.ofBits .f32 0x3F800000#32 = 1 := by
  simp [Ideal.ofBits, Ideal.ieee, -EReal.coe_mul]
  norm_num

instance : Subsingleton S_.Idx := ⟨fun i j => funext fun a => a.elim0⟩

/-- Where the predicate holds, the mask is one everywhere. -/
theorem mask_one [Facts] (a0 a1 : FVec Ideal S8x2048x512 .f32) (h : fn (F := Ideal) a0 a1 = fun _ => 1#1) : a1 = fun _ => (1 : EReal) := by
  funext i
  have e := Host.reduce_andi_all _ _ _ _ (Shape.Idx.first Facts.h_S_) (congrFun h (Shape.Idx.first Facts.h_S_)) i
  have e' : BitVec.ofBool (decide ((a1 i : EReal) = Ideal.ofBits .f32 0x3F800000#32)) = 1#1 := e
  rw [ofBits_one] at e'
  by_contra hne
  rw [decide_eq_false hne] at e'
  exact absurd e' (by decide)

end Cert.Pre_ones_mask

end
-- ==== Proof.Planes.lean ====
/- How the vectors of one plane are loaded, combined and stored: each vector expression of the kernel on planes of a row is a
   plane of the corresponding row. -/
module

public import proofs.«01_k».proof.Proof.Rows
public import Idealize.ShloMosaic.Lib.WritesUnit
public import Idealize.ShloMosaic.Lib.Pipeline.ValueKit.Tiles
public import Idealize.ShloMosaic.Lib.Affine

@[expose] public section

noncomputable section

namespace Cert.Mas

open Idealize.ShloMosaic

/-! ## Frame numbers as words -/

/-- A word that holds `n` is `n` as a word. -/
theorem word_of_isInt {w : BitVec 32} {n : ℕ} (h : Affine.IsInt w (n : Int)) (hn : n < 2 ^ 31) : w = BitVec.ofNat 32 n := by
  have h' : Affine.IsInt (BitVec.ofNat 32 n) (n : Int) := Affine.ofNat n ⟨rfl, hn⟩
  unfold Affine.IsInt at h h'
  exact BitVec.eq_of_toInt_eq (h.trans h'.symm)

/-! ## Four- and three-axis indices of planes -/

variable {α : Type}

/-- Row `r`, plane `g`, batch entry `b`, column `h`. -/
def ix4 {N : ℕ} (r : Fin N) (g b : Fin 8) (h : Fin 64) : (⟨4, ![N, 8, 8, 64]⟩ : Shape).Idx :=
  fun | ⟨0, _⟩ => r | ⟨1, _⟩ => g | ⟨2, _⟩ => b | ⟨3, _⟩ => h

/-- Plane `g`, batch entry `b`, column `h`. -/
def ix3 (g b : Fin 8) (h : Fin 64) : (⟨3, ![8, 8, 64]⟩ : Shape).Idx :=
  fun | ⟨0, _⟩ => g | ⟨1, _⟩ => b | ⟨2, _⟩ => h

section Views
variable {sig : RefSig} {κ : Kind} {sp : Space} {e : EltTy} {Val : EltTy → Type}

/-- Row `r` of planes of a buffer's contents. -/
def at4 {N : ℕ} (v : View sig κ sp ⟨4, ![N, 8, 8, 64]⟩ e) (f : BufTy.Contents Val v.ty) (r : Fin N) : Row (Val e) :=
  fun b t => v.read Val f (ix4 r (gOf t) b (hOf t))

/-- The planes of a buffer's contents. -/
def at3 (v : View sig κ sp ⟨3, ![8, 8, 64]⟩ e) (f : BufTy.Contents Val v.ty) : Row (Val e) :=
  fun b t => v.read Val f (ix3 (gOf t) b (hOf t))

/-- A plane loaded from row `r` is that plane of the row. -/
theorem load4 {N : ℕ} (v : View sig κ sp ⟨4, ![N, 8, 8, 64]⟩ e) (f : BufTy.Contents Val v.ty) (r : Fin N) (g : Fin 8)
    {off : Fin 4 → ℕ} (hoff : off = ![r.val, g.val, 0, 0])
    (inb : ∀ a, off a + (![1, 1, 8, 64] : Fin 4 → ℕ) a ≤ (![N, 8, 8, 64] : Fin 4 → ℕ) a)
    (h : (⟨4, ![1, 1, 8, 64]⟩ : Shape).ShapeCasts PlaneS) :
    shapeCast PlaneS (v.readAt Val (Rect.unit (s := ⟨4, ![N, 8, 8, 64]⟩) off ![1, 1, 8, 64] inb).toLoadRect f) h
      = plane (at4 v f r) g := by
  subst hoff
  funext y
  refine (shapeCast_apply (s := ⟨4, ![1, 1, 8, 64]⟩) _ h y
    (fun a => match a with | ⟨0, _⟩ => (⟨0, by decide⟩ : Fin 1) | ⟨1, _⟩ => (⟨0, by decide⟩ : Fin 1) | ⟨2, _⟩ => c0 y | ⟨3, _⟩ => c1 y) ?_).trans ?_
  · rw [Shape.rowMajor_val_four, Shape.rowMajor_val_two]
    show ((0 * 1 + 0) * 8 + (y 0).val) * 64 + (y 1).val = (y 0).val * 64 + (y 1).val
    omega
  · show v.read Val f _ = v.read Val f (ix4 r (gOf (lane g (c1 y))) (c0 y) (hOf (lane g (c1 y))))
    rw [gOf_lane, hOf_lane]
    refine congrArg (v.read Val f) (funext fun a => Fin.ext ?_)
    match a with
    | ⟨0, _⟩ => exact Nat.add_zero r.val
    | ⟨1, _⟩ => exact Nat.add_zero g.val
    | ⟨2, _⟩ => show 0 + 1 * (c0 y).val = (c0 y).val; omega
    | ⟨3, _⟩ => show 0 + 1 * (c1 y).val = (c1 y).val; omega

/-- A plane loaded from a three-axis buffer is that plane. -/
theorem load3 (v : View sig κ sp ⟨3, ![8, 8, 64]⟩ e) (f : BufTy.Contents Val v.ty) (g : Fin 8)
    {off : Fin 3 → ℕ} (hoff : off = ![g.val, 0, 0])
    (inb : ∀ a, off a + (![1, 8, 64] : Fin 3 → ℕ) a ≤ (![8, 8, 64] : Fin 3 → ℕ) a)
    (h : (⟨3, ![1, 8, 64]⟩ : Shape).ShapeCasts PlaneS) :
    shapeCast PlaneS (v.readAt Val (Rect.unit (s := ⟨3, ![8, 8, 64]⟩) off ![1, 8, 64] inb).toLoadRect f) h
      = plane (at3 v f) g := by
  subst hoff
  funext y
  refine (shapeCast_apply (s := ⟨3, ![1, 8, 64]⟩) _ h y
    (fun a => match a with | ⟨0, _⟩ => (⟨0, by decide⟩ : Fin 1) | ⟨1, _⟩ => c0 y | ⟨2, _⟩ => c1 y) ?_).trans ?_
  · rw [Shape.rowMajor_val_three, Shape.rowMajor_val_two]
    show (0 * 8 + (y 0).val) * 64 + (y 1).val = (y 0).val * 64 + (y 1).val
    omega
  · show v.read Val f _ = v.read Val f (ix3 (gOf (lane g (c1 y))) (c0 y) (hOf (lane g (c1 y))))
    rw [gOf_lane, hOf_lane]
    refine congrArg (v.read Val f) (funext fun a => Fin.ext ?_)
    match a with
    | ⟨0, _⟩ => exact Nat.add_zero g.val
    | ⟨1, _⟩ => show 0 + 1 * (c0 y).val = (c0 y).val; omega
    | ⟨2, _⟩ => show 0 + 1 * (c1 y).val = (c1 y).val; omega

/-- Reading a plane's row after plane `g` of row `r` was stored: there the stored plane, elsewhere what was there. -/
theorem read4_cons {N : ℕ} (v : View sig κ sp ⟨4, ![N, 8, 8, 64]⟩ e) (f : BufTy.Contents Val v.ty) (r : Fin N) (g : Fin 8)
    {off : Fin 4 → ℕ} (hoff : off = ![r.val, g.val, 0, 0])
    (inb : ∀ a, off a + (![1, 1, 8, 64] : Fin 4 → ℕ) a ≤ (![N, 8, 8, 64] : Fin 4 → ℕ) a)
    (h : PlaneS.ShapeCasts (⟨4, ![1, 1, 8, 64]⟩ : Shape)) {pay : (⟨4, ![1, 1, 8, 64]⟩ : Shape).Idx → Val e} (w : Row (Val e))
    (hpay : pay = shapeCast ⟨4, ![1, 1, 8, 64]⟩ (plane w g) h)
    (L : List (View.Piece Val (⟨4, ![N, 8, 8, 64]⟩ : Shape) e)) (r' : Fin N) (g' b : Fin 8) (h' : Fin 64) :
    v.read Val (v.writes Val f (⟨Rect.unit (s := ⟨4, ![N, 8, 8, 64]⟩) off ![1, 1, 8, 64] inb, pay⟩ :: L)) (ix4 r' g' b h')
      = if r' = r ∧ g' = g then w b (lane g h') else v.read Val (v.writes Val f L) (ix4 r' g' b h') := by
  subst hpay
  by_cases hr : r' = r
  · by_cases hg : g' = g
    · subst hr hg
      rw [if_pos ⟨rfl, rfl⟩]
      refine (View.read_writes_cons_unit_of_mem v f inb _ L _
        (fun a => match a with | ⟨0, _⟩ => (⟨0, by decide⟩ : Fin 1) | ⟨1, _⟩ => (⟨0, by decide⟩ : Fin 1) | ⟨2, _⟩ => b | ⟨3, _⟩ => h') hoff ?_).trans ?_
      · intro a
        match a with
        | ⟨0, _⟩ => rfl
        | ⟨1, _⟩ => rfl
        | ⟨2, _⟩ => exact (Nat.zero_add _).symm
        | ⟨3, _⟩ => exact (Nat.zero_add _).symm
      · refine (shapeCast_apply (s := PlaneS) _ h _ (ix2 b h') ?_).trans rfl
        rw [Shape.rowMajor_val_four, Shape.rowMajor_val_two]
        show b.val * 64 + h'.val = ((0 * 1 + 0) * 8 + b.val) * 64 + h'.val
        omega
    · rw [if_neg (fun hh => hg hh.2)]
      refine View.read_writes_cons_unit_of_not_mem v f inb _ L _ hoff ⟨1, Nat.lt_of_sub_eq_succ rfl⟩ ?_
      show g'.val < g.val ∨ g.val + 1 ≤ g'.val
      have : g'.val ≠ g.val := fun hh => hg (Fin.ext hh)
      omega
  · rw [if_neg (fun hh => hr hh.1)]
    refine View.read_writes_cons_unit_of_not_mem v f inb _ L _ hoff ⟨0, Nat.lt_of_sub_eq_succ rfl⟩ ?_
    show r'.val < r.val ∨ r.val + 1 ≤ r'.val
    have : r'.val ≠ r.val := fun hh => hr (Fin.ext hh)
    omega

/-- The same of a three-axis buffer. -/
theorem read3_cons (v : View sig κ sp ⟨3, ![8, 8, 64]⟩ e) (f : BufTy.Contents Val v.ty) (g : Fin 8)
    {off : Fin 3 → ℕ} (hoff : off = ![g.val, 0, 0])
    (inb : ∀ a, off a + (![1, 8, 64] : Fin 3 → ℕ) a ≤ (![8, 8, 64] : Fin 3 → ℕ) a)
    (h : PlaneS.ShapeCasts (⟨3, ![1, 8, 64]⟩ : Shape)) {pay : (⟨3, ![1, 8, 64]⟩ : Shape).Idx → Val e} (w : Row (Val e))
    (hpay : pay = shapeCast ⟨3, ![1, 8, 64]⟩ (plane w g) h)
    (L : List (View.Piece Val (⟨3, ![8, 8, 64]⟩ : Shape) e)) (g' b : Fin 8) (h' : Fin 64) :
    v.read Val (v.writes Val f (⟨Rect.unit (s := ⟨3, ![8, 8, 64]⟩) off ![1, 8, 64] inb, pay⟩ :: L)) (ix3 g' b h')
      = if g' = g then w b (lane g h') else v.read Val (v.writes Val f L) (ix3 g' b h') := by
  subst hpay
  by_cases hg : g' = g
  · subst hg
    rw [if_pos rfl]
    refine (View.read_writes_cons_unit_of_mem v f inb _ L _
      (fun a => match a with | ⟨0, _⟩ => (⟨0, by decide⟩ : Fin 1) | ⟨1, _⟩ => b | ⟨2, _⟩ => h') hoff ?_).trans ?_
    · intro a
      match a with
      | ⟨0, _⟩ => rfl
      | ⟨1, _⟩ => exact (Nat.zero_add _).symm
      | ⟨2, _⟩ => exact (Nat.zero_add _).symm
    · refine (shapeCast_apply (s := PlaneS) _ h _ (ix2 b h') ?_).trans rfl
      rw [Shape.rowMajor_val_three, Shape.rowMajor_val_two]
      show b.val * 64 + h'.val = (0 * 8 + b.val) * 64 + h'.val
      omega
  · rw [if_neg hg]
    refine View.read_writes_cons_unit_of_not_mem v f inb _ L _ hoff ⟨0, by decide⟩ ?_
    show g'.val < g.val ∨ g.val + 1 ≤ g'.val
    have : g'.val ≠ g.val := fun hh => hg (Fin.ext hh)
    omega

end Views

/-- One of eight. -/
theorem eight {P : Fin 8 → Prop} (h0 : P 0) (h1 : P 1) (h2 : P 2) (h3 : P 3) (h4 : P 4) (h5 : P 5) (h6 : P 6) (h7 : P 7) (g : Fin 8) : P g := by
  match g with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-! ## The kernel's vector expressions on planes -/

/-- The lane numbers. -/
def lanes : Row (BitVec 32) := fun _ t => BitVec.ofNat 32 t.val

/-- Eight times the column number plus `g`: the lane numbers of plane `g`. -/
theorem vec_lanes (hi : PlaneS.Iotas .tc 32 [1]) (g : Fin 8) (n : ℕ) (hn : n = g.val) :
    addi (muli (iota .tc PlaneS 32 [1] hi) (broadcast PlaneS 8#32)) (broadcast PlaneS (BitVec.ofNat 32 n)) = plane lanes g := by
  subst hn
  funext y
  show IntOp.addi (IntOp.muli (iota .tc PlaneS 32 [1] hi y) 8#32) (BitVec.ofNat 32 g.val) = BitVec.ofNat 32 (8 * (c1 y).val + g.val)
  rw [iota_single_apply]
  show BitVec.ofNat 32 (c1 y).val * 8#32 + BitVec.ofNat 32 g.val = _
  rw [show (8#32 : BitVec 32) = BitVec.ofNat 32 8 from rfl, ← BitVec.ofNat_mul, ← BitVec.ofNat_add, Nat.mul_comm]

variable {F : FTy → Type} [FloatOps F]

/-- Away from the first plane the lane before is in the plane before, -/
theorem plane_prev (q : Row (F .f32)) (g g' : Fin 8) (h : g.val = g'.val + 1) : plane (prev q) g = plane q g' := by
  rw [← plane_lft q g g' h]
  funext y
  show (if (lane g (c1 y)).val = 0 then neg else q (c0 y) (lft (lane g (c1 y)))) = _
  rw [if_neg (by simp only [lane]; omega)]
  rfl

/-- and in the first one it is the rolled last plane's, but for lane 0. -/
theorem vec_prev_zero (q : Row (F .f32)) (hi : PlaneS.Iotas .tc 32 [1])
    (h1 : PlaneS.Slices ![0, 63] ⟨2, ![8, 1]⟩) (h2 : PlaneS.Slices ![0, 0] ⟨2, ![8, 63]⟩)
    (h : Shape.Concatenates [⟨2, ![8, 1]⟩, ⟨2, ![8, 63]⟩] PlaneS 1) {v34 : IVec PlaneS 1}
    (h34 : v34 = cmpi .eq (iota .tc PlaneS 32 [1] hi) (broadcast PlaneS 0#32)) :
    select v34 (broadcast PlaneS (Scalar.ofBits (F := F) .f32 0xCE6E6B28#32))
      (concatenate PlaneS 1 [⟨⟨2, ![8, 1]⟩, extractStridedSlice ⟨2, ![8, 1]⟩ ![0, 63] (plane q 7) h1⟩,
        ⟨⟨2, ![8, 63]⟩, extractStridedSlice ⟨2, ![8, 63]⟩ ![0, 0] (plane q 7) h2⟩] h) = plane (prev q) 0 := by
  rw [plane_lft_zero]
  subst h34
  funext y
  have hy : (c1 y).val < 64 := (c1 y).isLt
  show Scalar.select (IntOp.cmpi .eq (iota .tc PlaneS 32 [1] hi y) 0#32) neg (q (c0 y) (lft (lane 0 (c1 y))))
    = if 8 * (c1 y).val + 0 = 0 then neg else q (c0 y) (lft (lane 0 (c1 y)))
  rw [iota_single_apply]
  show Scalar.select (IntOp.cmpi .eq (BitVec.ofNat 32 (c1 y).val) 0#32) _ _ = _
  by_cases h0 : (c1 y).val = 0
  · rw [if_pos (by omega), h0]; rfl
  · rw [if_neg (by omega)]
    have : ¬ (BitVec.ofNat 32 (c1 y).val = 0#32) := by
      intro hh
      have := congrArg BitVec.toNat hh
      simp only [BitVec.toNat_ofNat] at this
      omega
    have hc : IntOp.cmpi .eq (BitVec.ofNat 32 (c1 y).val) 0#32 = 0#1 := by
      simp only [IntOp.cmpi, beq_false_of_ne this]; rfl
    rw [hc]; rfl

/-- The rows of the three stretches, plane by plane. -/
theorem vec_rowA {f : ℕ} {x q : Row (F .f32)} {g : Fin 8} {xv pv : FVec F PlaneS .f32} {iv : IVec PlaneS 32} {fw : BitVec 32}
    (hx : xv = plane x g) (hp : pv = plane (prev q) g) (hi : iv = plane lanes g) (hf : fw = BitVec.ofNat 32 f) :
    select (cmpi .sle iv (broadcast PlaneS fw)) (addf xv (maximumf pv (select (cmpi .eq iv (broadcast PlaneS fw))
      (broadcast PlaneS (Scalar.ofBits (F := F) .f32 0xCE6E6B28#32)) (plane q g)))) xv = plane (rowA f x q) g := by
  subst hx hp hi hf; rfl

theorem vec_rowB {x q : Row (F .f32)} {g : Fin 8} {xv pv : FVec F PlaneS .f32}
    (hx : xv = plane x g) (hp : pv = plane (prev q) g) :
    addf xv (maximumf pv (plane q g)) = plane (rowB x q) g := by
  subst hx hp; rfl

theorem vec_rowC {f : ℕ} {x q : Row (F .f32)} {g : Fin 8} {xv pv : FVec F PlaneS .f32} {iv : IVec PlaneS 32} {fw : BitVec 32}
    (hx : xv = plane x g) (hp : pv = plane (prev q) g) (hi : iv = plane lanes g) (hf : fw = BitVec.ofNat 32 f) :
    select (cmpi .sge iv (broadcast PlaneS (Scalar.subi fw 1536#32))) (addf xv (maximumf pv (plane q g))) xv = plane (rowC f x q) g := by
  subst hx hp hi hf; rfl

/-- The decision bits of a plane, -/
theorem vec_bit {q : Row (F .f32)} {g : Fin 8} {pv : FVec F PlaneS .f32} (hp : pv = plane (fun b t => q b (lft t)) g) (h : 1 < 32) :
    extui 32 (cmpf .olt (plane q g) pv) h = plane (bit q) g := by
  subst hp; rfl

/-- packed. -/
theorem vec_pack {f : ℕ} {q : Row (F .f32)} {a : Row (BitVec 32)} {g : Fin 8} {bv : IVec PlaneS 32} {fw : BitVec 32}
    (hb : bv = plane (bit q) g) (hf : fw = BitVec.ofNat 32 f) :
    Scalar.select (Scalar.cmpi .eq (Scalar.andi fw 31#32) 0#32) (shli bv (broadcast PlaneS (Scalar.andi fw 31#32)))
      (ori (plane a g) (shli bv (broadcast PlaneS (Scalar.andi fw 31#32)))) = plane (pack f q a) g := by
  subst hb hf
  funext y
  unfold Scalar.select
  show (if _ then _ else _ : IVec PlaneS 32) y = _
  simp only [plane, pack, Scalar.select]
  split <;> rename_i hc <;> first | exact (if_pos hc).symm | exact (if_neg hc).symm | rfl

end Cert.Mas

end
-- ==== Proof.Steps.lean ====
/- How the vectors of one step of the walk back are combined: each vector expression of the kernel on planes and columns of
   the walk's state is a plane or a column of the stepped state. Also how the lanes of the walk are stored and
   how a block of the path is made of them. -/
module

public import proofs.«01_k».proof.Proof.Planes

@[expose] public section

noncomputable section

namespace Cert.Mas

open Idealize.ShloMosaic

/-- The shape of a column over the batch. -/
abbrev ColS : Shape := ⟨2, ![8, 1]⟩

/-- A column's index's batch entry. -/
def cb (y : ColS.Idx) : Fin 8 := y 0

/-- A value per batch entry as a column. -/
def col {α : Type} (w : Fin 8 → α) : ColS.Idx → α := fun y => w (cb y)

/-- A column's index. -/
def ixC (b : Fin 8) : ColS.Idx := fun | ⟨0, _⟩ => b | ⟨1, _⟩ => (⟨0, by decide⟩ : Fin 1)

theorem ixC_eta (y : ColS.Idx) : ixC (cb y) = y := funext fun a => by
  match a with
  | ⟨0, _⟩ => rfl
  | ⟨1, h⟩ =>
    refine Fin.ext ?_
    have : (y ⟨1, h⟩).val < 1 := (y ⟨1, h⟩).isLt
    show 0 = (y ⟨1, h⟩).val
    omega

variable {F : FTy → Type} [FloatOps F]

/-- Whether the decision words of a plane say to step. -/
theorem vec_tells {f : ℕ} {word : Row (BitVec 32)} {g : Fin 8} {wv : IVec PlaneS 32} {fw : BitVec 32}
    (hw : wv = plane word g) (hf : fw = BitVec.ofNat 32 f) :
    cmpi .ne (andi (shrsi wv (broadcast PlaneS (Scalar.andi fw 31#32))) (broadcast PlaneS 1#32)) (broadcast PlaneS 0#32)
      = plane (tells f word) g := by
  subst hw hf; rfl

/-- The same where the walk must also step from lane `f`. -/
theorem vec_tellsLow {f : ℕ} {word : Row (BitVec 32)} {w : Fin 8 → BitVec 32} {g : Fin 8} {wv iv : IVec PlaneS 32} {fw : BitVec 32}
    (hw : wv = plane word g) (hi : iv = plane lanes g) (hf : fw = BitVec.ofNat 32 f) (hb : ColS.Broadcasts PlaneS) :
    ori (cmpi .ne (andi (shrsi wv (broadcast PlaneS (Scalar.andi fw 31#32))) (broadcast PlaneS 1#32)) (broadcast PlaneS 0#32))
      (andi (cmpi .eq iv (broadcast PlaneS fw)) (broadcastTo PlaneS (cmpi .eq (col w) (broadcast ColS 0#32)) hb))
      = plane (tellsLow f word w) g := by
  subst hw hi hf
  funext y
  show IntOp.ori _ (IntOp.andi _ (broadcastTo PlaneS (cmpi .eq (col w) (broadcast ColS 0#32)) hb y)) = _
  rw [broadcastTo_apply _ hb y (ixC (c0 y)) (by
    intro a
    match a with
    | ⟨0, _⟩ => rfl
    | ⟨1, _⟩ => rfl)]
  rfl

/-- The weight of a plane that steps. -/
theorem vec_moving {cm : Row (BitVec 1)} {p : Row (F .f32)} {g : Fin 8} {cv : IVec PlaneS 1} (hc : cv = plane cm g) :
    select cv (plane p g) (broadcast PlaneS (Scalar.ofBits (F := F) .f32 0x00000000#32)) = plane (moving cm p) g := by
  subst hc; rfl

/-- The weight of a plane after the step. -/
theorem vec_p {mv : Row (F .f32)} {s : Walk F} {g : Fin 8} {nv mg : FVec F PlaneS .f32}
    (hn : nv = plane (fun b t => mv b (rgt t)) g) (hm : mg = plane mv g) :
    addf nv (subf (plane s.p g) mg) = plane (s.step mv).p g := by
  subst hn hm; rfl

/-- The last plane of the weight that comes in. -/
theorem vec_rgt_last {α : Type} {mv : Row α} {m0 : PlaneS.Idx → α} (hm : m0 = plane mv 0)
    (h1 : PlaneS.Slices ![0, 1] ⟨2, ![8, 63]⟩) (h2 : PlaneS.Slices ![0, 0] ⟨2, ![8, 1]⟩)
    (h : Shape.Concatenates [⟨2, ![8, 63]⟩, ⟨2, ![8, 1]⟩] PlaneS 1) :
    concatenate PlaneS 1 [⟨⟨2, ![8, 63]⟩, extractStridedSlice ⟨2, ![8, 63]⟩ ![0, 1] m0 h1⟩,
        ⟨⟨2, ![8, 1]⟩, extractStridedSlice ⟨2, ![8, 1]⟩ ![0, 0] m0 h2⟩] h
      = plane (fun b t => mv b (rgt t)) 7 := by
  subst hm; exact plane_rgt_last mv h1 h2 h

/-- The wrap count after the step. -/
theorem vec_w {mv : Row (F .f32)} {s : Walk F} {m0 : FVec F PlaneS .f32} (hm : m0 = plane mv 0) (h : PlaneS.Slices ![0, 0] ColS) :
    addi (col s.w) (fptosi 32 (extractStridedSlice ColS ![0, 0] m0 h)) = col (s.step mv).w := by
  subst hm
  funext y
  show IntOp.addi (s.w (cb y)) (FloatOps.fptosi 32 (extractStridedSlice ColS ![0, 0] (plane mv 0) h y)) = _
  rw [extractStridedSlice_apply ![0, 0] _ h y (ix2 (cb y) 0) (by
    intro a
    match a with
    | ⟨0, _⟩ => exact (Nat.zero_add _).symm
    | ⟨1, h1⟩ =>
      have : (y ⟨1, h1⟩).val < 1 := (y ⟨1, h1⟩).isLt
      show 0 = 0 + (y ⟨1, h1⟩).val
      omega)]
  rfl

/-- The lane after the step. -/
theorem vec_tv {mv : Row (F .f32)} {s : Walk F} {sv : FVec F PlaneS .f32} (hs : sv = movingSum mv)
    (h1 : PlaneS.Reduces [1] (⟨1, ![8]⟩ : Shape)) (h2) (h3) (h : (⟨1, ![8]⟩ : Shape).ShapeCasts ColS) :
    subi (col s.tv) (fptosi 32 (shapeCast ColS (multiReduction .add [1] (⟨1, ![8]⟩ : Shape) sv 0x00000000#32 h1 h2 h3) h))
      = col (s.step mv).tv := by
  subst hs
  funext y
  show IntOp.subi (s.tv (cb y)) (FloatOps.fptosi 32 (shapeCast ColS _ h y)) = _
  rw [shapeCast_apply _ h y (ix1 (cb y)) (by
    rw [Shape.rowMajor_val_one, Shape.rowMajor_val_two]
    have : (y 1).val < 1 := (y 1).isLt
    show (y 0).val = (y 0).val * 1 + (y 1).val
    omega)]
  rfl

/-! ## The lanes of the walk -/

/-- The shape of a block's lanes, frames by batch entries. -/
abbrev TsS : Shape := ⟨2, ![512, 8]⟩

/-- Frame `j` of the block, batch entry `b`. -/
def ixT (j : Fin 512) (b : Fin 8) : TsS.Idx := fun | ⟨0, _⟩ => j | ⟨1, _⟩ => b

/-- An index of one frame's lanes. -/
def ixR (b : Fin 8) : (⟨2, ![1, 8]⟩ : Shape).Idx := fun | ⟨0, _⟩ => (⟨0, by decide⟩ : Fin 1) | ⟨1, _⟩ => b

/-- What is stored for a frame: the low nine bits of the lane, per batch entry. -/
theorem store_ts (tv : Fin 8 → BitVec 32) (h1 : ColS.ShapeCasts (⟨1, ![8]⟩ : Shape)) (h2 : (⟨1, ![8]⟩ : Shape).ShapeCasts (⟨2, ![1, 8]⟩ : Shape)) (b : Fin 8) :
    shapeCast (⟨2, ![1, 8]⟩ : Shape) (shapeCast (⟨1, ![8]⟩ : Shape) (andi (col tv) (broadcast ColS 511#32)) h1) h2 (ixR b)
      = IntOp.andi (tv b) 511#32 := by
  rw [shapeCast_apply _ h2 (ixR b) (ix1 b) (by
    rw [Shape.rowMajor_val_one, Shape.rowMajor_val_two]
    show b.val = 0 * 8 + b.val
    omega)]
  rw [shapeCast_apply _ h1 (ix1 b) (ixC b) (by
    rw [Shape.rowMajor_val_one, Shape.rowMajor_val_two]
    show b.val * 1 + 0 = b.val
    omega)]
  rfl

section
variable {sig : RefSig} {κ : Kind} {sp : Space} {e : EltTy} {Val : EltTy → Type}

/-- Reading a frame's lanes after those of frame `j` were stored. -/
theorem readTs_cons (v : View sig κ sp TsS e) (f : BufTy.Contents Val v.ty) (j : Fin 512)
    {off : Fin 2 → ℕ} (hoff : off = ![j.val, 0]) (inb : ∀ a, off a + (![1, 8] : Fin 2 → ℕ) a ≤ (![512, 8] : Fin 2 → ℕ) a)
    (pay : (⟨2, ![1, 8]⟩ : Shape).Idx → Val e) (L : List (View.Piece Val TsS e)) (j' : Fin 512) (b : Fin 8) :
    v.read Val (v.writes Val f (⟨Rect.unit (s := TsS) off ![1, 8] inb, pay⟩ :: L)) (ixT j' b)
      = if j' = j then pay (ixR b) else v.read Val (v.writes Val f L) (ixT j' b) := by
  by_cases hj : j' = j
  · subst hj
    rw [if_pos rfl]
    refine View.read_writes_cons_unit_of_mem v f inb _ L _ (ixR b) hoff ?_
    intro a
    match a with
    | ⟨0, _⟩ => rfl
    | ⟨1, _⟩ => exact (Nat.zero_add _).symm
  · rw [if_neg hj]
    refine View.read_writes_cons_unit_of_not_mem v f inb _ L _ hoff ⟨0, by decide⟩ ?_
    show j'.val < j.val ∨ j.val + 1 ≤ j'.val
    have : j'.val ≠ j.val := fun hh => hj (Fin.ext hh)
    omega

end

section
variable {sig : RefSig} {κ : Kind} {sp : Space} {e : EltTy} {Val : EltTy → Type}

/-- The lanes of a block loaded as a whole. -/
theorem readTs_whole (v : View sig κ sp TsS e) (f : BufTy.Contents Val v.ty)
    (inb : ∀ a, (![0, 0] : Fin 2 → ℕ) a + (![512, 8] : Fin 2 → ℕ) a ≤ (![512, 8] : Fin 2 → ℕ) a) (j : Fin 512) (b : Fin 8) :
    v.readAt Val (Rect.unit (s := TsS) ![0, 0] ![512, 8] inb).toLoadRect f (ixT j b) = v.read Val f (ixT j b) := by
  refine congrArg (v.read Val f) (funext fun a => Fin.ext ?_)
  match a with
  | ⟨0, _⟩ => show 0 + 1 * j.val = j.val; omega
  | ⟨1, _⟩ => show 0 + 1 * b.val = b.val; omega

end

/-! ## A block of the path -/

/-- The shape of a block of the path. -/
abbrev OutS : Shape := ⟨3, ![8, 512, 512]⟩

/-- Batch entry `b`, frame `j` of the block, lane `t`. -/
def ixO (b : Fin 8) (j t : Fin 512) : OutS.Idx := fun | ⟨0, _⟩ => b | ⟨1, _⟩ => j | ⟨2, _⟩ => t

def ixO1 (j t : Fin 512) : (⟨3, ![1, 512, 512]⟩ : Shape).Idx := fun | ⟨0, _⟩ => (⟨0, by decide⟩ : Fin 1) | ⟨1, _⟩ => j | ⟨2, _⟩ => t

def ixSq (j t : Fin 512) : (⟨2, ![512, 512]⟩ : Shape).Idx := fun | ⟨0, _⟩ => j | ⟨1, _⟩ => t

def ixCol (j : Fin 512) : (⟨2, ![512, 1]⟩ : Shape).Idx := fun | ⟨0, _⟩ => j | ⟨1, _⟩ => (⟨0, by decide⟩ : Fin 1)

/-- Batch entry `b` of a block: one at the lane the walk is on. -/
theorem block_path (u : IVec TsS 32) (b : Fin 8) (n : ℕ) (hn : n = b.val) (hi : (⟨2, ![512, 512]⟩ : Shape).Iotas .tc 32 [1])
    (h1 : TsS.Slices ![0, n] (⟨2, ![512, 1]⟩ : Shape)) (h2 : (⟨2, ![512, 1]⟩ : Shape).ShapeCasts (⟨2, ![512, 1]⟩ : Shape))
    (h3 : (⟨2, ![512, 1]⟩ : Shape).Broadcasts (⟨2, ![512, 512]⟩ : Shape)) (h4 : 1 < 32)
    (h5 : (⟨2, ![512, 512]⟩ : Shape).ShapeCasts (⟨3, ![1, 512, 512]⟩ : Shape)) (j t : Fin 512) :
    shapeCast (⟨3, ![1, 512, 512]⟩ : Shape) (sitofp (F := F) .f32 (extui 32 (cmpi .eq (iota .tc (⟨2, ![512, 512]⟩ : Shape) 32 [1] hi)
      (broadcastTo (⟨2, ![512, 512]⟩ : Shape) (shapeCast (⟨2, ![512, 1]⟩ : Shape) (extractStridedSlice (⟨2, ![512, 1]⟩ : Shape) ![0, n] u h1) h2) h3)) h4)) h5 (ixO1 j t)
      = FloatOps.sitofp .f32 ((IntOp.cmpi .eq (BitVec.ofNat 32 t.val) (u (ixT j b))).setWidth 32) := by
  subst hn
  rw [shapeCast_apply _ h5 (ixO1 j t) (ixSq j t) (by
    rw [Shape.rowMajor_val_two, Shape.rowMajor_val_three]
    show j.val * 512 + t.val = (0 * 512 + j.val) * 512 + t.val
    omega)]
  show FloatOps.sitofp .f32 ((IntOp.cmpi .eq (iota .tc (⟨2, ![512, 512]⟩ : Shape) 32 [1] hi (ixSq j t))
    (broadcastTo (⟨2, ![512, 512]⟩ : Shape) _ h3 (ixSq j t))).setWidth 32) = _
  rw [iota_single_apply, broadcastTo_apply _ h3 (ixSq j t) (ixCol j) (by
    intro a
    match a with
    | ⟨0, _⟩ => rfl
    | ⟨1, _⟩ => rfl), shapeCast_apply _ h2 (ixCol j) (ixCol j) rfl,
    extractStridedSlice_apply ![0, b.val] u h1 (ixCol j) (ixT j b) (by
    intro a
    match a with
    | ⟨0, _⟩ => exact (Nat.zero_add _).symm
    | ⟨1, _⟩ => rfl)]
  rfl

section
variable {sig : RefSig} {κ : Kind} {sp : Space} {e : EltTy} {Val : EltTy → Type}

/-- Reading a block of the path after batch entry `b` of it was stored. -/
theorem readOut_cons (v : View sig κ sp OutS e) (f : BufTy.Contents Val v.ty) (b : Fin 8)
    {off : Fin 3 → ℕ} (hoff : off = ![b.val, 0, 0]) (inb : ∀ a, off a + (![1, 512, 512] : Fin 3 → ℕ) a ≤ (![8, 512, 512] : Fin 3 → ℕ) a)
    (pay : (⟨3, ![1, 512, 512]⟩ : Shape).Idx → Val e) (L : List (View.Piece Val OutS e)) (b' : Fin 8) (j t : Fin 512) :
    v.read Val (v.writes Val f (⟨Rect.unit (s := OutS) off ![1, 512, 512] inb, pay⟩ :: L)) (ixO b' j t)
      = if b' = b then pay (ixO1 j t) else v.read Val (v.writes Val f L) (ixO b' j t) := by
  by_cases hb : b' = b
  · subst hb
    rw [if_pos rfl]
    refine View.read_writes_cons_unit_of_mem v f inb _ L _ (ixO1 j t) hoff ?_
    intro a
    match a with
    | ⟨0, _⟩ => rfl
    | ⟨1, _⟩ => exact (Nat.zero_add _).symm
    | ⟨2, _⟩ => exact (Nat.zero_add _).symm
  · rw [if_neg hb]
    refine View.read_writes_cons_unit_of_not_mem v f inb _ L _ hoff ⟨0, by decide⟩ ?_
    show b'.val < b.val ∨ b.val + 1 ≤ b'.val
    have : b'.val ≠ b.val := fun hh => hb (Fin.ext hh)
    omega

/-- Reading a column after it was stored. -/
theorem readCol_cons {N : ℕ} (v : View sig κ sp ⟨2, ![8, N]⟩ e) (f : BufTy.Contents Val v.ty) (n : Fin N)
    {off : Fin 2 → ℕ} (hoff : off = ![0, n.val]) (inb : ∀ a, off a + (![8, 1] : Fin 2 → ℕ) a ≤ (![8, N] : Fin 2 → ℕ) a)
    (w : Fin 8 → Val e) (L : List (View.Piece Val (⟨2, ![8, N]⟩ : Shape) e)) (b : Fin 8) (n' : Fin N) :
    v.read Val (v.writes Val f (⟨Rect.unit (s := ⟨2, ![8, N]⟩) off ![8, 1] inb, col w⟩ :: L)) (fun | ⟨0, _⟩ => b | ⟨1, _⟩ => n')
      = if n' = n then w b else v.read Val (v.writes Val f L) (fun | ⟨0, _⟩ => b | ⟨1, _⟩ => n') := by
  by_cases hb : n' = n
  · subst hb
    rw [if_pos rfl]
    refine View.read_writes_cons_unit_of_mem v f inb _ L _ (ixC b) hoff ?_
    intro a
    match a with
    | ⟨0, _⟩ => exact (Nat.zero_add _).symm
    | ⟨1, _⟩ => rfl
  · rw [if_neg hb]
    refine View.read_writes_cons_unit_of_not_mem v f inb _ L _ hoff ⟨1, Nat.lt_of_sub_eq_succ rfl⟩ ?_
    show n'.val < n.val ∨ n.val + 1 ≤ n'.val
    have : n'.val ≠ n.val := fun hh => hb (Fin.ext hh)
    omega

/-- Column `n` of a buffer of columns. -/
def atC {N : ℕ} (v : View sig κ sp ⟨2, ![8, N]⟩ e) (f : BufTy.Contents Val v.ty) (n : Fin N) : Fin 8 → Val e :=
  fun b => v.read Val f (fun | ⟨0, _⟩ => b | ⟨1, _⟩ => n)

/-- A column loaded is that column. -/
theorem loadCol {N : ℕ} (v : View sig κ sp ⟨2, ![8, N]⟩ e) (f : BufTy.Contents Val v.ty) (n : Fin N)
    {off : Fin 2 → ℕ} (hoff : off = ![0, n.val]) (inb : ∀ a, off a + (![8, 1] : Fin 2 → ℕ) a ≤ (![8, N] : Fin 2 → ℕ) a) :
    v.readAt Val (Rect.unit (s := ⟨2, ![8, N]⟩) off ![8, 1] inb).toLoadRect f = col (atC v f n) := by
  subst hoff
  funext y
  refine congrArg (v.read Val f) (funext fun a => Fin.ext ?_)
  have h1 : (y 1).val < 1 := (y 1).isLt
  match a with
  | ⟨0, _⟩ => show 0 + 1 * (cb y).val = (cb y).val; omega
  | ⟨1, _⟩ => show n.val + 1 * (y 1).val = n.val; omega

end

end Cert.Mas

end
-- ==== Proof.KernelIdeal.Offsets.lean ====
/- Where each trip of the kernel's six loops touches the packed decision words: row `f / 32` for the frame `f` the
   trip handles, one plane per lane group. The row is the frame number shifted right by five bits; its closed form follows
   from the frame number's, plane by plane. -/
module

public import proofs.«01_k».proof.Proof.Gen.KernelIdeal.Skeleton
public import proofs.«01_k».proof.Proof.Gen.KernelIdeal.Loops
public import Idealize.ShloMosaic.Lib.Exec
public import Idealize.ShloMosaic.Lib.Tactic

@[expose] public section

noncomputable section

namespace Cert.KernelIdeal.Mas

open Idealize.ShloMosaic Idealize.ShloMosaic.TcCoe Idealize.ShloMosaic.Tactic
open Cert.KernelIdeal

/-- A frame number's row: the word `w` holding `n`, shifted right by five, is `n / 32`. -/
theorem row_of {w : BitVec 32} {n : ℕ} (h : Affine.IsInt w n) (g : ℕ) :
    (![(Scalar.indexCast (Scalar.shrsi w 5#32)).toNat, g, 0, 0] : Fin 4 → ℕ) = ![n / 32, g, 0, 0] := by
  have h5 : Affine.IsInt 5#32 5 := Affine.ofNat _ (by omega)
  have hr : Affine.IsInt (Scalar.shrsi w 5#32) ((n / 32 : ℕ) : Int) :=
    Affine.shrsi h h5 5 32 rfl ⟨Int.natCast_ediv n 32, rfl, by omega⟩
  exact Affine.vec_cons (Affine.indexCast hr) rfl rfl

/-- The frame of trip `k` of the first loop: `k + 1`, -/
theorem frame_t1 (k : Fin k0_t1_loop.trips) : Affine.IsInt (Scf.iv 1#32 1#32 k) ((k.val + 1 : ℕ) : Int) := by
  have h1 : Affine.IsInt 1#32 1 := Affine.ofNat _ (by omega)
  have hk : k.val < 511 := Nat.lt_of_lt_of_le k.isLt Gen.k0_t1_abs.2.1
  exact Affine.iv h1 h1 k.val (by omega)

/-- of the second and the third at grid point `i`: `512 i + k`, -/
theorem frame_fwd (i : grid0.Coords) (k : ℕ) (hk : k < 512) :
    Affine.IsInt (Scalar.addi (Scalar.muli (BitVec.ofNat 32 (i 0).val) 512#32) (Scf.iv 0#32 1#32 k)) ((512 * (i 0).val + k : ℕ) : Int) := by
  have h0 : Affine.IsInt 0#32 0 := Affine.ofNat _ (by omega)
  have h1 : Affine.IsInt 1#32 1 := Affine.ofNat _ (by omega)
  have hc : Affine.IsInt 512#32 512 := Affine.ofNat _ (by omega)
  have hi : (i 0).val < 8 := (i 0).isLt
  have hiv : Affine.IsInt (Scf.iv 0#32 1#32 k) (k : Int) := Affine.iv h0 h1 k (by omega)
  have hm : Affine.IsInt (Scalar.muli (BitVec.ofNat 32 (i 0).val) 512#32) (512 * ((i 0).val : Int)) :=
    Affine.muli (Affine.ofNat (e := ((i 0).val : Int)) _ (by omega)) hc (by omega)
  exact Affine.addi hm hiv (by omega)

/-- of the upper backward loops: `512 (7 - i) + (511 - k)`, -/
theorem frame_high (i : grid0.Coords) (k : ℕ) (hk : k < 512) :
    Affine.IsInt (Scalar.addi (Scalar.muli (Scalar.subi 7#32 (BitVec.ofNat 32 (i 0).val)) 512#32) (Scalar.subi 511#32 (Scf.iv 0#32 1#32 k)))
      ((512 * (7 - (i 0).val) + (511 - k) : ℕ) : Int) := by
  have h0 : Affine.IsInt 0#32 0 := Affine.ofNat _ (by omega)
  have h1 : Affine.IsInt 1#32 1 := Affine.ofNat _ (by omega)
  have hc : Affine.IsInt 512#32 512 := Affine.ofNat _ (by omega)
  have h7 : Affine.IsInt 7#32 7 := Affine.ofNat _ (by omega)
  have h511 : Affine.IsInt 511#32 511 := Affine.ofNat _ (by omega)
  have hi : (i 0).val < 8 := (i 0).isLt
  have hiv : Affine.IsInt (Scf.iv 0#32 1#32 k) (k : Int) := Affine.iv h0 h1 k (by omega)
  have hs : Affine.IsInt (Scalar.subi 7#32 (BitVec.ofNat 32 (i 0).val)) (7 - ((i 0).val : Int)) :=
    Affine.subi h7 (Affine.ofNat (e := ((i 0).val : Int)) _ (by omega)) (by omega)
  have hm : Affine.IsInt (Scalar.muli (Scalar.subi 7#32 (BitVec.ofNat 32 (i 0).val)) 512#32) (512 * (7 - ((i 0).val : Int))) :=
    Affine.muli hs hc (by omega)
  have hj : Affine.IsInt (Scalar.subi 511#32 (Scf.iv 0#32 1#32 k)) (511 - (k : Int)) := Affine.subi h511 hiv (by omega)
  exact Affine.addi hm hj (by omega)

/-- and of the lowest one: `511 - k`. -/
theorem frame_low (k : ℕ) (hk : k < 512) :
    Affine.IsInt (Scalar.subi 511#32 (Scf.iv 0#32 1#32 k)) ((511 - k : ℕ) : Int) := by
  have h0 : Affine.IsInt 0#32 0 := Affine.ofNat _ (by omega)
  have h1 : Affine.IsInt 1#32 1 := Affine.ofNat _ (by omega)
  have h511 : Affine.IsInt 511#32 511 := Affine.ofNat _ (by omega)
  have hiv : Affine.IsInt (Scf.iv 0#32 1#32 k) (k : Int) := Affine.iv h0 h1 k (by omega)
  exact Affine.subi h511 hiv (by omega)

/-- The first forward loop starts at frame 1: trip `k` stores into row `(k + 1) / 32`, plane by plane. -/
theorem rows_t1 : ∀ k : Fin k0_t1_loop.trips,
    k0_off9 k = ![(k.val + 1) / 32, 0, 0, 0] ∧ k0_off10 k = ![(k.val + 1) / 32, 1, 0, 0]
    ∧ k0_off11 k = ![(k.val + 1) / 32, 2, 0, 0] ∧ k0_off12 k = ![(k.val + 1) / 32, 3, 0, 0]
    ∧ k0_off13 k = ![(k.val + 1) / 32, 4, 0, 0] ∧ k0_off14 k = ![(k.val + 1) / 32, 5, 0, 0]
    ∧ k0_off15 k = ![(k.val + 1) / 32, 6, 0, 0] ∧ k0_off16 k = ![(k.val + 1) / 32, 7, 0, 0] := by
  intro k
  have h := fun g => row_of (frame_t1 k) g
  exact ⟨h 0, h 1, h 2, h 3, h 4, h 5, h 6, h 7⟩

instance (k : Fin k0_t1_loop.trips) : ClosedOff (k0_off9 k) := ⟨_, (rows_t1 k).1⟩
instance (k : Fin k0_t1_loop.trips) : ClosedOff (k0_off10 k) := ⟨_, (rows_t1 k).2.1⟩
instance (k : Fin k0_t1_loop.trips) : ClosedOff (k0_off11 k) := ⟨_, (rows_t1 k).2.2.1⟩
instance (k : Fin k0_t1_loop.trips) : ClosedOff (k0_off12 k) := ⟨_, (rows_t1 k).2.2.2.1⟩
instance (k : Fin k0_t1_loop.trips) : ClosedOff (k0_off13 k) := ⟨_, (rows_t1 k).2.2.2.2.1⟩
instance (k : Fin k0_t1_loop.trips) : ClosedOff (k0_off14 k) := ⟨_, (rows_t1 k).2.2.2.2.2.1⟩
instance (k : Fin k0_t1_loop.trips) : ClosedOff (k0_off15 k) := ⟨_, (rows_t1 k).2.2.2.2.2.2.1⟩
instance (k : Fin k0_t1_loop.trips) : ClosedOff (k0_off16 k) := ⟨_, (rows_t1 k).2.2.2.2.2.2.2⟩

/-- The second forward loop at grid point `i`: trip `k` is frame `512 i + k`. -/
theorem rows_t2 : ∀ (i : grid0.Coords) (k : Fin k0_t2_loop.trips),
    k0_off25 i k = ![(512 * (i 0).val + k.val) / 32, 0, 0, 0] ∧ k0_off26 i k = ![(512 * (i 0).val + k.val) / 32, 1, 0, 0]
    ∧ k0_off27 i k = ![(512 * (i 0).val + k.val) / 32, 2, 0, 0] ∧ k0_off28 i k = ![(512 * (i 0).val + k.val) / 32, 3, 0, 0]
    ∧ k0_off29 i k = ![(512 * (i 0).val + k.val) / 32, 4, 0, 0] ∧ k0_off30 i k = ![(512 * (i 0).val + k.val) / 32, 5, 0, 0]
    ∧ k0_off31 i k = ![(512 * (i 0).val + k.val) / 32, 6, 0, 0] ∧ k0_off32 i k = ![(512 * (i 0).val + k.val) / 32, 7, 0, 0] := by
  intro i k
  have h := fun g => row_of (frame_fwd i k.val (Nat.lt_of_lt_of_le k.isLt Gen.k0_t2_abs.2.1)) g
  exact ⟨h 0, h 1, h 2, h 3, h 4, h 5, h 6, h 7⟩

instance (i : grid0.Coords) (k : Fin k0_t2_loop.trips) : ClosedOff (k0_off25 i k) := ⟨_, (rows_t2 i k).1⟩
instance (i : grid0.Coords) (k : Fin k0_t2_loop.trips) : ClosedOff (k0_off26 i k) := ⟨_, (rows_t2 i k).2.1⟩
instance (i : grid0.Coords) (k : Fin k0_t2_loop.trips) : ClosedOff (k0_off27 i k) := ⟨_, (rows_t2 i k).2.2.1⟩
instance (i : grid0.Coords) (k : Fin k0_t2_loop.trips) : ClosedOff (k0_off28 i k) := ⟨_, (rows_t2 i k).2.2.2.1⟩
instance (i : grid0.Coords) (k : Fin k0_t2_loop.trips) : ClosedOff (k0_off29 i k) := ⟨_, (rows_t2 i k).2.2.2.2.1⟩
instance (i : grid0.Coords) (k : Fin k0_t2_loop.trips) : ClosedOff (k0_off30 i k) := ⟨_, (rows_t2 i k).2.2.2.2.2.1⟩
instance (i : grid0.Coords) (k : Fin k0_t2_loop.trips) : ClosedOff (k0_off31 i k) := ⟨_, (rows_t2 i k).2.2.2.2.2.2.1⟩
instance (i : grid0.Coords) (k : Fin k0_t2_loop.trips) : ClosedOff (k0_off32 i k) := ⟨_, (rows_t2 i k).2.2.2.2.2.2.2⟩

/-- The third forward loop at grid point `i`: trip `k` is frame `512 i + k`. -/
theorem rows_t3 : ∀ (i : grid0.Coords) (k : Fin k0_t3_loop.trips),
    k0_off41 i k = ![(512 * (i 0).val + k.val) / 32, 0, 0, 0] ∧ k0_off42 i k = ![(512 * (i 0).val + k.val) / 32, 1, 0, 0]
    ∧ k0_off43 i k = ![(512 * (i 0).val + k.val) / 32, 2, 0, 0] ∧ k0_off44 i k = ![(512 * (i 0).val + k.val) / 32, 3, 0, 0]
    ∧ k0_off45 i k = ![(512 * (i 0).val + k.val) / 32, 4, 0, 0] ∧ k0_off46 i k = ![(512 * (i 0).val + k.val) / 32, 5, 0, 0]
    ∧ k0_off47 i k = ![(512 * (i 0).val + k.val) / 32, 6, 0, 0] ∧ k0_off48 i k = ![(512 * (i 0).val + k.val) / 32, 7, 0, 0] := by
  intro i k
  have h := fun g => row_of (frame_fwd i k.val (Nat.lt_of_lt_of_le k.isLt Gen.k0_t3_abs.2.1)) g
  exact ⟨h 0, h 1, h 2, h 3, h 4, h 5, h 6, h 7⟩

instance (i : grid0.Coords) (k : Fin k0_t3_loop.trips) : ClosedOff (k0_off41 i k) := ⟨_, (rows_t3 i k).1⟩
instance (i : grid0.Coords) (k : Fin k0_t3_loop.trips) : ClosedOff (k0_off42 i k) := ⟨_, (rows_t3 i k).2.1⟩
instance (i : grid0.Coords) (k : Fin k0_t3_loop.trips) : ClosedOff (k0_off43 i k) := ⟨_, (rows_t3 i k).2.2.1⟩
instance (i : grid0.Coords) (k : Fin k0_t3_loop.trips) : ClosedOff (k0_off44 i k) := ⟨_, (rows_t3 i k).2.2.2.1⟩
instance (i : grid0.Coords) (k : Fin k0_t3_loop.trips) : ClosedOff (k0_off45 i k) := ⟨_, (rows_t3 i k).2.2.2.2.1⟩
instance (i : grid0.Coords) (k : Fin k0_t3_loop.trips) : ClosedOff (k0_off46 i k) := ⟨_, (rows_t3 i k).2.2.2.2.2.1⟩
instance (i : grid0.Coords) (k : Fin k0_t3_loop.trips) : ClosedOff (k0_off47 i k) := ⟨_, (rows_t3 i k).2.2.2.2.2.2.1⟩
instance (i : grid0.Coords) (k : Fin k0_t3_loop.trips) : ClosedOff (k0_off48 i k) := ⟨_, (rows_t3 i k).2.2.2.2.2.2.2⟩

/-- The backward loops walk a block's frames from its last: at grid point `i`, trip `k` of the two upper loops is frame
    `512 (7 - i) + 511 - k`, -/
theorem rows_t4 : ∀ (i : grid0.Coords) (k : Fin k0_t4_loop.trips),
    k0_off49 i k = ![(512 * (7 - (i 0).val) + (511 - k.val)) / 32, 0, 0, 0] ∧ k0_off50 i k = ![(512 * (7 - (i 0).val) + (511 - k.val)) / 32, 1, 0, 0]
    ∧ k0_off51 i k = ![(512 * (7 - (i 0).val) + (511 - k.val)) / 32, 2, 0, 0] ∧ k0_off52 i k = ![(512 * (7 - (i 0).val) + (511 - k.val)) / 32, 3, 0, 0]
    ∧ k0_off53 i k = ![(512 * (7 - (i 0).val) + (511 - k.val)) / 32, 4, 0, 0] ∧ k0_off54 i k = ![(512 * (7 - (i 0).val) + (511 - k.val)) / 32, 5, 0, 0]
    ∧ k0_off55 i k = ![(512 * (7 - (i 0).val) + (511 - k.val)) / 32, 6, 0, 0] ∧ k0_off56 i k = ![(512 * (7 - (i 0).val) + (511 - k.val)) / 32, 7, 0, 0] := by
  intro i k
  have h := fun g => row_of (frame_high i k.val (Nat.lt_of_lt_of_le k.isLt Gen.k0_t4_abs.2.1)) g
  exact ⟨h 0, h 1, h 2, h 3, h 4, h 5, h 6, h 7⟩

theorem rows_t5 : ∀ (i : grid0.Coords) (k : Fin k0_t5_loop.trips),
    k0_off58 i k = ![(512 * (7 - (i 0).val) + (511 - k.val)) / 32, 0, 0, 0] ∧ k0_off59 i k = ![(512 * (7 - (i 0).val) + (511 - k.val)) / 32, 1, 0, 0]
    ∧ k0_off60 i k = ![(512 * (7 - (i 0).val) + (511 - k.val)) / 32, 2, 0, 0] ∧ k0_off61 i k = ![(512 * (7 - (i 0).val) + (511 - k.val)) / 32, 3, 0, 0]
    ∧ k0_off62 i k = ![(512 * (7 - (i 0).val) + (511 - k.val)) / 32, 4, 0, 0] ∧ k0_off63 i k = ![(512 * (7 - (i 0).val) + (511 - k.val)) / 32, 5, 0, 0]
    ∧ k0_off64 i k = ![(512 * (7 - (i 0).val) + (511 - k.val)) / 32, 6, 0, 0] ∧ k0_off65 i k = ![(512 * (7 - (i 0).val) + (511 - k.val)) / 32, 7, 0, 0] := by
  intro i k
  have h := fun g => row_of (frame_high i k.val (Nat.lt_of_lt_of_le k.isLt Gen.k0_t5_abs.2.1)) g
  exact ⟨h 0, h 1, h 2, h 3, h 4, h 5, h 6, h 7⟩

/-- and trip `k` of the lowest one is frame `511 - k`. -/
theorem rows_t6 : ∀ k : Fin k0_t6_loop.trips,
    k0_off67 k = ![(511 - k.val) / 32, 0, 0, 0] ∧ k0_off68 k = ![(511 - k.val) / 32, 1, 0, 0]
    ∧ k0_off69 k = ![(511 - k.val) / 32, 2, 0, 0] ∧ k0_off70 k = ![(511 - k.val) / 32, 3, 0, 0]
    ∧ k0_off71 k = ![(511 - k.val) / 32, 4, 0, 0] ∧ k0_off72 k = ![(511 - k.val) / 32, 5, 0, 0]
    ∧ k0_off73 k = ![(511 - k.val) / 32, 6, 0, 0] ∧ k0_off74 k = ![(511 - k.val) / 32, 7, 0, 0] := by
  intro k
  have h := fun g => row_of (frame_low k.val (Nat.lt_of_lt_of_le k.isLt Gen.k0_t6_abs.2.1)) g
  exact ⟨h 0, h 1, h 2, h 3, h 4, h 5, h 6, h 7⟩

end Cert.KernelIdeal.Mas

end
-- ==== Proof.KernelIdeal.ForwardLoops.lean ====
/- The three forward loops by their invariants: what the buffers they touch hold and what they carry before each trip, as
   an iteration of what one trip does. -/
module

public import proofs.«01_k».proof.Proof.KernelIdeal.Offsets
public import Idealize.ShloMosaic.Lib.Pipeline.Kit

@[expose] public section

set_option maxRecDepth 16384
set_option maxHeartbeats 4000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the launch. -/
local notation "𝕄G" => MT nD τ sig Unit (Elt F) ℕ (UR sig nD τ) ℕ

/-- What the forward loops carry: the eight planes of the scores, then the eight planes of the word being packed. -/
abbrev Carry (F : FTy → Type) :=
  FVec F S8x64 .f32 × FVec F S8x64 .f32 × FVec F S8x64 .f32 × FVec F S8x64 .f32 × FVec F S8x64 .f32 × FVec F S8x64 .f32 × FVec F S8x64 .f32 × FVec F S8x64 .f32
    × IVec S8x64 32 × IVec S8x64 32 × IVec S8x64 32 × IVec S8x64 32 × IVec S8x64 32 × IVec S8x64 32 × IVec S8x64 32 × IVec S8x64 32

/-- What one forward trip touches: the block of frames, read, and the packed decisions, written. -/
abbrev Touched (c : Dev nD) (arg1 : Memref sig .tc .vmem S512x8x8x64 .f32) (arg3 : Memref sig .tc .vmem S64x8x8x64 .i32)
    (X : BufTy.Contents (Elt F) arg1.view.ty) (f : BufTy.Contents (Elt F) arg3.view.ty) : sProp 𝕄G :=
  iprop((arg1.view.loc (c : Thread nD τ) ↦[arg1.view.set]{fullShare} X) ∗ (arg3.view.loc (c : Thread nD τ) ↦[arg3.view.set]{fullShare} f))

variable (𝒱 : Variants) (c : Dev nD) (bd : Option 𝒱.V) (i : grid0.Coords)
  (arg1 : Memref sig .tc .vmem S512x8x8x64 .f32) (harg1 : arg1.IsWhole) (arg2 : Memref sig .tc .vmem S8x512x512 .f32) (harg2 : arg2.IsWhole)
  (arg3 : Memref sig .tc .vmem S64x8x8x64 .i32) (harg3 : arg3.IsWhole) (arg4 : Memref sig .tc .vmem S8x8x64 .f32) (harg4 : arg4.IsWhole)
  (arg5 : Memref sig .tc .vmem S8x8x64 .i32) (harg5 : arg5.IsWhole) (arg6 : Memref sig .tc .vmem S8x8x64 .f32) (harg6 : arg6.IsWhole)
  (arg7 : Memref sig .tc .vmem S8x2 .i32) (harg7 : arg7.IsWhole) (arg8 : Memref sig .tc .vmem S512x8 .i32) (harg8 : arg8.IsWhole)
  (arg0 : BitVec 32) (v4 v8 v12 v16 v20 v24 v28 v32 : IVec S8x64 32) (v34 : IVec S8x64 1)

section
variable (k0_h1 : k0_cond1 i = 1#1) (v62 v64 v66 v68 v70 v72 v74 v76 : FVec F S8x64 .f32) (v77 v78 v79 v80 v81 v82 : IVec S8x64 32)
  (X : BufTy.Contents (Elt F) arg1.view.ty)

/-- One trip of the first forward loop (frames 1 to 511), at a symbolic trip and carried value: what it yields and the pieces it stores into the packed
    decisions, as functions of the carried value. -/
@[irreducible] def trip_t1 (k : Fin k0_t1_loop.trips) :
    Σ' (R : Carry F → Carry F), { L : Carry F → List (View.Piece (Elt F) S64x8x8x64 .i32) //
      ∀ (E : Set ℕ) (acc : Carry F) (f : BufTy.Contents (Elt F) arg3.view.ty),
      Touched (F := F) c arg1 arg3 X f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 k acc)
          (fun yld => iprop(⌜yld = R acc⌝ ∗ Touched (F := F) c arg1 arg3 X (arg3.view.writes (Elt F) f (L acc)))) } := by
  have hk : k.val < 511 := Nat.lt_of_lt_of_le k.isLt k0_t1_abs.2.1
  refine ⟨?_, ?_, fun E acc f => ?run⟩
  case run =>
    unfold k0_t1_body
    iintro ⟨HR, HW⟩
    sl_exec
    sl_step
    sl_close

/-- The state before trip `k`: the carried value and the contents of the packed decisions. -/
def st_t1 (G : BufTy.Contents (Elt F) arg3.view.ty) (init : Carry F) : ℕ → Carry F × BufTy.Contents (Elt F) arg3.view.ty
  | 0 => (init, G)
  | k + 1 =>
    if h : k < k0_t1_loop.trips then
      ((trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X ⟨k, h⟩).1 (st_t1 G init k).1,
        arg3.view.writes (Elt F) (st_t1 G init k).2 ((trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X ⟨k, h⟩).2.1 (st_t1 G init k).1))
    else st_t1 G init k

/-- One more trip. -/
theorem st_t1_succ (G : BufTy.Contents (Elt F) arg3.view.ty) (init : Carry F) (k : Fin k0_t1_loop.trips) :
    st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init (k.val + 1)
      = ((trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X k).1 (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init k.val).1,
        arg3.view.writes (Elt F) (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init k.val).2
          ((trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X k).2.1 (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init k.val).1)) := by
  rw [st_t1.eq_2]; exact dif_pos k.isLt

set_option warn.classDefReducibility false in
/-- The loop by its invariant: the block of frames is unchanged, the packed decisions and the carried value are the
    state's. -/
@[sl_loop] def loopInv_t1 (E : Set ℕ) (G : BufTy.Contents (Elt F) arg3.view.ty) (init : Carry F) :
    LoopInvTy_k0_t1 (F := F) Unit ℕ (UR sig nD τ) ℕ 𝒱 c bd E i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 init where
  inv k acc := iprop((arg1.view.loc (c : Thread nD τ) ↦[arg1.view.set]{fullShare} X)
    ∗ (∃ f, (arg3.view.loc (c : Thread nD τ) ↦[arg3.view.set]{fullShare} f) ∗ ⌜f = (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init k).2⌝)
    ∗ ⌜acc = (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init k).1⌝)
  step k acc := by
    iintro ⟨HR, ⟨%f, HW, %hf⟩, %hacc⟩
    subst hacc
    iapply (wp_wand_r Idealize.ShloMosaic.frame (wpE (defs₀ (F := F)) 𝒱 (c : Thread nD τ) bd) E)
    isplitl [HR HW]
    · iapply ((trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X k).2.2 E (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init k).1 f)
      isplitl [HR]; · iexact HR
      iexact HW
    · iintro %yld ⟨%hres, HR, HW⟩
      isplitl [HR]; · iexact HR
      simp only [st_t1_succ]
      isplitl [HW]
      · iexists _; isplitl [HW]; · iexact HW
        ipureintro; rw [hf]
      ipureintro; rw [hres]
end

section
variable (k0_h2 : k0_cond2 i = 1#1) (v62 v64 v66 v68 v70 v72 v74 v76 : FVec F S8x64 .f32) (v78 v80 v82 v84 : IVec S8x64 32)
  (X : BufTy.Contents (Elt F) arg1.view.ty)

/-- One trip of the second forward loop (frames 512 to 1535), at a symbolic trip and carried value: what it yields and the pieces it stores into the packed
    decisions, as functions of the carried value. -/
@[irreducible] def trip_t2 (k : Fin k0_t2_loop.trips) :
    Σ' (R : Carry F → Carry F), { L : Carry F → List (View.Piece (Elt F) S64x8x8x64 .i32) //
      ∀ (E : Set ℕ) (acc : Carry F) (f : BufTy.Contents (Elt F) arg3.view.ty),
      Touched (F := F) c arg1 arg3 X f
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg0 v34 k0_h2 v62 v64 v66 v68 v70 v72 v74 v76 v78 v80 v82 v84 k acc)
          (fun yld => iprop(⌜yld = R acc⌝ ∗ Touched (F := F) c arg1 arg3 X (arg3.view.writes (Elt F) f (L acc)))) } := by
  have hk : k.val < 512 := Nat.lt_of_lt_of_le k.isLt k0_t2_abs.2.1
  refine ⟨?_, ?_, fun E acc f => ?run⟩
  case run =>
    unfold k0_t2_body
    iintro ⟨HR, HW⟩
    sl_exec
    sl_step
    sl_close

/-- The state before trip `k`: the carried value and the contents of the packed decisions. -/
def st_t2 (G : BufTy.Contents (Elt F) arg3.view.ty) (init : Carry F) : ℕ → Carry F × BufTy.Contents (Elt F) arg3.view.ty
  | 0 => (init, G)
  | k + 1 =>
    if h : k < k0_t2_loop.trips then
      ((trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X ⟨k, h⟩).1 (st_t2 G init k).1,
        arg3.view.writes (Elt F) (st_t2 G init k).2 ((trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X ⟨k, h⟩).2.1 (st_t2 G init k).1))
    else st_t2 G init k

/-- One more trip. -/
theorem st_t2_succ (G : BufTy.Contents (Elt F) arg3.view.ty) (init : Carry F) (k : Fin k0_t2_loop.trips) :
    st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init (k.val + 1)
      = ((trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X k).1 (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init k.val).1,
        arg3.view.writes (Elt F) (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init k.val).2
          ((trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X k).2.1 (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init k.val).1)) := by
  rw [st_t2.eq_2]; exact dif_pos k.isLt

set_option warn.classDefReducibility false in
/-- The loop by its invariant: the block of frames is unchanged, the packed decisions and the carried value are the
    state's. -/
@[sl_loop] def loopInv_t2 (E : Set ℕ) (G : BufTy.Contents (Elt F) arg3.view.ty) (init : Carry F) :
    LoopInvTy_k0_t2 (F := F) Unit ℕ (UR sig nD τ) ℕ 𝒱 c bd E i arg1 harg1 arg2 harg2 arg3 harg3 arg4 harg4 arg5 harg5 arg6 harg6 arg7 harg7 arg8 harg8 arg0 v34 k0_h2 v62 v64 v66 v68 v70 v72 v74 v76 v78 v80 v82 v84 init where
  inv k acc := iprop((arg1.view.loc (c : Thread nD τ) ↦[arg1.view.set]{fullShare} X)
    ∗ (∃ f, (arg3.view.loc (c : Thread nD τ) ↦[arg3.view.set]{fullShare} f) ∗ ⌜f = (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init k).2⌝)
    ∗ ⌜acc = (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init k).1⌝)
  step k acc := by
    iintro ⟨HR, ⟨%f, HW, %hf⟩, %hacc⟩
    subst hacc
    iapply (wp_wand_r Idealize.ShloMosaic.frame (wpE (defs₀ (F := F)) 𝒱 (c : Thread nD τ) bd) E)
    isplitl [HR HW]
    · iapply ((trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X k).2.2 E (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init k).1 f)
      isplitl [HR]; · iexact HR
      iexact HW
    · iintro %yld ⟨%hres, HR, HW⟩
      isplitl [HR]; · iexact HR
      simp only [st_t2_succ]
      isplitl [HW]
      · iexists _; isplitl [HW]; · iexact HW
        ipureintro; rw [hf]
      ipureintro; rw [hres]
end

section
variable (k0_h3 : k0_cond3 i = 1#1) (v62 v64 v66 v68 v70 v72 v74 v76 : FVec F S8x64 .f32) (v78 v80 v82 v84 : IVec S8x64 32)
  (X : BufTy.Contents (Elt F) arg1.view.ty)

/-- One trip of the third forward loop (frames 1536 to 2047), at a symbolic trip and carried value: what it yields and the pieces it stores into the packed
    decisions, as functions of the carried value. -/
@[irreducible] def trip_t3 (k : Fin k0_t3_loop.trips) :
    Σ' (R : Carry F → Carry F), { L : Carry F → List (View.Piece (Elt F) S64x8x8x64 .i32) //
      ∀ (E : Set ℕ) (acc : Carry F) (f : BufTy.Contents (Elt F) arg3.view.ty),
      Touched (F := F) c arg1 arg3 X f
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 k acc)
          (fun yld => iprop(⌜yld = R acc⌝ ∗ Touched (F := F) c arg1 arg3 X (arg3.view.writes (Elt F) f (L acc)))) } := by
  have hk : k.val < 512 := Nat.lt_of_lt_of_le k.isLt k0_t3_abs.2.1
  refine ⟨?_, ?_, fun E acc f => ?run⟩
  case run =>
    unfold k0_t3_body
    iintro ⟨HR, HW⟩
    sl_exec
    sl_step
    sl_close

/-- The state before trip `k`: the carried value and the contents of the packed decisions. -/
def st_t3 (G : BufTy.Contents (Elt F) arg3.view.ty) (init : Carry F) : ℕ → Carry F × BufTy.Contents (Elt F) arg3.view.ty
  | 0 => (init, G)
  | k + 1 =>
    if h : k < k0_t3_loop.trips then
      ((trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X ⟨k, h⟩).1 (st_t3 G init k).1,
        arg3.view.writes (Elt F) (st_t3 G init k).2 ((trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X ⟨k, h⟩).2.1 (st_t3 G init k).1))
    else st_t3 G init k

/-- One more trip. -/
theorem st_t3_succ (G : BufTy.Contents (Elt F) arg3.view.ty) (init : Carry F) (k : Fin k0_t3_loop.trips) :
    st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init (k.val + 1)
      = ((trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X k).1 (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init k.val).1,
        arg3.view.writes (Elt F) (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init k.val).2
          ((trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X k).2.1 (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init k.val).1)) := by
  rw [st_t3.eq_2]; exact dif_pos k.isLt

set_option warn.classDefReducibility false in
/-- The loop by its invariant: the block of frames is unchanged, the packed decisions and the carried value are the
    state's. -/
@[sl_loop] def loopInv_t3 (E : Set ℕ) (G : BufTy.Contents (Elt F) arg3.view.ty) (init : Carry F) :
    LoopInvTy_k0_t3 (F := F) Unit ℕ (UR sig nD τ) ℕ 𝒱 c bd E i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 init where
  inv k acc := iprop((arg1.view.loc (c : Thread nD τ) ↦[arg1.view.set]{fullShare} X)
    ∗ (∃ f, (arg3.view.loc (c : Thread nD τ) ↦[arg3.view.set]{fullShare} f) ∗ ⌜f = (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init k).2⌝)
    ∗ ⌜acc = (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init k).1⌝)
  step k acc := by
    iintro ⟨HR, ⟨%f, HW, %hf⟩, %hacc⟩
    subst hacc
    iapply (wp_wand_r Idealize.ShloMosaic.frame (wpE (defs₀ (F := F)) 𝒱 (c : Thread nD τ) bd) E)
    isplitl [HR HW]
    · iapply ((trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X k).2.2 E (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init k).1 f)
      isplitl [HR]; · iexact HR
      iexact HW
    · iintro %yld ⟨%hres, HR, HW⟩
      isplitl [HR]; · iexact HR
      simp only [st_t3_succ]
      isplitl [HW]
      · iexists _; isplitl [HW]; · iexact HW
        ipureintro; rw [hf]
      ipureintro; rw [hres]
end

end Cert.KernelIdeal.Mas

end
-- ==== Proof.KernelIdeal.ForwardRows.lean ====
/- The forward loops on rows: a trip computes the scores of its frame from the scores before, and stores the word being
   packed in the row of its frame. -/
module

public import proofs.«01_k».proof.Proof.KernelIdeal.ForwardLoops
public import proofs.«01_k».proof.Proof.Planes

@[expose] public section

set_option maxRecDepth 16384
set_option maxHeartbeats 4000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Mas

variable {F : FTy → Type} [FloatOps F]

/-- The resource algebra of the launch. -/
local notation "𝕄G" => MT nD τ sig Unit (Elt F) ℕ (UR sig nD τ) ℕ

/-- The carried value that holds the scores `q` and the words `a`. -/
def tup (q : Row (F .f32)) (a : Row (BitVec 32)) : Carry F :=
  (plane q 0, plane q 1, plane q 2, plane q 3, plane q 4, plane q 5, plane q 6, plane q 7,
    plane a 0, plane a 1, plane a 2, plane a 3, plane a 4, plane a 5, plane a 6, plane a 7)

/-- Sixteen planes that are those of two rows are the carried value of the rows. -/
theorem tup_ext {q : Row (F .f32)} {a : Row (BitVec 32)} {x0 x1 x2 x3 x4 x5 x6 x7 : FVec F S8x64 .f32} {y0 y1 y2 y3 y4 y5 y6 y7 : IVec S8x64 32}
    (h0 : x0 = plane q 0) (h1 : x1 = plane q 1) (h2 : x2 = plane q 2) (h3 : x3 = plane q 3) (h4 : x4 = plane q 4) (h5 : x5 = plane q 5) (h6 : x6 = plane q 6) (h7 : x7 = plane q 7)
    (j0 : y0 = plane a 0) (j1 : y1 = plane a 1) (j2 : y2 = plane a 2) (j3 : y3 = plane a 3) (j4 : y4 = plane a 4) (j5 : y5 = plane a 5) (j6 : y6 = plane a 6) (j7 : y7 = plane a 7) :
    ((x0, x1, x2, x3, x4, x5, x6, x7, y0, y1, y2, y3, y4, y5, y6, y7) : Carry F) = tup q a := by
  subst h0 h1 h2 h3 h4 h5 h6 h7 j0 j1 j2 j3 j4 j5 j6 j7; rfl

/-- A buffer of planes after the eight planes of row `r` were stored. -/
theorem read_row {sig : RefSig} {κ : Kind} {sp : Space} {e : EltTy} {Val : EltTy → Type} {N : ℕ} (v : View sig κ sp ⟨4, ![N, 8, 8, 64]⟩ e)
    (f f' : BufTy.Contents Val v.ty) (r : Fin N) (w : Row (Val e))
    (h : ∀ r' g' b h', v.read Val f' (ix4 r' g' b h') =
      if r' = r ∧ g' = 7 then w b (lane 7 h') else if r' = r ∧ g' = 6 then w b (lane 6 h') else if r' = r ∧ g' = 5 then w b (lane 5 h')
      else if r' = r ∧ g' = 4 then w b (lane 4 h') else if r' = r ∧ g' = 3 then w b (lane 3 h') else if r' = r ∧ g' = 2 then w b (lane 2 h')
      else if r' = r ∧ g' = 1 then w b (lane 1 h') else if r' = r ∧ g' = 0 then w b (lane 0 h') else v.read Val f (ix4 r' g' b h')) (r' : Fin N) :
    at4 v f' r' = if r' = r then w else at4 v f r' := by
  have key : ∀ (g : Fin 8) (b : Fin 8) (h' : Fin 64), v.read Val f' (ix4 r g b h') = w b (lane g h') := by
    intro g b h'
    rw [h]
    exact eight (P := fun g => (if r = r ∧ g = 7 then w b (lane 7 h') else if r = r ∧ g = 6 then w b (lane 6 h') else if r = r ∧ g = 5 then w b (lane 5 h')
      else if r = r ∧ g = 4 then w b (lane 4 h') else if r = r ∧ g = 3 then w b (lane 3 h') else if r = r ∧ g = 2 then w b (lane 2 h')
      else if r = r ∧ g = 1 then w b (lane 1 h') else if r = r ∧ g = 0 then w b (lane 0 h') else v.read Val f (ix4 r g b h')) = w b (lane g h'))
      (by simp) (by simp) (by simp) (by simp) (by simp) (by simp) (by simp) (by simp) g
  by_cases hr : r' = r
  · subst hr
    rw [if_pos rfl]
    funext b t
    exact (key (gOf t) b (hOf t)).trans (congrArg (w b) (lane_of t))
  · rw [if_neg hr]
    funext b t
    exact (h r' (gOf t) b (hOf t)).trans (by simp only [hr, false_and, if_false]; rfl)

variable (𝒱 : Variants) (c : Dev nD) (bd : Option 𝒱.V) (i : grid0.Coords)
  (arg1 : Memref sig .tc .vmem S512x8x8x64 .f32) (harg1 : arg1.IsWhole) (arg2 : Memref sig .tc .vmem S8x512x512 .f32) (harg2 : arg2.IsWhole)
  (arg3 : Memref sig .tc .vmem S64x8x8x64 .i32) (harg3 : arg3.IsWhole) (arg4 : Memref sig .tc .vmem S8x8x64 .f32) (harg4 : arg4.IsWhole)
  (arg5 : Memref sig .tc .vmem S8x8x64 .i32) (harg5 : arg5.IsWhole) (arg6 : Memref sig .tc .vmem S8x8x64 .f32) (harg6 : arg6.IsWhole)
  (arg7 : Memref sig .tc .vmem S8x2 .i32) (harg7 : arg7.IsWhole) (arg8 : Memref sig .tc .vmem S512x8 .i32) (harg8 : arg8.IsWhole)
  (arg0 : BitVec 32) (v4 v8 v12 v16 v20 v24 v28 v32 : IVec S8x64 32) (v34 : IVec S8x64 1)

section
variable (k0_h1 : k0_cond1 i = 1#1) (v62 v64 v66 v68 v70 v72 v74 v76 : FVec F S8x64 .f32) (v77 v78 v79 v80 v81 v82 : IVec S8x64 32)
  (X : BufTy.Contents (Elt F) arg1.view.ty)

/-- What a trip of the loop yields: the scores of the trip's frame, and the word being packed after it. -/
theorem trip_t1_tup (k : Fin k0_t1_loop.trips) (q : Row (F .f32)) (a : Row (BitVec 32)) (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7)
    (h34 : v34 = cmpi .eq (iota .tc S8x64 32 [1] (by decide)) (broadcast S8x64 0#32)) :
    (trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X k).1 (tup q a) = tup (rowA (k.val + 1) (at4 arg1.view X ⟨k.val + 1, by have := k.isLt.trans_le k0_t1_abs.2.1; omega⟩) q) (pack (k.val + 1) q a) := by
  have hf : Scf.iv 1#32 1#32 k.val = BitVec.ofNat 32 (k.val + 1) := word_of_isInt (frame_t1 k) (by have := k.isLt.trans_le k0_t1_abs.2.1; omega)
  unfold trip_t1
  exact tup_ext
    (vec_rowA (load4 arg1.view X ⟨k.val + 1, by have := k.isLt.trans_le k0_t1_abs.2.1; omega⟩ 0 (k0_off1_eq k) _ _) (vec_prev_zero q (by decide) slices_S8x64_o0_63_S8x1 slices_S8x64_o0_0_S8x63 (by decide) h34) hv0 hf)
    (vec_rowA (load4 arg1.view X ⟨k.val + 1, by have := k.isLt.trans_le k0_t1_abs.2.1; omega⟩ 1 (k0_off2_eq k) _ _) (plane_prev q 1 0 rfl).symm hv1 hf)
    (vec_rowA (load4 arg1.view X ⟨k.val + 1, by have := k.isLt.trans_le k0_t1_abs.2.1; omega⟩ 2 (k0_off3_eq k) _ _) (plane_prev q 2 1 rfl).symm hv2 hf)
    (vec_rowA (load4 arg1.view X ⟨k.val + 1, by have := k.isLt.trans_le k0_t1_abs.2.1; omega⟩ 3 (k0_off4_eq k) _ _) (plane_prev q 3 2 rfl).symm hv3 hf)
    (vec_rowA (load4 arg1.view X ⟨k.val + 1, by have := k.isLt.trans_le k0_t1_abs.2.1; omega⟩ 4 (k0_off5_eq k) _ _) (plane_prev q 4 3 rfl).symm hv4 hf)
    (vec_rowA (load4 arg1.view X ⟨k.val + 1, by have := k.isLt.trans_le k0_t1_abs.2.1; omega⟩ 5 (k0_off6_eq k) _ _) (plane_prev q 5 4 rfl).symm hv5 hf)
    (vec_rowA (load4 arg1.view X ⟨k.val + 1, by have := k.isLt.trans_le k0_t1_abs.2.1; omega⟩ 6 (k0_off7_eq k) _ _) (plane_prev q 6 5 rfl).symm hv6 hf)
    (vec_rowA (load4 arg1.view X ⟨k.val + 1, by have := k.isLt.trans_le k0_t1_abs.2.1; omega⟩ 7 (k0_off8_eq k) _ _) (plane_prev q 7 6 rfl).symm hv7 hf)
    (vec_pack (vec_bit (plane_lft_zero q slices_S8x64_o0_63_S8x1 slices_S8x64_o0_0_S8x63 (by decide)) (by decide)) hf)
    (vec_pack (vec_bit (plane_lft q 1 0 rfl).symm (by decide)) hf)
    (vec_pack (vec_bit (plane_lft q 2 1 rfl).symm (by decide)) hf)
    (vec_pack (vec_bit (plane_lft q 3 2 rfl).symm (by decide)) hf)
    (vec_pack (vec_bit (plane_lft q 4 3 rfl).symm (by decide)) hf)
    (vec_pack (vec_bit (plane_lft q 5 4 rfl).symm (by decide)) hf)
    (vec_pack (vec_bit (plane_lft q 6 5 rfl).symm (by decide)) hf)
    (vec_pack (vec_bit (plane_lft q 7 6 rfl).symm (by decide)) hf)

/-- What a trip of the loop stores: the word being packed, in the row of the trip's frame. -/
theorem trip_t1_stores (k : Fin k0_t1_loop.trips) (q : Row (F .f32)) (a : Row (BitVec 32))
    (f : BufTy.Contents (Elt F) arg3.view.ty) (r : Fin 64) (hr : r.val = (k.val + 1) / 32) (r' : Fin 64) :
    at4 arg3.view (arg3.view.writes (Elt F) f ((trip_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X k).2.1 (tup q a))) r'
      = if r' = r then pack (k.val + 1) q a else at4 arg3.view f r' := by
  have hf : Scf.iv 1#32 1#32 k.val = BitVec.ofNat 32 (k.val + 1) := word_of_isInt (frame_t1 k) (by have := k.isLt.trans_le k0_t1_abs.2.1; omega)
  obtain ⟨e0, e1, e2, e3, e4, e5, e6, e7⟩ := rows_t1 k
  rw [← hr] at e0 e1 e2 e3 e4 e5 e6 e7
  refine read_row arg3.view f _ r (pack (k.val + 1) q a) (fun r' g' b h' => ?_) r'
  unfold trip_t1
  refine (read4_cons arg3.view f r 7 e7 _ _ (pack (k.val + 1) q a) (congrArg (shapeCast _ · _) (vec_pack (vec_bit (plane_lft q 7 6 rfl).symm (by decide)) hf)) _ r' g' b h').trans ?_
  refine if_congr Iff.rfl rfl ?_
  refine (read4_cons arg3.view f r 6 e6 _ _ (pack (k.val + 1) q a) (congrArg (shapeCast _ · _) (vec_pack (vec_bit (plane_lft q 6 5 rfl).symm (by decide)) hf)) _ r' g' b h').trans ?_
  refine if_congr Iff.rfl rfl ?_
  refine (read4_cons arg3.view f r 5 e5 _ _ (pack (k.val + 1) q a) (congrArg (shapeCast _ · _) (vec_pack (vec_bit (plane_lft q 5 4 rfl).symm (by decide)) hf)) _ r' g' b h').trans ?_
  refine if_congr Iff.rfl rfl ?_
  refine (read4_cons arg3.view f r 4 e4 _ _ (pack (k.val + 1) q a) (congrArg (shapeCast _ · _) (vec_pack (vec_bit (plane_lft q 4 3 rfl).symm (by decide)) hf)) _ r' g' b h').trans ?_
  refine if_congr Iff.rfl rfl ?_
  refine (read4_cons arg3.view f r 3 e3 _ _ (pack (k.val + 1) q a) (congrArg (shapeCast _ · _) (vec_pack (vec_bit (plane_lft q 3 2 rfl).symm (by decide)) hf)) _ r' g' b h').trans ?_
  refine if_congr Iff.rfl rfl ?_
  refine (read4_cons arg3.view f r 2 e2 _ _ (pack (k.val + 1) q a) (congrArg (shapeCast _ · _) (vec_pack (vec_bit (plane_lft q 2 1 rfl).symm (by decide)) hf)) _ r' g' b h').trans ?_
  refine if_congr Iff.rfl rfl ?_
  refine (read4_cons arg3.view f r 1 e1 _ _ (pack (k.val + 1) q a) (congrArg (shapeCast _ · _) (vec_pack (vec_bit (plane_lft q 1 0 rfl).symm (by decide)) hf)) _ r' g' b h').trans ?_
  refine if_congr Iff.rfl rfl ?_
  refine (read4_cons arg3.view f r 0 e0 _ _ (pack (k.val + 1) q a) (congrArg (shapeCast _ · _) (vec_pack (vec_bit (plane_lft_zero q slices_S8x64_o0_63_S8x1 slices_S8x64_o0_0_S8x63 (by decide)) (by decide)) hf)) _ r' g' b h').trans ?_
  refine if_congr Iff.rfl rfl ?_
  rfl
end

section
variable (k0_h2 : k0_cond2 i = 1#1) (v62 v64 v66 v68 v70 v72 v74 v76 : FVec F S8x64 .f32) (v78 v80 v82 v84 : IVec S8x64 32)
  (X : BufTy.Contents (Elt F) arg1.view.ty)

/-- What a trip of the loop yields: the scores of the trip's frame, and the word being packed after it. -/
theorem trip_t2_tup (k : Fin k0_t2_loop.trips) (q : Row (F .f32)) (a : Row (BitVec 32)) (harg0 : arg0 = BitVec.ofNat 32 (i 0).val)
    (h34 : v34 = cmpi .eq (iota .tc S8x64 32 [1] (by decide)) (broadcast S8x64 0#32)) :
    (trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X k).1 (tup q a) = tup (rowB (at4 arg1.view X ⟨k.val, k.isLt.trans_le k0_t2_abs.2.1⟩) q) (pack (512 * (i 0).val + k.val) q a) := by
  have hf : Scalar.addi (Scalar.muli arg0 512#32) (Scf.iv 0#32 1#32 k.val) = BitVec.ofNat 32 (512 * (i 0).val + k.val) := harg0 ▸ word_of_isInt (frame_fwd i k.val (k.isLt.trans_le k0_t2_abs.2.1)) (by have := k.isLt.trans_le k0_t2_abs.2.1; have : (i 0).val < 8 := (i 0).isLt; omega)
  unfold trip_t2
  exact tup_ext
    (vec_rowB (load4 arg1.view X ⟨k.val, k.isLt.trans_le k0_t2_abs.2.1⟩ 0 (k0_off17_eq k) _ _) (vec_prev_zero q (by decide) slices_S8x64_o0_63_S8x1 slices_S8x64_o0_0_S8x63 (by decide) h34))
    (vec_rowB (load4 arg1.view X ⟨k.val, k.isLt.trans_le k0_t2_abs.2.1⟩ 1 (k0_off18_eq k) _ _) (plane_prev q 1 0 rfl).symm)
    (vec_rowB (load4 arg1.view X ⟨k.val, k.isLt.trans_le k0_t2_abs.2.1⟩ 2 (k0_off19_eq k) _ _) (plane_prev q 2 1 rfl).symm)
    (vec_rowB (load4 arg1.view X ⟨k.val, k.isLt.trans_le k0_t2_abs.2.1⟩ 3 (k0_off20_eq k) _ _) (plane_prev q 3 2 rfl).symm)
    (vec_rowB (load4 arg1.view X ⟨k.val, k.isLt.trans_le k0_t2_abs.2.1⟩ 4 (k0_off21_eq k) _ _) (plane_prev q 4 3 rfl).symm)
    (vec_rowB (load4 arg1.view X ⟨k.val, k.isLt.trans_le k0_t2_abs.2.1⟩ 5 (k0_off22_eq k) _ _) (plane_prev q 5 4 rfl).symm)
    (vec_rowB (load4 arg1.view X ⟨k.val, k.isLt.trans_le k0_t2_abs.2.1⟩ 6 (k0_off23_eq k) _ _) (plane_prev q 6 5 rfl).symm)
    (vec_rowB (load4 arg1.view X ⟨k.val, k.isLt.trans_le k0_t2_abs.2.1⟩ 7 (k0_off24_eq k) _ _) (plane_prev q 7 6 rfl).symm)
    (vec_pack (vec_bit (plane_lft_zero q slices_S8x64_o0_63_S8x1 slices_S8x64_o0_0_S8x63 (by decide)) (by decide)) hf)
    (vec_pack (vec_bit (plane_lft q 1 0 rfl).symm (by decide)) hf)
    (vec_pack (vec_bit (plane_lft q 2 1 rfl).symm (by decide)) hf)
    (vec_pack (vec_bit (plane_lft q 3 2 rfl).symm (by decide)) hf)
    (vec_pack (vec_bit (plane_lft q 4 3 rfl).symm (by decide)) hf)
    (vec_pack (vec_bit (plane_lft q 5 4 rfl).symm (by decide)) hf)
    (vec_pack (vec_bit (plane_lft q 6 5 rfl).symm (by decide)) hf)
    (vec_pack (vec_bit (plane_lft q 7 6 rfl).symm (by decide)) hf)

/-- What a trip of the loop stores: the word being packed, in the row of the trip's frame. -/
theorem trip_t2_stores (k : Fin k0_t2_loop.trips) (q : Row (F .f32)) (a : Row (BitVec 32)) (harg0 : arg0 = BitVec.ofNat 32 (i 0).val)
    (f : BufTy.Contents (Elt F) arg3.view.ty) (r : Fin 64) (hr : r.val = (512 * (i 0).val + k.val) / 32) (r' : Fin 64) :
    at4 arg3.view (arg3.view.writes (Elt F) f ((trip_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X k).2.1 (tup q a))) r'
      = if r' = r then pack (512 * (i 0).val + k.val) q a else at4 arg3.view f r' := by
  have hf : Scalar.addi (Scalar.muli arg0 512#32) (Scf.iv 0#32 1#32 k.val) = BitVec.ofNat 32 (512 * (i 0).val + k.val) := harg0 ▸ word_of_isInt (frame_fwd i k.val (k.isLt.trans_le k0_t2_abs.2.1)) (by have := k.isLt.trans_le k0_t2_abs.2.1; have : (i 0).val < 8 := (i 0).isLt; omega)
  obtain ⟨e0, e1, e2, e3, e4, e5, e6, e7⟩ := rows_t2 i k
  rw [← hr] at e0 e1 e2 e3 e4 e5 e6 e7
  refine read_row arg3.view f _ r (pack (512 * (i 0).val + k.val) q a) (fun r' g' b h' => ?_) r'
  unfold trip_t2
  refine (read4_cons arg3.view f r 7 e7 _ _ (pack (512 * (i 0).val + k.val) q a) (congrArg (shapeCast _ · _) (vec_pack (vec_bit (plane_lft q 7 6 rfl).symm (by decide)) hf)) _ r' g' b h').trans ?_
  refine if_congr Iff.rfl rfl ?_
  refine (read4_cons arg3.view f r 6 e6 _ _ (pack (512 * (i 0).val + k.val) q a) (congrArg (shapeCast _ · _) (vec_pack (vec_bit (plane_lft q 6 5 rfl).symm (by decide)) hf)) _ r' g' b h').trans ?_
  refine if_congr Iff.rfl rfl ?_
  refine (read4_cons arg3.view f r 5 e5 _ _ (pack (512 * (i 0).val + k.val) q a) (congrArg (shapeCast _ · _) (vec_pack (vec_bit (plane_lft q 5 4 rfl).symm (by decide)) hf)) _ r' g' b h').trans ?_
  refine if_congr Iff.rfl rfl ?_
  refine (read4_cons arg3.view f r 4 e4 _ _ (pack (512 * (i 0).val + k.val) q a) (congrArg (shapeCast _ · _) (vec_pack (vec_bit (plane_lft q 4 3 rfl).symm (by decide)) hf)) _ r' g' b h').trans ?_
  refine if_congr Iff.rfl rfl ?_
  refine (read4_cons arg3.view f r 3 e3 _ _ (pack (512 * (i 0).val + k.val) q a) (congrArg (shapeCast _ · _) (vec_pack (vec_bit (plane_lft q 3 2 rfl).symm (by decide)) hf)) _ r' g' b h').trans ?_
  refine if_congr Iff.rfl rfl ?_
  refine (read4_cons arg3.view f r 2 e2 _ _ (pack (512 * (i 0).val + k.val) q a) (congrArg (shapeCast _ · _) (vec_pack (vec_bit (plane_lft q 2 1 rfl).symm (by decide)) hf)) _ r' g' b h').trans ?_
  refine if_congr Iff.rfl rfl ?_
  refine (read4_cons arg3.view f r 1 e1 _ _ (pack (512 * (i 0).val + k.val) q a) (congrArg (shapeCast _ · _) (vec_pack (vec_bit (plane_lft q 1 0 rfl).symm (by decide)) hf)) _ r' g' b h').trans ?_
  refine if_congr Iff.rfl rfl ?_
  refine (read4_cons arg3.view f r 0 e0 _ _ (pack (512 * (i 0).val + k.val) q a) (congrArg (shapeCast _ · _) (vec_pack (vec_bit (plane_lft_zero q slices_S8x64_o0_63_S8x1 slices_S8x64_o0_0_S8x63 (by decide)) (by decide)) hf)) _ r' g' b h').trans ?_
  refine if_congr Iff.rfl rfl ?_
  rfl
end

section
variable (k0_h3 : k0_cond3 i = 1#1) (v62 v64 v66 v68 v70 v72 v74 v76 : FVec F S8x64 .f32) (v78 v80 v82 v84 : IVec S8x64 32)
  (X : BufTy.Contents (Elt F) arg1.view.ty)

/-- What a trip of the loop yields: the scores of the trip's frame, and the word being packed after it. -/
theorem trip_t3_tup (k : Fin k0_t3_loop.trips) (q : Row (F .f32)) (a : Row (BitVec 32)) (harg0 : arg0 = BitVec.ofNat 32 (i 0).val) (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7)
    (h34 : v34 = cmpi .eq (iota .tc S8x64 32 [1] (by decide)) (broadcast S8x64 0#32)) :
    (trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X k).1 (tup q a) = tup (rowC (512 * (i 0).val + k.val) (at4 arg1.view X ⟨k.val, k.isLt.trans_le k0_t3_abs.2.1⟩) q) (pack (512 * (i 0).val + k.val) q a) := by
  have hf : Scalar.addi (Scalar.muli arg0 512#32) (Scf.iv 0#32 1#32 k.val) = BitVec.ofNat 32 (512 * (i 0).val + k.val) := harg0 ▸ word_of_isInt (frame_fwd i k.val (k.isLt.trans_le k0_t3_abs.2.1)) (by have := k.isLt.trans_le k0_t3_abs.2.1; have : (i 0).val < 8 := (i 0).isLt; omega)
  unfold trip_t3
  exact tup_ext
    (vec_rowC (load4 arg1.view X ⟨k.val, k.isLt.trans_le k0_t3_abs.2.1⟩ 0 (k0_off33_eq k) _ _) (vec_prev_zero q (by decide) slices_S8x64_o0_63_S8x1 slices_S8x64_o0_0_S8x63 (by decide) h34) hv0 hf)
    (vec_rowC (load4 arg1.view X ⟨k.val, k.isLt.trans_le k0_t3_abs.2.1⟩ 1 (k0_off34_eq k) _ _) (plane_prev q 1 0 rfl).symm hv1 hf)
    (vec_rowC (load4 arg1.view X ⟨k.val, k.isLt.trans_le k0_t3_abs.2.1⟩ 2 (k0_off35_eq k) _ _) (plane_prev q 2 1 rfl).symm hv2 hf)
    (vec_rowC (load4 arg1.view X ⟨k.val, k.isLt.trans_le k0_t3_abs.2.1⟩ 3 (k0_off36_eq k) _ _) (plane_prev q 3 2 rfl).symm hv3 hf)
    (vec_rowC (load4 arg1.view X ⟨k.val, k.isLt.trans_le k0_t3_abs.2.1⟩ 4 (k0_off37_eq k) _ _) (plane_prev q 4 3 rfl).symm hv4 hf)
    (vec_rowC (load4 arg1.view X ⟨k.val, k.isLt.trans_le k0_t3_abs.2.1⟩ 5 (k0_off38_eq k) _ _) (plane_prev q 5 4 rfl).symm hv5 hf)
    (vec_rowC (load4 arg1.view X ⟨k.val, k.isLt.trans_le k0_t3_abs.2.1⟩ 6 (k0_off39_eq k) _ _) (plane_prev q 6 5 rfl).symm hv6 hf)
    (vec_rowC (load4 arg1.view X ⟨k.val, k.isLt.trans_le k0_t3_abs.2.1⟩ 7 (k0_off40_eq k) _ _) (plane_prev q 7 6 rfl).symm hv7 hf)
    (vec_pack (vec_bit (plane_lft_zero q slices_S8x64_o0_63_S8x1 slices_S8x64_o0_0_S8x63 (by decide)) (by decide)) hf)
    (vec_pack (vec_bit (plane_lft q 1 0 rfl).symm (by decide)) hf)
    (vec_pack (vec_bit (plane_lft q 2 1 rfl).symm (by decide)) hf)
    (vec_pack (vec_bit (plane_lft q 3 2 rfl).symm (by decide)) hf)
    (vec_pack (vec_bit (plane_lft q 4 3 rfl).symm (by decide)) hf)
    (vec_pack (vec_bit (plane_lft q 5 4 rfl).symm (by decide)) hf)
    (vec_pack (vec_bit (plane_lft q 6 5 rfl).symm (by decide)) hf)
    (vec_pack (vec_bit (plane_lft q 7 6 rfl).symm (by decide)) hf)

/-- What a trip of the loop stores: the word being packed, in the row of the trip's frame. -/
theorem trip_t3_stores (k : Fin k0_t3_loop.trips) (q : Row (F .f32)) (a : Row (BitVec 32)) (harg0 : arg0 = BitVec.ofNat 32 (i 0).val)
    (f : BufTy.Contents (Elt F) arg3.view.ty) (r : Fin 64) (hr : r.val = (512 * (i 0).val + k.val) / 32) (r' : Fin 64) :
    at4 arg3.view (arg3.view.writes (Elt F) f ((trip_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X k).2.1 (tup q a))) r'
      = if r' = r then pack (512 * (i 0).val + k.val) q a else at4 arg3.view f r' := by
  have hf : Scalar.addi (Scalar.muli arg0 512#32) (Scf.iv 0#32 1#32 k.val) = BitVec.ofNat 32 (512 * (i 0).val + k.val) := harg0 ▸ word_of_isInt (frame_fwd i k.val (k.isLt.trans_le k0_t3_abs.2.1)) (by have := k.isLt.trans_le k0_t3_abs.2.1; have : (i 0).val < 8 := (i 0).isLt; omega)
  obtain ⟨e0, e1, e2, e3, e4, e5, e6, e7⟩ := rows_t3 i k
  rw [← hr] at e0 e1 e2 e3 e4 e5 e6 e7
  refine read_row arg3.view f _ r (pack (512 * (i 0).val + k.val) q a) (fun r' g' b h' => ?_) r'
  unfold trip_t3
  refine (read4_cons arg3.view f r 7 e7 _ _ (pack (512 * (i 0).val + k.val) q a) (congrArg (shapeCast _ · _) (vec_pack (vec_bit (plane_lft q 7 6 rfl).symm (by decide)) hf)) _ r' g' b h').trans ?_
  refine if_congr Iff.rfl rfl ?_
  refine (read4_cons arg3.view f r 6 e6 _ _ (pack (512 * (i 0).val + k.val) q a) (congrArg (shapeCast _ · _) (vec_pack (vec_bit (plane_lft q 6 5 rfl).symm (by decide)) hf)) _ r' g' b h').trans ?_
  refine if_congr Iff.rfl rfl ?_
  refine (read4_cons arg3.view f r 5 e5 _ _ (pack (512 * (i 0).val + k.val) q a) (congrArg (shapeCast _ · _) (vec_pack (vec_bit (plane_lft q 5 4 rfl).symm (by decide)) hf)) _ r' g' b h').trans ?_
  refine if_congr Iff.rfl rfl ?_
  refine (read4_cons arg3.view f r 4 e4 _ _ (pack (512 * (i 0).val + k.val) q a) (congrArg (shapeCast _ · _) (vec_pack (vec_bit (plane_lft q 4 3 rfl).symm (by decide)) hf)) _ r' g' b h').trans ?_
  refine if_congr Iff.rfl rfl ?_
  refine (read4_cons arg3.view f r 3 e3 _ _ (pack (512 * (i 0).val + k.val) q a) (congrArg (shapeCast _ · _) (vec_pack (vec_bit (plane_lft q 3 2 rfl).symm (by decide)) hf)) _ r' g' b h').trans ?_
  refine if_congr Iff.rfl rfl ?_
  refine (read4_cons arg3.view f r 2 e2 _ _ (pack (512 * (i 0).val + k.val) q a) (congrArg (shapeCast _ · _) (vec_pack (vec_bit (plane_lft q 2 1 rfl).symm (by decide)) hf)) _ r' g' b h').trans ?_
  refine if_congr Iff.rfl rfl ?_
  refine (read4_cons arg3.view f r 1 e1 _ _ (pack (512 * (i 0).val + k.val) q a) (congrArg (shapeCast _ · _) (vec_pack (vec_bit (plane_lft q 1 0 rfl).symm (by decide)) hf)) _ r' g' b h').trans ?_
  refine if_congr Iff.rfl rfl ?_
  refine (read4_cons arg3.view f r 0 e0 _ _ (pack (512 * (i 0).val + k.val) q a) (congrArg (shapeCast _ · _) (vec_pack (vec_bit (plane_lft_zero q slices_S8x64_o0_63_S8x1 slices_S8x64_o0_0_S8x63 (by decide)) (by decide)) hf)) _ r' g' b h').trans ?_
  refine if_congr Iff.rfl rfl ?_
  rfl
end

end Cert.KernelIdeal.Mas

end
-- ==== Proof.KernelIdeal.BackwardRows.lean ====
/- The loops of the walk back on rows: a trip steps the walk at its frame, by the decision words of the frame's row, and
   stores the lanes it was on before. -/
module

public import proofs.«01_k».proof.Proof.KernelIdeal.Offsets
public import proofs.«01_k».proof.Proof.Steps

@[expose] public section

set_option maxRecDepth 16384
set_option maxHeartbeats 4000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Mas

variable {F : FTy → Type} [FloatOps F]

/-- The resource algebra of the launch. -/
local notation "𝕄G" => MT nD τ sig Unit (Elt F) ℕ (UR sig nD τ) ℕ

/-- What the loops of the walk back carry: the eight planes of the weight, the wrap counts, the lanes. -/
abbrev Back (F : FTy → Type) :=
  FVec F S8x64 .f32 × FVec F S8x64 .f32 × FVec F S8x64 .f32 × FVec F S8x64 .f32 × FVec F S8x64 .f32 × FVec F S8x64 .f32 × FVec F S8x64 .f32 × FVec F S8x64 .f32
    × IVec S8x1 32 × IVec S8x1 32

/-- The carried value of a state of the walk. -/
def tupB (s : Walk F) : Back F :=
  (plane s.p 0, plane s.p 1, plane s.p 2, plane s.p 3, plane s.p 4, plane s.p 5, plane s.p 6, plane s.p 7, col s.w, col s.tv)

/-- Planes and columns that are those of a state are its carried value. -/
theorem tupB_ext {s : Walk F} {x0 x1 x2 x3 x4 x5 x6 x7 : FVec F S8x64 .f32} {w tv : IVec S8x1 32}
    (h0 : x0 = plane s.p 0) (h1 : x1 = plane s.p 1) (h2 : x2 = plane s.p 2) (h3 : x3 = plane s.p 3) (h4 : x4 = plane s.p 4) (h5 : x5 = plane s.p 5) (h6 : x6 = plane s.p 6) (h7 : x7 = plane s.p 7)
    (hw : w = col s.w) (ht : tv = col s.tv) : ((x0, x1, x2, x3, x4, x5, x6, x7, w, tv) : Back F) = tupB s := by
  subst h0 h1 h2 h3 h4 h5 h6 h7 hw ht; rfl

/-- A step at a frame past the first 512. -/
theorem back_high (f : ℕ) (hf : ¬ f < 512) (word : Row (BitVec 32)) (s : Walk F) : s.back f word = s.step (moving (tells f word) s.p) := by
  unfold Walk.back; rw [if_neg hf]

/-- A step at a frame among the first 512. -/
theorem back_low (f : ℕ) (hf : f < 512) (word : Row (BitVec 32)) (s : Walk F) : s.back f word = s.step (moving (tellsLow f word s.w) s.p) := by
  unfold Walk.back; rw [if_pos hf]

/-- The moving weight's sum, plane by plane. -/
theorem movingSum_ext {mv : Row (F .f32)} {m0 m1 m2 m3 m4 m5 m6 m7 : FVec F S8x64 .f32} (h0 : m0 = plane mv 0) (h1 : m1 = plane mv 1)
    (h2 : m2 = plane mv 2) (h3 : m3 = plane mv 3) (h4 : m4 = plane mv 4) (h5 : m5 = plane mv 5) (h6 : m6 = plane mv 6) (h7 : m7 = plane mv 7) :
    addf (addf (addf (addf (addf (addf (addf m0 m1) m2) m3) m4) m5) m6) m7 = movingSum mv := by
  subst h0 h1 h2 h3 h4 h5 h6 h7; rfl

variable (𝒱 : Variants) (c : Dev nD) (bd : Option 𝒱.V) (i : grid0.Coords)
  (arg1 : Memref sig .tc .vmem S512x8x8x64 .f32) (harg1 : arg1.IsWhole) (arg2 : Memref sig .tc .vmem S8x512x512 .f32) (harg2 : arg2.IsWhole)
  (arg3 : Memref sig .tc .vmem S64x8x8x64 .i32) (harg3 : arg3.IsWhole) (arg4 : Memref sig .tc .vmem S8x8x64 .f32) (harg4 : arg4.IsWhole)
  (arg5 : Memref sig .tc .vmem S8x8x64 .i32) (harg5 : arg5.IsWhole) (arg6 : Memref sig .tc .vmem S8x8x64 .f32) (harg6 : arg6.IsWhole)
  (arg7 : Memref sig .tc .vmem S8x2 .i32) (harg7 : arg7.IsWhole) (arg8 : Memref sig .tc .vmem S512x8 .i32) (harg8 : arg8.IsWhole)

section
variable (k0_h4 : k0_cond4 i = 1#1) (v0 : IVec S8x64 32) (v46 : BitVec 32) (X : BufTy.Contents (Elt F) arg3.view.ty)

/-- What a trip of the loop yields: the walk stepped at the trip's frame. -/
theorem trip_t4_back (k : Fin k0_t4_loop.trips) (s : Walk F) (hi4 : (i 0).val < 7) (hv46 : v46 = Scalar.subi 7#32 (BitVec.ofNat 32 (i 0).val)) (r : Fin 64) (hr : r.val = (512 * (7 - (i 0).val) + (511 - k.val)) / 32) :
    (Gen.trip_k0_t4 (F := F) 𝒱 c bd i arg1 harg1 arg2 harg2 arg3 harg3 arg4 harg4 arg5 harg5 arg6 harg6 arg7 harg7 arg8 harg8 v0 v46 k0_h4 X k).1 (tupB s) = tupB (s.back (512 * (7 - (i 0).val) + (511 - k.val)) (at4 arg3.view X r)) := by
  have hk : k.val < 512 := k.isLt.trans_le k0_t4_abs.2.1
  have hf : Scalar.addi (Scalar.muli v46 512#32) (Scalar.subi 511#32 (Scf.iv 0#32 1#32 k.val)) = BitVec.ofNat 32 (512 * (7 - (i 0).val) + (511 - k.val)) := hv46 ▸ word_of_isInt (frame_high i k.val hk) (by omega)
  obtain ⟨e0, e1, e2, e3, e4, e5, e6, e7⟩ := rows_t4 i k
  rw [← hr] at e0 e1 e2 e3 e4 e5 e6 e7
  rw [back_high _ (by omega)]
  have m0 := vec_moving (F := F) (p := s.p) (vec_tells (load4 arg3.view X r 0 e0 (k0_off49_inb i k k0_h4) shapeCasts_S1x1x8x64_S8x64) hf)
  have m1 := vec_moving (F := F) (p := s.p) (vec_tells (load4 arg3.view X r 1 e1 (k0_off50_inb i k k0_h4) shapeCasts_S1x1x8x64_S8x64) hf)
  have m2 := vec_moving (F := F) (p := s.p) (vec_tells (load4 arg3.view X r 2 e2 (k0_off51_inb i k k0_h4) shapeCasts_S1x1x8x64_S8x64) hf)
  have m3 := vec_moving (F := F) (p := s.p) (vec_tells (load4 arg3.view X r 3 e3 (k0_off52_inb i k k0_h4) shapeCasts_S1x1x8x64_S8x64) hf)
  have m4 := vec_moving (F := F) (p := s.p) (vec_tells (load4 arg3.view X r 4 e4 (k0_off53_inb i k k0_h4) shapeCasts_S1x1x8x64_S8x64) hf)
  have m5 := vec_moving (F := F) (p := s.p) (vec_tells (load4 arg3.view X r 5 e5 (k0_off54_inb i k k0_h4) shapeCasts_S1x1x8x64_S8x64) hf)
  have m6 := vec_moving (F := F) (p := s.p) (vec_tells (load4 arg3.view X r 6 e6 (k0_off55_inb i k k0_h4) shapeCasts_S1x1x8x64_S8x64) hf)
  have m7 := vec_moving (F := F) (p := s.p) (vec_tells (load4 arg3.view X r 7 e7 (k0_off56_inb i k k0_h4) shapeCasts_S1x1x8x64_S8x64) hf)
  unfold Gen.trip_k0_t4
  exact tupB_ext
    (vec_p (m1.trans (plane_rgt _ 0 1 rfl).symm) m0)
    (vec_p (m2.trans (plane_rgt _ 1 2 rfl).symm) m1)
    (vec_p (m3.trans (plane_rgt _ 2 3 rfl).symm) m2)
    (vec_p (m4.trans (plane_rgt _ 3 4 rfl).symm) m3)
    (vec_p (m5.trans (plane_rgt _ 4 5 rfl).symm) m4)
    (vec_p (m6.trans (plane_rgt _ 5 6 rfl).symm) m5)
    (vec_p (m7.trans (plane_rgt _ 6 7 rfl).symm) m6)
    (vec_p (vec_rgt_last m0 slices_S8x64_o0_1_S8x63 slices_S8x64_o0_0_S8x1 concatenates_S8x63_S8x1_S8x64_d1) m7)
    (vec_w m0 slices_S8x64_o0_0_S8x1)
    (vec_tv (movingSum_ext m0 m1 m2 m3 m4 m5 m6 m7) reduces_S8x64_S8 (.inl rfl) rfl shapeCasts_S8_S8x1)

/-- What a trip of the loop stores: the lanes the walk was on. -/
theorem trip_t4_lanes (k : Fin k0_t4_loop.trips) (s : Walk F) (f : BufTy.Contents (Elt F) arg8.view.ty) (L : List (View.Piece (Elt F) S512x8 .i32))
    (j : Fin 512) (b : Fin 8) :
    arg8.view.read (Elt F) (arg8.view.writes (Elt F) f ((Gen.trip_k0_t4 (F := F) 𝒱 c bd i arg1 harg1 arg2 harg2 arg3 harg3 arg4 harg4 arg5 harg5 arg6 harg6 arg7 harg7 arg8 harg8 v0 v46 k0_h4 X k).2.1 (tupB s) ++ L)) (ixT j b)
      = if j.val = 511 - k.val then IntOp.andi (s.tv b) 511#32 else arg8.view.read (Elt F) (arg8.view.writes (Elt F) f L) (ixT j b) := by
  have hk : k.val < 512 := k.isLt.trans_le k0_t4_abs.2.1
  unfold Gen.trip_k0_t4
  refine (readTs_cons arg8.view f ⟨511 - k.val, by omega⟩ (k0_off57_eq k) _ _ L j b).trans ?_
  refine if_congr ⟨fun h => congrArg Fin.val h, fun h => Fin.ext h⟩ ?_ rfl
  exact store_ts s.tv shapeCasts_S8x1_S8 shapeCasts_S8_S1x8 b
end

section
variable (k0_h5 : k0_cond5 i = 1#1) (v46 : BitVec 32) (X : BufTy.Contents (Elt F) arg3.view.ty)

/-- What a trip of the loop yields: the walk stepped at the trip's frame. -/
theorem trip_t5_back (k : Fin k0_t5_loop.trips) (s : Walk F) (hi4 : (i 0).val < 7) (hv46 : v46 = Scalar.subi 7#32 (BitVec.ofNat 32 (i 0).val)) (r : Fin 64) (hr : r.val = (512 * (7 - (i 0).val) + (511 - k.val)) / 32) :
    (Gen.trip_k0_t5 (F := F) 𝒱 c bd i arg1 harg1 arg2 harg2 arg3 harg3 arg4 harg4 arg5 harg5 arg6 harg6 arg7 harg7 arg8 harg8 v46 k0_h5 X k).1 (tupB s) = tupB (s.back (512 * (7 - (i 0).val) + (511 - k.val)) (at4 arg3.view X r)) := by
  have hk : k.val < 512 := k.isLt.trans_le k0_t5_abs.2.1
  have hf : Scalar.addi (Scalar.muli v46 512#32) (Scalar.subi 511#32 (Scf.iv 0#32 1#32 k.val)) = BitVec.ofNat 32 (512 * (7 - (i 0).val) + (511 - k.val)) := hv46 ▸ word_of_isInt (frame_high i k.val hk) (by omega)
  obtain ⟨e0, e1, e2, e3, e4, e5, e6, e7⟩ := rows_t5 i k
  rw [← hr] at e0 e1 e2 e3 e4 e5 e6 e7
  rw [back_high _ (by omega)]
  have m0 := vec_moving (F := F) (p := s.p) (vec_tells (load4 arg3.view X r 0 e0 (k0_off58_inb i k k0_h5) shapeCasts_S1x1x8x64_S8x64) hf)
  have m1 := vec_moving (F := F) (p := s.p) (vec_tells (load4 arg3.view X r 1 e1 (k0_off59_inb i k k0_h5) shapeCasts_S1x1x8x64_S8x64) hf)
  have m2 := vec_moving (F := F) (p := s.p) (vec_tells (load4 arg3.view X r 2 e2 (k0_off60_inb i k k0_h5) shapeCasts_S1x1x8x64_S8x64) hf)
  have m3 := vec_moving (F := F) (p := s.p) (vec_tells (load4 arg3.view X r 3 e3 (k0_off61_inb i k k0_h5) shapeCasts_S1x1x8x64_S8x64) hf)
  have m4 := vec_moving (F := F) (p := s.p) (vec_tells (load4 arg3.view X r 4 e4 (k0_off62_inb i k k0_h5) shapeCasts_S1x1x8x64_S8x64) hf)
  have m5 := vec_moving (F := F) (p := s.p) (vec_tells (load4 arg3.view X r 5 e5 (k0_off63_inb i k k0_h5) shapeCasts_S1x1x8x64_S8x64) hf)
  have m6 := vec_moving (F := F) (p := s.p) (vec_tells (load4 arg3.view X r 6 e6 (k0_off64_inb i k k0_h5) shapeCasts_S1x1x8x64_S8x64) hf)
  have m7 := vec_moving (F := F) (p := s.p) (vec_tells (load4 arg3.view X r 7 e7 (k0_off65_inb i k k0_h5) shapeCasts_S1x1x8x64_S8x64) hf)
  unfold Gen.trip_k0_t5
  exact tupB_ext
    (vec_p (m1.trans (plane_rgt _ 0 1 rfl).symm) m0)
    (vec_p (m2.trans (plane_rgt _ 1 2 rfl).symm) m1)
    (vec_p (m3.trans (plane_rgt _ 2 3 rfl).symm) m2)
    (vec_p (m4.trans (plane_rgt _ 3 4 rfl).symm) m3)
    (vec_p (m5.trans (plane_rgt _ 4 5 rfl).symm) m4)
    (vec_p (m6.trans (plane_rgt _ 5 6 rfl).symm) m5)
    (vec_p (m7.trans (plane_rgt _ 6 7 rfl).symm) m6)
    (vec_p (vec_rgt_last m0 slices_S8x64_o0_1_S8x63 slices_S8x64_o0_0_S8x1 concatenates_S8x63_S8x1_S8x64_d1) m7)
    (vec_w m0 slices_S8x64_o0_0_S8x1)
    (vec_tv (movingSum_ext m0 m1 m2 m3 m4 m5 m6 m7) reduces_S8x64_S8 (.inl rfl) rfl shapeCasts_S8_S8x1)

/-- What a trip of the loop stores: the lanes the walk was on. -/
theorem trip_t5_lanes (k : Fin k0_t5_loop.trips) (s : Walk F) (f : BufTy.Contents (Elt F) arg8.view.ty) (L : List (View.Piece (Elt F) S512x8 .i32))
    (j : Fin 512) (b : Fin 8) :
    arg8.view.read (Elt F) (arg8.view.writes (Elt F) f ((Gen.trip_k0_t5 (F := F) 𝒱 c bd i arg1 harg1 arg2 harg2 arg3 harg3 arg4 harg4 arg5 harg5 arg6 harg6 arg7 harg7 arg8 harg8 v46 k0_h5 X k).2.1 (tupB s) ++ L)) (ixT j b)
      = if j.val = 511 - k.val then IntOp.andi (s.tv b) 511#32 else arg8.view.read (Elt F) (arg8.view.writes (Elt F) f L) (ixT j b) := by
  have hk : k.val < 512 := k.isLt.trans_le k0_t5_abs.2.1
  unfold Gen.trip_k0_t5
  refine (readTs_cons arg8.view f ⟨511 - k.val, by omega⟩ (k0_off66_eq k) _ _ L j b).trans ?_
  refine if_congr ⟨fun h => congrArg Fin.val h, fun h => Fin.ext h⟩ ?_ rfl
  exact store_ts s.tv shapeCasts_S8x1_S8 shapeCasts_S8_S1x8 b
end

section
variable (k0_h6 : k0_cond6 i = 1#1) (v4 v8 v12 v16 v20 v24 v28 v32 : IVec S8x64 32) (X : BufTy.Contents (Elt F) arg3.view.ty)

/-- What a trip of the loop yields: the walk stepped at the trip's frame. -/
theorem trip_t6_back (k : Fin k0_t6_loop.trips) (s : Walk F) (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (r : Fin 64) (hr : r.val = (511 - k.val) / 32) :
    (Gen.trip_k0_t6 (F := F) 𝒱 c bd i arg1 harg1 arg2 harg2 arg3 harg3 arg4 harg4 arg5 harg5 arg6 harg6 arg7 harg7 arg8 harg8 v4 v8 v12 v16 v20 v24 v28 v32 k0_h6 X k).1 (tupB s) = tupB (s.back (511 - k.val) (at4 arg3.view X r)) := by
  have hk : k.val < 512 := k.isLt.trans_le k0_t6_abs.2.1
  have hf : Scalar.subi 511#32 (Scf.iv 0#32 1#32 k.val) = BitVec.ofNat 32 (511 - k.val) := word_of_isInt (frame_low k.val hk) (by omega)
  obtain ⟨e0, e1, e2, e3, e4, e5, e6, e7⟩ := rows_t6 k
  rw [← hr] at e0 e1 e2 e3 e4 e5 e6 e7
  rw [back_low _ (by omega)]
  have m0 := vec_moving (F := F) (p := s.p) (vec_tellsLow (w := s.w) (load4 arg3.view X r 0 e0 (k0_off67_inb i k k0_h6) shapeCasts_S1x1x8x64_S8x64) hv0 hf broadcasts_S8x1_S8x64)
  have m1 := vec_moving (F := F) (p := s.p) (vec_tellsLow (w := s.w) (load4 arg3.view X r 1 e1 (k0_off68_inb i k k0_h6) shapeCasts_S1x1x8x64_S8x64) hv1 hf broadcasts_S8x1_S8x64)
  have m2 := vec_moving (F := F) (p := s.p) (vec_tellsLow (w := s.w) (load4 arg3.view X r 2 e2 (k0_off69_inb i k k0_h6) shapeCasts_S1x1x8x64_S8x64) hv2 hf broadcasts_S8x1_S8x64)
  have m3 := vec_moving (F := F) (p := s.p) (vec_tellsLow (w := s.w) (load4 arg3.view X r 3 e3 (k0_off70_inb i k k0_h6) shapeCasts_S1x1x8x64_S8x64) hv3 hf broadcasts_S8x1_S8x64)
  have m4 := vec_moving (F := F) (p := s.p) (vec_tellsLow (w := s.w) (load4 arg3.view X r 4 e4 (k0_off71_inb i k k0_h6) shapeCasts_S1x1x8x64_S8x64) hv4 hf broadcasts_S8x1_S8x64)
  have m5 := vec_moving (F := F) (p := s.p) (vec_tellsLow (w := s.w) (load4 arg3.view X r 5 e5 (k0_off72_inb i k k0_h6) shapeCasts_S1x1x8x64_S8x64) hv5 hf broadcasts_S8x1_S8x64)
  have m6 := vec_moving (F := F) (p := s.p) (vec_tellsLow (w := s.w) (load4 arg3.view X r 6 e6 (k0_off73_inb i k k0_h6) shapeCasts_S1x1x8x64_S8x64) hv6 hf broadcasts_S8x1_S8x64)
  have m7 := vec_moving (F := F) (p := s.p) (vec_tellsLow (w := s.w) (load4 arg3.view X r 7 e7 (k0_off74_inb i k k0_h6) shapeCasts_S1x1x8x64_S8x64) hv7 hf broadcasts_S8x1_S8x64)
  unfold Gen.trip_k0_t6
  exact tupB_ext
    (vec_p (m1.trans (plane_rgt _ 0 1 rfl).symm) m0)
    (vec_p (m2.trans (plane_rgt _ 1 2 rfl).symm) m1)
    (vec_p (m3.trans (plane_rgt _ 2 3 rfl).symm) m2)
    (vec_p (m4.trans (plane_rgt _ 3 4 rfl).symm) m3)
    (vec_p (m5.trans (plane_rgt _ 4 5 rfl).symm) m4)
    (vec_p (m6.trans (plane_rgt _ 5 6 rfl).symm) m5)
    (vec_p (m7.trans (plane_rgt _ 6 7 rfl).symm) m6)
    (vec_p (vec_rgt_last m0 slices_S8x64_o0_1_S8x63 slices_S8x64_o0_0_S8x1 concatenates_S8x63_S8x1_S8x64_d1) m7)
    (vec_w m0 slices_S8x64_o0_0_S8x1)
    (vec_tv (movingSum_ext m0 m1 m2 m3 m4 m5 m6 m7) reduces_S8x64_S8 (.inl rfl) rfl shapeCasts_S8_S8x1)

/-- What a trip of the loop stores: the lanes the walk was on. -/
theorem trip_t6_lanes (k : Fin k0_t6_loop.trips) (s : Walk F) (f : BufTy.Contents (Elt F) arg8.view.ty) (L : List (View.Piece (Elt F) S512x8 .i32))
    (j : Fin 512) (b : Fin 8) :
    arg8.view.read (Elt F) (arg8.view.writes (Elt F) f ((Gen.trip_k0_t6 (F := F) 𝒱 c bd i arg1 harg1 arg2 harg2 arg3 harg3 arg4 harg4 arg5 harg5 arg6 harg6 arg7 harg7 arg8 harg8 v4 v8 v12 v16 v20 v24 v28 v32 k0_h6 X k).2.1 (tupB s) ++ L)) (ixT j b)
      = if j.val = 511 - k.val then IntOp.andi (s.tv b) 511#32 else arg8.view.read (Elt F) (arg8.view.writes (Elt F) f L) (ixT j b) := by
  have hk : k.val < 512 := k.isLt.trans_le k0_t6_abs.2.1
  unfold Gen.trip_k0_t6
  refine (readTs_cons arg8.view f ⟨511 - k.val, by omega⟩ (k0_off75_eq k) _ _ L j b).trans ?_
  refine if_congr ⟨fun h => congrArg Fin.val h, fun h => Fin.ext h⟩ ?_ rfl
  exact store_ts s.tv shapeCasts_S8x1_S8 shapeCasts_S8_S1x8 b
end

end Cert.KernelIdeal.Mas

end
-- ==== Proof.KernelIdeal.Folds.lean ====
/- The loops as a whole: the forward ones end with the scores and the packed decisions of their last frame, those of the
   walk back with the walk at their last frame and the lanes of each of their frames. -/
module

public import proofs.«01_k».proof.Proof.KernelIdeal.ForwardRows
public import proofs.«01_k».proof.Proof.KernelIdeal.BackwardRows

@[expose] public section

set_option maxRecDepth 16384
set_option maxHeartbeats 4000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Mas

variable {F : FTy → Type} [FloatOps F]

/-- The resource algebra of the launch. -/
local notation "𝕄G" => MT nD τ sig Unit (Elt F) ℕ (UR sig nD τ) ℕ

/-- The packed decisions up to frame `n`: each row begun holds its word, as far as it was packed. -/
def Holds (v : View sig .tc .vmem S64x8x8x64 .i32) (f : BufTy.Contents (Elt F) v.ty) (x : ℕ → Row (F .f32)) (n : ℕ) : Prop :=
  ∀ r : Fin 64, 32 * r.val ≤ n → at4 v f r = packed x (min (32 * r.val + 31) n)

/-- One more frame: its row takes the word packed, the others keep theirs. -/
theorem holds_step {v : View sig .tc .vmem S64x8x8x64 .i32} {f f' : BufTy.Contents (Elt F) v.ty} {x : ℕ → Row (F .f32)} {n : ℕ}
    (h : 0 < n → Holds v f x n) (r : Fin 64) (hr : r.val = (n + 1) / 32)
    (hf : ∀ r', at4 v f' r' = if r' = r then packed x (n + 1) else at4 v f r') : Holds v f' x (n + 1) := by
  intro r' hr'
  rw [hf]
  by_cases he : r' = r
  · subst he
    rw [if_pos rfl, show min (32 * r'.val + 31) (n + 1) = n + 1 from by omega]
  · rw [if_neg he]
    have hne : r'.val ≠ r.val := fun hh => he (Fin.ext hh)
    rw [h (by omega) r' (by omega), show min (32 * r'.val + 31) n = min (32 * r'.val + 31) (n + 1) from by omega]

theorem trips_t1 : k0_t1_loop.trips = 511 := by decide
theorem trips_t2 : k0_t2_loop.trips = 512 := by decide
theorem trips_t3 : k0_t3_loop.trips = 512 := by decide
theorem trips_t4 : k0_t4_loop.trips = 512 := by decide
theorem trips_t5 : k0_t5_loop.trips = 512 := by decide
theorem trips_t6 : k0_t6_loop.trips = 512 := by decide

variable (𝒱 : Variants) (c : Dev nD) (bd : Option 𝒱.V) (i : grid0.Coords)
  (arg1 : Memref sig .tc .vmem S512x8x8x64 .f32) (harg1 : arg1.IsWhole) (arg2 : Memref sig .tc .vmem S8x512x512 .f32) (harg2 : arg2.IsWhole)
  (arg3 : Memref sig .tc .vmem S64x8x8x64 .i32) (harg3 : arg3.IsWhole) (arg4 : Memref sig .tc .vmem S8x8x64 .f32) (harg4 : arg4.IsWhole)
  (arg5 : Memref sig .tc .vmem S8x8x64 .i32) (harg5 : arg5.IsWhole) (arg6 : Memref sig .tc .vmem S8x8x64 .f32) (harg6 : arg6.IsWhole)
  (arg7 : Memref sig .tc .vmem S8x2 .i32) (harg7 : arg7.IsWhole) (arg8 : Memref sig .tc .vmem S512x8 .i32) (harg8 : arg8.IsWhole)
  (arg0 : BitVec 32) (v4 v8 v12 v16 v20 v24 v28 v32 : IVec S8x64 32) (v34 : IVec S8x64 1)

section
variable (k0_h1 : k0_cond1 i = 1#1) (v62 v64 v66 v68 v70 v72 v74 v76 : FVec F S8x64 .f32) (v77 v78 v79 v80 v81 v82 : IVec S8x64 32)
  (X : BufTy.Contents (Elt F) arg1.view.ty)

/-- The loop before trip `k`. -/
theorem fold_t1 (x : ℕ → Row (F .f32)) (hx : ∀ k (hk : k < 511), at4 arg1.view X ⟨k + 1, by omega⟩ = x (k + 1))
    (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (h34 : v34 = cmpi .eq (iota .tc S8x64 32 [1] (by decide)) (broadcast S8x64 0#32))
    (G : BufTy.Contents (Elt F) arg3.view.ty) (k : ℕ) (hk : k ≤ 511) :
    (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G (tup (score x 0) (packed x 0)) k).1 = tup (score x (0 + k)) (packed x (0 + k)) ∧ (0 < 0 + k → Holds arg3.view (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G (tup (score x 0) (packed x 0)) k).2 x (0 + k)) := by
  induction k with
  | zero => exact ⟨rfl, fun h => absurd h (by omega)⟩
  | succ k ih =>
    have hk' : k < 511 := by omega
    have hkt : k < k0_t1_loop.trips := trips_t1 ▸ hk'
    obtain ⟨ih1, ih2⟩ := ih (by omega)
    have e := st_t1_succ (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G (tup (score x 0) (packed x 0)) ⟨k, hkt⟩
    rw [ih1] at e
    have hsc : rowA (k + 1) (at4 arg1.view X ⟨k + 1, by omega⟩) (score x (0 + k)) = score x (0 + k + 1) := by
      rw [hx k hk']
      show _ = row (0 + k + 1) (x (0 + k + 1)) (score x (0 + k))
      rw [show 0 + k + 1 = k + 1 from by omega]
      unfold row
      rw [if_pos (by omega)]
    have hpk : pack (k + 1) (score x (0 + k)) (packed x (0 + k)) = packed x (0 + k + 1) := by
      show _ = pack (0 + k + 1) _ _
      rw [show 0 + k + 1 = k + 1 from by omega]
    have et := trip_t1_tup (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X ⟨k, hkt⟩ (score x (0 + k)) (packed x (0 + k)) hv0 hv1 hv2 hv3 hv4 hv5 hv6 hv7 h34
    have es := trip_t1_stores (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X ⟨k, hkt⟩ (score x (0 + k)) (packed x (0 + k))
      (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G (tup (score x 0) (packed x 0)) k).2 ⟨(k + 1) / 32, by skip; omega⟩ rfl
    skip
    simp only [hsc, hpk] at et es
    refine ⟨(congrArg Prod.fst e).trans et, fun _ => ?_⟩
    refine holds_step ih2 ⟨(k + 1) / 32, by omega⟩ (show (k + 1) / 32 = (0 + k + 1) / 32 from by omega) (fun r' => ?_)
    rw [e]
    exact es r'
end

section
variable (k0_h2 : k0_cond2 i = 1#1) (v62 v64 v66 v68 v70 v72 v74 v76 : FVec F S8x64 .f32) (v78 v80 v82 v84 : IVec S8x64 32)
  (X : BufTy.Contents (Elt F) arg1.view.ty)

/-- The loop before trip `k`. -/
theorem fold_t2 (x : ℕ → Row (F .f32)) (m : ℕ) (hm : 512 * (i 0).val = m + 1) (harg0 : arg0 = BitVec.ofNat 32 (i 0).val) (hlo : 512 ≤ 512 * (i 0).val) (hhi : 512 * (i 0).val < 1536) (hx : ∀ k (hk : k < 512), at4 arg1.view X ⟨k, hk⟩ = x (512 * (i 0).val + k))
     (h34 : v34 = cmpi .eq (iota .tc S8x64 32 [1] (by decide)) (broadcast S8x64 0#32))
    (G : BufTy.Contents (Elt F) arg3.view.ty) (hG : Holds arg3.view G x m) (k : ℕ) (hk : k ≤ 512) :
    (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G (tup (score x m) (packed x m)) k).1 = tup (score x (m + k)) (packed x (m + k)) ∧ (0 < m + k → Holds arg3.view (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G (tup (score x m) (packed x m)) k).2 x (m + k)) := by
  induction k with
  | zero => exact ⟨rfl, fun _ => hG⟩
  | succ k ih =>
    have hk' : k < 512 := by omega
    have hkt : k < k0_t2_loop.trips := trips_t2 ▸ hk'
    obtain ⟨ih1, ih2⟩ := ih (by omega)
    have e := st_t2_succ (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G (tup (score x m) (packed x m)) ⟨k, hkt⟩
    rw [ih1] at e
    have hsc : rowB (at4 arg1.view X ⟨k, hk'⟩) (score x (m + k)) = score x (m + k + 1) := by
      rw [hx k hk']
      show _ = row (m + k + 1) (x (m + k + 1)) (score x (m + k))
      rw [show m + k + 1 = 512 * (i 0).val + k from by omega]
      unfold row
      rw [if_neg (by omega), if_pos (by omega)]
    have hpk : pack (512 * (i 0).val + k) (score x (m + k)) (packed x (m + k)) = packed x (m + k + 1) := by
      show _ = pack (m + k + 1) _ _
      rw [show m + k + 1 = 512 * (i 0).val + k from by omega]
    have et := trip_t2_tup (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X ⟨k, hkt⟩ (score x (m + k)) (packed x (m + k)) harg0  h34
    have es := trip_t2_stores (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X ⟨k, hkt⟩ (score x (m + k)) (packed x (m + k)) harg0
      (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G (tup (score x m) (packed x m)) k).2 ⟨(512 * (i 0).val + k) / 32, by skip; omega⟩ rfl
    skip
    simp only [hsc, hpk] at et es
    refine ⟨(congrArg Prod.fst e).trans et, fun _ => ?_⟩
    refine holds_step ih2 ⟨(512 * (i 0).val + k) / 32, by omega⟩ (show (512 * (i 0).val + k) / 32 = (m + k + 1) / 32 from by omega) (fun r' => ?_)
    rw [e]
    exact es r'
end

section
variable (k0_h3 : k0_cond3 i = 1#1) (v62 v64 v66 v68 v70 v72 v74 v76 : FVec F S8x64 .f32) (v78 v80 v82 v84 : IVec S8x64 32)
  (X : BufTy.Contents (Elt F) arg1.view.ty)

/-- The loop before trip `k`. -/
theorem fold_t3 (x : ℕ → Row (F .f32)) (m : ℕ) (hm : 512 * (i 0).val = m + 1) (harg0 : arg0 = BitVec.ofNat 32 (i 0).val) (hlo : 1536 ≤ 512 * (i 0).val) (hhi : 512 * (i 0).val < 2048) (hx : ∀ k (hk : k < 512), at4 arg1.view X ⟨k, hk⟩ = x (512 * (i 0).val + k))
    (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (h34 : v34 = cmpi .eq (iota .tc S8x64 32 [1] (by decide)) (broadcast S8x64 0#32))
    (G : BufTy.Contents (Elt F) arg3.view.ty) (hG : Holds arg3.view G x m) (k : ℕ) (hk : k ≤ 512) :
    (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G (tup (score x m) (packed x m)) k).1 = tup (score x (m + k)) (packed x (m + k)) ∧ (0 < m + k → Holds arg3.view (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G (tup (score x m) (packed x m)) k).2 x (m + k)) := by
  induction k with
  | zero => exact ⟨rfl, fun _ => hG⟩
  | succ k ih =>
    have hk' : k < 512 := by omega
    have hkt : k < k0_t3_loop.trips := trips_t3 ▸ hk'
    obtain ⟨ih1, ih2⟩ := ih (by omega)
    have e := st_t3_succ (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G (tup (score x m) (packed x m)) ⟨k, hkt⟩
    rw [ih1] at e
    have hsc : (rowC (512 * (i 0).val + k) (at4 arg1.view X ⟨k, hk'⟩) (score x (m + k))) = score x (m + k + 1) := by
      rw [hx k hk']
      show _ = row (m + k + 1) (x (m + k + 1)) (score x (m + k))
      rw [show m + k + 1 = 512 * (i 0).val + k from by omega]
      unfold row
      rw [if_neg (by omega), if_neg (by omega)]
    have hpk : pack (512 * (i 0).val + k) (score x (m + k)) (packed x (m + k)) = packed x (m + k + 1) := by
      show _ = pack (m + k + 1) _ _
      rw [show m + k + 1 = 512 * (i 0).val + k from by omega]
    have et := trip_t3_tup (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X ⟨k, hkt⟩ (score x (m + k)) (packed x (m + k)) harg0 hv0 hv1 hv2 hv3 hv4 hv5 hv6 hv7 h34
    have es := trip_t3_stores (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X ⟨k, hkt⟩ (score x (m + k)) (packed x (m + k)) harg0
      (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G (tup (score x m) (packed x m)) k).2 ⟨(512 * (i 0).val + k) / 32, by have : (i 0).val < 8 := (i 0).isLt; omega⟩ rfl
    skip
    simp only [hsc, hpk] at et es
    refine ⟨(congrArg Prod.fst e).trans et, fun _ => ?_⟩
    refine holds_step ih2 ⟨(512 * (i 0).val + k) / 32, by omega⟩ (show (512 * (i 0).val + k) / 32 = (m + k + 1) / 32 from by omega) (fun r' => ?_)
    rw [e]
    exact es r'
end

section
variable (k0_h4 : k0_cond4 i = 1#1) (v0 : IVec S8x64 32) (v46 : BitVec 32) (X : BufTy.Contents (Elt F) arg3.view.ty)

/-- The loop before trip `k`. -/
theorem fold_t4 (x : ℕ → Row (F .f32)) (m : ℕ) (hm : (i 0).val = m + 4) (hm3 : m < 3) (hv46 : v46 = Scalar.subi 7#32 (BitVec.ofNat 32 (i 0).val)) (hX : Holds arg3.view X x 2047) (G : BufTy.Contents (Elt F) arg8.view.ty) (k : ℕ) (hk : k ≤ 512) :
    (Gen.st_k0_t4 (F := F) 𝒱 c bd i arg1 harg1 arg2 harg2 arg3 harg3 arg4 harg4 arg5 harg5 arg6 harg6 arg7 harg7 arg8 harg8 v0 v46 k0_h4 X (tupB (walk x (512 * m))) k).1 = tupB (walk x (512 * m + k))
      ∧ ∀ (j : Fin 512) (b : Fin 8), 512 - k ≤ j.val →
        arg8.view.read (Elt F) (arg8.view.writes (Elt F) G (Gen.st_k0_t4 (F := F) 𝒱 c bd i arg1 harg1 arg2 harg2 arg3 harg3 arg4 harg4 arg5 harg5 arg6 harg6 arg7 harg7 arg8 harg8 v0 v46 k0_h4 X (tupB (walk x (512 * m))) k).2) (ixT j b) = onLane x (512 * (3 - m) + j.val) b := by
  induction k with
  | zero => exact ⟨rfl, fun j _ h => absurd j.isLt (by omega)⟩
  | succ k ih =>
    have hk' : k < 512 := by omega
    have hkt : k < k0_t4_loop.trips := trips_t4 ▸ hk'
    obtain ⟨ih1, ih2⟩ := ih (by omega)
    have e := Gen.st_k0_t4_succ (F := F) 𝒱 c bd i arg1 harg1 arg2 harg2 arg3 harg3 arg4 harg4 arg5 harg5 arg6 harg6 arg7 harg7 arg8 harg8 v0 v46 k0_h4 X (tupB (walk x (512 * m))) ⟨k, hkt⟩
    rw [ih1] at e
    have hfr : 512 * (7 - (i 0).val) + (511 - k) = 2047 - (512 * m + k) := by omega
    have et := trip_t4_back (F := F) 𝒱 c bd i arg1 harg1 arg2 harg2 arg3 harg3 arg4 harg4 arg5 harg5 arg6 harg6 arg7 harg7 arg8 harg8 k0_h4 v0 v46 X ⟨k, hkt⟩ (walk x (512 * m + k)) (by omega) hv46
      ⟨(512 * (7 - (i 0).val) + (511 - k)) / 32, by omega⟩ rfl
    refine ⟨(congrArg Prod.fst e).trans (et.trans ?_), fun j b hj => ?_⟩
    · show tupB (Walk.back (512 * (7 - (i 0).val) + (511 - k)) _ _) = tupB (Walk.back (2047 - (512 * m + k)) (packed x (32 * ((2047 - (512 * m + k)) / 32) + 31)) (walk x (512 * m + k)))
      rw [hX _ (show 32 * ((512 * (7 - (i 0).val) + (511 - k)) / 32) ≤ 2047 from by omega)]
      have hmin : min (32 * ((512 * (7 - (i 0).val) + (511 - k)) / 32) + 31) 2047 = 32 * ((2047 - (512 * m + k)) / 32) + 31 := by omega
      have hw : packed x (min (32 * ((512 * (7 - (i 0).val) + (511 - k)) / 32) + 31) 2047) = packed x (32 * ((2047 - (512 * m + k)) / 32) + 31) := congrArg (packed x) hmin
      exact congrArg tupB (congrArg₂ (fun f w => Walk.back f w (walk x (512 * m + k))) hfr hw)
    · rw [e]
      refine (trip_t4_lanes (F := F) 𝒱 c bd i arg1 harg1 arg2 harg2 arg3 harg3 arg4 harg4 arg5 harg5 arg6 harg6 arg7 harg7 arg8 harg8 k0_h4 v0 v46 X ⟨k, hkt⟩ (walk x (512 * m + k)) G _ j b).trans ?_
      by_cases hjk : j.val = 511 - k
      · rw [if_pos hjk]
        unfold onLane
        rw [show 2047 - (512 * (3 - m) + j.val) = 512 * m + k from by omega]
      · rw [if_neg hjk]
        exact ih2 j b (by omega)
end

section
variable (k0_h5 : k0_cond5 i = 1#1) (v46 : BitVec 32) (X : BufTy.Contents (Elt F) arg3.view.ty)

/-- The loop before trip `k`. -/
theorem fold_t5 (x : ℕ → Row (F .f32)) (m : ℕ) (hm : (i 0).val = m + 4) (hm3 : m < 3) (hv46 : v46 = Scalar.subi 7#32 (BitVec.ofNat 32 (i 0).val)) (hX : Holds arg3.view X x 2047) (G : BufTy.Contents (Elt F) arg8.view.ty) (k : ℕ) (hk : k ≤ 512) :
    (Gen.st_k0_t5 (F := F) 𝒱 c bd i arg1 harg1 arg2 harg2 arg3 harg3 arg4 harg4 arg5 harg5 arg6 harg6 arg7 harg7 arg8 harg8 v46 k0_h5 X (tupB (walk x (512 * m))) k).1 = tupB (walk x (512 * m + k))
      ∧ ∀ (j : Fin 512) (b : Fin 8), 512 - k ≤ j.val →
        arg8.view.read (Elt F) (arg8.view.writes (Elt F) G (Gen.st_k0_t5 (F := F) 𝒱 c bd i arg1 harg1 arg2 harg2 arg3 harg3 arg4 harg4 arg5 harg5 arg6 harg6 arg7 harg7 arg8 harg8 v46 k0_h5 X (tupB (walk x (512 * m))) k).2) (ixT j b) = onLane x (512 * (3 - m) + j.val) b := by
  induction k with
  | zero => exact ⟨rfl, fun j _ h => absurd j.isLt (by omega)⟩
  | succ k ih =>
    have hk' : k < 512 := by omega
    have hkt : k < k0_t5_loop.trips := trips_t5 ▸ hk'
    obtain ⟨ih1, ih2⟩ := ih (by omega)
    have e := Gen.st_k0_t5_succ (F := F) 𝒱 c bd i arg1 harg1 arg2 harg2 arg3 harg3 arg4 harg4 arg5 harg5 arg6 harg6 arg7 harg7 arg8 harg8 v46 k0_h5 X (tupB (walk x (512 * m))) ⟨k, hkt⟩
    rw [ih1] at e
    have hfr : 512 * (7 - (i 0).val) + (511 - k) = 2047 - (512 * m + k) := by omega
    have et := trip_t5_back (F := F) 𝒱 c bd i arg1 harg1 arg2 harg2 arg3 harg3 arg4 harg4 arg5 harg5 arg6 harg6 arg7 harg7 arg8 harg8 k0_h5 v46 X ⟨k, hkt⟩ (walk x (512 * m + k)) (by omega) hv46
      ⟨(512 * (7 - (i 0).val) + (511 - k)) / 32, by omega⟩ rfl
    refine ⟨(congrArg Prod.fst e).trans (et.trans ?_), fun j b hj => ?_⟩
    · show tupB (Walk.back (512 * (7 - (i 0).val) + (511 - k)) _ _) = tupB (Walk.back (2047 - (512 * m + k)) (packed x (32 * ((2047 - (512 * m + k)) / 32) + 31)) (walk x (512 * m + k)))
      rw [hX _ (show 32 * ((512 * (7 - (i 0).val) + (511 - k)) / 32) ≤ 2047 from by omega)]
      have hmin : min (32 * ((512 * (7 - (i 0).val) + (511 - k)) / 32) + 31) 2047 = 32 * ((2047 - (512 * m + k)) / 32) + 31 := by omega
      have hw : packed x (min (32 * ((512 * (7 - (i 0).val) + (511 - k)) / 32) + 31) 2047) = packed x (32 * ((2047 - (512 * m + k)) / 32) + 31) := congrArg (packed x) hmin
      exact congrArg tupB (congrArg₂ (fun f w => Walk.back f w (walk x (512 * m + k))) hfr hw)
    · rw [e]
      refine (trip_t5_lanes (F := F) 𝒱 c bd i arg1 harg1 arg2 harg2 arg3 harg3 arg4 harg4 arg5 harg5 arg6 harg6 arg7 harg7 arg8 harg8 k0_h5 v46 X ⟨k, hkt⟩ (walk x (512 * m + k)) G _ j b).trans ?_
      by_cases hjk : j.val = 511 - k
      · rw [if_pos hjk]
        unfold onLane
        rw [show 2047 - (512 * (3 - m) + j.val) = 512 * m + k from by omega]
      · rw [if_neg hjk]
        exact ih2 j b (by omega)
end

section
variable (k0_h6 : k0_cond6 i = 1#1)  (X : BufTy.Contents (Elt F) arg3.view.ty)

/-- The loop before trip `k`. -/
theorem fold_t6 (x : ℕ → Row (F .f32)) (m : ℕ) (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (hm : m = 3) (hX : Holds arg3.view X x 2047) (G : BufTy.Contents (Elt F) arg8.view.ty) (k : ℕ) (hk : k ≤ 512) :
    (Gen.st_k0_t6 (F := F) 𝒱 c bd i arg1 harg1 arg2 harg2 arg3 harg3 arg4 harg4 arg5 harg5 arg6 harg6 arg7 harg7 arg8 harg8 v4 v8 v12 v16 v20 v24 v28 v32 k0_h6 X (tupB (walk x (512 * m))) k).1 = tupB (walk x (512 * m + k))
      ∧ ∀ (j : Fin 512) (b : Fin 8), 512 - k ≤ j.val →
        arg8.view.read (Elt F) (arg8.view.writes (Elt F) G (Gen.st_k0_t6 (F := F) 𝒱 c bd i arg1 harg1 arg2 harg2 arg3 harg3 arg4 harg4 arg5 harg5 arg6 harg6 arg7 harg7 arg8 harg8 v4 v8 v12 v16 v20 v24 v28 v32 k0_h6 X (tupB (walk x (512 * m))) k).2) (ixT j b) = onLane x (512 * (3 - m) + j.val) b := by
  induction k with
  | zero => exact ⟨rfl, fun j _ h => absurd j.isLt (by omega)⟩
  | succ k ih =>
    have hk' : k < 512 := by omega
    have hkt : k < k0_t6_loop.trips := trips_t6 ▸ hk'
    obtain ⟨ih1, ih2⟩ := ih (by omega)
    have e := Gen.st_k0_t6_succ (F := F) 𝒱 c bd i arg1 harg1 arg2 harg2 arg3 harg3 arg4 harg4 arg5 harg5 arg6 harg6 arg7 harg7 arg8 harg8 v4 v8 v12 v16 v20 v24 v28 v32 k0_h6 X (tupB (walk x (512 * m))) ⟨k, hkt⟩
    rw [ih1] at e
    have hfr : 511 - k = 2047 - (512 * m + k) := by omega
    have et := trip_t6_back (F := F) 𝒱 c bd i arg1 harg1 arg2 harg2 arg3 harg3 arg4 harg4 arg5 harg5 arg6 harg6 arg7 harg7 arg8 harg8 k0_h6 v4 v8 v12 v16 v20 v24 v28 v32 X ⟨k, hkt⟩ (walk x (512 * m + k)) hv0 hv1 hv2 hv3 hv4 hv5 hv6 hv7
      ⟨(511 - k) / 32, by omega⟩ rfl
    refine ⟨(congrArg Prod.fst e).trans (et.trans ?_), fun j b hj => ?_⟩
    · show tupB (Walk.back (511 - k) _ _) = tupB (Walk.back (2047 - (512 * m + k)) (packed x (32 * ((2047 - (512 * m + k)) / 32) + 31)) (walk x (512 * m + k)))
      rw [hX _ (show 32 * ((511 - k) / 32) ≤ 2047 from by omega)]
      have hmin : min (32 * ((511 - k) / 32) + 31) 2047 = 32 * ((2047 - (512 * m + k)) / 32) + 31 := by omega
      have hw : packed x (min (32 * ((511 - k) / 32) + 31) 2047) = packed x (32 * ((2047 - (512 * m + k)) / 32) + 31) := congrArg (packed x) hmin
      exact congrArg tupB (congrArg₂ (fun f w => Walk.back f w (walk x (512 * m + k))) hfr hw)
    · rw [e]
      refine (trip_t6_lanes (F := F) 𝒱 c bd i arg1 harg1 arg2 harg2 arg3 harg3 arg4 harg4 arg5 harg5 arg6 harg6 arg7 harg7 arg8 harg8 k0_h6 v4 v8 v12 v16 v20 v24 v28 v32 X ⟨k, hkt⟩ (walk x (512 * m + k)) G _ j b).trans ?_
      by_cases hjk : j.val = 511 - k
      · rw [if_pos hjk]
        unfold onLane
        rw [show 2047 - (512 * (3 - m) + j.val) = 512 * m + k from by omega]
      · rw [if_neg hjk]
        exact ih2 j b (by omega)
end

end Cert.KernelIdeal.Mas

end
-- ==== Proof.KernelIdeal.Bodies.lean ====
/- The kernel's body at each kind of grid point, run on whole buffers: what the buffers hold after it, in terms of the scores,
   the packed decisions and the walk. -/
module

public import proofs.«01_k».proof.Proof.KernelIdeal.Folds
public import Idealize.ShloMosaic.Lib.Pipeline.Kit

@[expose] public section

set_option maxRecDepth 16384
set_option maxHeartbeats 1000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Mas

variable {F : FTy → Type} [FloatOps F]

/-- The resource algebra of the launch. -/
local notation "𝕄G" => MT nD τ sig Unit (Elt F) ℕ (UR sig nD τ) ℕ

/-- A three-axis buffer after its eight planes were stored. -/
theorem at3_planes {e : EltTy} (v : View sig .tc .vmem S8x8x64 e) (f : BufTy.Contents (Elt F) v.ty) (w : Row (Elt F e))
    {p0 p1 p2 p3 p4 p5 p6 p7 : S1x8x64.Idx → Elt F e}
    (h0 : p0 = shapeCast S1x8x64 (plane w 0) shapeCasts_S8x64_S1x8x64) (h1 : p1 = shapeCast S1x8x64 (plane w 1) shapeCasts_S8x64_S1x8x64) (h2 : p2 = shapeCast S1x8x64 (plane w 2) shapeCasts_S8x64_S1x8x64) (h3 : p3 = shapeCast S1x8x64 (plane w 3) shapeCasts_S8x64_S1x8x64) (h4 : p4 = shapeCast S1x8x64 (plane w 4) shapeCasts_S8x64_S1x8x64) (h5 : p5 = shapeCast S1x8x64 (plane w 5) shapeCasts_S8x64_S1x8x64) (h6 : p6 = shapeCast S1x8x64 (plane w 6) shapeCasts_S8x64_S1x8x64) (h7 : p7 = shapeCast S1x8x64 (plane w 7) shapeCasts_S8x64_S1x8x64) :
    at3 v (v.writes (Elt F) f [⟨Rect.unit ![7, 0, 0] S1x8x64.size inb_S8x8x64_S1x8x64_7_0_0, p7⟩, ⟨Rect.unit ![6, 0, 0] S1x8x64.size inb_S8x8x64_S1x8x64_6_0_0, p6⟩, ⟨Rect.unit ![5, 0, 0] S1x8x64.size inb_S8x8x64_S1x8x64_5_0_0, p5⟩, ⟨Rect.unit ![4, 0, 0] S1x8x64.size inb_S8x8x64_S1x8x64_4_0_0, p4⟩, ⟨Rect.unit ![3, 0, 0] S1x8x64.size inb_S8x8x64_S1x8x64_3_0_0, p3⟩, ⟨Rect.unit ![2, 0, 0] S1x8x64.size inb_S8x8x64_S1x8x64_2_0_0, p2⟩, ⟨Rect.unit ![1, 0, 0] S1x8x64.size inb_S8x8x64_S1x8x64_1_0_0, p1⟩, ⟨Rect.unit ![0, 0, 0] S1x8x64.size inb_S8x8x64_S1x8x64_0_0_0, p0⟩]) = w := by
  funext b t
  show v.read (Elt F) _ (ix3 (gOf t) b (hOf t)) = w b t
  refine (read3_cons v f 7 rfl inb_S8x8x64_S1x8x64_7_0_0 shapeCasts_S8x64_S1x8x64 w h7 _ _ _ _).trans ?_
  split
  · next h => rw [← h]; exact congrArg (w b) (lane_of t)
  refine (read3_cons v f 6 rfl inb_S8x8x64_S1x8x64_6_0_0 shapeCasts_S8x64_S1x8x64 w h6 _ _ _ _).trans ?_
  split
  · next h => rw [← h]; exact congrArg (w b) (lane_of t)
  refine (read3_cons v f 5 rfl inb_S8x8x64_S1x8x64_5_0_0 shapeCasts_S8x64_S1x8x64 w h5 _ _ _ _).trans ?_
  split
  · next h => rw [← h]; exact congrArg (w b) (lane_of t)
  refine (read3_cons v f 4 rfl inb_S8x8x64_S1x8x64_4_0_0 shapeCasts_S8x64_S1x8x64 w h4 _ _ _ _).trans ?_
  split
  · next h => rw [← h]; exact congrArg (w b) (lane_of t)
  refine (read3_cons v f 3 rfl inb_S8x8x64_S1x8x64_3_0_0 shapeCasts_S8x64_S1x8x64 w h3 _ _ _ _).trans ?_
  split
  · next h => rw [← h]; exact congrArg (w b) (lane_of t)
  refine (read3_cons v f 2 rfl inb_S8x8x64_S1x8x64_2_0_0 shapeCasts_S8x64_S1x8x64 w h2 _ _ _ _).trans ?_
  split
  · next h => rw [← h]; exact congrArg (w b) (lane_of t)
  refine (read3_cons v f 1 rfl inb_S8x8x64_S1x8x64_1_0_0 shapeCasts_S8x64_S1x8x64 w h1 _ _ _ _).trans ?_
  split
  · next h => rw [← h]; exact congrArg (w b) (lane_of t)
  refine (read3_cons v f 0 rfl inb_S8x8x64_S1x8x64_0_0_0 shapeCasts_S8x64_S1x8x64 w h0 _ _ _ _).trans ?_
  split
  · next h => rw [← h]; exact congrArg (w b) (lane_of t)
  exact absurd (gOf t).isLt (by simp only [Fin.ext_iff] at *; simp at *; omega)

/-- What the forward part leaves after frame `n`: the packed decisions, the scores, the words being packed. -/
def Saved (v3 : View sig .tc .vmem S64x8x8x64 .i32) (v4 : View sig .tc .vmem S8x8x64 .f32) (v5 : View sig .tc .vmem S8x8x64 .i32)
    (x : ℕ → Row (F .f32)) (n : ℕ) (Y3 : BufTy.Contents (Elt F) v3.ty) (Y4 : BufTy.Contents (Elt F) v4.ty) (Y5 : BufTy.Contents (Elt F) v5.ty) : Prop :=
  Holds v3 Y3 x n ∧ at3 v4 Y4 = score x n ∧ at3 v5 Y5 = packed x n

/-- A forward loop's end, saved. -/
theorem saved_of {v3 : View sig .tc .vmem S64x8x8x64 .i32} {v4 : View sig .tc .vmem S8x8x64 .f32} {v5 : View sig .tc .vmem S8x8x64 .i32}
    {x : ℕ → Row (F .f32)} {n : ℕ} {S : Carry F × BufTy.Contents (Elt F) v3.ty}
    (hS : S.1 = tup (score x n) (packed x n) ∧ Holds v3 S.2 x n) (X4 : BufTy.Contents (Elt F) v4.ty) (X5 : BufTy.Contents (Elt F) v5.ty) :
    Saved v3 v4 v5 x n S.2
      (v4.writes (Elt F) X4 [⟨Rect.unit ![7, 0, 0] S1x8x64.size inb_S8x8x64_S1x8x64_7_0_0, shapeCast S1x8x64 S.1.2.2.2.2.2.2.2.1 shapeCasts_S8x64_S1x8x64⟩, ⟨Rect.unit ![6, 0, 0] S1x8x64.size inb_S8x8x64_S1x8x64_6_0_0, shapeCast S1x8x64 S.1.2.2.2.2.2.2.1 shapeCasts_S8x64_S1x8x64⟩, ⟨Rect.unit ![5, 0, 0] S1x8x64.size inb_S8x8x64_S1x8x64_5_0_0, shapeCast S1x8x64 S.1.2.2.2.2.2.1 shapeCasts_S8x64_S1x8x64⟩, ⟨Rect.unit ![4, 0, 0] S1x8x64.size inb_S8x8x64_S1x8x64_4_0_0, shapeCast S1x8x64 S.1.2.2.2.2.1 shapeCasts_S8x64_S1x8x64⟩, ⟨Rect.unit ![3, 0, 0] S1x8x64.size inb_S8x8x64_S1x8x64_3_0_0, shapeCast S1x8x64 S.1.2.2.2.1 shapeCasts_S8x64_S1x8x64⟩, ⟨Rect.unit ![2, 0, 0] S1x8x64.size inb_S8x8x64_S1x8x64_2_0_0, shapeCast S1x8x64 S.1.2.2.1 shapeCasts_S8x64_S1x8x64⟩, ⟨Rect.unit ![1, 0, 0] S1x8x64.size inb_S8x8x64_S1x8x64_1_0_0, shapeCast S1x8x64 S.1.2.1 shapeCasts_S8x64_S1x8x64⟩, ⟨Rect.unit ![0, 0, 0] S1x8x64.size inb_S8x8x64_S1x8x64_0_0_0, shapeCast S1x8x64 S.1.1 shapeCasts_S8x64_S1x8x64⟩])
      (v5.writes (Elt F) X5 [⟨Rect.unit ![7, 0, 0] S1x8x64.size inb_S8x8x64_S1x8x64_7_0_0, shapeCast S1x8x64 S.1.2.2.2.2.2.2.2.2.2.2.2.2.2.2.2 shapeCasts_S8x64_S1x8x64⟩, ⟨Rect.unit ![6, 0, 0] S1x8x64.size inb_S8x8x64_S1x8x64_6_0_0, shapeCast S1x8x64 S.1.2.2.2.2.2.2.2.2.2.2.2.2.2.2.1 shapeCasts_S8x64_S1x8x64⟩, ⟨Rect.unit ![5, 0, 0] S1x8x64.size inb_S8x8x64_S1x8x64_5_0_0, shapeCast S1x8x64 S.1.2.2.2.2.2.2.2.2.2.2.2.2.2.1 shapeCasts_S8x64_S1x8x64⟩, ⟨Rect.unit ![4, 0, 0] S1x8x64.size inb_S8x8x64_S1x8x64_4_0_0, shapeCast S1x8x64 S.1.2.2.2.2.2.2.2.2.2.2.2.2.1 shapeCasts_S8x64_S1x8x64⟩, ⟨Rect.unit ![3, 0, 0] S1x8x64.size inb_S8x8x64_S1x8x64_3_0_0, shapeCast S1x8x64 S.1.2.2.2.2.2.2.2.2.2.2.2.1 shapeCasts_S8x64_S1x8x64⟩, ⟨Rect.unit ![2, 0, 0] S1x8x64.size inb_S8x8x64_S1x8x64_2_0_0, shapeCast S1x8x64 S.1.2.2.2.2.2.2.2.2.2.2.1 shapeCasts_S8x64_S1x8x64⟩, ⟨Rect.unit ![1, 0, 0] S1x8x64.size inb_S8x8x64_S1x8x64_1_0_0, shapeCast S1x8x64 S.1.2.2.2.2.2.2.2.2.2.1 shapeCasts_S8x64_S1x8x64⟩, ⟨Rect.unit ![0, 0, 0] S1x8x64.size inb_S8x8x64_S1x8x64_0_0_0, shapeCast S1x8x64 S.1.2.2.2.2.2.2.2.2.1 shapeCasts_S8x64_S1x8x64⟩]) :=
  ⟨hS.2, at3_planes v4 X4 (score x n)
    (congrArg (fun s : Carry F => shapeCast S1x8x64 s.1 shapeCasts_S8x64_S1x8x64) hS.1)
    (congrArg (fun s : Carry F => shapeCast S1x8x64 s.2.1 shapeCasts_S8x64_S1x8x64) hS.1)
    (congrArg (fun s : Carry F => shapeCast S1x8x64 s.2.2.1 shapeCasts_S8x64_S1x8x64) hS.1)
    (congrArg (fun s : Carry F => shapeCast S1x8x64 s.2.2.2.1 shapeCasts_S8x64_S1x8x64) hS.1)
    (congrArg (fun s : Carry F => shapeCast S1x8x64 s.2.2.2.2.1 shapeCasts_S8x64_S1x8x64) hS.1)
    (congrArg (fun s : Carry F => shapeCast S1x8x64 s.2.2.2.2.2.1 shapeCasts_S8x64_S1x8x64) hS.1)
    (congrArg (fun s : Carry F => shapeCast S1x8x64 s.2.2.2.2.2.2.1 shapeCasts_S8x64_S1x8x64) hS.1)
    (congrArg (fun s : Carry F => shapeCast S1x8x64 s.2.2.2.2.2.2.2.1 shapeCasts_S8x64_S1x8x64) hS.1),
    at3_planes v5 X5 (packed x n)
    (congrArg (fun s : Carry F => shapeCast S1x8x64 s.2.2.2.2.2.2.2.2.1 shapeCasts_S8x64_S1x8x64) hS.1)
    (congrArg (fun s : Carry F => shapeCast S1x8x64 s.2.2.2.2.2.2.2.2.2.1 shapeCasts_S8x64_S1x8x64) hS.1)
    (congrArg (fun s : Carry F => shapeCast S1x8x64 s.2.2.2.2.2.2.2.2.2.2.1 shapeCasts_S8x64_S1x8x64) hS.1)
    (congrArg (fun s : Carry F => shapeCast S1x8x64 s.2.2.2.2.2.2.2.2.2.2.2.1 shapeCasts_S8x64_S1x8x64) hS.1)
    (congrArg (fun s : Carry F => shapeCast S1x8x64 s.2.2.2.2.2.2.2.2.2.2.2.2.1 shapeCasts_S8x64_S1x8x64) hS.1)
    (congrArg (fun s : Carry F => shapeCast S1x8x64 s.2.2.2.2.2.2.2.2.2.2.2.2.2.1 shapeCasts_S8x64_S1x8x64) hS.1)
    (congrArg (fun s : Carry F => shapeCast S1x8x64 s.2.2.2.2.2.2.2.2.2.2.2.2.2.2.1 shapeCasts_S8x64_S1x8x64) hS.1)
    (congrArg (fun s : Carry F => shapeCast S1x8x64 s.2.2.2.2.2.2.2.2.2.2.2.2.2.2.2 shapeCasts_S8x64_S1x8x64) hS.1)⟩

/-- The state of the walk as the buffers keep it between grid points. -/
def Kept (v6 : View sig .tc .vmem S8x8x64 .f32) (v7 : View sig .tc .vmem S8x2 .i32) (s : Walk F)
    (Y6 : BufTy.Contents (Elt F) v6.ty) (Y7 : BufTy.Contents (Elt F) v7.ty) : Prop :=
  at3 v6 Y6 = s.p ∧ atC v7 Y7 0 = s.w ∧ atC v7 Y7 1 = s.tv

/-- A walk loop's end, kept. -/
theorem kept_of {v6 : View sig .tc .vmem S8x8x64 .f32} {v7 : View sig .tc .vmem S8x2 .i32} {s : Walk F} {S : Back F} (hS : S = tupB s)
    (X6 : BufTy.Contents (Elt F) v6.ty) (X7 : BufTy.Contents (Elt F) v7.ty) :
    Kept v6 v7 s (v6.writes (Elt F) X6 [⟨Rect.unit ![7, 0, 0] S1x8x64.size inb_S8x8x64_S1x8x64_7_0_0, shapeCast S1x8x64 S.2.2.2.2.2.2.2.1 shapeCasts_S8x64_S1x8x64⟩, ⟨Rect.unit ![6, 0, 0] S1x8x64.size inb_S8x8x64_S1x8x64_6_0_0, shapeCast S1x8x64 S.2.2.2.2.2.2.1 shapeCasts_S8x64_S1x8x64⟩, ⟨Rect.unit ![5, 0, 0] S1x8x64.size inb_S8x8x64_S1x8x64_5_0_0, shapeCast S1x8x64 S.2.2.2.2.2.1 shapeCasts_S8x64_S1x8x64⟩, ⟨Rect.unit ![4, 0, 0] S1x8x64.size inb_S8x8x64_S1x8x64_4_0_0, shapeCast S1x8x64 S.2.2.2.2.1 shapeCasts_S8x64_S1x8x64⟩, ⟨Rect.unit ![3, 0, 0] S1x8x64.size inb_S8x8x64_S1x8x64_3_0_0, shapeCast S1x8x64 S.2.2.2.1 shapeCasts_S8x64_S1x8x64⟩, ⟨Rect.unit ![2, 0, 0] S1x8x64.size inb_S8x8x64_S1x8x64_2_0_0, shapeCast S1x8x64 S.2.2.1 shapeCasts_S8x64_S1x8x64⟩, ⟨Rect.unit ![1, 0, 0] S1x8x64.size inb_S8x8x64_S1x8x64_1_0_0, shapeCast S1x8x64 S.2.1 shapeCasts_S8x64_S1x8x64⟩, ⟨Rect.unit ![0, 0, 0] S1x8x64.size inb_S8x8x64_S1x8x64_0_0_0, shapeCast S1x8x64 S.1 shapeCasts_S8x64_S1x8x64⟩])
      (v7.writes (Elt F) X7 [⟨Rect.unit ![0, 1] S8x1.size inb_S8x2_S8x1_0_1, shapeCast S8x1 S.2.2.2.2.2.2.2.2.2 shapeCasts_S8x1_S8x1⟩, ⟨Rect.unit ![0, 0] S8x1.size inb_S8x2_S8x1_0_0, shapeCast S8x1 S.2.2.2.2.2.2.2.2.1 shapeCasts_S8x1_S8x1⟩]) := by
  subst hS
  rw [shapeCast_self, shapeCast_self]
  refine ⟨at3_planes v6 X6 s.p rfl rfl rfl rfl rfl rfl rfl rfl, ?_, ?_⟩
  · funext b
    exact (readCol_cons v7 X7 1 rfl inb_S8x2_S8x1_0_1 s.tv _ b 0).trans ((if_neg (by decide)).trans
      ((readCol_cons v7 X7 0 rfl inb_S8x2_S8x1_0_0 s.w _ b 0).trans (if_pos rfl)))
  · funext b
    exact (readCol_cons v7 X7 1 rfl inb_S8x2_S8x1_0_1 s.tv _ b 1).trans (if_pos rfl)

/-- A block of the path: that of the 512 frames from `f` on. -/
def Block (v2 : View sig .tc .vmem S8x512x512 .f32) (x : ℕ → Row (F .f32)) (f : ℕ) (Y2 : BufTy.Contents (Elt F) v2.ty) : Prop :=
  ∀ (b : Fin 8) (j t : Fin 512), v2.read (Elt F) Y2 (ixO b j t) = path x b (f + j.val) t

/-- The block made of its frames' lanes. -/
theorem block_of {v2 : View sig .tc .vmem S8x512x512 .f32} {x : ℕ → Row (F .f32)} {f : ℕ} (X2 : BufTy.Contents (Elt F) v2.ty)
    {u : Vec F S512x8 .i32} (hu : ∀ (j : Fin 512) (b : Fin 8), u (ixT j b) = onLane x (f + j.val) b) :
    Block v2 x f (v2.writes (Elt F) X2 [⟨Rect.unit ![7, 0, 0] S1x512x512.size inb_S8x512x512_S1x512x512_7_0_0, k0_pay30 u (iota .tc S512x512 32 [1] iota_S512x512_d1_w32)⟩, ⟨Rect.unit ![6, 0, 0] S1x512x512.size inb_S8x512x512_S1x512x512_6_0_0, k0_pay29 u (iota .tc S512x512 32 [1] iota_S512x512_d1_w32)⟩, ⟨Rect.unit ![5, 0, 0] S1x512x512.size inb_S8x512x512_S1x512x512_5_0_0, k0_pay28 u (iota .tc S512x512 32 [1] iota_S512x512_d1_w32)⟩, ⟨Rect.unit ![4, 0, 0] S1x512x512.size inb_S8x512x512_S1x512x512_4_0_0, k0_pay27 (k0_pay377 u)⟩, ⟨Rect.unit ![3, 0, 0] S1x512x512.size inb_S8x512x512_S1x512x512_3_0_0, k0_pay376 u⟩, ⟨Rect.unit ![2, 0, 0] S1x512x512.size inb_S8x512x512_S1x512x512_2_0_0, k0_pay375 u⟩, ⟨Rect.unit ![1, 0, 0] S1x512x512.size inb_S8x512x512_S1x512x512_1_0_0, k0_pay374 u⟩, ⟨Rect.unit ![0, 0, 0] S1x512x512.size inb_S8x512x512_S1x512x512_0_0_0, k0_pay373 u⟩]) := by
  intro b j t
  have key : ∀ b : Fin 8, FloatOps.sitofp (F := F) .f32 ((IntOp.cmpi .eq (BitVec.ofNat 32 t.val) (u (ixT j b))).setWidth 32) = path x b (f + j.val) t :=
    fun b => by rw [hu]; rfl
  refine (readOut_cons v2 X2 7 rfl inb_S8x512x512_S1x512x512_7_0_0 _ _ b j t).trans ?_
  split
  · next h => rw [h]; exact (block_path (F := F) u 7 7 rfl iota_S512x512_d1_w32 slices_S512x8_o0_7_S512x1 shapeCasts_S512x1_S512x1 broadcasts_S512x1_S512x512 natLt_1_32 shapeCasts_S512x512_S1x512x512 j t).trans (key 7)
  refine (readOut_cons v2 X2 6 rfl inb_S8x512x512_S1x512x512_6_0_0 _ _ b j t).trans ?_
  split
  · next h => rw [h]; exact (block_path (F := F) u 6 6 rfl iota_S512x512_d1_w32 slices_S512x8_o0_6_S512x1 shapeCasts_S512x1_S512x1 broadcasts_S512x1_S512x512 natLt_1_32 shapeCasts_S512x512_S1x512x512 j t).trans (key 6)
  refine (readOut_cons v2 X2 5 rfl inb_S8x512x512_S1x512x512_5_0_0 _ _ b j t).trans ?_
  split
  · next h => rw [h]; exact (block_path (F := F) u 5 5 rfl iota_S512x512_d1_w32 slices_S512x8_o0_5_S512x1 shapeCasts_S512x1_S512x1 broadcasts_S512x1_S512x512 natLt_1_32 shapeCasts_S512x512_S1x512x512 j t).trans (key 5)
  refine (readOut_cons v2 X2 4 rfl inb_S8x512x512_S1x512x512_4_0_0 _ _ b j t).trans ?_
  split
  · next h => rw [h]; exact (block_path (F := F) u 4 4 rfl iota_S512x512_d1_w32 slices_S512x8_o0_4_S512x1 shapeCasts_S512x1_S512x1 broadcasts_S512x1_S512x512 natLt_1_32 shapeCasts_S512x512_S1x512x512 j t).trans (key 4)
  refine (readOut_cons v2 X2 3 rfl inb_S8x512x512_S1x512x512_3_0_0 _ _ b j t).trans ?_
  split
  · next h => rw [h]; exact (block_path (F := F) u 3 3 rfl iota_S512x512_d1_w32 slices_S512x8_o0_3_S512x1 shapeCasts_S512x1_S512x1 broadcasts_S512x1_S512x512 natLt_1_32 shapeCasts_S512x512_S1x512x512 j t).trans (key 3)
  refine (readOut_cons v2 X2 2 rfl inb_S8x512x512_S1x512x512_2_0_0 _ _ b j t).trans ?_
  split
  · next h => rw [h]; exact (block_path (F := F) u 2 2 rfl iota_S512x512_d1_w32 slices_S512x8_o0_2_S512x1 shapeCasts_S512x1_S512x1 broadcasts_S512x1_S512x512 natLt_1_32 shapeCasts_S512x512_S1x512x512 j t).trans (key 2)
  refine (readOut_cons v2 X2 1 rfl inb_S8x512x512_S1x512x512_1_0_0 _ _ b j t).trans ?_
  split
  · next h => rw [h]; exact (block_path (F := F) u 1 1 rfl iota_S512x512_d1_w32 slices_S512x8_o0_1_S512x1 shapeCasts_S512x1_S512x1 broadcasts_S512x1_S512x512 natLt_1_32 shapeCasts_S512x512_S1x512x512 j t).trans (key 1)
  refine (readOut_cons v2 X2 0 rfl inb_S8x512x512_S1x512x512_0_0_0 _ _ b j t).trans ?_
  split
  · next h => rw [h]; exact (block_path (F := F) u 0 0 rfl iota_S512x512_d1_w32 slices_S512x8_o0_0_S512x1 shapeCasts_S512x1_S512x1 broadcasts_S512x1_S512x512 natLt_1_32 shapeCasts_S512x512_S1x512x512 j t).trans (key 0)
  exact absurd b.isLt (by simp only [Fin.ext_iff] at *; simp at *; omega)

variable (𝒱 : Variants) (c : Dev nD) (bd : Option 𝒱.V) (i : grid0.Coords)
  (arg1 : Memref sig .tc .vmem S512x8x8x64 .f32) (harg1 : arg1.IsWhole) (arg2 : Memref sig .tc .vmem S8x512x512 .f32) (harg2 : arg2.IsWhole)
  (arg3 : Memref sig .tc .vmem S64x8x8x64 .i32) (harg3 : arg3.IsWhole) (arg4 : Memref sig .tc .vmem S8x8x64 .f32) (harg4 : arg4.IsWhole)
  (arg5 : Memref sig .tc .vmem S8x8x64 .i32) (harg5 : arg5.IsWhole) (arg6 : Memref sig .tc .vmem S8x8x64 .f32) (harg6 : arg6.IsWhole)
  (arg7 : Memref sig .tc .vmem S8x2 .i32) (harg7 : arg7.IsWhole) (arg8 : Memref sig .tc .vmem S512x8 .i32) (harg8 : arg8.IsWhole)

/-- The loop as a whole, entered with the scores and words of the frame before. -/
theorem end_t1 (v4 v8 v12 v16 v20 v24 v28 v32 : IVec S8x64 32) (v34 : IVec S8x64 1) (k0_h1 : k0_cond1 i = 1#1) (v62 v64 v66 v68 v70 v72 v74 v76 : FVec F S8x64 .f32) (v77 v78 v79 v80 v81 v82 : IVec S8x64 32)
    (X : BufTy.Contents (Elt F) arg1.view.ty) (x : ℕ → Row (F .f32)) (hi0 : (i 0).val = 0) (hx : ∀ j : Fin 512, at4 arg1.view X j = x (512 * (i 0).val + j.val))
    (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (h34 : v34 = cmpi .eq (iota .tc S8x64 32 [1] (by decide)) (broadcast S8x64 0#32))
    (G : BufTy.Contents (Elt F) arg3.view.ty) (init : Carry F) (hinit : init = tup (score x 0) (packed x 0)) (n : ℕ) (hn : n = 511) :
    (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init n).1 = tup (score x 511) (packed x 511)
      ∧ Holds arg3.view (st_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X G init n).2 x 511 := by
  subst hinit hn
  have h := fold_t1 (F := F) 𝒱 c bd i arg1 harg1 arg2 harg2 arg3 harg3 arg4 harg4 arg5 harg5 arg6 harg6 arg7 harg7 arg8 harg8 v4 v8 v12 v16 v20 v24 v28 v32 v34 k0_h1 v62 v64 v66 v68 v70 v72 v74 v76 v77 v78 v79 v80 v81 v82 X x (fun k hk => (hx ⟨k + 1, by omega⟩).trans (congrArg x (by rw [hi0]; show 512 * 0 + (k + 1) = k + 1; omega))) hv0 hv1 hv2 hv3 hv4 hv5 hv6 hv7 h34 G 511 (Nat.le_refl _)
  exact ⟨(by simpa using h.1), (by simpa using h.2)⟩

/-- The loop as a whole, entered with the scores and words of the frame before. -/
theorem end_t2 (arg0 : BitVec 32) (v4 v8 v12 v16 v20 v24 v28 v32 : IVec S8x64 32) (v34 : IVec S8x64 1) (k0_h2 : k0_cond2 i = 1#1) (v62 v64 v66 v68 v70 v72 v74 v76 : FVec F S8x64 .f32) (v78 v80 v82 v84 : IVec S8x64 32)
    (X : BufTy.Contents (Elt F) arg1.view.ty) (x : ℕ → Row (F .f32)) (m : ℕ) (hm : 512 * (i 0).val = m + 1) (harg0 : arg0 = BitVec.ofNat 32 (i 0).val) (hlo : 512 ≤ 512 * (i 0).val) (hhi : 512 * (i 0).val < 1536) (hx : ∀ j : Fin 512, at4 arg1.view X j = x (512 * (i 0).val + j.val))
     (h34 : v34 = cmpi .eq (iota .tc S8x64 32 [1] (by decide)) (broadcast S8x64 0#32))
    (G : BufTy.Contents (Elt F) arg3.view.ty) (hG : Holds arg3.view G x m) (init : Carry F) (hinit : init = tup (score x m) (packed x m)) (n : ℕ) (hn : n = 512) :
    (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init n).1 = tup (score x (m + 512)) (packed x (m + 512))
      ∧ Holds arg3.view (st_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X G init n).2 x (m + 512) := by
  subst hinit hn
  have h := fold_t2 (F := F) 𝒱 c bd i arg1 harg1 arg2 harg2 arg3 harg3 arg4 harg4 arg5 harg5 arg6 harg6 arg7 harg7 arg8 harg8 arg0 v34 k0_h2 v62 v64 v66 v68 v70 v72 v74 v76 v78 v80 v82 v84 X x m hm harg0 hlo hhi (fun k hk => hx ⟨k, hk⟩)  h34 G hG 512 (Nat.le_refl _)
  exact ⟨h.1, h.2 (by omega)⟩

/-- The loop as a whole, entered with the scores and words of the frame before. -/
theorem end_t3 (arg0 : BitVec 32) (v4 v8 v12 v16 v20 v24 v28 v32 : IVec S8x64 32) (v34 : IVec S8x64 1) (k0_h3 : k0_cond3 i = 1#1) (v62 v64 v66 v68 v70 v72 v74 v76 : FVec F S8x64 .f32) (v78 v80 v82 v84 : IVec S8x64 32)
    (X : BufTy.Contents (Elt F) arg1.view.ty) (x : ℕ → Row (F .f32)) (m : ℕ) (hm : 512 * (i 0).val = m + 1) (harg0 : arg0 = BitVec.ofNat 32 (i 0).val) (hlo : 1536 ≤ 512 * (i 0).val) (hhi : 512 * (i 0).val < 2048) (hx : ∀ j : Fin 512, at4 arg1.view X j = x (512 * (i 0).val + j.val))
    (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (h34 : v34 = cmpi .eq (iota .tc S8x64 32 [1] (by decide)) (broadcast S8x64 0#32))
    (G : BufTy.Contents (Elt F) arg3.view.ty) (hG : Holds arg3.view G x m) (init : Carry F) (hinit : init = tup (score x m) (packed x m)) (n : ℕ) (hn : n = 512) :
    (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init n).1 = tup (score x (m + 512)) (packed x (m + 512))
      ∧ Holds arg3.view (st_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X G init n).2 x (m + 512) := by
  subst hinit hn
  have h := fold_t3 (F := F) 𝒱 c bd i arg1 harg1 arg2 harg2 arg3 harg3 arg4 harg4 arg5 harg5 arg6 harg6 arg7 harg7 arg8 harg8 arg0 v4 v8 v12 v16 v20 v24 v28 v32 v34 k0_h3 v62 v64 v66 v68 v70 v72 v74 v76 v78 v80 v82 v84 X x m hm harg0 hlo hhi (fun k hk => hx ⟨k, hk⟩) hv0 hv1 hv2 hv3 hv4 hv5 hv6 hv7 h34 G hG 512 (Nat.le_refl _)
  exact ⟨h.1, h.2 (by omega)⟩

/-- The loop as a whole, entered with the walk at the frame before. -/
theorem end_t4 (v0 : IVec S8x64 32) (v46 : BitVec 32) (k0_h4 : k0_cond4 i = 1#1) (X : BufTy.Contents (Elt F) arg3.view.ty) (x : ℕ → Row (F .f32)) (m : ℕ) (hm : (i 0).val = m + 4) (hm3 : m < 3) (hv46 : v46 = Scalar.subi 7#32 (BitVec.ofNat 32 (i 0).val))
    (hX : Holds arg3.view X x 2047) (G : BufTy.Contents (Elt F) arg8.view.ty) (init : Back F) (hinit : init = tupB (walk x (512 * m))) (n : ℕ) (hn : n = 512) :
    (Gen.st_k0_t4 (F := F) 𝒱 c bd i arg1 harg1 arg2 harg2 arg3 harg3 arg4 harg4 arg5 harg5 arg6 harg6 arg7 harg7 arg8 harg8 v0 v46 k0_h4 X init n).1 = tupB (walk x (512 * (m + 1)))
      ∧ ∀ (j : Fin 512) (b : Fin 8), arg8.view.read (Elt F) (arg8.view.writes (Elt F) G (Gen.st_k0_t4 (F := F) 𝒱 c bd i arg1 harg1 arg2 harg2 arg3 harg3 arg4 harg4 arg5 harg5 arg6 harg6 arg7 harg7 arg8 harg8 v0 v46 k0_h4 X init n).2) (ixT j b) = onLane x (512 * (3 - m) + j.val) b := by
  subst hinit hn
  have h := fold_t4 (F := F) 𝒱 c bd i arg1 harg1 arg2 harg2 arg3 harg3 arg4 harg4 arg5 harg5 arg6 harg6 arg7 harg7 arg8 harg8 k0_h4 v0 v46 X x m hm hm3 hv46 hX G 512 (Nat.le_refl _)
  exact ⟨h.1, fun j b => h.2 j b (by omega)⟩

/-- The loop as a whole, entered with the walk at the frame before. -/
theorem end_t5 (v46 : BitVec 32) (k0_h5 : k0_cond5 i = 1#1) (X : BufTy.Contents (Elt F) arg3.view.ty) (x : ℕ → Row (F .f32)) (m : ℕ) (hm : (i 0).val = m + 4) (hm3 : m < 3) (hv46 : v46 = Scalar.subi 7#32 (BitVec.ofNat 32 (i 0).val))
    (hX : Holds arg3.view X x 2047) (G : BufTy.Contents (Elt F) arg8.view.ty) (init : Back F) (hinit : init = tupB (walk x (512 * m))) (n : ℕ) (hn : n = 512) :
    (Gen.st_k0_t5 (F := F) 𝒱 c bd i arg1 harg1 arg2 harg2 arg3 harg3 arg4 harg4 arg5 harg5 arg6 harg6 arg7 harg7 arg8 harg8 v46 k0_h5 X init n).1 = tupB (walk x (512 * (m + 1)))
      ∧ ∀ (j : Fin 512) (b : Fin 8), arg8.view.read (Elt F) (arg8.view.writes (Elt F) G (Gen.st_k0_t5 (F := F) 𝒱 c bd i arg1 harg1 arg2 harg2 arg3 harg3 arg4 harg4 arg5 harg5 arg6 harg6 arg7 harg7 arg8 harg8 v46 k0_h5 X init n).2) (ixT j b) = onLane x (512 * (3 - m) + j.val) b := by
  subst hinit hn
  have h := fold_t5 (F := F) 𝒱 c bd i arg1 harg1 arg2 harg2 arg3 harg3 arg4 harg4 arg5 harg5 arg6 harg6 arg7 harg7 arg8 harg8 k0_h5 v46 X x m hm hm3 hv46 hX G 512 (Nat.le_refl _)
  exact ⟨h.1, fun j b => h.2 j b (by omega)⟩

/-- The loop as a whole, entered with the walk at the frame before. -/
theorem end_t6 (v4 v8 v12 v16 v20 v24 v28 v32 : IVec S8x64 32) (k0_h6 : k0_cond6 i = 1#1) (X : BufTy.Contents (Elt F) arg3.view.ty) (x : ℕ → Row (F .f32)) (m : ℕ) (hv0 : v4 = plane lanes 0) (hv1 : v8 = plane lanes 1) (hv2 : v12 = plane lanes 2) (hv3 : v16 = plane lanes 3) (hv4 : v20 = plane lanes 4) (hv5 : v24 = plane lanes 5) (hv6 : v28 = plane lanes 6) (hv7 : v32 = plane lanes 7) (hm : m = 3)
    (hX : Holds arg3.view X x 2047) (G : BufTy.Contents (Elt F) arg8.view.ty) (init : Back F) (hinit : init = tupB (walk x (512 * m))) (n : ℕ) (hn : n = 512) :
    (Gen.st_k0_t6 (F := F) 𝒱 c bd i arg1 harg1 arg2 harg2 arg3 harg3 arg4 harg4 arg5 harg5 arg6 harg6 arg7 harg7 arg8 harg8 v4 v8 v12 v16 v20 v24 v28 v32 k0_h6 X init n).1 = tupB (walk x (512 * (m + 1)))
      ∧ ∀ (j : Fin 512) (b : Fin 8), arg8.view.read (Elt F) (arg8.view.writes (Elt F) G (Gen.st_k0_t6 (F := F) 𝒱 c bd i arg1 harg1 arg2 harg2 arg3 harg3 arg4 harg4 arg5 harg5 arg6 harg6 arg7 harg7 arg8 harg8 v4 v8 v12 v16 v20 v24 v28 v32 k0_h6 X init n).2) (ixT j b) = onLane x (512 * (3 - m) + j.val) b := by
  subst hinit hn
  have h := fold_t6 (F := F) 𝒱 c bd i arg1 harg1 arg2 harg2 arg3 harg3 arg4 harg4 arg5 harg5 arg6 harg6 arg7 harg7 arg8 harg8 v4 v8 v12 v16 v20 v24 v28 v32 k0_h6 X x m hv0 hv1 hv2 hv3 hv4 hv5 hv6 hv7 hm hX G 512 (Nat.le_refl _)
  exact ⟨h.1, fun j b => h.2 j b (by omega)⟩

/-- The planes and columns the walk starts with. -/
theorem start_planes {x : ℕ → Row (F .f32)} {v0 : IVec S8x64 32} (h0 : v0 = iota .tc S8x64 32 [1] iota_S8x64_d1_w32 := by rfl) :
    ((k0_pay273, k0_pay274, k0_pay275, k0_pay276, k0_pay277, k0_pay278, k0_pay279, k0_pay280 v0, k0_pay281, k0_pay282) : Back F) = tupB (walk x (512 * 0)) := by
  subst h0
  have hz : ∀ g : Fin 8, g.val ≠ 7 → broadcast S8x64 (Scalar.ofBits (F := F) .f32 0x00000000#32) = plane (Walk.start (F := F)).p g := fun g hg => by
    funext y
    show _ = if (lane g (c1 y)).val % 8 = 7 then _ else _
    rw [if_neg (by simp only [lane]; omega)]
    rfl
  refine tupB_ext (hz 0 (by decide)) (hz 1 (by decide)) (hz 2 (by decide)) (hz 3 (by decide)) (hz 4 (by decide)) (hz 5 (by decide)) (hz 6 (by decide)) ?_ rfl rfl
  funext y
  show FloatOps.sitofp .f32 ((IntOp.cmpi .eq (iota .tc S8x64 32 [1] iota_S8x64_d1_w32 y) 63#32).setWidth 32) = if (lane 7 (c1 y)).val % 8 = 7 then _ else _
  rw [if_pos (by simp only [lane]; show (8 * (c1 y).val + 7) % 8 = 7; omega), iota_single_apply, show (lane 7 (c1 y)).val / 8 = (c1 y).val from by simp only [lane]; show (8 * (c1 y).val + 7) / 8 = _; omega]
  rfl

/-- The first point: frames 0 to 511. -/
theorem body_first (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (E : Set ℕ) (x : ℕ → Row (F .f32))
    (X1 : BufTy.Contents (Elt F) arg1.view.ty)
    (X3 : BufTy.Contents (Elt F) arg3.view.ty)
    (X4 : BufTy.Contents (Elt F) arg4.view.ty)
    (X5 : BufTy.Contents (Elt F) arg5.view.ty)
    (hi0 : (i 0).val = 0) (hx : ∀ j : Fin 512, at4 arg1.view X1 j = x (512 * (i 0).val + j.val)) :
    iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5))
      ⊢ wp (M := 𝕄G) frame (wpE (defs₀ (F := F)) 𝒱 (c : Thread nD τ) bd) E (cc0__mas_kernel (F := F) i arg1 harg1 arg2 harg2 arg3 harg3 arg4 harg4 arg5 harg5 arg6 harg6 arg7 harg7 arg8 harg8)
        (fun _ => iprop(∃ (Y3 : BufTy.Contents (Elt F) arg3.view.ty) (Y4 : BufTy.Contents (Elt F) arg4.view.ty) (Y5 : BufTy.Contents (Elt F) arg5.view.ty), (arg1.view.loc (c : Thread nD τ) ↦[arg1.view.set]{fullShare} X1) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ ⌜Saved arg3.view arg4.view arg5.view x 511 Y3 Y4 Y5⌝)) := by
  iintro ⟨H1, H3, H4, H5⟩
  sl_unfold [cc0__mas_kernel]
  sl_exec
  sl_step
  iexists _
  iexists _
  iexists _
  isplitl [H1]; · iexact H1
  isplitl [H3]; · iexact H3
  isplitl [H4]; · iexact H4
  isplitl [H5]; · iexact H5
  ipureintro
  have hx0 : at4 arg1.view X1 0 = score x 0 := (hx 0).trans (congrArg x (by rw [hi0]; rfl))
  refine saved_of ?_ X4 X5
  exact end_t1 (F := F) 𝒱 c bd i arg1 harg1 arg2 harg2 arg3 harg3 arg4 harg4 arg5 harg5 arg6 harg6 arg7 harg7 arg8 harg8 k0_pay378 k0_pay379 k0_pay380 k0_pay381 k0_pay382 k0_pay383 k0_pay384 k0_pay385 k0_pay386 h1 _ _ _ _ _ _ _ _ _ _ _ _ _ _ X1 x hi0 hx (vec_lanes iota_S8x64_d1_w32 0 0 rfl) (vec_lanes iota_S8x64_d1_w32 1 1 rfl) (vec_lanes iota_S8x64_d1_w32 2 2 rfl) (vec_lanes iota_S8x64_d1_w32 3 3 rfl) (vec_lanes iota_S8x64_d1_w32 4 4 rfl) (vec_lanes iota_S8x64_d1_w32 5 5 rfl) (vec_lanes iota_S8x64_d1_w32 6 6 rfl) (vec_lanes iota_S8x64_d1_w32 7 7 rfl) rfl X3 _ (tup_ext ((load4 arg1.view X1 0 0 rfl inb_S512x8x8x64_S1x1x8x64_0_0_0_0 shapeCasts_S1x1x8x64_S8x64).trans (congrArg (fun w => plane w 0) hx0)) ((load4 arg1.view X1 0 1 rfl inb_S512x8x8x64_S1x1x8x64_0_1_0_0 shapeCasts_S1x1x8x64_S8x64).trans (congrArg (fun w => plane w 1) hx0)) ((load4 arg1.view X1 0 2 rfl inb_S512x8x8x64_S1x1x8x64_0_2_0_0 shapeCasts_S1x1x8x64_S8x64).trans (congrArg (fun w => plane w 2) hx0)) ((load4 arg1.view X1 0 3 rfl inb_S512x8x8x64_S1x1x8x64_0_3_0_0 shapeCasts_S1x1x8x64_S8x64).trans (congrArg (fun w => plane w 3) hx0)) ((load4 arg1.view X1 0 4 rfl inb_S512x8x8x64_S1x1x8x64_0_4_0_0 shapeCasts_S1x1x8x64_S8x64).trans (congrArg (fun w => plane w 4) hx0)) ((load4 arg1.view X1 0 5 rfl inb_S512x8x8x64_S1x1x8x64_0_5_0_0 shapeCasts_S1x1x8x64_S8x64).trans (congrArg (fun w => plane w 5) hx0)) ((load4 arg1.view X1 0 6 rfl inb_S512x8x8x64_S1x1x8x64_0_6_0_0 shapeCasts_S1x1x8x64_S8x64).trans (congrArg (fun w => plane w 6) hx0)) ((load4 arg1.view X1 0 7 rfl inb_S512x8x8x64_S1x1x8x64_0_7_0_0 shapeCasts_S1x1x8x64_S8x64).trans (congrArg (fun w => plane w 7) hx0)) rfl rfl rfl rfl rfl rfl rfl rfl) _ trips_t1

/-- The second and third point: frames 512 to 1535. -/
theorem body_mid (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (E : Set ℕ) (x : ℕ → Row (F .f32))
    (X1 : BufTy.Contents (Elt F) arg1.view.ty)
    (X3 : BufTy.Contents (Elt F) arg3.view.ty)
    (X4 : BufTy.Contents (Elt F) arg4.view.ty)
    (X5 : BufTy.Contents (Elt F) arg5.view.ty)
    (hlo : 1 ≤ (i 0).val) (hhi : (i 0).val ≤ 2) (hx : ∀ j : Fin 512, at4 arg1.view X1 j = x (512 * (i 0).val + j.val)) (m : ℕ) (hm : 512 * (i 0).val = m + 1) (hs : Saved arg3.view arg4.view arg5.view x m X3 X4 X5) :
    iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5))
      ⊢ wp (M := 𝕄G) frame (wpE (defs₀ (F := F)) 𝒱 (c : Thread nD τ) bd) E (cc0__mas_kernel (F := F) i arg1 harg1 arg2 harg2 arg3 harg3 arg4 harg4 arg5 harg5 arg6 harg6 arg7 harg7 arg8 harg8)
        (fun _ => iprop(∃ (Y3 : BufTy.Contents (Elt F) arg3.view.ty) (Y4 : BufTy.Contents (Elt F) arg4.view.ty) (Y5 : BufTy.Contents (Elt F) arg5.view.ty), (arg1.view.loc (c : Thread nD τ) ↦[arg1.view.set]{fullShare} X1) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ ⌜Saved arg3.view arg4.view arg5.view x (m + 512) Y3 Y4 Y5⌝)) := by
  iintro ⟨H1, H3, H4, H5⟩
  sl_unfold [cc0__mas_kernel]
  sl_exec
  sl_step
  iexists _
  iexists _
  iexists _
  isplitl [H1]; · iexact H1
  isplitl [H3]; · iexact H3
  isplitl [H4]; · iexact H4
  isplitl [H5]; · iexact H5
  ipureintro
  refine saved_of ?_ X4 X5
  exact end_t2 (F := F) 𝒱 c bd i arg1 harg1 arg2 harg2 arg3 harg3 arg4 harg4 arg5 harg5 arg6 harg6 arg7 harg7 arg8 harg8 (BitVec.ofNat 32 (i 0).val) k0_pay378 k0_pay379 k0_pay380 k0_pay381 k0_pay382 k0_pay383 k0_pay384 k0_pay385 k0_pay386 h2 _ _ _ _ _ _ _ _ _ _ _ _ X1 x m hm rfl (by omega) (by omega) hx rfl X3 hs.1 _ (tup_ext ((load3 arg4.view X4 0 rfl inb_S8x8x64_S1x8x64_0_0_0 shapeCasts_S1x8x64_S8x64).trans (congrArg (fun w => plane w 0) hs.2.1)) ((load3 arg4.view X4 1 rfl inb_S8x8x64_S1x8x64_1_0_0 shapeCasts_S1x8x64_S8x64).trans (congrArg (fun w => plane w 1) hs.2.1)) ((load3 arg4.view X4 2 rfl inb_S8x8x64_S1x8x64_2_0_0 shapeCasts_S1x8x64_S8x64).trans (congrArg (fun w => plane w 2) hs.2.1)) ((load3 arg4.view X4 3 rfl inb_S8x8x64_S1x8x64_3_0_0 shapeCasts_S1x8x64_S8x64).trans (congrArg (fun w => plane w 3) hs.2.1)) ((load3 arg4.view X4 4 rfl inb_S8x8x64_S1x8x64_4_0_0 shapeCasts_S1x8x64_S8x64).trans (congrArg (fun w => plane w 4) hs.2.1)) ((load3 arg4.view X4 5 rfl inb_S8x8x64_S1x8x64_5_0_0 shapeCasts_S1x8x64_S8x64).trans (congrArg (fun w => plane w 5) hs.2.1)) ((load3 arg4.view X4 6 rfl inb_S8x8x64_S1x8x64_6_0_0 shapeCasts_S1x8x64_S8x64).trans (congrArg (fun w => plane w 6) hs.2.1)) ((load3 arg4.view X4 7 rfl inb_S8x8x64_S1x8x64_7_0_0 shapeCasts_S1x8x64_S8x64).trans (congrArg (fun w => plane w 7) hs.2.1)) ((load3 arg5.view X5 0 rfl inb_S8x8x64_S1x8x64_0_0_0 shapeCasts_S1x8x64_S8x64).trans (congrArg (fun w => plane w 0) hs.2.2)) ((load3 arg5.view X5 1 rfl inb_S8x8x64_S1x8x64_1_0_0 shapeCasts_S1x8x64_S8x64).trans (congrArg (fun w => plane w 1) hs.2.2)) ((load3 arg5.view X5 2 rfl inb_S8x8x64_S1x8x64_2_0_0 shapeCasts_S1x8x64_S8x64).trans (congrArg (fun w => plane w 2) hs.2.2)) ((load3 arg5.view X5 3 rfl inb_S8x8x64_S1x8x64_3_0_0 shapeCasts_S1x8x64_S8x64).trans (congrArg (fun w => plane w 3) hs.2.2)) ((load3 arg5.view X5 4 rfl inb_S8x8x64_S1x8x64_4_0_0 shapeCasts_S1x8x64_S8x64).trans (congrArg (fun w => plane w 4) hs.2.2)) ((load3 arg5.view X5 5 rfl inb_S8x8x64_S1x8x64_5_0_0 shapeCasts_S1x8x64_S8x64).trans (congrArg (fun w => plane w 5) hs.2.2)) ((load3 arg5.view X5 6 rfl inb_S8x8x64_S1x8x64_6_0_0 shapeCasts_S1x8x64_S8x64).trans (congrArg (fun w => plane w 6) hs.2.2)) ((load3 arg5.view X5 7 rfl inb_S8x8x64_S1x8x64_7_0_0 shapeCasts_S1x8x64_S8x64).trans (congrArg (fun w => plane w 7) hs.2.2))) _ trips_t2

/-- The fourth point: frames 1536 to 2047. -/
theorem body_last (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (E : Set ℕ) (x : ℕ → Row (F .f32))
    (X1 : BufTy.Contents (Elt F) arg1.view.ty)
    (X3 : BufTy.Contents (Elt F) arg3.view.ty)
    (X4 : BufTy.Contents (Elt F) arg4.view.ty)
    (X5 : BufTy.Contents (Elt F) arg5.view.ty)
    (hi3 : (i 0).val = 3) (hx : ∀ j : Fin 512, at4 arg1.view X1 j = x (512 * (i 0).val + j.val)) (m : ℕ) (hm : 512 * (i 0).val = m + 1) (hs : Saved arg3.view arg4.view arg5.view x m X3 X4 X5) :
    iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5))
      ⊢ wp (M := 𝕄G) frame (wpE (defs₀ (F := F)) 𝒱 (c : Thread nD τ) bd) E (cc0__mas_kernel (F := F) i arg1 harg1 arg2 harg2 arg3 harg3 arg4 harg4 arg5 harg5 arg6 harg6 arg7 harg7 arg8 harg8)
        (fun _ => iprop(∃ (Y3 : BufTy.Contents (Elt F) arg3.view.ty) (Y4 : BufTy.Contents (Elt F) arg4.view.ty) (Y5 : BufTy.Contents (Elt F) arg5.view.ty), (arg1.view.loc (c : Thread nD τ) ↦[arg1.view.set]{fullShare} X1) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ ⌜Saved arg3.view arg4.view arg5.view x (m + 512) Y3 Y4 Y5⌝)) := by
  iintro ⟨H1, H3, H4, H5⟩
  sl_unfold [cc0__mas_kernel]
  sl_exec
  sl_step
  iexists _
  iexists _
  iexists _
  isplitl [H1]; · iexact H1
  isplitl [H3]; · iexact H3
  isplitl [H4]; · iexact H4
  isplitl [H5]; · iexact H5
  ipureintro
  refine saved_of ?_ X4 X5
  exact end_t3 (F := F) 𝒱 c bd i arg1 harg1 arg2 harg2 arg3 harg3 arg4 harg4 arg5 harg5 arg6 harg6 arg7 harg7 arg8 harg8 (BitVec.ofNat 32 (i 0).val) k0_pay378 k0_pay379 k0_pay380 k0_pay381 k0_pay382 k0_pay383 k0_pay384 k0_pay385 k0_pay386 h3 _ _ _ _ _ _ _ _ _ _ _ _ X1 x m hm rfl (by omega) (by omega) hx (vec_lanes iota_S8x64_d1_w32 0 0 rfl) (vec_lanes iota_S8x64_d1_w32 1 1 rfl) (vec_lanes iota_S8x64_d1_w32 2 2 rfl) (vec_lanes iota_S8x64_d1_w32 3 3 rfl) (vec_lanes iota_S8x64_d1_w32 4 4 rfl) (vec_lanes iota_S8x64_d1_w32 5 5 rfl) (vec_lanes iota_S8x64_d1_w32 6 6 rfl) (vec_lanes iota_S8x64_d1_w32 7 7 rfl) rfl X3 hs.1 _ (tup_ext ((load3 arg4.view X4 0 rfl inb_S8x8x64_S1x8x64_0_0_0 shapeCasts_S1x8x64_S8x64).trans (congrArg (fun w => plane w 0) hs.2.1)) ((load3 arg4.view X4 1 rfl inb_S8x8x64_S1x8x64_1_0_0 shapeCasts_S1x8x64_S8x64).trans (congrArg (fun w => plane w 1) hs.2.1)) ((load3 arg4.view X4 2 rfl inb_S8x8x64_S1x8x64_2_0_0 shapeCasts_S1x8x64_S8x64).trans (congrArg (fun w => plane w 2) hs.2.1)) ((load3 arg4.view X4 3 rfl inb_S8x8x64_S1x8x64_3_0_0 shapeCasts_S1x8x64_S8x64).trans (congrArg (fun w => plane w 3) hs.2.1)) ((load3 arg4.view X4 4 rfl inb_S8x8x64_S1x8x64_4_0_0 shapeCasts_S1x8x64_S8x64).trans (congrArg (fun w => plane w 4) hs.2.1)) ((load3 arg4.view X4 5 rfl inb_S8x8x64_S1x8x64_5_0_0 shapeCasts_S1x8x64_S8x64).trans (congrArg (fun w => plane w 5) hs.2.1)) ((load3 arg4.view X4 6 rfl inb_S8x8x64_S1x8x64_6_0_0 shapeCasts_S1x8x64_S8x64).trans (congrArg (fun w => plane w 6) hs.2.1)) ((load3 arg4.view X4 7 rfl inb_S8x8x64_S1x8x64_7_0_0 shapeCasts_S1x8x64_S8x64).trans (congrArg (fun w => plane w 7) hs.2.1)) ((load3 arg5.view X5 0 rfl inb_S8x8x64_S1x8x64_0_0_0 shapeCasts_S1x8x64_S8x64).trans (congrArg (fun w => plane w 0) hs.2.2)) ((load3 arg5.view X5 1 rfl inb_S8x8x64_S1x8x64_1_0_0 shapeCasts_S1x8x64_S8x64).trans (congrArg (fun w => plane w 1) hs.2.2)) ((load3 arg5.view X5 2 rfl inb_S8x8x64_S1x8x64_2_0_0 shapeCasts_S1x8x64_S8x64).trans (congrArg (fun w => plane w 2) hs.2.2)) ((load3 arg5.view X5 3 rfl inb_S8x8x64_S1x8x64_3_0_0 shapeCasts_S1x8x64_S8x64).trans (congrArg (fun w => plane w 3) hs.2.2)) ((load3 arg5.view X5 4 rfl inb_S8x8x64_S1x8x64_4_0_0 shapeCasts_S1x8x64_S8x64).trans (congrArg (fun w => plane w 4) hs.2.2)) ((load3 arg5.view X5 5 rfl inb_S8x8x64_S1x8x64_5_0_0 shapeCasts_S1x8x64_S8x64).trans (congrArg (fun w => plane w 5) hs.2.2)) ((load3 arg5.view X5 6 rfl inb_S8x8x64_S1x8x64_6_0_0 shapeCasts_S1x8x64_S8x64).trans (congrArg (fun w => plane w 6) hs.2.2)) ((load3 arg5.view X5 7 rfl inb_S8x8x64_S1x8x64_7_0_0 shapeCasts_S1x8x64_S8x64).trans (congrArg (fun w => plane w 7) hs.2.2))) _ trips_t3

/-- The fifth point: the walk starts, frames 2047 down to 1536. -/
theorem body_back0 (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : k0_cond7 i = 1#1) (E : Set ℕ) (x : ℕ → Row (F .f32))
    (X2 : BufTy.Contents (Elt F) arg2.view.ty)
    (X3 : BufTy.Contents (Elt F) arg3.view.ty)
    (X6 : BufTy.Contents (Elt F) arg6.view.ty)
    (X7 : BufTy.Contents (Elt F) arg7.view.ty)
    (X8 : BufTy.Contents (Elt F) arg8.view.ty)
    (hi4 : (i 0).val = 0 + 4) (hX : Holds arg3.view X3 x 2047) :
    iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp (M := 𝕄G) frame (wpE (defs₀ (F := F)) 𝒱 (c : Thread nD τ) bd) E (cc0__mas_kernel (F := F) i arg1 harg1 arg2 harg2 arg3 harg3 arg4 harg4 arg5 harg5 arg6 harg6 arg7 harg7 arg8 harg8)
        (fun _ => iprop(∃ (Y2 : BufTy.Contents (Elt F) arg2.view.ty) (Y6 : BufTy.Contents (Elt F) arg6.view.ty) (Y7 : BufTy.Contents (Elt F) arg7.view.ty) (Y8 : BufTy.Contents (Elt F) arg8.view.ty), (arg2.view.loc (c : Thread nD τ) ↦[arg2.view.set]{fullShare} Y2) ∗ (arg3.view.loc (c : Thread nD τ) ↦[arg3.view.set]{fullShare} X3) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ ⌜Block arg2.view x (512 * (3 - 0)) Y2 ∧ Kept arg6.view arg7.view (walk x (512 * (0 + 1))) Y6 Y7⌝)) := by
  iintro ⟨H2, H3, H6, H7, H8⟩
  sl_unfold [cc0__mas_kernel]
  sl_exec
  sl_step
  iexists _
  iexists _
  iexists _
  iexists _
  isplitl [H2]; · iexact H2
  isplitl [H3]; · iexact H3
  isplitl [H6]; · iexact H6
  isplitl [H7]; · iexact H7
  isplitl [H8]; · iexact H8
  ipureintro
  refine ⟨block_of X2 (fun j b => ?_), kept_of (S := (Gen.st_k0_t4 (F := F) 𝒱 c bd i arg1 harg1 arg2 harg2 arg3 harg3 arg4 harg4 arg5 harg5 arg6 harg6 arg7 harg7 arg8 harg8 _ _ h4 X3 _ _).1) ?_ X6 X7⟩
  · refine (readTs_whole arg8.view _ inb_S512x8_S512x8_0_0 j b).trans ?_
    exact (end_t4 (F := F) 𝒱 c bd i arg1 harg1 arg2 harg2 arg3 harg3 arg4 harg4 arg5 harg5 arg6 harg6 arg7 harg7 arg8 harg8 _ _ h4 X3 x 0 hi4 (by omega) rfl hX X8 _ start_planes _ trips_t4).2 j b
  · exact (end_t4 (F := F) 𝒱 c bd i arg1 harg1 arg2 harg2 arg3 harg3 arg4 harg4 arg5 harg5 arg6 harg6 arg7 harg7 arg8 harg8 _ _ h4 X3 x 0 hi4 (by omega) rfl hX X8 _ start_planes _ trips_t4).1

/-- The sixth and seventh point: frames 1535 down to 512. -/
theorem body_back (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : k0_cond7 i = 1#1) (E : Set ℕ) (x : ℕ → Row (F .f32))
    (X2 : BufTy.Contents (Elt F) arg2.view.ty)
    (X3 : BufTy.Contents (Elt F) arg3.view.ty)
    (X6 : BufTy.Contents (Elt F) arg6.view.ty)
    (X7 : BufTy.Contents (Elt F) arg7.view.ty)
    (X8 : BufTy.Contents (Elt F) arg8.view.ty)
    (m : ℕ) (hm : (i 0).val = m + 4) (hm3 : m < 3) (hX : Holds arg3.view X3 x 2047) (hk : Kept arg6.view arg7.view (walk x (512 * m)) X6 X7) :
    iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp (M := 𝕄G) frame (wpE (defs₀ (F := F)) 𝒱 (c : Thread nD τ) bd) E (cc0__mas_kernel (F := F) i arg1 harg1 arg2 harg2 arg3 harg3 arg4 harg4 arg5 harg5 arg6 harg6 arg7 harg7 arg8 harg8)
        (fun _ => iprop(∃ (Y2 : BufTy.Contents (Elt F) arg2.view.ty) (Y6 : BufTy.Contents (Elt F) arg6.view.ty) (Y7 : BufTy.Contents (Elt F) arg7.view.ty) (Y8 : BufTy.Contents (Elt F) arg8.view.ty), (arg2.view.loc (c : Thread nD τ) ↦[arg2.view.set]{fullShare} Y2) ∗ (arg3.view.loc (c : Thread nD τ) ↦[arg3.view.set]{fullShare} X3) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ ⌜Block arg2.view x (512 * (3 - m)) Y2 ∧ Kept arg6.view arg7.view (walk x (512 * (m + 1))) Y6 Y7⌝)) := by
  iintro ⟨H2, H3, H6, H7, H8⟩
  sl_unfold [cc0__mas_kernel]
  sl_exec
  sl_step
  iexists _
  iexists _
  iexists _
  iexists _
  isplitl [H2]; · iexact H2
  isplitl [H3]; · iexact H3
  isplitl [H6]; · iexact H6
  isplitl [H7]; · iexact H7
  isplitl [H8]; · iexact H8
  ipureintro
  refine ⟨block_of X2 (fun j b => ?_), kept_of (S := (Gen.st_k0_t5 (F := F) 𝒱 c bd i arg1 harg1 arg2 harg2 arg3 harg3 arg4 harg4 arg5 harg5 arg6 harg6 arg7 harg7 arg8 harg8 _ h5 X3 _ _).1) ?_ X6 X7⟩
  · refine (readTs_whole arg8.view _ inb_S512x8_S512x8_0_0 j b).trans ?_
    exact (end_t5 (F := F) 𝒱 c bd i arg1 harg1 arg2 harg2 arg3 harg3 arg4 harg4 arg5 harg5 arg6 harg6 arg7 harg7 arg8 harg8 _ h5 X3 x m hm hm3 rfl hX X8 _ (tupB_ext ((load3 arg6.view X6 0 rfl inb_S8x8x64_S1x8x64_0_0_0 shapeCasts_S1x8x64_S8x64).trans (congrArg (fun w => plane w 0) hk.1)) ((load3 arg6.view X6 1 rfl inb_S8x8x64_S1x8x64_1_0_0 shapeCasts_S1x8x64_S8x64).trans (congrArg (fun w => plane w 1) hk.1)) ((load3 arg6.view X6 2 rfl inb_S8x8x64_S1x8x64_2_0_0 shapeCasts_S1x8x64_S8x64).trans (congrArg (fun w => plane w 2) hk.1)) ((load3 arg6.view X6 3 rfl inb_S8x8x64_S1x8x64_3_0_0 shapeCasts_S1x8x64_S8x64).trans (congrArg (fun w => plane w 3) hk.1)) ((load3 arg6.view X6 4 rfl inb_S8x8x64_S1x8x64_4_0_0 shapeCasts_S1x8x64_S8x64).trans (congrArg (fun w => plane w 4) hk.1)) ((load3 arg6.view X6 5 rfl inb_S8x8x64_S1x8x64_5_0_0 shapeCasts_S1x8x64_S8x64).trans (congrArg (fun w => plane w 5) hk.1)) ((load3 arg6.view X6 6 rfl inb_S8x8x64_S1x8x64_6_0_0 shapeCasts_S1x8x64_S8x64).trans (congrArg (fun w => plane w 6) hk.1)) ((load3 arg6.view X6 7 rfl inb_S8x8x64_S1x8x64_7_0_0 shapeCasts_S1x8x64_S8x64).trans (congrArg (fun w => plane w 7) hk.1)) ((loadCol arg7.view X7 0 rfl inb_S8x2_S8x1_0_0).trans (congrArg col hk.2.1)) ((loadCol arg7.view X7 1 rfl inb_S8x2_S8x1_0_1).trans (congrArg col hk.2.2))) _ trips_t5).2 j b
  · exact (end_t5 (F := F) 𝒱 c bd i arg1 harg1 arg2 harg2 arg3 harg3 arg4 harg4 arg5 harg5 arg6 harg6 arg7 harg7 arg8 harg8 _ h5 X3 x m hm hm3 rfl hX X8 _ (tupB_ext ((load3 arg6.view X6 0 rfl inb_S8x8x64_S1x8x64_0_0_0 shapeCasts_S1x8x64_S8x64).trans (congrArg (fun w => plane w 0) hk.1)) ((load3 arg6.view X6 1 rfl inb_S8x8x64_S1x8x64_1_0_0 shapeCasts_S1x8x64_S8x64).trans (congrArg (fun w => plane w 1) hk.1)) ((load3 arg6.view X6 2 rfl inb_S8x8x64_S1x8x64_2_0_0 shapeCasts_S1x8x64_S8x64).trans (congrArg (fun w => plane w 2) hk.1)) ((load3 arg6.view X6 3 rfl inb_S8x8x64_S1x8x64_3_0_0 shapeCasts_S1x8x64_S8x64).trans (congrArg (fun w => plane w 3) hk.1)) ((load3 arg6.view X6 4 rfl inb_S8x8x64_S1x8x64_4_0_0 shapeCasts_S1x8x64_S8x64).trans (congrArg (fun w => plane w 4) hk.1)) ((load3 arg6.view X6 5 rfl inb_S8x8x64_S1x8x64_5_0_0 shapeCasts_S1x8x64_S8x64).trans (congrArg (fun w => plane w 5) hk.1)) ((load3 arg6.view X6 6 rfl inb_S8x8x64_S1x8x64_6_0_0 shapeCasts_S1x8x64_S8x64).trans (congrArg (fun w => plane w 6) hk.1)) ((load3 arg6.view X6 7 rfl inb_S8x8x64_S1x8x64_7_0_0 shapeCasts_S1x8x64_S8x64).trans (congrArg (fun w => plane w 7) hk.1)) ((loadCol arg7.view X7 0 rfl inb_S8x2_S8x1_0_0).trans (congrArg col hk.2.1)) ((loadCol arg7.view X7 1 rfl inb_S8x2_S8x1_0_1).trans (congrArg col hk.2.2))) _ trips_t5).1

/-- The last point: frames 511 down to 0. -/
theorem body_low (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : k0_cond7 i = 1#1) (E : Set ℕ) (x : ℕ → Row (F .f32))
    (X2 : BufTy.Contents (Elt F) arg2.view.ty)
    (X3 : BufTy.Contents (Elt F) arg3.view.ty)
    (X6 : BufTy.Contents (Elt F) arg6.view.ty)
    (X7 : BufTy.Contents (Elt F) arg7.view.ty)
    (X8 : BufTy.Contents (Elt F) arg8.view.ty)
    (hX : Holds arg3.view X3 x 2047) (hk : Kept arg6.view arg7.view (walk x (512 * 3)) X6 X7) :
    iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp (M := 𝕄G) frame (wpE (defs₀ (F := F)) 𝒱 (c : Thread nD τ) bd) E (cc0__mas_kernel (F := F) i arg1 harg1 arg2 harg2 arg3 harg3 arg4 harg4 arg5 harg5 arg6 harg6 arg7 harg7 arg8 harg8)
        (fun _ => iprop(∃ (Y2 : BufTy.Contents (Elt F) arg2.view.ty) (Y8 : BufTy.Contents (Elt F) arg8.view.ty), (arg2.view.loc (c : Thread nD τ) ↦[arg2.view.set]{fullShare} Y2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} Y8) ∗ ⌜Block arg2.view x (512 * (3 - 3)) Y2⌝)) := by
  iintro ⟨H2, H3, H6, H7, H8⟩
  sl_unfold [cc0__mas_kernel]
  sl_exec
  sl_step
  iexists _
  iexists _
  isplitl [H2]; · iexact H2
  isplitl [H3]; · iexact H3
  isplitl [H6]; · iexact H6
  isplitl [H7]; · iexact H7
  isplitl [H8]; · iexact H8
  ipureintro
  refine block_of X2 (fun j b => ?_)
  refine (readTs_whole arg8.view _ inb_S512x8_S512x8_0_0 j b).trans ?_
  exact (end_t6 (F := F) 𝒱 c bd i arg1 harg1 arg2 harg2 arg3 harg3 arg4 harg4 arg5 harg5 arg6 harg6 arg7 harg7 arg8 harg8 k0_pay378 k0_pay379 k0_pay380 k0_pay381 k0_pay382 k0_pay383 k0_pay384 k0_pay385 h6 X3 x 3 (vec_lanes iota_S8x64_d1_w32 0 0 rfl) (vec_lanes iota_S8x64_d1_w32 1 1 rfl) (vec_lanes iota_S8x64_d1_w32 2 2 rfl) (vec_lanes iota_S8x64_d1_w32 3 3 rfl) (vec_lanes iota_S8x64_d1_w32 4 4 rfl) (vec_lanes iota_S8x64_d1_w32 5 5 rfl) (vec_lanes iota_S8x64_d1_w32 6 6 rfl) (vec_lanes iota_S8x64_d1_w32 7 7 rfl) rfl hX X8 _ (tupB_ext ((load3 arg6.view X6 0 rfl inb_S8x8x64_S1x8x64_0_0_0 shapeCasts_S1x8x64_S8x64).trans (congrArg (fun w => plane w 0) hk.1)) ((load3 arg6.view X6 1 rfl inb_S8x8x64_S1x8x64_1_0_0 shapeCasts_S1x8x64_S8x64).trans (congrArg (fun w => plane w 1) hk.1)) ((load3 arg6.view X6 2 rfl inb_S8x8x64_S1x8x64_2_0_0 shapeCasts_S1x8x64_S8x64).trans (congrArg (fun w => plane w 2) hk.1)) ((load3 arg6.view X6 3 rfl inb_S8x8x64_S1x8x64_3_0_0 shapeCasts_S1x8x64_S8x64).trans (congrArg (fun w => plane w 3) hk.1)) ((load3 arg6.view X6 4 rfl inb_S8x8x64_S1x8x64_4_0_0 shapeCasts_S1x8x64_S8x64).trans (congrArg (fun w => plane w 4) hk.1)) ((load3 arg6.view X6 5 rfl inb_S8x8x64_S1x8x64_5_0_0 shapeCasts_S1x8x64_S8x64).trans (congrArg (fun w => plane w 5) hk.1)) ((load3 arg6.view X6 6 rfl inb_S8x8x64_S1x8x64_6_0_0 shapeCasts_S1x8x64_S8x64).trans (congrArg (fun w => plane w 6) hk.1)) ((load3 arg6.view X6 7 rfl inb_S8x8x64_S1x8x64_7_0_0 shapeCasts_S1x8x64_S8x64).trans (congrArg (fun w => plane w 7) hk.1)) ((loadCol arg7.view X7 0 rfl inb_S8x2_S8x1_0_0).trans (congrArg col hk.2.1)) ((loadCol arg7.view X7 1 rfl inb_S8x2_S8x1_0_1).trans (congrArg col hk.2.2))) _ trips_t6).2 j b

end Cert.KernelIdeal.Mas

end
-- ==== Proof.KernelIdeal.Points.lean ====
/- The kernel's body at every grid point, and the invariant of the scratch buffers from point to point. -/
module

public import proofs.«01_k».proof.Proof.KernelIdeal.Bodies
public import proofs.«01_k».proof.Proof.Gen.KernelIdeal.Frame
public import Idealize.ShloMosaic.Lib.Pipeline.ValueKit

@[expose] public section

set_option maxRecDepth 16384
set_option maxHeartbeats 1000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.Mas

variable {F : FTy → Type} [FloatOps F]

/-- The resource algebra of the launch. -/
local notation "𝕄G" => MT nD τ sig Unit (Elt F) ℕ (UR sig nD τ) ℕ

/-- What the scratch buffers hold after `n` grid points. -/
def Inv (v3 : View sig .tc .vmem S64x8x8x64 .i32) (v4 : View sig .tc .vmem S8x8x64 .f32) (v5 : View sig .tc .vmem S8x8x64 .i32)
    (v6 : View sig .tc .vmem S8x8x64 .f32) (v7 : View sig .tc .vmem S8x2 .i32) (x : ℕ → Row (F .f32)) (n : ℕ)
    (Y3 : BufTy.Contents (Elt F) v3.ty) (Y4 : BufTy.Contents (Elt F) v4.ty) (Y5 : BufTy.Contents (Elt F) v5.ty)
    (Y6 : BufTy.Contents (Elt F) v6.ty) (Y7 : BufTy.Contents (Elt F) v7.ty) : Prop :=
  (1 ≤ n → n ≤ 4 → Saved v3 v4 v5 x (512 * n - 1) Y3 Y4 Y5) ∧ (4 ≤ n → Holds v3 Y3 x 2047)
    ∧ (5 ≤ n → n ≤ 7 → Kept v6 v7 (walk x (512 * (n - 4))) Y6 Y7)

/-- Which branch the body takes at each point. -/
theorem conds (t : Fin grid0.N) : ((grid0.coords t) 0).val = t.val
    ∧ (k0_cond1 (grid0.coords t) = 1#1 ↔ t.val = 0) ∧ (k0_cond2 (grid0.coords t) = 1#1 ↔ 1 ≤ t.val ∧ t.val ≤ 2)
    ∧ (k0_cond3 (grid0.coords t) = 1#1 ↔ t.val = 3) ∧ (k0_cond4 (grid0.coords t) = 1#1 ↔ t.val = 4)
    ∧ (k0_cond5 (grid0.coords t) = 1#1 ↔ 5 ≤ t.val ∧ t.val ≤ 6) ∧ (k0_cond6 (grid0.coords t) = 1#1 ↔ t.val = 7)
    ∧ (k0_cond7 (grid0.coords t) = 1#1 ↔ 4 ≤ t.val) := by
  rcases fin_N0 t with rfl | rfl | rfl | rfl | rfl | rfl | rfl | rfl <;> decide

variable (𝒱 : Variants) (c : Dev nD) (bd : Option 𝒱.V) (t : Fin grid0.N)
  (arg1 : Memref sig .tc .vmem S512x8x8x64 .f32) (harg1 : arg1.IsWhole) (arg2 : Memref sig .tc .vmem S8x512x512 .f32) (harg2 : arg2.IsWhole)
  (arg3 : Memref sig .tc .vmem S64x8x8x64 .i32) (harg3 : arg3.IsWhole) (arg4 : Memref sig .tc .vmem S8x8x64 .f32) (harg4 : arg4.IsWhole)
  (arg5 : Memref sig .tc .vmem S8x8x64 .i32) (harg5 : arg5.IsWhole) (arg6 : Memref sig .tc .vmem S8x8x64 .f32) (harg6 : arg6.IsWhole)
  (arg7 : Memref sig .tc .vmem S8x2 .i32) (harg7 : arg7.IsWhole) (arg8 : Memref sig .tc .vmem S512x8 .i32) (harg8 : arg8.IsWhole)

/-- The body at a point of the forward part. -/
theorem body_forward (ht : t.val < 4) (E : Set ℕ) (x : ℕ → Row (F .f32))
    (X1 : BufTy.Contents (Elt F) arg1.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (hx : ∀ j : Fin 512, at4 arg1.view X1 j = x (512 * t.val + j.val))
    (hI : Inv arg3.view arg4.view arg5.view arg6.view arg7.view x t.val X3 X4 X5 X6 X7) :
    iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5))
      ⊢ wp (M := 𝕄G) frame (wpE (defs₀ (F := F)) 𝒱 (c : Thread nD τ) bd) E (cc0__mas_kernel (F := F) (grid0.coords t) arg1 harg1 arg2 harg2 arg3 harg3 arg4 harg4 arg5 harg5 arg6 harg6 arg7 harg7 arg8 harg8)
        (fun _ => iprop(∃ (Y3 : BufTy.Contents (Elt F) arg3.view.ty) (Y4 : BufTy.Contents (Elt F) arg4.view.ty) (Y5 : BufTy.Contents (Elt F) arg5.view.ty), (arg1.view.loc (c : Thread nD τ) ↦[arg1.view.set]{fullShare} X1) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ ⌜Inv arg3.view arg4.view arg5.view arg6.view arg7.view x (t.val + 1) Y3 Y4 Y5 X6 X7⌝)) := by
  obtain ⟨h0, c1, c2, c3, c4, c5, c6, c7⟩ := conds t
  have hx' : ∀ j : Fin 512, at4 arg1.view X1 j = x (512 * ((grid0.coords t) 0).val + j.val) := fun j => by rw [h0]; exact hx j
  have fin : ∀ m : ℕ, m = 512 * (t.val + 1) - 1 →
      (iprop(∃ (Y3 : BufTy.Contents (Elt F) arg3.view.ty) (Y4 : BufTy.Contents (Elt F) arg4.view.ty) (Y5 : BufTy.Contents (Elt F) arg5.view.ty), (arg1.view.loc (c : Thread nD τ) ↦[arg1.view.set]{fullShare} X1) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ ⌜Saved arg3.view arg4.view arg5.view x m Y3 Y4 Y5⌝) : sProp 𝕄G)
        ⊢ iprop(∃ (Y3 : BufTy.Contents (Elt F) arg3.view.ty) (Y4 : BufTy.Contents (Elt F) arg4.view.ty) (Y5 : BufTy.Contents (Elt F) arg5.view.ty), (arg1.view.loc (c : Thread nD τ) ↦[arg1.view.set]{fullShare} X1) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ ⌜Inv arg3.view arg4.view arg5.view arg6.view arg7.view x (t.val + 1) Y3 Y4 Y5 X6 X7⌝) := by
    intro m hm
    iintro ⟨%Y3, %Y4, %Y5, H1, H3, H4, H5, %hs⟩
    iexists Y3; iexists Y4; iexists Y5
    isplitl [H1]; · iexact H1
    isplitl [H3]; · iexact H3
    isplitl [H4]; · iexact H4
    isplitl [H5]; · iexact H5
    ipureintro
    subst hm
    refine ⟨fun _ _ => hs, fun h4 => ?_, fun h5 => absurd h5 (by omega)⟩
    have : 512 * (t.val + 1) - 1 = 2047 := by omega
    exact this ▸ hs.1
  by_cases e0 : t.val = 0
  · exact triple_restated (body_first 𝒱 c bd _ arg1 harg1 arg2 harg2 arg3 harg3 arg4 harg4 arg5 harg5 arg6 harg6 arg7 harg7 arg8 harg8 (c1.2 e0) (fun h => by have := c2.1 h; omega) (fun h => by have := c3.1 h; omega) (fun h => by have := c4.1 h; omega) (fun h => by have := c5.1 h; omega) (fun h => by have := c6.1 h; omega) (fun h => by have := c7.1 h; omega) E x X1 X3 X4 X5 (h0.trans e0) hx') rfl .rfl fun _ => fin _ (by omega)
  by_cases e3 : t.val = 3
  · exact triple_restated (body_last 𝒱 c bd _ arg1 harg1 arg2 harg2 arg3 harg3 arg4 harg4 arg5 harg5 arg6 harg6 arg7 harg7 arg8 harg8 (fun h => by have := c1.1 h; omega) (fun h => by have := c2.1 h; omega) (c3.2 e3) (fun h => by have := c4.1 h; omega) (fun h => by have := c5.1 h; omega) (fun h => by have := c6.1 h; omega) (fun h => by have := c7.1 h; omega) E x X1 X3 X4 X5 (h0.trans e3) hx' (512 * t.val - 1) (by omega) (hI.1 (by omega) (by omega))) rfl .rfl fun _ => fin _ (by omega)
  · exact triple_restated (body_mid 𝒱 c bd _ arg1 harg1 arg2 harg2 arg3 harg3 arg4 harg4 arg5 harg5 arg6 harg6 arg7 harg7 arg8 harg8 (fun h => by have := c1.1 h; omega) (c2.2 (by omega)) (fun h => by have := c3.1 h; omega) (fun h => by have := c4.1 h; omega) (fun h => by have := c5.1 h; omega) (fun h => by have := c6.1 h; omega) (fun h => by have := c7.1 h; omega) E x X1 X3 X4 X5 (by omega) (by omega) hx' (512 * t.val - 1) (by omega) (hI.1 (by omega) (by omega))) rfl .rfl fun _ => fin _ (by omega)

/-- The body at a point of the backward part. -/
theorem body_backward (ht : 4 ≤ t.val) (E : Set ℕ) (x : ℕ → Row (F .f32))
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (hI : Inv arg3.view arg4.view arg5.view arg6.view arg7.view x t.val X3 X4 X5 X6 X7) :
    iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp (M := 𝕄G) frame (wpE (defs₀ (F := F)) 𝒱 (c : Thread nD τ) bd) E (cc0__mas_kernel (F := F) (grid0.coords t) arg1 harg1 arg2 harg2 arg3 harg3 arg4 harg4 arg5 harg5 arg6 harg6 arg7 harg7 arg8 harg8)
        (fun _ => iprop(∃ (Y2 : BufTy.Contents (Elt F) arg2.view.ty) (Y6 : BufTy.Contents (Elt F) arg6.view.ty) (Y7 : BufTy.Contents (Elt F) arg7.view.ty) (Y8 : BufTy.Contents (Elt F) arg8.view.ty), (arg2.view.loc (c : Thread nD τ) ↦[arg2.view.set]{fullShare} Y2) ∗ (arg3.view.loc (c : Thread nD τ) ↦[arg3.view.set]{fullShare} X3) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ ⌜Block arg2.view x (512 * (7 - t.val)) Y2 ∧ Inv arg3.view arg4.view arg5.view arg6.view arg7.view x (t.val + 1) X3 X4 X5 Y6 Y7⌝)) := by
  obtain ⟨h0, c1, c2, c3, c4, c5, c6, c7⟩ := conds t
  have h7 : t.val < 8 := by have := t.isLt; have := N_0; omega
  have fin : ∀ m : ℕ, t.val = m + 4 →
      (iprop(∃ (Y2 : BufTy.Contents (Elt F) arg2.view.ty) (Y6 : BufTy.Contents (Elt F) arg6.view.ty) (Y7 : BufTy.Contents (Elt F) arg7.view.ty) (Y8 : BufTy.Contents (Elt F) arg8.view.ty), (arg2.view.loc (c : Thread nD τ) ↦[arg2.view.set]{fullShare} Y2) ∗ (arg3.view.loc (c : Thread nD τ) ↦[arg3.view.set]{fullShare} X3) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ ⌜Block arg2.view x (512 * (3 - m)) Y2 ∧ Kept arg6.view arg7.view (walk x (512 * (m + 1))) Y6 Y7⌝) : sProp 𝕄G)
        ⊢ iprop(∃ (Y2 : BufTy.Contents (Elt F) arg2.view.ty) (Y6 : BufTy.Contents (Elt F) arg6.view.ty) (Y7 : BufTy.Contents (Elt F) arg7.view.ty) (Y8 : BufTy.Contents (Elt F) arg8.view.ty), (arg2.view.loc (c : Thread nD τ) ↦[arg2.view.set]{fullShare} Y2) ∗ (arg3.view.loc (c : Thread nD τ) ↦[arg3.view.set]{fullShare} X3) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ ⌜Block arg2.view x (512 * (7 - t.val)) Y2 ∧ Inv arg3.view arg4.view arg5.view arg6.view arg7.view x (t.val + 1) X3 X4 X5 Y6 Y7⌝) := by
    intro m hm
    iintro ⟨%Y2, %Y6, %Y7, %Y8, H2, H3, H6, H7, H8, %hs⟩
    iexists Y2; iexists Y6; iexists Y7; iexists Y8
    isplitl [H2]; · iexact H2
    isplitl [H3]; · iexact H3
    isplitl [H6]; · iexact H6
    isplitl [H7]; · iexact H7
    isplitl [H8]; · iexact H8
    ipureintro
    have e1 : 7 - t.val = 3 - m := by omega
    have e2 : t.val + 1 - 4 = m + 1 := by omega
    refine ⟨e1 ▸ hs.1, fun _ h => absurd h (by omega), fun _ => hI.2.1 ht, fun _ _ => ?_⟩
    rw [e2]; exact hs.2
  have hX := hI.2.1 ht
  by_cases e4 : t.val = 4
  · exact triple_restated (body_back0 𝒱 c bd _ arg1 harg1 arg2 harg2 arg3 harg3 arg4 harg4 arg5 harg5 arg6 harg6 arg7 harg7 arg8 harg8 (fun h => by have := c1.1 h; omega) (fun h => by have := c2.1 h; omega) (fun h => by have := c3.1 h; omega) (c4.2 e4) (fun h => by have := c5.1 h; omega) (fun h => by have := c6.1 h; omega) (c7.2 ht) E x X2 X3 X6 X7 X8 (h0.trans e4) hX) rfl .rfl fun _ => fin 0 e4
  by_cases e7 : t.val = 7
  · refine triple_restated (body_low 𝒱 c bd _ arg1 harg1 arg2 harg2 arg3 harg3 arg4 harg4 arg5 harg5 arg6 harg6 arg7 harg7 arg8 harg8 (fun h => by have := c1.1 h; omega) (fun h => by have := c2.1 h; omega) (fun h => by have := c3.1 h; omega) (fun h => by have := c4.1 h; omega) (fun h => by have := c5.1 h; omega) (c6.2 e7) (c7.2 ht) E x X2 X3 X6 X7 X8 hX (by have := hI.2.2 (by omega) (by omega); rw [e7] at this; exact this)) rfl .rfl fun _ => ?_
    iintro ⟨%Y2, %Y8, H2, H3, H6, H7, H8, %hs⟩
    iexists Y2; iexists X6; iexists X7; iexists Y8
    isplitl [H2]; · iexact H2
    isplitl [H3]; · iexact H3
    isplitl [H6]; · iexact H6
    isplitl [H7]; · iexact H7
    isplitl [H8]; · iexact H8
    ipureintro
    have e1 : 7 - t.val = 3 - 3 := by omega
    exact ⟨e1 ▸ hs, fun _ h => absurd h (by omega), fun _ => hX, fun _ h => absurd h (by omega)⟩
  · exact triple_restated (body_back 𝒱 c bd _ arg1 harg1 arg2 harg2 arg3 harg3 arg4 harg4 arg5 harg5 arg6 harg6 arg7 harg7 arg8 harg8 (fun h => by have := c1.1 h; omega) (fun h => by have := c2.1 h; omega) (fun h => by have := c3.1 h; omega) (fun h => by have := c4.1 h; omega) (c5.2 (by omega)) (fun h => by have := c6.1 h; omega) (c7.2 ht) E x X2 X3 X6 X7 X8 (t.val - 4) (by omega) (by omega) hX (hI.2.2 (by omega) (by omega))) rfl .rfl fun _ => fin (t.val - 4) (by omega)

end Cert.KernelIdeal.Mas

end
-- ==== Proof.KernelIdeal.Launch.lean ====
/- The kernel's launch: the invariant carried on the grid, the body obligation, and the run — the argument arrays as they were, the
   result array the path of every frame. -/
module

public import proofs.«01_k».proof.Proof.KernelIdeal.Points
public import proofs.«01_k».proof.Proof.Gen.KernelIdeal.Frame
public import Idealize.ShloMosaic.Lib.Pipeline.ValueKit

@[expose] public section

set_option maxRecDepth 16384
set_option maxHeartbeats 1000000

noncomputable section

namespace Cert.KernelIdeal.Mas

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.Mas

variable {F : FTy → Type} [FloatOps F]

/-- The resource algebra of the launch. -/
local notation "𝕄G" => MT nD τ sig Unit (Elt F) ℕ (UR sig nD τ) ℕ

variable (m : (ℓ : Loc nD τ sig) → Buf (Elt F) ℓ) (ρ : Dev nD → PrngReg)

/-- The frames of scores as the region finds them, in order. -/
def xs (c : Dev nD) : ℕ → Row (F .f32) :=
  fun n => at4 (Memref.whole main_v1).view (V m c main_v1) ⟨n % 2048, Nat.mod_lt _ (by decide)⟩

/-- The block of the path written at point `t`: that of the frames `512 (7 - t)` on. -/
def outB (c : Dev nD) (t : ℕ) : S8x512x512.Idx → F .f32 :=
  fun y => path (xs m c) ⟨(y 0).val, (y 0).isLt⟩ (512 * (7 - t) + (y 1).val) ⟨(y 2).val, (y 2).isLt⟩

/-- The scratch buffers and the generator register before point `n`. -/
def PhiS (c : Dev nD) (n : ℕ) : sProp 𝕄G :=
  iprop(∃ (Y3 : BufTy.Contents (Elt F) (Memref.whole cc0_scratch0).view.ty) (Y4 : BufTy.Contents (Elt F) (Memref.whole cc0_scratch1).view.ty) (Y5 : BufTy.Contents (Elt F) (Memref.whole cc0_scratch2).view.ty) (Y6 : BufTy.Contents (Elt F) (Memref.whole cc0_scratch3).view.ty) (Y7 : BufTy.Contents (Elt F) (Memref.whole cc0_scratch4).view.ty) (Y8 : BufTy.Contents (Elt F) (Memref.whole cc0_scratch5).view.ty), ((Memref.whole cc0_scratch0).view.loc (c : Thread nD τ) ↦[(Memref.whole cc0_scratch0).view.set]{fullShare} Y3) ∗ ((Memref.whole cc0_scratch1).view.loc (c : Thread nD τ) ↦[(Memref.whole cc0_scratch1).view.set]{fullShare} Y4) ∗ ((Memref.whole cc0_scratch2).view.loc (c : Thread nD τ) ↦[(Memref.whole cc0_scratch2).view.set]{fullShare} Y5) ∗ ((Memref.whole cc0_scratch3).view.loc (c : Thread nD τ) ↦[(Memref.whole cc0_scratch3).view.set]{fullShare} Y6) ∗ ((Memref.whole cc0_scratch4).view.loc (c : Thread nD τ) ↦[(Memref.whole cc0_scratch4).view.set]{fullShare} Y7) ∗ ((Memref.whole cc0_scratch5).view.loc (c : Thread nD τ) ↦[(Memref.whole cc0_scratch5).view.set]{fullShare} Y8) ∗ (∃ r, prngReg c r) ∗ ⌜Inv (Memref.whole cc0_scratch0).view (Memref.whole cc0_scratch1).view (Memref.whole cc0_scratch2).view (Memref.whole cc0_scratch3).view (Memref.whole cc0_scratch4).view (xs m c) n Y3 Y4 Y5 Y6 Y7⌝)

/-- The proof data: the input window keeps its block, the output window gets the path's. -/
def dats : (p : Fin 1) → (c : Dev nD) → Dat τ (Elt F) Unit ℕ (UR sig nD τ) ℕ (cfgs p) c := fun _ c =>
  { A := fun w => V m c (Pipeline.arrRef spec0 w)
    after := fun w t => match w with
      | 0 => iblk m c 0 t
      | 1 => outB m c t.val
      | ⟨_ + 2, h⟩ => absurd h (Nat.not_lt.2 (Nat.le_add_left _ _))
    Φ := fun t => PhiS m c t.val
    q := fun _ => fullShare
    owed := fun _ => 0 }

/-- At the launch the scratch buffers hold anything. -/
theorem phi_in (c : Dev nD) : Pipeline.ΦA (Val := Elt F) (U := UR sig nD τ) spec0 c ⊢ PhiS m c 0 := by
  unfold Pipeline.ΦA PhiS
  rw [scopedRest0_eq]
  rw [(Memref.isWhole_whole (κ := .tc) cc0_scratch0).set_eq_univ]
  rw [(Memref.isWhole_whole (κ := .tc) cc0_scratch1).set_eq_univ]
  rw [(Memref.isWhole_whole (κ := .tc) cc0_scratch2).set_eq_univ]
  rw [(Memref.isWhole_whole (κ := .tc) cc0_scratch3).set_eq_univ]
  rw [(Memref.isWhole_whole (κ := .tc) cc0_scratch4).set_eq_univ]
  rw [(Memref.isWhole_whole (κ := .tc) cc0_scratch5).set_eq_univ]
  iintro ⟨⟨⟨%f3, H3⟩, ⟨%f4, H4⟩, ⟨%f5, H5⟩, ⟨%f6, H6⟩, ⟨%f7, H7⟩, ⟨%f8, H8⟩⟩, Hg⟩
  iexists f3; iexists f4; iexists f5; iexists f6; iexists f7; iexists f8
  isplitl [H3]; · iexact H3
  isplitl [H4]; · iexact H4
  isplitl [H5]; · iexact H5
  isplitl [H6]; · iexact H6
  isplitl [H7]; · iexact H7
  isplitl [H8]; · iexact H8
  isplitl [Hg]; · iexact Hg
  ipureintro
  exact ⟨fun h => absurd h (by omega), fun h => absurd h (by omega), fun h => absurd h (by omega)⟩

/-- At the end they are given back. -/
theorem phi_out (c : Dev nD) (n : ℕ) : PhiS m c n ⊢ Pipeline.ΦA (Val := Elt F) (U := UR sig nD τ) spec0 c := by
  unfold Pipeline.ΦA PhiS
  rw [scopedRest0_eq]
  rw [(Memref.isWhole_whole (κ := .tc) cc0_scratch0).set_eq_univ]
  rw [(Memref.isWhole_whole (κ := .tc) cc0_scratch1).set_eq_univ]
  rw [(Memref.isWhole_whole (κ := .tc) cc0_scratch2).set_eq_univ]
  rw [(Memref.isWhole_whole (κ := .tc) cc0_scratch3).set_eq_univ]
  rw [(Memref.isWhole_whole (κ := .tc) cc0_scratch4).set_eq_univ]
  rw [(Memref.isWhole_whole (κ := .tc) cc0_scratch5).set_eq_univ]
  iintro ⟨%f3, %f4, %f5, %f6, %f7, %f8, H3, H4, H5, H6, H7, H8, Hg, -⟩
  isplitr [Hg]
  · isplitl [H3]; · iexists f3; iexact H3
    isplitl [H4]; · iexists f4; iexact H4
    isplitl [H5]; · iexists f5; iexact H5
    isplitl [H6]; · iexists f6; iexact H6
    isplitl [H7]; · iexists f7; iexact H7
    iexists f8; iexact H8
  · iexact Hg

/-- The output window is left alone at the points of the forward part. -/
theorem idle_of (t : Fin grid0.N) (ht : t.val < 4) : cfg0.idle 1 (cfg0.grid.coords t) = true ∧ (cfg0.win 1).flush t = false := by
  rcases fin_N0 t with rfl | rfl | rfl | rfl | rfl | rfl | rfl | rfl
  all_goals first | exact absurd ht (by decide) | exact ⟨by decide, by decide⟩

/-- It is written at the points of the backward part. -/
theorem live_of (t : Fin grid0.N) (ht : 4 ≤ t.val) : cfg0.idle 1 (cfg0.grid.coords t) = false := by
  rcases fin_N0 t with rfl | rfl | rfl | rfl | rfl | rfl | rfl | rfl
  all_goals first | exact absurd ht (by decide) | decide

/-- The row of the input's block. -/
theorem iblk_row (c : Dev nD) (t : Fin grid0.N) (ht : t.val < 4) (j : Fin 512) (b : Fin 8) (l : Fin 512) :
    iblk m c 0 t (Cert.Mas.ix4 j (gOf l) b (hOf l)) = xs m c (512 * t.val + j.val) b l := by
  have hi : win0_0.index t 0 = t.val := by
    rcases fin_N0 t with rfl | rfl | rfl | rfl | rfl | rfl | rfl | rfl
    all_goals first | exact absurd ht (by decide) | decide
  have h1 : win0_0.index t 1 = 0 := by rcases fin_N0 t with rfl | rfl | rfl | rfl | rfl | rfl | rfl | rfl <;> decide
  have h2 : win0_0.index t 2 = 0 := by rcases fin_N0 t with rfl | rfl | rfl | rfl | rfl | rfl | rfl | rfl <;> decide
  have h3 : win0_0.index t 3 = 0 := by rcases fin_N0 t with rfl | rfl | rfl | rfl | rfl | rfl | rfl | rfl <;> decide
  show V m c main_v1 ((win0_0.blk t).view.emb (Cert.Mas.ix4 j (gOf l) b (hOf l))) = V m c main_v1 (Cert.Mas.ix4 ⟨(512 * t.val + j.val) % 2048, Nat.mod_lt _ (by decide)⟩ (gOf l) b (hOf l))
  refine congrArg (V m c main_v1) (funext fun a => Fin.ext ?_)
  match a with
  | ⟨0, _⟩ => blk_simp [hi]; show t.val * 512 + j.val = (512 * t.val + j.val) % 2048; omega
  | ⟨1, _⟩ => blk_simp [h1]; rfl
  | ⟨2, _⟩ => blk_simp [h2]; rfl
  | ⟨3, _⟩ => blk_simp [h3]; rfl

/-- The body table's row at a point is the body on its staging buffers. -/
theorem row0 (t : Fin cfg0.N) : defs₀ (F := F) .tc cfg0.body (cfg0.bodyArgs t (cfg0.slots t)) = bodyAt0 t := by
  unfold defs₀; rw [Defs.onTc_tc]

/-- The body obligation: at every point the body leaves the invariant of the next, and the output window its block of the path. -/
theorem body_obligation (c : Dev nD) : BodyObligation (dats m 0 c) (defs₀ (F := F)) Variants.none () Set.univ := fun t => by
  rw [bigSep_W0, bigSep_W0, row0]
  have hb0 : ∀ d, (dats m 0 c).before 0 t d = iblk m c 0 t := before0_0_of m (dats m 0 c) rfl (fun _ => rfl) t
  show iprop(PhiS m c t.val ∗ (dats m 0 c).owesAt () t.castSucc ∗ (∃ d, owns c (st0_0 t) fullShare ((dats m 0 c).before 0 t d))
      ∗ (∃ d, owns c (st0_1 t) fullShare ((dats m 0 c).before 1 t d)))
    ⊢ wp frame (wpE (defs₀ (F := F)) Variants.none c none) Set.univ (bodyAt0 t) fun _ => iprop(PhiS m c (t.val + 1) ∗ (dats m 0 c).owesAt () t.castSucc
      ∗ owns c (st0_0 t) fullShare (iblk m c 0 t) ∗ (dats m 0 c).leavesExact 1 t)
  by_cases ht : t.val < 4
  · obtain ⟨hi, hf⟩ := idle_of t ht
    rw [Dat.leavesExact_idle (dats m 0 c) 1 t hi hf]
    unfold PhiS
    iintro ⟨⟨%X3, %X4, %X5, %X6, %X7, %X8, H3, H4, H5, H6, H7, H8, Hg, %hI⟩, Ho, ⟨%d0, H1⟩, H2⟩
    rw [hb0]
    unfold owns
    icases H1 with ⟨%X1, %e1, H1⟩
    have hx : ∀ j : Fin 512, at4 (st0_0 t).view X1 j = xs m c (512 * t.val + j.val) := fun j => by
      funext b l
      exact (congrFun e1 (Cert.Mas.ix4 j (gOf l) b (hOf l))).trans (iblk_row m c t ht j b l)
    iapply (wp_wand_r frame (wpE (defs₀ (F := F)) Variants.none c none) Set.univ)
    isplitl [H1 H3 H4 H5]
    · iapply (body_forward Variants.none c none t _ _ _ _ _ _ _ _ _ _ _ _ _ _ _ _ ht Set.univ (xs m c) X1 X3 X4 X5 X6 X7 hx hI)
      isplitl [H1]; · iexact H1
      isplitl [H3]; · iexact H3
      isplitl [H4]; · iexact H4
      iexact H5
    iintro %a ⟨%Y3, %Y4, %Y5, H1, H3, H4, H5, %hJ⟩
    isplitl [H3 H4 H5 H6 H7 H8 Hg]
    · iexists Y3; iexists Y4; iexists Y5; iexists X6; iexists X7; iexists X8
      isplitl [H3]; · iexact H3
      isplitl [H4]; · iexact H4
      isplitl [H5]; · iexact H5
      isplitl [H6]; · iexact H6
      isplitl [H7]; · iexact H7
      isplitl [H8]; · iexact H8
      isplitl [Hg]; · iexact Hg
      ipureintro; exact hJ
    isplitl [Ho]; · iexact Ho
    isplitl [H1]
    · iexists X1; isplitr; · ipureintro; exact e1
      iexact H1
    iexact H2
  · have hl : (dats m 0 c).leavesExact 1 t = owns c (st0_1 t) fullShare (outB m c t.val) := by
      unfold Dat.leavesExact; rw [live_of t (by omega)]; rfl
    rw [hl]
    unfold PhiS
    iintro ⟨⟨%X3, %X4, %X5, %X6, %X7, %X8, H3, H4, H5, H6, H7, H8, Hg, %hI⟩, Ho, ⟨%d0, H1⟩, ⟨%d1, H2⟩⟩
    rw [hb0]
    unfold owns
    icases H2 with ⟨%X2, -, H2⟩
    iapply (wp_wand_r frame (wpE (defs₀ (F := F)) Variants.none c none) Set.univ)
    isplitl [H2 H3 H6 H7 H8]
    · iapply (body_backward Variants.none c none t _ _ _ _ _ _ _ _ _ _ _ _ _ _ _ _ (by omega) Set.univ (xs m c) X2 X3 X4 X5 X6 X7 X8 hI)
      isplitl [H2]; · iexact H2
      isplitl [H3]; · iexact H3
      isplitl [H6]; · iexact H6
      isplitl [H7]; · iexact H7
      iexact H8
    iintro %a ⟨%Y2, %Y6, %Y7, %Y8, H2, H3, H6, H7, H8, %hJ⟩
    isplitl [H3 H4 H5 H6 H7 H8 Hg]
    · iexists X3; iexists X4; iexists X5; iexists Y6; iexists Y7; iexists Y8
      isplitl [H3]; · iexact H3
      isplitl [H4]; · iexact H4
      isplitl [H5]; · iexact H5
      isplitl [H6]; · iexact H6
      isplitl [H7]; · iexact H7
      isplitl [H8]; · iexact H8
      isplitl [Hg]; · iexact Hg
      ipureintro; exact hJ.2
    isplitl [Ho]; · iexact Ho
    isplitl [H1]; · iexact H1
    iexists Y2; isplitr
    · ipureintro
      funext y
      have hy : y = ixO ⟨(y 0).val, (y 0).isLt⟩ ⟨(y 1).val, (y 1).isLt⟩ ⟨(y 2).val, (y 2).isLt⟩ := funext fun a => by
        match a with
        | ⟨0, _⟩ => rfl
        | ⟨1, _⟩ => rfl
        | ⟨2, _⟩ => rfl
      exact (congrArg _ hy).trans (hJ.1 _ _ _)
    iexact H2

/-- The run: every array at the end what the proof data says, the rest as at the region's entry, the counters back at zero. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ Variants.none m ρ main
    (hbody := fun c => (body_obligation m c).loose) (hshare := fun c => (dats m 0 c).share_full fun _ => rfl) (howed := fun _ _ => rfl)
    (V := V m) (hmain := hmain m Variants.none) (hA := fun _ _ => rfl) (hin := fun c => phi_in m c) (hout := fun c => phi_out m c _)
    (Q' := fun r => Pipeline.FramePost cfgs (dats m) 0 (V m) r ∧ r.2.sem = fun _ => 0) (hQ' := fun _ h => h)

/-- The frame: the arguments end as they were, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_with_sems (frame_of m ρ (dats m) (fun _ _ => rfl)) (run_main m ρ)

/-- The result array after the run. -/
def result (c : Dev nD) : S8x2048x512.Idx → F .f32 :=
  fun y => path (xs m c) ⟨(y 0).val, (y 0).isLt⟩ (y 1).val ⟨(y 2).val, (y 2).isLt⟩

theorem arrAt_result (c : Dev nD) : (dats m 0 c).arrAt 1 cfg0.N = result m c := by
  refine (dats m 0 c).arrAt_eq_of_covers 1 _ (by decide +kernel) fun t hf y => ?_
  have ht : 4 ≤ t.val := by
    by_contra h
    rw [(idle_of t (by omega)).2] at hf
    exact absurd hf (by decide)
  have h0 : win0_1.index t 0 = 0 := by rcases fin_N0 t with rfl | rfl | rfl | rfl | rfl | rfl | rfl | rfl <;> decide
  have h1 : win0_1.index t 1 = 7 - t.val := by
    rcases fin_N0 t with rfl | rfl | rfl | rfl | rfl | rfl | rfl | rfl
    all_goals first | exact absurd ht (by decide) | decide
  have h2 : win0_1.index t 2 = 0 := by rcases fin_N0 t with rfl | rfl | rfl | rfl | rfl | rfl | rfl | rfl <;> decide
  show path (xs m c) _ _ _ = path (xs m c) _ _ _
  congr 1
  · apply Fin.ext; blk_simp [h0]
  · blk_simp [h1]; exact congrArg (· + (y 1).val) (Nat.mul_comm 512 (7 - t.val))
  · apply Fin.ext; blk_simp [h2]

end Cert.KernelIdeal.Mas

end
-- ==== Proof.KernelIdeal.Inputs.lean ====
/- The kernel's array as the region finds it: the frames' values, their lanes regrouped. -/
module

public import proofs.«01_k».proof.Proof.KernelIdeal.Launch
public import proofs.«01_k».proof.Proof.Frames
public import Idealize.ShloMosaic.Lib.Pointwise

@[expose] public section

set_option maxRecDepth 4000

noncomputable section

namespace Cert.KernelIdeal.Mas

open Idealize.ShloMosaic Idealize.ShloMosaic.TcCoe
open Idealize.SL Idealize.SL.Sem
open Cert.KernelIdeal Cert.KernelIdeal.Gen
open Cert.Mas (Row path frames atFrameLane gOf hOf)

variable {F : FTy → Type} [FloatOps F]
variable (m : (ℓ : Loc nD τ sig) → Buf (Elt F) ℓ)

/-- The index of a batch, a frame, a group and a place in it. -/
def split4 (b : Fin 8) (n : ℕ) (h : Fin 64) (g : Fin 8) : S8x2048x64x8.Idx :=
  fun | ⟨0, _⟩ => b | ⟨1, _⟩ => (⟨n % 2048, Nat.mod_lt _ (by decide)⟩ : Fin 2048) | ⟨2, _⟩ => h | ⟨3, _⟩ => g

/-- The lanes split into groups. -/
theorem split_lanes {α : Type} (A : S8x2048x512.Idx → α) (b : Fin 8) (n : ℕ) (t : Fin 512) :
    shapeCast S8x2048x64x8 A shapeCasts_S8x2048x512_S8x2048x64x8 (split4 b n (hOf t) (gOf t)) = A (atFrameLane b n t) := by
  refine shapeCast_apply A _ _ _ ?_
  rw [Shape.rowMajor_val_three, Shape.rowMajor_val_four]
  show (b.val * 2048 + n % 2048) * 512 + t.val = ((b.val * 2048 + n % 2048) * 64 + (hOf t).val) * 8 + (gOf t).val
  have : (hOf t).val = t.val / 8 := rfl
  have : (gOf t).val = t.val % 8 := rfl
  omega

/-- The kernel's frames are the argument's. -/
theorem xs_eq (c : Dev nD) : xs m c = frames (m ((c : Thread nD τ).loc main_arg0)) := by
  funext n b t
  refine Eq.trans ?_ (split_lanes (m ((c : Thread nD τ).loc main_arg0)) b n t)
  show V m c main_v1 (Cert.Mas.ix4 ⟨n % 2048, Nat.mod_lt _ (by decide)⟩ (gOf t) b (hOf t)) = _
  have e : (V m c main_v1 : S2048x8x8x64.Idx → F .f32)
      = transpose S2048x8x8x64 [1, 3, 0, 2] (shapeCast S8x2048x64x8 (m ((c : Thread nD τ).loc main_arg0)) shapeCasts_S8x2048x512_S8x2048x64x8)
        transposes_S8x2048x64x8_S2048x8x8x64_1_3_0_2 := by
    show StableHlo.after hostOps0 _ _ = _
    unfold hostOps0
    after_results
    rfl
  rw [e, Pointwise.transpose_apply]
  refine congrArg (shapeCast S8x2048x64x8 (m ((c : Thread nD τ).loc main_arg0)) shapeCasts_S8x2048x512_S8x2048x64x8) (funext fun a => ?_)
  match a with
  | ⟨0, _⟩ => rfl
  | ⟨1, _⟩ => rfl
  | ⟨2, _⟩ => rfl
  | ⟨3, _⟩ => rfl

/-- What the kernel returns: the path walked over the frames' values. -/
theorem result_main (ρ : Dev nD → PrngReg) : θ_run defs (onTc (τ := τ) (main (F := F))) ⟨m, fun _ => 0, ρ⟩ (fun r => ∀ c : Dev nD,
      r.2.mem ((c.tc : Thread nD τ).loc main_v2)
        = (fun y : S8x2048x512.Idx => path (frames (m ((c : Thread nD τ).loc main_arg0))) (y 0) (y 1).val (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine (((h.1 c).1 1).trans (arrAt_result m c)).trans ?_
    unfold result
    rw [xs_eq]
    rfl
  · exact ((h.1 c).2 main_arg0 (Pipeline.mem_restRefs_of main_arg0 (by decide) (by decide))).trans (V_main_arg0 m c)
  · exact ((h.1 c).2 main_arg1 (Pipeline.mem_restRefs_of main_arg1 (by decide) (by decide))).trans (V_main_arg1 m c)

end Cert.KernelIdeal.Mas

end
-- ==== Proof.ReferenceIdeal.Lists.lean ====
/- The reference's operations as lists: the stretches outside its two loops, the loops' bodies and tests, what each writes. -/
module

public import proofs.«01_k».proof.Proof.Gen.ReferenceIdeal
public import Idealize.ShloMosaic.Lib.Pipeline.Regions
public import Idealize.ShloMosaic.Lib.StableHlo.RunLoop

@[expose] public section

set_option maxRecDepth 4000

noncomputable section

namespace Cert.ReferenceIdeal.Mas

open Idealize.ShloMosaic Idealize.ShloMosaic.TcCoe
open Idealize.SL Idealize.SL.Sem
open Cert.ReferenceIdeal.Gen

variable {F : FTy → Type} [FloatOps F]

/-- 28 operations outside the loops. -/
abbrev entryOps : List (HloOp τ sig (Elt F)) :=
  [ StableHlo.binary main_arg0 main_arg1 main_v0 (mulf : (⟨S8x2048x512, .f32⟩ : BufTy).Contents (Elt F) → (⟨S8x2048x512, .f32⟩ : BufTy).Contents (Elt F) → (⟨S8x2048x512, .f32⟩ : BufTy).Contents (Elt F)),
    StableHlo.nullary main_cst (constant S_ .f32 0x00000000#32),
    StableHlo.binary main_arg1 main_cst main_v1 ((fun x v => Host.reduceAdd x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    StableHlo.unary main_v1 main_v2 ((extractStridedSlice S8x1 ![0, 0] · slices_S8x2048_S8x1_0_0) : (⟨S8x2048, .f32⟩ : BufTy).Contents (Elt F) → (⟨S8x1, .f32⟩ : BufTy).Contents (Elt F)),
    StableHlo.reshape main_v2 main_v3 (rfl : (.f32 : EltTy) = .f32) shapeCasts_S8x1_S8,
    StableHlo.unary main_v3 main_v4 (fptosi 32 : (⟨S8, .f32⟩ : BufTy).Contents (Elt F) → (⟨S8, .i32⟩ : BufTy).Contents (Elt F)),
    StableHlo.nullary main_cst_0 (constant S_ .f32 0x00000000#32),
    StableHlo.binary main_arg1 main_cst_0 main_v5 ((fun x v => Host.reduceAdd x v reducesTo_S8x2048x512_S8x512_d1 h_S_) : (⟨S8x2048x512, .f32⟩ : BufTy).Contents (Elt F) → (⟨S_, .f32⟩ : BufTy).Contents (Elt F) → (⟨S8x512, .f32⟩ : BufTy).Contents (Elt F)),
    StableHlo.unary main_v5 main_v6 ((extractStridedSlice S8x1 ![0, 0] · slices_S8x512_S8x1_0_0) : (⟨S8x512, .f32⟩ : BufTy).Contents (Elt F) → (⟨S8x1, .f32⟩ : BufTy).Contents (Elt F)),
    StableHlo.reshape main_v6 main_v7 (rfl : (.f32 : EltTy) = .f32) shapeCasts_S8x1_S8,
    StableHlo.unary main_v7 main_v8 (fptosi 32 : (⟨S8, .f32⟩ : BufTy).Contents (Elt F) → (⟨S8, .i32⟩ : BufTy).Contents (Elt F)),
    StableHlo.nullary main_v9 (iotaInDim S512 32 0),
    StableHlo.unary main_v9 main_v10 (broadcastInDim S1x512 ![1] bcast_S512_S1x512_1 : (⟨S512, .i32⟩ : BufTy).Contents (Elt F) → (⟨S1x512, .i32⟩ : BufTy).Contents (Elt F)),
    StableHlo.unary main_v0 main_v11 ((extractStridedSlice S8x1x512 ![0, 2047, 0] · slices_S8x2048x512_S8x1x512_0_2047_0) : (⟨S8x2048x512, .f32⟩ : BufTy).Contents (Elt F) → (⟨S8x1x512, .f32⟩ : BufTy).Contents (Elt F)),
    StableHlo.reshape main_v11 main_v12 (rfl : (.f32 : EltTy) = .f32) shapeCasts_S8x1x512_S8x512,
    StableHlo.nullary main_v13 (iotaInDim S2048 32 0),
    StableHlo.unary main_v0 main_v14 ((transpose S2048x8x512 [1, 0, 2] · transposes_S8x2048x512_S2048x8x512_1_0_2) : (⟨S8x2048x512, .f32⟩ : BufTy).Contents (Elt F) → (⟨S2048x8x512, .f32⟩ : BufTy).Contents (Elt F)),
    StableHlo.nullary main_cst_1 (constant S_ .f32 0x00000000#32),
    StableHlo.unary main_cst_1 main_v15 (broadcastInDim S2048x8x512 ![] bcast_S_S2048x8x512 : (⟨S_, .f32⟩ : BufTy).Contents (Elt F) → (⟨S2048x8x512, .f32⟩ : BufTy).Contents (Elt F)),
    StableHlo.nullary main_c (constantI S_ 32 0#32),
    StableHlo.unary main_v13 main_v16_0 id,
    StableHlo.unary main_v14 main_v16_1 id,
    StableHlo.unary main_v4 main_v16_2 id,
    StableHlo.unary main_v8 main_v16_3 id,
    StableHlo.unary main_v10 main_v16_4 id,
    StableHlo.unary main_c main_v16_5 id,
    StableHlo.unary main_v12 main_v16_6 id,
    StableHlo.unary main_v15 main_v16_7 id ]
theorem entryOps_sub : (entryOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.reshape_bufs_sub .., StableHlo.unary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 19 operations outside the loops. -/
abbrev midOps : List (HloOp τ sig (Elt F)) :=
  [ StableHlo.nullary main_v17 (iotaInDim S8 32 0),
    StableHlo.nullary main_v18 (iotaInDim S8x2048x512 32 1),
    StableHlo.nullary main_v19 (iotaInDim S8x2048x512 32 2),
    StableHlo.nullary main_c_2 (constantI S_ 32 0#32),
    StableHlo.unary main_c_2 main_v20 (broadcastInDim S8x2048x512 ![] bcast_S_S8x2048x512 : (⟨S_, .i32⟩ : BufTy).Contents (Elt F) → (⟨S8x2048x512, .i32⟩ : BufTy).Contents (Elt F)),
    StableHlo.nullary main_c_3 (constantI S_ 32 1#32),
    StableHlo.unary main_c_3 main_v21 (broadcastInDim S8 ![] bcast_S_S8 : (⟨S_, .i32⟩ : BufTy).Contents (Elt F) → (⟨S8, .i32⟩ : BufTy).Contents (Elt F)),
    StableHlo.binary main_v4 main_v21 main_v22 (subi : (⟨S8, .i32⟩ : BufTy).Contents (Elt F) → (⟨S8, .i32⟩ : BufTy).Contents (Elt F) → (⟨S8, .i32⟩ : BufTy).Contents (Elt F)),
    StableHlo.nullary main_c_4 (constantI S_ 32 0#32),
    StableHlo.nullary main_c_5 (constantI S_ 32 0#32),
    StableHlo.unary main_v8 main_v23_0 id,
    StableHlo.unary main_v18 main_v23_1 id,
    StableHlo.unary main_v19 main_v23_2 id,
    StableHlo.unary main_v17 main_v23_3 id,
    StableHlo.unary main_v16_7 main_v23_4 id,
    StableHlo.unary main_c_5 main_v23_5 id,
    StableHlo.unary main_c_4 main_v23_6 id,
    StableHlo.unary main_v20 main_v23_7 id,
    StableHlo.unary main_v22 main_v23_8 id ]
theorem midOps_sub : (midOps : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 1 operations outside the loops. -/
abbrev lastOps : List (HloOp τ sig (Elt F)) :=
  [ StableHlo.unary main_v23_7 main_v24 (sitofp .f32 : (⟨S8x2048x512, .i32⟩ : BufTy).Contents (Elt F) → (⟨S8x2048x512, .f32⟩ : BufTy).Contents (Elt F)) ]
theorem lastOps_sub : (lastOps : List (HloOp τ sig (Elt F))).Forall fun op => op.bufs ⊆ StableHlo.tcRefs τ sig :=
  StableHlo.unary_bufs_sub ..
/-- The program runs its stretches and its two loops in order. -/
theorem main_chain (c : Dev nD) : main (F := F) c = (Pipeline.chain
  [ StableHlo.seq entryOps,
    HostLoop.enter 0,
    StableHlo.seq midOps,
    HostLoop.enter 1,
    StableHlo.seq lastOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- 2 operations: a call of `dynamic_index_in_dim` in a body. -/
abbrev fwdOps : List (HloOp τ sig (Elt F)) :=
  [ StableHlo.TRef.unaryIndexed (.of main_v16_0 : StableHlo.TRef sig ⟨S2048, .i32⟩) ![(.of main_v16_5 : StableHlo.TRef sig ⟨S_, .i32⟩)] (.of main_while0b_call0_v0 : StableHlo.TRef sig ⟨S1, .i32⟩) (fun x i => Host.dynamicSlice S1 x (fun k => (i k (Shape.Idx.first h_S_)).toInt) sliceFits_S2048_S1),
    StableHlo.TRef.reshape (.of main_while0b_call0_v0 : StableHlo.TRef sig ⟨S1, .i32⟩) (.of main_while0b_v25 : StableHlo.TRef sig ⟨S_, .i32⟩) (rfl : (.i32 : EltTy) = .i32) shapeCasts_S1_S_ ]
theorem fwdOps_sub : (fwdOps : List (HloOp τ sig (Elt F))).Forall fun op => op.bufs ⊆ StableHlo.tcRefs τ sig :=
  ⟨StableHlo.unaryIndexed_bufs_sub .., StableHlo.reshape_bufs_sub ..⟩
/-- 4 operations: a call of `dynamic_index_in_dim_0` in a body. -/
abbrev fwdOps_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v16_1 : StableHlo.TRef sig ⟨S2048x8x512, .f32⟩) ![(.of main_v16_5 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x8x512, .f32⟩) (fun x i => Host.dynamicSlice S1x8x512 x (fun k => (i k (Shape.Idx.first h_S_)).toInt) sliceFits_S2048x8x512_S1x8x512),
    StableHlo.TRef.reshape (.of main_while0b_call1_v0 : StableHlo.TRef sig ⟨S1x8x512, .f32⟩) (.of main_while0b_v26 : StableHlo.TRef sig ⟨S8x512, .f32⟩) (rfl : (.f32 : EltTy) = .f32) shapeCasts_S1x8x512_S8x512 ]
theorem fwdOps_1_sub : (fwdOps_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 27 operations of a body. -/
abbrev fwdOps_2 : List (HloOp τ sig (Elt F)) :=
  [ StableHlo.unary main_while0b_v25 main_while0b_v27 (broadcastInDim S8 ![] bcast_S_S8 : (⟨S_, .i32⟩ : BufTy).Contents (Elt F) → (⟨S8, .i32⟩ : BufTy).Contents (Elt F)),
    StableHlo.binary main_v16_2 main_while0b_v27 main_while0b_v28 (addi : (⟨S8, .i32⟩ : BufTy).Contents (Elt F) → (⟨S8, .i32⟩ : BufTy).Contents (Elt F) → (⟨S8, .i32⟩ : BufTy).Contents (Elt F)),
    StableHlo.binary main_while0b_v28 main_v16_3 main_while0b_v29 (subi : (⟨S8, .i32⟩ : BufTy).Contents (Elt F) → (⟨S8, .i32⟩ : BufTy).Contents (Elt F) → (⟨S8, .i32⟩ : BufTy).Contents (Elt F)),
    StableHlo.nullary main_while0b_c_13 (constantI S_ 32 0#32),
    StableHlo.unary main_while0b_c_13 main_while0b_v30 (broadcastInDim S8 ![] bcast_S_S8 : (⟨S_, .i32⟩ : BufTy).Contents (Elt F) → (⟨S8, .i32⟩ : BufTy).Contents (Elt F)),
    StableHlo.binary main_while0b_v30 main_while0b_v29 main_while0b_v31 (maxsi : (⟨S8, .i32⟩ : BufTy).Contents (Elt F) → (⟨S8, .i32⟩ : BufTy).Contents (Elt F) → (⟨S8, .i32⟩ : BufTy).Contents (Elt F)),
    StableHlo.unary main_while0b_v31 main_while0b_v32 (broadcastInDim S8x1 ![0] bcast_S8_S8x1_0 : (⟨S8, .i32⟩ : BufTy).Contents (Elt F) → (⟨S8x1, .i32⟩ : BufTy).Contents (Elt F)),
    StableHlo.nullary main_while0b_c_14 (constantI S_ 32 1#32),
    StableHlo.binary main_while0b_v25 main_while0b_c_14 main_while0b_v33 (addi : (⟨S_, .i32⟩ : BufTy).Contents (Elt F) → (⟨S_, .i32⟩ : BufTy).Contents (Elt F) → (⟨S_, .i32⟩ : BufTy).Contents (Elt F)),
    StableHlo.unary main_while0b_v33 main_while0b_v34 (broadcastInDim S8 ![] bcast_S_S8 : (⟨S_, .i32⟩ : BufTy).Contents (Elt F) → (⟨S8, .i32⟩ : BufTy).Contents (Elt F)),
    StableHlo.binary main_v16_2 main_while0b_v34 main_while0b_v35 (minsi : (⟨S8, .i32⟩ : BufTy).Contents (Elt F) → (⟨S8, .i32⟩ : BufTy).Contents (Elt F) → (⟨S8, .i32⟩ : BufTy).Contents (Elt F)),
    StableHlo.unary main_while0b_v35 main_while0b_v36 (broadcastInDim S8x1 ![0] bcast_S8_S8x1_0 : (⟨S8, .i32⟩ : BufTy).Contents (Elt F) → (⟨S8x1, .i32⟩ : BufTy).Contents (Elt F)),
    StableHlo.unary main_v16_4 main_while0b_v37 (broadcastInDim S8x512 ![0, 1] bcast_S1x512_S8x512_0_1 : (⟨S1x512, .i32⟩ : BufTy).Contents (Elt F) → (⟨S8x512, .i32⟩ : BufTy).Contents (Elt F)),
    StableHlo.unary main_while0b_v32 main_while0b_v38 (broadcastInDim S8x512 ![0, 1] bcast_S8x1_S8x512_0_1 : (⟨S8x1, .i32⟩ : BufTy).Contents (Elt F) → (⟨S8x512, .i32⟩ : BufTy).Contents (Elt F)),
    StableHlo.binary main_while0b_v37 main_while0b_v38 main_while0b_v39 (cmpi .sge : (⟨S8x512, .i32⟩ : BufTy).Contents (Elt F) → (⟨S8x512, .i32⟩ : BufTy).Contents (Elt F) → (⟨S8x512, .i1⟩ : BufTy).Contents (Elt F)),
    StableHlo.unary main_v16_4 main_while0b_v40 (broadcastInDim S8x512 ![0, 1] bcast_S1x512_S8x512_0_1 : (⟨S1x512, .i32⟩ : BufTy).Contents (Elt F) → (⟨S8x512, .i32⟩ : BufTy).Contents (Elt F)),
    StableHlo.unary main_while0b_v36 main_while0b_v41 (broadcastInDim S8x512 ![0, 1] bcast_S8x1_S8x512_0_1 : (⟨S8x1, .i32⟩ : BufTy).Contents (Elt F) → (⟨S8x512, .i32⟩ : BufTy).Contents (Elt F)),
    StableHlo.binary main_while0b_v40 main_while0b_v41 main_while0b_v42 (cmpi .slt : (⟨S8x512, .i32⟩ : BufTy).Contents (Elt F) → (⟨S8x512, .i32⟩ : BufTy).Contents (Elt F) → (⟨S8x512, .i1⟩ : BufTy).Contents (Elt F)),
    StableHlo.binary main_while0b_v39 main_while0b_v42 main_while0b_v43 (andi : (⟨S8x512, .i1⟩ : BufTy).Contents (Elt F) → (⟨S8x512, .i1⟩ : BufTy).Contents (Elt F) → (⟨S8x512, .i1⟩ : BufTy).Contents (Elt F)),
    StableHlo.unary main_while0b_v25 main_while0b_v44 (broadcastInDim S8 ![] bcast_S_S8 : (⟨S_, .i32⟩ : BufTy).Contents (Elt F) → (⟨S8, .i32⟩ : BufTy).Contents (Elt F)),
    StableHlo.binary main_while0b_v44 main_v16_3 main_while0b_v45 (cmpi .slt : (⟨S8, .i32⟩ : BufTy).Contents (Elt F) → (⟨S8, .i32⟩ : BufTy).Contents (Elt F) → (⟨S8, .i1⟩ : BufTy).Contents (Elt F)),
    StableHlo.unary main_while0b_v45 main_while0b_v46 (broadcastInDim S8x1 ![0] bcast_S8_S8x1_0 : (⟨S8, .i1⟩ : BufTy).Contents (Elt F) → (⟨S8x1, .i1⟩ : BufTy).Contents (Elt F)),
    StableHlo.unary main_while0b_v46 main_while0b_v47 (broadcastInDim S8x512 ![0, 1] bcast_S8x1_S8x512_0_1 : (⟨S8x1, .i1⟩ : BufTy).Contents (Elt F) → (⟨S8x512, .i1⟩ : BufTy).Contents (Elt F)),
    StableHlo.binary main_while0b_v43 main_while0b_v47 main_while0b_v48 (andi : (⟨S8x512, .i1⟩ : BufTy).Contents (Elt F) → (⟨S8x512, .i1⟩ : BufTy).Contents (Elt F) → (⟨S8x512, .i1⟩ : BufTy).Contents (Elt F)),
    StableHlo.unary main_while0b_v25 main_while0b_v49 (broadcastInDim S1x512 ![] bcast_S_S1x512 : (⟨S_, .i32⟩ : BufTy).Contents (Elt F) → (⟨S1x512, .i32⟩ : BufTy).Contents (Elt F)),
    StableHlo.binary main_v16_4 main_while0b_v49 main_while0b_v50 (cmpi .eq : (⟨S1x512, .i32⟩ : BufTy).Contents (Elt F) → (⟨S1x512, .i32⟩ : BufTy).Contents (Elt F) → (⟨S1x512, .i1⟩ : BufTy).Contents (Elt F)),
    StableHlo.nullary main_while0b_cst_15 (constant S_ .f32 0xCE6E6B28#32) ]
theorem fwdOps_2_sub : (fwdOps_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub ..⟩
/-- 4 operations: a call of `_where` in a body. -/
abbrev fwdOps_3 : List (HloOp τ sig (Elt F)) :=
  [ StableHlo.TRef.unary (.of main_while0b_cst_15 : StableHlo.TRef sig ⟨S_, .f32⟩) (.of main_while0b_call2_v0 : StableHlo.TRef sig ⟨S_, .f32⟩) id,
    StableHlo.TRef.unary (.of main_while0b_v50 : StableHlo.TRef sig ⟨S1x512, .i1⟩) (.of main_while0b_call2_v1 : StableHlo.TRef sig ⟨S8x512, .i1⟩) (broadcastInDim S8x512 ![0, 1] bcast_S1x512_S8x512_0_1),
    StableHlo.TRef.unary (.of main_while0b_call2_v0 : StableHlo.TRef sig ⟨S_, .f32⟩) (.of main_while0b_call2_v2 : StableHlo.TRef sig ⟨S8x512, .f32⟩) (broadcastInDim S8x512 ![] bcast_S_S8x512),
    StableHlo.TRef.ternary (.of main_while0b_call2_v1 : StableHlo.TRef sig ⟨S8x512, .i1⟩) (.of main_while0b_call2_v2 : StableHlo.TRef sig ⟨S8x512, .f32⟩) (.of main_v16_6 : StableHlo.TRef sig ⟨S8x512, .f32⟩) (.of main_while0b_v51 : StableHlo.TRef sig ⟨S8x512, .f32⟩) select ]
theorem fwdOps_3_sub : (fwdOps_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 4 operations of a body. -/
abbrev fwdOps_4 : List (HloOp τ sig (Elt F)) :=
  [ StableHlo.nullary main_while0b_c_16 (constantI S_ 32 0#32),
    StableHlo.binary main_while0b_v25 main_while0b_c_16 main_while0b_v52 (cmpi .eq : (⟨S_, .i32⟩ : BufTy).Contents (Elt F) → (⟨S_, .i32⟩ : BufTy).Contents (Elt F) → (⟨S_, .i1⟩ : BufTy).Contents (Elt F)),
    StableHlo.nullary main_while0b_cst_17 (constant S_ .f32 0x00000000#32),
    StableHlo.nullary main_while0b_cst_18 (constant S_ .f32 0xCE6E6B28#32) ]
theorem fwdOps_4_sub : (fwdOps_4 : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub ..⟩
/-- 1 operations: a call of `_where_1` in a body. -/
abbrev fwdOps_5 : List (HloOp τ sig (Elt F)) :=
  [ StableHlo.TRef.ternary (.of main_while0b_v52 : StableHlo.TRef sig ⟨S_, .i1⟩) (.of main_while0b_cst_17 : StableHlo.TRef sig ⟨S_, .f32⟩) (.of main_while0b_cst_18 : StableHlo.TRef sig ⟨S_, .f32⟩) (.of main_while0b_v53 : StableHlo.TRef sig ⟨S_, .f32⟩) select ]
theorem fwdOps_5_sub : (fwdOps_5 : List (HloOp τ sig (Elt F))).Forall fun op => op.bufs ⊆ StableHlo.tcRefs τ sig :=
  StableHlo.ternary_bufs_sub ..
/-- 5 operations of a body. -/
abbrev fwdOps_6 : List (HloOp τ sig (Elt F)) :=
  [ StableHlo.unary main_while0b_v53 main_while0b_v54 (broadcastInDim S8x1 ![] bcast_S_S8x1 : (⟨S_, .f32⟩ : BufTy).Contents (Elt F) → (⟨S8x1, .f32⟩ : BufTy).Contents (Elt F)),
    StableHlo.unary main_v16_6 main_while0b_v55 ((extractStridedSlice S8x511 ![0, 0] · slices_S8x512_S8x511_0_0) : (⟨S8x512, .f32⟩ : BufTy).Contents (Elt F) → (⟨S8x511, .f32⟩ : BufTy).Contents (Elt F)),
    StableHlo.binary main_while0b_v54 main_while0b_v55 main_while0b_v56 ((fun a b => concatenate S8x512 1 [⟨S8x1, a⟩, ⟨S8x511, b⟩] concatenates_S8x1_S8x511_S8x512_d1) : (⟨S8x1, .f32⟩ : BufTy).Contents (Elt F) → (⟨S8x511, .f32⟩ : BufTy).Contents (Elt F) → (⟨S8x512, .f32⟩ : BufTy).Contents (Elt F)),
    StableHlo.binary main_while0b_v56 main_while0b_v51 main_while0b_v57 (maximumf : (⟨S8x512, .f32⟩ : BufTy).Contents (Elt F) → (⟨S8x512, .f32⟩ : BufTy).Contents (Elt F) → (⟨S8x512, .f32⟩ : BufTy).Contents (Elt F)),
    StableHlo.binary main_while0b_v26 main_while0b_v57 main_while0b_v58 (addf : (⟨S8x512, .f32⟩ : BufTy).Contents (Elt F) → (⟨S8x512, .f32⟩ : BufTy).Contents (Elt F) → (⟨S8x512, .f32⟩ : BufTy).Contents (Elt F)) ]
theorem fwdOps_6_sub : (fwdOps_6 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub ..⟩
/-- 1 operations: a call of `_where_2` in a body. -/
abbrev fwdOps_7 : List (HloOp τ sig (Elt F)) :=
  [ StableHlo.TRef.ternary (.of main_while0b_v48 : StableHlo.TRef sig ⟨S8x512, .i1⟩) (.of main_while0b_v58 : StableHlo.TRef sig ⟨S8x512, .f32⟩) (.of main_while0b_v26 : StableHlo.TRef sig ⟨S8x512, .f32⟩) (.of main_while0b_v59 : StableHlo.TRef sig ⟨S8x512, .f32⟩) select ]
theorem fwdOps_7_sub : (fwdOps_7 : List (HloOp τ sig (Elt F))).Forall fun op => op.bufs ⊆ StableHlo.tcRefs τ sig :=
  StableHlo.ternary_bufs_sub ..
/-- 4 operations: a call of `dynamic_update_index_in_dim` in a body. -/
abbrev fwdOps_8 : List (HloOp τ sig (Elt F)) :=
  [ StableHlo.TRef.unary (.of main_while0b_v59 : StableHlo.TRef sig ⟨S8x512, .f32⟩) (.of main_while0b_call5_v0 : StableHlo.TRef sig ⟨S1x8x512, .f32⟩) (broadcastInDim S1x8x512 ![1, 2] bcast_S8x512_S1x8x512_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v16_7 : StableHlo.TRef sig ⟨S2048x8x512, .f32⟩) (.of main_while0b_call5_v0 : StableHlo.TRef sig ⟨S1x8x512, .f32⟩) ![(.of main_v16_5 : StableHlo.TRef sig ⟨S_, .i32⟩), (.of main_while0b_call5_c : StableHlo.TRef sig ⟨S_, .i32⟩), (.of main_while0b_call5_c_0 : StableHlo.TRef sig ⟨S_, .i32⟩)] (.of main_while0b_v60 : StableHlo.TRef sig ⟨S2048x8x512, .f32⟩) (fun x u i => Host.dynamicUpdateSlice x u (fun k => (i k (Shape.Idx.first h_S_)).toInt) updateFits_S2048x8x512_S1x8x512) ]
theorem fwdOps_8_sub : (fwdOps_8 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 operations of a body. -/
abbrev fwdOps_9 : List (HloOp τ sig (Elt F)) :=
  [ StableHlo.nullary main_while0b_c_19 (constantI S_ 32 1#32),
    StableHlo.binary main_v16_5 main_while0b_c_19 main_while0b_v61 (addi : (⟨S_, .i32⟩ : BufTy).Contents (Elt F) → (⟨S_, .i32⟩ : BufTy).Contents (Elt F) → (⟨S_, .i32⟩ : BufTy).Contents (Elt F)),
    StableHlo.unary main_while0b_v61 main_v16_5 id,
    StableHlo.unary main_while0b_v59 main_v16_6 id,
    StableHlo.unary main_while0b_v60 main_v16_7 id ]
theorem fwdOps_9_sub : (fwdOps_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- A loop's body runs its stretches in order. -/
theorem while0_body_chain : main_while0_body (F := F) = (Pipeline.chain
  [ StableHlo.seq fwdOps,
    StableHlo.seq fwdOps_1,
    StableHlo.seq fwdOps_2,
    StableHlo.seq fwdOps_3,
    StableHlo.seq fwdOps_4,
    StableHlo.seq fwdOps_5,
    StableHlo.seq fwdOps_6,
    StableHlo.seq fwdOps_7,
    StableHlo.seq fwdOps_8,
    StableHlo.seq fwdOps_9 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

/-- 8 operations of a body. -/
abbrev backOps : List (HloOp τ sig (Elt F)) :=
  [ StableHlo.nullary main_while1b_c_14 (constantI S_ 32 1#32),
    StableHlo.binary main_v23_6 main_while1b_c_14 main_while1b_v25 (addi : (⟨S_, .i32⟩ : BufTy).Contents (Elt F) → (⟨S_, .i32⟩ : BufTy).Contents (Elt F) → (⟨S_, .i32⟩ : BufTy).Contents (Elt F)),
    StableHlo.nullary main_while1b_c_15 (constantI S_ 32 2047#32),
    StableHlo.binary main_while1b_c_15 main_v23_6 main_while1b_v26 (subi : (⟨S_, .i32⟩ : BufTy).Contents (Elt F) → (⟨S_, .i32⟩ : BufTy).Contents (Elt F) → (⟨S_, .i32⟩ : BufTy).Contents (Elt F)),
    StableHlo.unary main_while1b_v26 main_while1b_v27 (id : (⟨S_, .i32⟩ : BufTy).Contents (Elt F) → (⟨S_, .i32⟩ : BufTy).Contents (Elt F)),
    StableHlo.unary main_while1b_v27 main_while1b_v28 (broadcastInDim S8 ![] bcast_S_S8 : (⟨S_, .i32⟩ : BufTy).Contents (Elt F) → (⟨S8, .i32⟩ : BufTy).Contents (Elt F)),
    StableHlo.binary main_while1b_v28 main_v23_0 main_while1b_v29 (cmpi .slt : (⟨S8, .i32⟩ : BufTy).Contents (Elt F) → (⟨S8, .i32⟩ : BufTy).Contents (Elt F) → (⟨S8, .i1⟩ : BufTy).Contents (Elt F)),
    StableHlo.nullary main_while1b_c_16 (constantI S_ 32 512#32) ]
theorem backOps_sub : (backOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub ..⟩
/-- 21 operations: a call of `remainder` in a body. -/
abbrev backOps_1 : List (HloOp τ sig (Elt F)) :=
  [ StableHlo.TRef.unary (.of main_while1b_c_16 : StableHlo.TRef sig ⟨S_, .i32⟩) (.of main_while1b_call6_v0 : StableHlo.TRef sig ⟨S_, .i32⟩) id,
    StableHlo.TRef.nullary (.of main_while1b_call6_c : StableHlo.TRef sig ⟨S_, .i32⟩) (constantI S_ 32 0#32),
    StableHlo.TRef.binary (.of main_while1b_call6_v0 : StableHlo.TRef sig ⟨S_, .i32⟩) (.of main_while1b_call6_c : StableHlo.TRef sig ⟨S_, .i32⟩) (.of main_while1b_call6_v1 : StableHlo.TRef sig ⟨S_, .i1⟩) (cmpi .eq),
    StableHlo.TRef.nullary (.of main_while1b_call6_c_0 : StableHlo.TRef sig ⟨S_, .i32⟩) (constantI S_ 32 1#32),
    StableHlo.TRef.ternary (.of main_while1b_call6_v1 : StableHlo.TRef sig ⟨S_, .i1⟩) (.of main_while1b_call6_c_0 : StableHlo.TRef sig ⟨S_, .i32⟩) (.of main_while1b_call6_v0 : StableHlo.TRef sig ⟨S_, .i32⟩) (.of main_while1b_call6_v2 : StableHlo.TRef sig ⟨S_, .i32⟩) select,
    StableHlo.TRef.unary main_while1b_call6_call0.v0 (.of main_while1b_call6_v3 : StableHlo.TRef sig ⟨S8, .i32⟩) (broadcastInDim S8 ![] bcast_S_S8),
    StableHlo.TRef.binary (.of main_v23_8 : StableHlo.TRef sig ⟨S8, .i32⟩) (.of main_while1b_call6_v3 : StableHlo.TRef sig ⟨S8, .i32⟩) (.of main_while1b_call6_v4 : StableHlo.TRef sig ⟨S8, .i32⟩) Host.remsi,
    StableHlo.TRef.nullary (.of main_while1b_call6_c_1 : StableHlo.TRef sig ⟨S_, .i32⟩) (constantI S_ 32 0#32),
    StableHlo.TRef.unary (.of main_while1b_call6_c_1 : StableHlo.TRef sig ⟨S_, .i32⟩) (.of main_while1b_call6_v5 : StableHlo.TRef sig ⟨S8, .i32⟩) (broadcastInDim S8 ![] bcast_S_S8),
    StableHlo.TRef.binary (.of main_while1b_call6_v4 : StableHlo.TRef sig ⟨S8, .i32⟩) (.of main_while1b_call6_v5 : StableHlo.TRef sig ⟨S8, .i32⟩) (.of main_while1b_call6_v6 : StableHlo.TRef sig ⟨S8, .i1⟩) (cmpi .ne),
    StableHlo.TRef.nullary (.of main_while1b_call6_c_2 : StableHlo.TRef sig ⟨S_, .i32⟩) (constantI S_ 32 0#32),
    StableHlo.TRef.unary (.of main_while1b_call6_c_2 : StableHlo.TRef sig ⟨S_, .i32⟩) (.of main_while1b_call6_v7 : StableHlo.TRef sig ⟨S8, .i32⟩) (broadcastInDim S8 ![] bcast_S_S8),
    StableHlo.TRef.binary (.of main_while1b_call6_v4 : StableHlo.TRef sig ⟨S8, .i32⟩) (.of main_while1b_call6_v7 : StableHlo.TRef sig ⟨S8, .i32⟩) (.of main_while1b_call6_v8 : StableHlo.TRef sig ⟨S8, .i1⟩) (cmpi .slt),
    StableHlo.TRef.nullary (.of main_while1b_call6_c_3 : StableHlo.TRef sig ⟨S_, .i32⟩) (constantI S_ 32 0#32),
    StableHlo.TRef.binary main_while1b_call6_call0.v0 (.of main_while1b_call6_c_3 : StableHlo.TRef sig ⟨S_, .i32⟩) (.of main_while1b_call6_v9 : StableHlo.TRef sig ⟨S_, .i1⟩) (cmpi .slt),
    StableHlo.TRef.unary (.of main_while1b_call6_v9 : StableHlo.TRef sig ⟨S_, .i1⟩) (.of main_while1b_call6_v10 : StableHlo.TRef sig ⟨S8, .i1⟩) (broadcastInDim S8 ![] bcast_S_S8),
    StableHlo.TRef.binary (.of main_while1b_call6_v8 : StableHlo.TRef sig ⟨S8, .i1⟩) (.of main_while1b_call6_v10 : StableHlo.TRef sig ⟨S8, .i1⟩) (.of main_while1b_call6_v11 : StableHlo.TRef sig ⟨S8, .i1⟩) (cmpi .ne),
    StableHlo.TRef.binary (.of main_while1b_call6_v11 : StableHlo.TRef sig ⟨S8, .i1⟩) (.of main_while1b_call6_v6 : StableHlo.TRef sig ⟨S8, .i1⟩) (.of main_while1b_call6_v12 : StableHlo.TRef sig ⟨S8, .i1⟩) andi,
    StableHlo.TRef.unary main_while1b_call6_call0.v0 (.of main_while1b_call6_v13 : StableHlo.TRef sig ⟨S8, .i32⟩) (broadcastInDim S8 ![] bcast_S_S8),
    StableHlo.TRef.binary (.of main_while1b_call6_v4 : StableHlo.TRef sig ⟨S8, .i32⟩) (.of main_while1b_call6_v13 : StableHlo.TRef sig ⟨S8, .i32⟩) (.of main_while1b_call6_v14 : StableHlo.TRef sig ⟨S8, .i32⟩) addi,
    StableHlo.TRef.ternary (.of main_while1b_call6_v12 : StableHlo.TRef sig ⟨S8, .i1⟩) (.of main_while1b_call6_v14 : StableHlo.TRef sig ⟨S8, .i32⟩) (.of main_while1b_call6_v4 : StableHlo.TRef sig ⟨S8, .i32⟩) (.of main_while1b_v30 : StableHlo.TRef sig ⟨S8, .i32⟩) select ]
theorem backOps_1_sub : (backOps_1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 11 operations of a body. -/
abbrev backOps_2 : List (HloOp τ sig (Elt F)) :=
  [ StableHlo.unary main_while1b_v26 main_while1b_v31 (id : (⟨S_, .i32⟩ : BufTy).Contents (Elt F) → (⟨S_, .i32⟩ : BufTy).Contents (Elt F)),
    StableHlo.unary main_while1b_v31 main_while1b_v32 (broadcastInDim S8x2048x512 ![] bcast_S_S8x2048x512 : (⟨S_, .i32⟩ : BufTy).Contents (Elt F) → (⟨S8x2048x512, .i32⟩ : BufTy).Contents (Elt F)),
    StableHlo.binary main_v23_1 main_while1b_v32 main_while1b_v33 (cmpi .eq : (⟨S8x2048x512, .i32⟩ : BufTy).Contents (Elt F) → (⟨S8x2048x512, .i32⟩ : BufTy).Contents (Elt F) → (⟨S8x2048x512, .i1⟩ : BufTy).Contents (Elt F)),
    StableHlo.unary main_while1b_v30 main_while1b_v34 (broadcastInDim S8x1x1 ![0] bcast_S8_S8x1x1_0 : (⟨S8, .i32⟩ : BufTy).Contents (Elt F) → (⟨S8x1x1, .i32⟩ : BufTy).Contents (Elt F)),
    StableHlo.unary main_while1b_v34 main_while1b_v35 (broadcastInDim S8x2048x512 ![0, 1, 2] bcast_S8x1x1_S8x2048x512_0_1_2 : (⟨S8x1x1, .i32⟩ : BufTy).Contents (Elt F) → (⟨S8x2048x512, .i32⟩ : BufTy).Contents (Elt F)),
    StableHlo.binary main_v23_2 main_while1b_v35 main_while1b_v36 (cmpi .eq : (⟨S8x2048x512, .i32⟩ : BufTy).Contents (Elt F) → (⟨S8x2048x512, .i32⟩ : BufTy).Contents (Elt F) → (⟨S8x2048x512, .i1⟩ : BufTy).Contents (Elt F)),
    StableHlo.binary main_while1b_v33 main_while1b_v36 main_while1b_v37 (andi : (⟨S8x2048x512, .i1⟩ : BufTy).Contents (Elt F) → (⟨S8x2048x512, .i1⟩ : BufTy).Contents (Elt F) → (⟨S8x2048x512, .i1⟩ : BufTy).Contents (Elt F)),
    StableHlo.unary main_while1b_v29 main_while1b_v38 (broadcastInDim S8x1x1 ![0] bcast_S8_S8x1x1_0 : (⟨S8, .i1⟩ : BufTy).Contents (Elt F) → (⟨S8x1x1, .i1⟩ : BufTy).Contents (Elt F)),
    StableHlo.unary main_while1b_v38 main_while1b_v39 (broadcastInDim S8x2048x512 ![0, 1, 2] bcast_S8x1x1_S8x2048x512_0_1_2 : (⟨S8x1x1, .i1⟩ : BufTy).Contents (Elt F) → (⟨S8x2048x512, .i1⟩ : BufTy).Contents (Elt F)),
    StableHlo.binary main_while1b_v39 main_while1b_v37 main_while1b_v40 (andi : (⟨S8x2048x512, .i1⟩ : BufTy).Contents (Elt F) → (⟨S8x2048x512, .i1⟩ : BufTy).Contents (Elt F) → (⟨S8x2048x512, .i1⟩ : BufTy).Contents (Elt F)),
    StableHlo.nullary main_while1b_c_17 (constantI S_ 32 1#32) ]
theorem backOps_2_sub : (backOps_2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub ..⟩
/-- 3 operations: a call of `_where_4` in a body. -/
abbrev backOps_3 : List (HloOp τ sig (Elt F)) :=
  [ StableHlo.TRef.unary (.of main_while1b_c_17 : StableHlo.TRef sig ⟨S_, .i32⟩) (.of main_while1b_call7_v0 : StableHlo.TRef sig ⟨S_, .i32⟩) id,
    StableHlo.TRef.unary (.of main_while1b_call7_v0 : StableHlo.TRef sig ⟨S_, .i32⟩) (.of main_while1b_call7_v1 : StableHlo.TRef sig ⟨S8x2048x512, .i32⟩) (broadcastInDim S8x2048x512 ![] bcast_S_S8x2048x512),
    StableHlo.TRef.ternary (.of main_while1b_v40 : StableHlo.TRef sig ⟨S8x2048x512, .i1⟩) (.of main_while1b_call7_v1 : StableHlo.TRef sig ⟨S8x2048x512, .i32⟩) (.of main_v23_7 : StableHlo.TRef sig ⟨S8x2048x512, .i32⟩) (.of main_while1b_v41 : StableHlo.TRef sig ⟨S8x2048x512, .i32⟩) select ]
theorem backOps_3_sub : (backOps_3 : List (HloOp τ sig (Elt F))).Forall fun op => op.bufs ⊆ StableHlo.tcRefs τ sig :=
  ⟨StableHlo.unary_bufs_sub .., StableHlo.unary_bufs_sub .., StableHlo.ternary_bufs_sub ..⟩
/-- 3 operations of a body. -/
abbrev backOps_4 : List (HloOp τ sig (Elt F)) :=
  [ StableHlo.nullary main_while1b_c_18 (constantI S_ 32 1#32),
    StableHlo.binary main_while1b_v26 main_while1b_c_18 main_while1b_v42 (subi : (⟨S_, .i32⟩ : BufTy).Contents (Elt F) → (⟨S_, .i32⟩ : BufTy).Contents (Elt F) → (⟨S_, .i32⟩ : BufTy).Contents (Elt F)),
    StableHlo.nullary main_while1b_c_19 (constantI S_ 32 2048#32) ]
theorem backOps_4_sub : (backOps_4 : List (HloOp τ sig (Elt F))).Forall fun op => op.bufs ⊆ StableHlo.tcRefs τ sig :=
  ⟨StableHlo.nullary_bufs_sub .., StableHlo.binary_bufs_sub .., StableHlo.nullary_bufs_sub ..⟩
/-- 15 operations: a call of `remainder_5` in a body. -/
abbrev backOps_5 : List (HloOp τ sig (Elt F)) :=
  [ StableHlo.TRef.nullary (.of main_while1b_call8_c : StableHlo.TRef sig ⟨S_, .i32⟩) (constantI S_ 32 0#32),
    StableHlo.TRef.binary (.of main_while1b_c_19 : StableHlo.TRef sig ⟨S_, .i32⟩) (.of main_while1b_call8_c : StableHlo.TRef sig ⟨S_, .i32⟩) (.of main_while1b_call8_v0 : StableHlo.TRef sig ⟨S_, .i1⟩) (cmpi .eq),
    StableHlo.TRef.nullary (.of main_while1b_call8_c_0 : StableHlo.TRef sig ⟨S_, .i32⟩) (constantI S_ 32 1#32),
    StableHlo.TRef.ternary (.of main_while1b_call8_v0 : StableHlo.TRef sig ⟨S_, .i1⟩) (.of main_while1b_call8_c_0 : StableHlo.TRef sig ⟨S_, .i32⟩) (.of main_while1b_c_19 : StableHlo.TRef sig ⟨S_, .i32⟩) (.of main_while1b_call8_v1 : StableHlo.TRef sig ⟨S_, .i32⟩) select,
    StableHlo.TRef.binary (.of main_while1b_v42 : StableHlo.TRef sig ⟨S_, .i32⟩) main_while1b_call8_call0.v0 (.of main_while1b_call8_v2 : StableHlo.TRef sig ⟨S_, .i32⟩) Host.remsi,
    StableHlo.TRef.nullary (.of main_while1b_call8_c_1 : StableHlo.TRef sig ⟨S_, .i32⟩) (constantI S_ 32 0#32),
    StableHlo.TRef.binary (.of main_while1b_call8_v2 : StableHlo.TRef sig ⟨S_, .i32⟩) (.of main_while1b_call8_c_1 : StableHlo.TRef sig ⟨S_, .i32⟩) (.of main_while1b_call8_v3 : StableHlo.TRef sig ⟨S_, .i1⟩) (cmpi .ne),
    StableHlo.TRef.nullary (.of main_while1b_call8_c_2 : StableHlo.TRef sig ⟨S_, .i32⟩) (constantI S_ 32 0#32),
    StableHlo.TRef.binary (.of main_while1b_call8_v2 : StableHlo.TRef sig ⟨S_, .i32⟩) (.of main_while1b_call8_c_2 : StableHlo.TRef sig ⟨S_, .i32⟩) (.of main_while1b_call8_v4 : StableHlo.TRef sig ⟨S_, .i1⟩) (cmpi .slt),
    StableHlo.TRef.nullary (.of main_while1b_call8_c_3 : StableHlo.TRef sig ⟨S_, .i32⟩) (constantI S_ 32 0#32),
    StableHlo.TRef.binary main_while1b_call8_call0.v0 (.of main_while1b_call8_c_3 : StableHlo.TRef sig ⟨S_, .i32⟩) (.of main_while1b_call8_v5 : StableHlo.TRef sig ⟨S_, .i1⟩) (cmpi .slt),
    StableHlo.TRef.binary (.of main_while1b_call8_v4 : StableHlo.TRef sig ⟨S_, .i1⟩) (.of main_while1b_call8_v5 : StableHlo.TRef sig ⟨S_, .i1⟩) (.of main_while1b_call8_v6 : StableHlo.TRef sig ⟨S_, .i1⟩) (cmpi .ne),
    StableHlo.TRef.binary (.of main_while1b_call8_v6 : StableHlo.TRef sig ⟨S_, .i1⟩) (.of main_while1b_call8_v3 : StableHlo.TRef sig ⟨S_, .i1⟩) (.of main_while1b_call8_v7 : StableHlo.TRef sig ⟨S_, .i1⟩) andi,
    StableHlo.TRef.binary (.of main_while1b_call8_v2 : StableHlo.TRef sig ⟨S_, .i32⟩) main_while1b_call8_call0.v0 (.of main_while1b_call8_v8 : StableHlo.TRef sig ⟨S_, .i32⟩) addi,
    StableHlo.TRef.ternary (.of main_while1b_call8_v7 : StableHlo.TRef sig ⟨S_, .i1⟩) (.of main_while1b_call8_v8 : StableHlo.TRef sig ⟨S_, .i32⟩) (.of main_while1b_call8_v2 : StableHlo.TRef sig ⟨S_, .i32⟩) (.of main_while1b_v43 : StableHlo.TRef sig ⟨S_, .i32⟩) select ]
theorem backOps_5_sub : (backOps_5 : List (HloOp τ sig (Elt F))).Forall fun op => op.bufs ⊆ StableHlo.tcRefs τ sig :=
  ⟨StableHlo.nullary_bufs_sub .., StableHlo.binary_bufs_sub .., StableHlo.nullary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.binary_bufs_sub .., StableHlo.ternary_bufs_sub ..⟩
/-- 4 operations of a body. -/
abbrev backOps_6 : List (HloOp τ sig (Elt F)) :=
  [ StableHlo.nullary main_while1b_c_20 (constantI S_ 32 1#32),
    StableHlo.unary main_while1b_c_20 main_while1b_v44 (broadcastInDim S8 ![] bcast_S_S8 : (⟨S_, .i32⟩ : BufTy).Contents (Elt F) → (⟨S8, .i32⟩ : BufTy).Contents (Elt F)),
    StableHlo.binary main_v23_8 main_while1b_v44 main_while1b_v45 (subi : (⟨S8, .i32⟩ : BufTy).Contents (Elt F) → (⟨S8, .i32⟩ : BufTy).Contents (Elt F) → (⟨S8, .i32⟩ : BufTy).Contents (Elt F)),
    StableHlo.nullary main_while1b_c_21 (constantI S_ 32 512#32) ]
theorem backOps_6_sub : (backOps_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 operations: a call of `remainder` in a body. -/
abbrev backOps_7 : List (HloOp τ sig (Elt F)) :=
  [ StableHlo.TRef.unary (.of main_while1b_c_21 : StableHlo.TRef sig ⟨S_, .i32⟩) (.of main_while1b_call9_v0 : StableHlo.TRef sig ⟨S_, .i32⟩) id,
    StableHlo.TRef.nullary (.of main_while1b_call9_c : StableHlo.TRef sig ⟨S_, .i32⟩) (constantI S_ 32 0#32),
    StableHlo.TRef.binary (.of main_while1b_call9_v0 : StableHlo.TRef sig ⟨S_, .i32⟩) (.of main_while1b_call9_c : StableHlo.TRef sig ⟨S_, .i32⟩) (.of main_while1b_call9_v1 : StableHlo.TRef sig ⟨S_, .i1⟩) (cmpi .eq),
    StableHlo.TRef.nullary (.of main_while1b_call9_c_0 : StableHlo.TRef sig ⟨S_, .i32⟩) (constantI S_ 32 1#32),
    StableHlo.TRef.ternary (.of main_while1b_call9_v1 : StableHlo.TRef sig ⟨S_, .i1⟩) (.of main_while1b_call9_c_0 : StableHlo.TRef sig ⟨S_, .i32⟩) (.of main_while1b_call9_v0 : StableHlo.TRef sig ⟨S_, .i32⟩) (.of main_while1b_call9_v2 : StableHlo.TRef sig ⟨S_, .i32⟩) select,
    StableHlo.TRef.unary main_while1b_call9_call0.v0 (.of main_while1b_call9_v3 : StableHlo.TRef sig ⟨S8, .i32⟩) (broadcastInDim S8 ![] bcast_S_S8),
    StableHlo.TRef.binary (.of main_while1b_v45 : StableHlo.TRef sig ⟨S8, .i32⟩) (.of main_while1b_call9_v3 : StableHlo.TRef sig ⟨S8, .i32⟩) (.of main_while1b_call9_v4 : StableHlo.TRef sig ⟨S8, .i32⟩) Host.remsi,
    StableHlo.TRef.nullary (.of main_while1b_call9_c_1 : StableHlo.TRef sig ⟨S_, .i32⟩) (constantI S_ 32 0#32),
    StableHlo.TRef.unary (.of main_while1b_call9_c_1 : StableHlo.TRef sig ⟨S_, .i32⟩) (.of main_while1b_call9_v5 : StableHlo.TRef sig ⟨S8, .i32⟩) (broadcastInDim S8 ![] bcast_S_S8),
    StableHlo.TRef.binary (.of main_while1b_call9_v4 : StableHlo.TRef sig ⟨S8, .i32⟩) (.of main_while1b_call9_v5 : StableHlo.TRef sig ⟨S8, .i32⟩) (.of main_while1b_call9_v6 : StableHlo.TRef sig ⟨S8, .i1⟩) (cmpi .ne),
    StableHlo.TRef.nullary (.of main_while1b_call9_c_2 : StableHlo.TRef sig ⟨S_, .i32⟩) (constantI S_ 32 0#32),
    StableHlo.TRef.unary (.of main_while1b_call9_c_2 : StableHlo.TRef sig ⟨S_, .i32⟩) (.of main_while1b_call9_v7 : StableHlo.TRef sig ⟨S8, .i32⟩) (broadcastInDim S8 ![] bcast_S_S8),
    StableHlo.TRef.binary (.of main_while1b_call9_v4 : StableHlo.TRef sig ⟨S8, .i32⟩) (.of main_while1b_call9_v7 : StableHlo.TRef sig ⟨S8, .i32⟩) (.of main_while1b_call9_v8 : StableHlo.TRef sig ⟨S8, .i1⟩) (cmpi .slt),
    StableHlo.TRef.nullary (.of main_while1b_call9_c_3 : StableHlo.TRef sig ⟨S_, .i32⟩) (constantI S_ 32 0#32),
    StableHlo.TRef.binary main_while1b_call9_call0.v0 (.of main_while1b_call9_c_3 : StableHlo.TRef sig ⟨S_, .i32⟩) (.of main_while1b_call9_v9 : StableHlo.TRef sig ⟨S_, .i1⟩) (cmpi .slt),
    StableHlo.TRef.unary (.of main_while1b_call9_v9 : StableHlo.TRef sig ⟨S_, .i1⟩) (.of main_while1b_call9_v10 : StableHlo.TRef sig ⟨S8, .i1⟩) (broadcastInDim S8 ![] bcast_S_S8),
    StableHlo.TRef.binary (.of main_while1b_call9_v8 : StableHlo.TRef sig ⟨S8, .i1⟩) (.of main_while1b_call9_v10 : StableHlo.TRef sig ⟨S8, .i1⟩) (.of main_while1b_call9_v11 : StableHlo.TRef sig ⟨S8, .i1⟩) (cmpi .ne),
    StableHlo.TRef.binary (.of main_while1b_call9_v11 : StableHlo.TRef sig ⟨S8, .i1⟩) (.of main_while1b_call9_v6 : StableHlo.TRef sig ⟨S8, .i1⟩) (.of main_while1b_call9_v12 : StableHlo.TRef sig ⟨S8, .i1⟩) andi,
    StableHlo.TRef.unary main_while1b_call9_call0.v0 (.of main_while1b_call9_v13 : StableHlo.TRef sig ⟨S8, .i32⟩) (broadcastInDim S8 ![] bcast_S_S8),
    StableHlo.TRef.binary (.of main_while1b_call9_v4 : StableHlo.TRef sig ⟨S8, .i32⟩) (.of main_while1b_call9_v13 : StableHlo.TRef sig ⟨S8, .i32⟩) (.of main_while1b_call9_v14 : StableHlo.TRef sig ⟨S8, .i32⟩) addi,
    StableHlo.TRef.ternary (.of main_while1b_call9_v12 : StableHlo.TRef sig ⟨S8, .i1⟩) (.of main_while1b_call9_v14 : StableHlo.TRef sig ⟨S8, .i32⟩) (.of main_while1b_call9_v4 : StableHlo.TRef sig ⟨S8, .i32⟩) (.of main_while1b_v46 : StableHlo.TRef sig ⟨S8, .i32⟩) select ]
theorem backOps_7_sub : (backOps_7 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 65 operations of a body. -/
abbrev backOps_8 : List (HloOp τ sig (Elt F)) :=
  ( StableHlo.nullary main_while1b_c_22 (constantI S_ 32 0#32)
  :: StableHlo.unary main_while1b_c_22 main_while1b_v47 (broadcastInDim S8 ![] bcast_S_S8 : (⟨S_, .i32⟩ : BufTy).Contents (Elt F) → (⟨S8, .i32⟩ : BufTy).Contents (Elt F))
  :: StableHlo.binary main_v23_8 main_while1b_v47 main_while1b_v48 (cmpi .ne : (⟨S8, .i32⟩ : BufTy).Contents (Elt F) → (⟨S8, .i32⟩ : BufTy).Contents (Elt F) → (⟨S8, .i1⟩ : BufTy).Contents (Elt F))
  :: StableHlo.unary main_while1b_v26 main_while1b_v49 (id : (⟨S_, .i32⟩ : BufTy).Contents (Elt F) → (⟨S_, .i32⟩ : BufTy).Contents (Elt F))
  :: StableHlo.unary main_while1b_v49 main_while1b_v50 (broadcastInDim S8 ![] bcast_S_S8 : (⟨S_, .i32⟩ : BufTy).Contents (Elt F) → (⟨S8, .i32⟩ : BufTy).Contents (Elt F))
  :: StableHlo.binary main_v23_8 main_while1b_v50 main_while1b_v51 (cmpi .eq : (⟨S8, .i32⟩ : BufTy).Contents (Elt F) → (⟨S8, .i32⟩ : BufTy).Contents (Elt F) → (⟨S8, .i1⟩ : BufTy).Contents (Elt F))
  :: StableHlo.binary main_while1b_v48 main_while1b_v51 main_while1b_v52 (andi : (⟨S8, .i1⟩ : BufTy).Contents (Elt F) → (⟨S8, .i1⟩ : BufTy).Contents (Elt F) → (⟨S8, .i1⟩ : BufTy).Contents (Elt F))
  :: StableHlo.nullary main_while1b_c_23 (constantI S_ 32 0#32)
  :: StableHlo.binary main_while1b_v43 main_while1b_c_23 main_while1b_v53 (cmpi .slt : (⟨S_, .i32⟩ : BufTy).Contents (Elt F) → (⟨S_, .i32⟩ : BufTy).Contents (Elt F) → (⟨S_, .i1⟩ : BufTy).Contents (Elt F))
  :: StableHlo.nullary main_while1b_c_24 (constantI S_ 32 2048#32)
  :: StableHlo.binary main_while1b_v43 main_while1b_c_24 main_while1b_v54 (addi : (⟨S_, .i32⟩ : BufTy).Contents (Elt F) → (⟨S_, .i32⟩ : BufTy).Contents (Elt F) → (⟨S_, .i32⟩ : BufTy).Contents (Elt F))
  :: StableHlo.ternary main_while1b_v53 main_while1b_v54 main_while1b_v43 main_while1b_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while1b_c_25 (constantI S_ 32 0#32)
  :: StableHlo.unary main_while1b_c_25 main_while1b_v56 (broadcastInDim S8 ![] bcast_S_S8 : (⟨S_, .i32⟩ : BufTy).Contents (Elt F) → (⟨S8, .i32⟩ : BufTy).Contents (Elt F))
  :: StableHlo.binary main_v23_3 main_while1b_v56 main_while1b_v57 (cmpi .slt : (⟨S8, .i32⟩ : BufTy).Contents (Elt F) → (⟨S8, .i32⟩ : BufTy).Contents (Elt F) → (⟨S8, .i1⟩ : BufTy).Contents (Elt F))
  :: StableHlo.nullary main_while1b_c_26 (constantI S_ 32 8#32)
  :: StableHlo.unary main_while1b_c_26 main_while1b_v58 (broadcastInDim S8 ![] bcast_S_S8 : (⟨S_, .i32⟩ : BufTy).Contents (Elt F) → (⟨S8, .i32⟩ : BufTy).Contents (Elt F))
  :: StableHlo.binary main_v23_3 main_while1b_v58 main_while1b_v59 (addi : (⟨S8, .i32⟩ : BufTy).Contents (Elt F) → (⟨S8, .i32⟩ : BufTy).Contents (Elt F) → (⟨S8, .i32⟩ : BufTy).Contents (Elt F))
  :: StableHlo.ternary main_while1b_v57 main_while1b_v59 main_v23_3 main_while1b_v60 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.nullary main_while1b_c_27 (constantI S_ 32 0#32)
  :: StableHlo.unary main_while1b_c_27 main_while1b_v61 (broadcastInDim S8 ![] bcast_S_S8 : (⟨S_, .i32⟩ : BufTy).Contents (Elt F) → (⟨S8, .i32⟩ : BufTy).Contents (Elt F))
  :: StableHlo.binary main_while1b_v30 main_while1b_v61 main_while1b_v62 (cmpi .slt : (⟨S8, .i32⟩ : BufTy).Contents (Elt F) → (⟨S8, .i32⟩ : BufTy).Contents (Elt F) → (⟨S8, .i1⟩ : BufTy).Contents (Elt F))
  :: StableHlo.nullary main_while1b_c_28 (constantI S_ 32 512#32)
  :: StableHlo.unary main_while1b_c_28 main_while1b_v63 (broadcastInDim S8 ![] bcast_S_S8 : (⟨S_, .i32⟩ : BufTy).Contents (Elt F) → (⟨S8, .i32⟩ : BufTy).Contents (Elt F))
  :: StableHlo.binary main_while1b_v30 main_while1b_v63 main_while1b_v64 (addi : (⟨S8, .i32⟩ : BufTy).Contents (Elt F) → (⟨S8, .i32⟩ : BufTy).Contents (Elt F) → (⟨S8, .i32⟩ : BufTy).Contents (Elt F))
  :: StableHlo.ternary main_while1b_v62 main_while1b_v64 main_while1b_v30 main_while1b_v65 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.unary main_while1b_v55 main_while1b_v66 (broadcastInDim S8 ![] bcast_S_S8 : (⟨S_, .i32⟩ : BufTy).Contents (Elt F) → (⟨S8, .i32⟩ : BufTy).Contents (Elt F))
  :: StableHlo.unary main_while1b_v66 main_while1b_v67 (id : (⟨S8, .i32⟩ : BufTy).Contents (Elt F) → (⟨S8, .i32⟩ : BufTy).Contents (Elt F))
  :: StableHlo.unary main_while1b_v67 main_while1b_v68 (broadcastInDim S8x1 ![0] bcast_S8_S8x1_0 : (⟨S8, .i32⟩ : BufTy).Contents (Elt F) → (⟨S8x1, .i32⟩ : BufTy).Contents (Elt F))
  :: StableHlo.unary main_while1b_v60 main_while1b_v69 (broadcastInDim S8x1 ![0] bcast_S8_S8x1_0 : (⟨S8, .i32⟩ : BufTy).Contents (Elt F) → (⟨S8x1, .i32⟩ : BufTy).Contents (Elt F))
  :: StableHlo.unary main_while1b_v65 main_while1b_v70 (broadcastInDim S8x1 ![0] bcast_S8_S8x1_0 : (⟨S8, .i32⟩ : BufTy).Contents (Elt F) → (⟨S8x1, .i32⟩ : BufTy).Contents (Elt F))
  :: StableHlo.nary ![main_while1b_v68, main_while1b_v69, main_while1b_v70] main_while1b_v71 (fun u => (concatenate S8x3 1 [⟨S8x1, (u 0 : (⟨S8x1, .i32⟩ : BufTy).Contents (Elt F))⟩, ⟨S8x1, (u 1 : (⟨S8x1, .i32⟩ : BufTy).Contents (Elt F))⟩, ⟨S8x1, (u 2 : (⟨S8x1, .i32⟩ : BufTy).Contents (Elt F))⟩] concatenates_S8x1_S8x1_S8x1_S8x3_d1 : (⟨S8x3, .i32⟩ : BufTy).Contents (Elt F)))
  :: StableHlo.binary main_v23_4 main_while1b_v71 main_while1b_v72 ((fun x i => Host.gather gather_S2048x8x512_S8x3_S8_n_012_n_n_012_1_111 x i) : (⟨S2048x8x512, .f32⟩ : BufTy).Contents (Elt F) → (⟨S8x3, .i32⟩ : BufTy).Contents (Elt F) → (⟨S8, .f32⟩ : BufTy).Contents (Elt F))
  :: StableHlo.nullary main_while1b_c_29 (constantI S_ 32 0#32)
  :: StableHlo.binary main_while1b_v43 main_while1b_c_29 main_while1b_v73 (cmpi .slt : (⟨S_, .i32⟩ : BufTy).Contents (Elt F) → (⟨S_, .i32⟩ : BufTy).Contents (Elt F) → (⟨S_, .i1⟩ : BufTy).Contents (Elt F))
  :: StableHlo.nullary main_while1b_c_30 (constantI S_ 32 2048#32)
  :: StableHlo.binary main_while1b_v43 main_while1b_c_30 main_while1b_v74 (addi : (⟨S_, .i32⟩ : BufTy).Contents (Elt F) → (⟨S_, .i32⟩ : BufTy).Contents (Elt F) → (⟨S_, .i32⟩ : BufTy).Contents (Elt F))
  :: StableHlo.ternary main_while1b_v73 main_while1b_v74 main_while1b_v43 main_while1b_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while1b_c_31 (constantI S_ 32 0#32)
  :: StableHlo.unary main_while1b_c_31 main_while1b_v76 (broadcastInDim S8 ![] bcast_S_S8 : (⟨S_, .i32⟩ : BufTy).Contents (Elt F) → (⟨S8, .i32⟩ : BufTy).Contents (Elt F))
  :: StableHlo.binary main_v23_3 main_while1b_v76 main_while1b_v77 (cmpi .slt : (⟨S8, .i32⟩ : BufTy).Contents (Elt F) → (⟨S8, .i32⟩ : BufTy).Contents (Elt F) → (⟨S8, .i1⟩ : BufTy).Contents (Elt F))
  :: StableHlo.nullary main_while1b_c_32 (constantI S_ 32 8#32)
  :: StableHlo.unary main_while1b_c_32 main_while1b_v78 (broadcastInDim S8 ![] bcast_S_S8 : (⟨S_, .i32⟩ : BufTy).Contents (Elt F) → (⟨S8, .i32⟩ : BufTy).Contents (Elt F))
  :: StableHlo.binary main_v23_3 main_while1b_v78 main_while1b_v79 (addi : (⟨S8, .i32⟩ : BufTy).Contents (Elt F) → (⟨S8, .i32⟩ : BufTy).Contents (Elt F) → (⟨S8, .i32⟩ : BufTy).Contents (Elt F))
  :: StableHlo.ternary main_while1b_v77 main_while1b_v79 main_v23_3 main_while1b_v80 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.nullary main_while1b_c_33 (constantI S_ 32 0#32)
  :: StableHlo.unary main_while1b_c_33 main_while1b_v81 (broadcastInDim S8 ![] bcast_S_S8 : (⟨S_, .i32⟩ : BufTy).Contents (Elt F) → (⟨S8, .i32⟩ : BufTy).Contents (Elt F))
  :: StableHlo.binary main_while1b_v46 main_while1b_v81 main_while1b_v82 (cmpi .slt : (⟨S8, .i32⟩ : BufTy).Contents (Elt F) → (⟨S8, .i32⟩ : BufTy).Contents (Elt F) → (⟨S8, .i1⟩ : BufTy).Contents (Elt F))
  :: StableHlo.nullary main_while1b_c_34 (constantI S_ 32 512#32)
  :: StableHlo.unary main_while1b_c_34 main_while1b_v83 (broadcastInDim S8 ![] bcast_S_S8 : (⟨S_, .i32⟩ : BufTy).Contents (Elt F) → (⟨S8, .i32⟩ : BufTy).Contents (Elt F))
  :: StableHlo.binary main_while1b_v46 main_while1b_v83 main_while1b_v84 (addi : (⟨S8, .i32⟩ : BufTy).Contents (Elt F) → (⟨S8, .i32⟩ : BufTy).Contents (Elt F) → (⟨S8, .i32⟩ : BufTy).Contents (Elt F))
  :: StableHlo.ternary main_while1b_v82 main_while1b_v84 main_while1b_v46 main_while1b_v85 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.unary main_while1b_v75 main_while1b_v86 (broadcastInDim S8 ![] bcast_S_S8 : (⟨S_, .i32⟩ : BufTy).Contents (Elt F) → (⟨S8, .i32⟩ : BufTy).Contents (Elt F))
  :: StableHlo.unary main_while1b_v86 main_while1b_v87 (id : (⟨S8, .i32⟩ : BufTy).Contents (Elt F) → (⟨S8, .i32⟩ : BufTy).Contents (Elt F))
  :: StableHlo.unary main_while1b_v87 main_while1b_v88 (broadcastInDim S8x1 ![0] bcast_S8_S8x1_0 : (⟨S8, .i32⟩ : BufTy).Contents (Elt F) → (⟨S8x1, .i32⟩ : BufTy).Contents (Elt F))
  :: StableHlo.unary main_while1b_v80 main_while1b_v89 (broadcastInDim S8x1 ![0] bcast_S8_S8x1_0 : (⟨S8, .i32⟩ : BufTy).Contents (Elt F) → (⟨S8x1, .i32⟩ : BufTy).Contents (Elt F))
  :: StableHlo.unary main_while1b_v85 main_while1b_v90 (broadcastInDim S8x1 ![0] bcast_S8_S8x1_0 : (⟨S8, .i32⟩ : BufTy).Contents (Elt F) → (⟨S8x1, .i32⟩ : BufTy).Contents (Elt F))
  :: StableHlo.nary ![main_while1b_v88, main_while1b_v89, main_while1b_v90] main_while1b_v91 (fun u => (concatenate S8x3 1 [⟨S8x1, (u 0 : (⟨S8x1, .i32⟩ : BufTy).Contents (Elt F))⟩, ⟨S8x1, (u 1 : (⟨S8x1, .i32⟩ : BufTy).Contents (Elt F))⟩, ⟨S8x1, (u 2 : (⟨S8x1, .i32⟩ : BufTy).Contents (Elt F))⟩] concatenates_S8x1_S8x1_S8x1_S8x3_d1 : (⟨S8x3, .i32⟩ : BufTy).Contents (Elt F)))
  :: StableHlo.binary main_v23_4 main_while1b_v91 main_while1b_v92 ((fun x i => Host.gather gather_S2048x8x512_S8x3_S8_n_012_n_n_012_1_111 x i) : (⟨S2048x8x512, .f32⟩ : BufTy).Contents (Elt F) → (⟨S8x3, .i32⟩ : BufTy).Contents (Elt F) → (⟨S8, .f32⟩ : BufTy).Contents (Elt F))
  :: StableHlo.binary main_while1b_v72 main_while1b_v92 main_while1b_v93 (cmpf .olt : (⟨S8, .f32⟩ : BufTy).Contents (Elt F) → (⟨S8, .f32⟩ : BufTy).Contents (Elt F) → (⟨S8, .i1⟩ : BufTy).Contents (Elt F))
  :: StableHlo.binary main_while1b_v52 main_while1b_v93 main_while1b_v94 (ori : (⟨S8, .i1⟩ : BufTy).Contents (Elt F) → (⟨S8, .i1⟩ : BufTy).Contents (Elt F) → (⟨S8, .i1⟩ : BufTy).Contents (Elt F))
  :: StableHlo.binary main_while1b_v29 main_while1b_v94 main_while1b_v95 (andi : (⟨S8, .i1⟩ : BufTy).Contents (Elt F) → (⟨S8, .i1⟩ : BufTy).Contents (Elt F) → (⟨S8, .i1⟩ : BufTy).Contents (Elt F))
  :: StableHlo.nullary main_while1b_c_35 (constantI S_ 32 1#32)
  :: StableHlo.unary main_while1b_c_35 main_while1b_v96 (broadcastInDim S8 ![] bcast_S_S8 : (⟨S_, .i32⟩ : BufTy).Contents (Elt F) → (⟨S8, .i32⟩ : BufTy).Contents (Elt F))
  :: StableHlo.binary main_v23_8 main_while1b_v96 main_while1b_v97 (subi : (⟨S8, .i32⟩ : BufTy).Contents (Elt F) → (⟨S8, .i32⟩ : BufTy).Contents (Elt F) → (⟨S8, .i32⟩ : BufTy).Contents (Elt F))
  :: [] )
set_option maxHeartbeats 40000000 in  -- a long stretch: its list (or the term over it) exceeds the default budget
theorem backOps_8_sub : (backOps_8 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub ..⟩
/-- 1 operations: a call of `_where_7` in a body. -/
abbrev backOps_9 : List (HloOp τ sig (Elt F)) :=
  [ StableHlo.TRef.ternary (.of main_while1b_v95 : StableHlo.TRef sig ⟨S8, .i1⟩) (.of main_while1b_v97 : StableHlo.TRef sig ⟨S8, .i32⟩) (.of main_v23_8 : StableHlo.TRef sig ⟨S8, .i32⟩) (.of main_while1b_v98 : StableHlo.TRef sig ⟨S8, .i32⟩) select ]
theorem backOps_9_sub : (backOps_9 : List (HloOp τ sig (Elt F))).Forall fun op => op.bufs ⊆ StableHlo.tcRefs τ sig :=
  StableHlo.ternary_bufs_sub ..
/-- 6 operations of a body. -/
abbrev backOps_10 : List (HloOp τ sig (Elt F)) :=
  [ StableHlo.nullary main_while1b_c_36 (constantI S_ 32 1#32),
    StableHlo.binary main_v23_5 main_while1b_c_36 main_while1b_v99 (addi : (⟨S_, .i32⟩ : BufTy).Contents (Elt F) → (⟨S_, .i32⟩ : BufTy).Contents (Elt F) → (⟨S_, .i32⟩ : BufTy).Contents (Elt F)),
    StableHlo.unary main_while1b_v99 main_v23_5 id,
    StableHlo.unary main_while1b_v25 main_v23_6 id,
    StableHlo.unary main_while1b_v41 main_v23_7 id,
    StableHlo.unary main_while1b_v98 main_v23_8 id ]
theorem backOps_10_sub : (backOps_10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- A loop's body runs its stretches in order. -/
theorem while1_body_chain : main_while1_body (F := F) = (Pipeline.chain
  [ StableHlo.seq backOps,
    StableHlo.seq backOps_1,
    StableHlo.seq backOps_2,
    StableHlo.seq backOps_3,
    StableHlo.seq backOps_4,
    StableHlo.seq backOps_5,
    StableHlo.seq backOps_6,
    StableHlo.seq backOps_7,
    StableHlo.seq backOps_8,
    StableHlo.seq backOps_9,
    StableHlo.seq backOps_10 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-! ## What each stretch writes -/

abbrev entryOps_W : List (Ref sig .tc) := [main_v0, main_cst, main_v1, main_v2, main_v3, main_v4, main_cst_0, main_v5, main_v6, main_v7, main_v8, main_v9, main_v10, main_v11, main_v12, main_v13, main_v14, main_cst_1, main_v15, main_c, main_v16_0, main_v16_1, main_v16_2, main_v16_3, main_v16_4, main_v16_5, main_v16_6, main_v16_7]
theorem entryOps_writes : (entryOps : List (HloOp τ sig (Elt F))).Forall fun op => op.writes ⊆ (entryOps_W.map (Proc.devRef (τ := τ) .tc)).toFinset :=
  StableHlo.forall_writes_sub_of_map rfl
theorem entryOps_fresh : (entryOps : List (HloOp τ sig (Elt F))).Forall fun op => op.fresh = ∅ :=
  StableHlo.forall_fresh_of_map rfl
abbrev midOps_W : List (Ref sig .tc) := [main_v17, main_v18, main_v19, main_c_2, main_v20, main_c_3, main_v21, main_v22, main_c_4, main_c_5, main_v23_0, main_v23_1, main_v23_2, main_v23_3, main_v23_4, main_v23_5, main_v23_6, main_v23_7, main_v23_8]
theorem midOps_writes : (midOps : List (HloOp τ sig (Elt F))).Forall fun op => op.writes ⊆ (midOps_W.map (Proc.devRef (τ := τ) .tc)).toFinset :=
  StableHlo.forall_writes_sub_of_map rfl
theorem midOps_fresh : (midOps : List (HloOp τ sig (Elt F))).Forall fun op => op.fresh = ∅ :=
  StableHlo.forall_fresh_of_map rfl
abbrev lastOps_W : List (Ref sig .tc) := [main_v24]
theorem lastOps_writes : (lastOps : List (HloOp τ sig (Elt F))).Forall fun op => op.writes ⊆ (lastOps_W.map (Proc.devRef (τ := τ) .tc)).toFinset :=
  StableHlo.forall_writes_sub_of_map rfl
theorem lastOps_fresh : (lastOps : List (HloOp τ sig (Elt F))).Forall fun op => op.fresh = ∅ :=
  StableHlo.forall_fresh_of_map rfl
abbrev fwdOps_W : List (Ref sig .tc) := [main_while0b_call0_v0, main_while0b_v25]
theorem fwdOps_writes : (fwdOps : List (HloOp τ sig (Elt F))).Forall fun op => op.writes ⊆ (fwdOps_W.map (Proc.devRef (τ := τ) .tc)).toFinset :=
  StableHlo.forall_writes_sub_of_map rfl
theorem fwdOps_fresh : (fwdOps : List (HloOp τ sig (Elt F))).Forall fun op => op.fresh = ∅ :=
  StableHlo.forall_fresh_of_map rfl
abbrev fwdOps_1_W : List (Ref sig .tc) := [main_while0b_call1_c, main_while0b_call1_c_0, main_while0b_call1_v0, main_while0b_v26]
theorem fwdOps_1_writes : (fwdOps_1 : List (HloOp τ sig (Elt F))).Forall fun op => op.writes ⊆ (fwdOps_1_W.map (Proc.devRef (τ := τ) .tc)).toFinset :=
  StableHlo.forall_writes_sub_of_map rfl
theorem fwdOps_1_fresh : (fwdOps_1 : List (HloOp τ sig (Elt F))).Forall fun op => op.fresh = ∅ :=
  StableHlo.forall_fresh_of_map rfl
abbrev fwdOps_2_W : List (Ref sig .tc) := [main_while0b_v27, main_while0b_v28, main_while0b_v29, main_while0b_c_13, main_while0b_v30, main_while0b_v31, main_while0b_v32, main_while0b_c_14, main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_cst_15]
theorem fwdOps_2_writes : (fwdOps_2 : List (HloOp τ sig (Elt F))).Forall fun op => op.writes ⊆ (fwdOps_2_W.map (Proc.devRef (τ := τ) .tc)).toFinset :=
  StableHlo.forall_writes_sub_of_map rfl
theorem fwdOps_2_fresh : (fwdOps_2 : List (HloOp τ sig (Elt F))).Forall fun op => op.fresh = ∅ :=
  StableHlo.forall_fresh_of_map rfl
abbrev fwdOps_3_W : List (Ref sig .tc) := [main_while0b_call2_v0, main_while0b_call2_v1, main_while0b_call2_v2, main_while0b_v51]
theorem fwdOps_3_writes : (fwdOps_3 : List (HloOp τ sig (Elt F))).Forall fun op => op.writes ⊆ (fwdOps_3_W.map (Proc.devRef (τ := τ) .tc)).toFinset :=
  StableHlo.forall_writes_sub_of_map rfl
theorem fwdOps_3_fresh : (fwdOps_3 : List (HloOp τ sig (Elt F))).Forall fun op => op.fresh = ∅ :=
  StableHlo.forall_fresh_of_map rfl
abbrev fwdOps_4_W : List (Ref sig .tc) := [main_while0b_c_16, main_while0b_v52, main_while0b_cst_17, main_while0b_cst_18]
theorem fwdOps_4_writes : (fwdOps_4 : List (HloOp τ sig (Elt F))).Forall fun op => op.writes ⊆ (fwdOps_4_W.map (Proc.devRef (τ := τ) .tc)).toFinset :=
  StableHlo.forall_writes_sub_of_map rfl
theorem fwdOps_4_fresh : (fwdOps_4 : List (HloOp τ sig (Elt F))).Forall fun op => op.fresh = ∅ :=
  StableHlo.forall_fresh_of_map rfl
abbrev fwdOps_5_W : List (Ref sig .tc) := [main_while0b_v53]
theorem fwdOps_5_writes : (fwdOps_5 : List (HloOp τ sig (Elt F))).Forall fun op => op.writes ⊆ (fwdOps_5_W.map (Proc.devRef (τ := τ) .tc)).toFinset :=
  StableHlo.forall_writes_sub_of_map rfl
theorem fwdOps_5_fresh : (fwdOps_5 : List (HloOp τ sig (Elt F))).Forall fun op => op.fresh = ∅ :=
  StableHlo.forall_fresh_of_map rfl
abbrev fwdOps_6_W : List (Ref sig .tc) := [main_while0b_v54, main_while0b_v55, main_while0b_v56, main_while0b_v57, main_while0b_v58]
theorem fwdOps_6_writes : (fwdOps_6 : List (HloOp τ sig (Elt F))).Forall fun op => op.writes ⊆ (fwdOps_6_W.map (Proc.devRef (τ := τ) .tc)).toFinset :=
  StableHlo.forall_writes_sub_of_map rfl
theorem fwdOps_6_fresh : (fwdOps_6 : List (HloOp τ sig (Elt F))).Forall fun op => op.fresh = ∅ :=
  StableHlo.forall_fresh_of_map rfl
abbrev fwdOps_7_W : List (Ref sig .tc) := [main_while0b_v59]
theorem fwdOps_7_writes : (fwdOps_7 : List (HloOp τ sig (Elt F))).Forall fun op => op.writes ⊆ (fwdOps_7_W.map (Proc.devRef (τ := τ) .tc)).toFinset :=
  StableHlo.forall_writes_sub_of_map rfl
theorem fwdOps_7_fresh : (fwdOps_7 : List (HloOp τ sig (Elt F))).Forall fun op => op.fresh = ∅ :=
  StableHlo.forall_fresh_of_map rfl
abbrev fwdOps_8_W : List (Ref sig .tc) := [main_while0b_call5_v0, main_while0b_call5_c, main_while0b_call5_c_0, main_while0b_v60]
theorem fwdOps_8_writes : (fwdOps_8 : List (HloOp τ sig (Elt F))).Forall fun op => op.writes ⊆ (fwdOps_8_W.map (Proc.devRef (τ := τ) .tc)).toFinset :=
  StableHlo.forall_writes_sub_of_map rfl
theorem fwdOps_8_fresh : (fwdOps_8 : List (HloOp τ sig (Elt F))).Forall fun op => op.fresh = ∅ :=
  StableHlo.forall_fresh_of_map rfl
abbrev fwdOps_9_W : List (Ref sig .tc) := [main_while0b_c_19, main_while0b_v61, main_v16_5, main_v16_6, main_v16_7]
theorem fwdOps_9_writes : (fwdOps_9 : List (HloOp τ sig (Elt F))).Forall fun op => op.writes ⊆ (fwdOps_9_W.map (Proc.devRef (τ := τ) .tc)).toFinset :=
  StableHlo.forall_writes_sub_of_map rfl
theorem fwdOps_9_fresh : (fwdOps_9 : List (HloOp τ sig (Elt F))).Forall fun op => op.fresh = ∅ :=
  StableHlo.forall_fresh_of_map rfl
abbrev backOps_W : List (Ref sig .tc) := [main_while1b_c_14, main_while1b_v25, main_while1b_c_15, main_while1b_v26, main_while1b_v27, main_while1b_v28, main_while1b_v29, main_while1b_c_16]
theorem backOps_writes : (backOps : List (HloOp τ sig (Elt F))).Forall fun op => op.writes ⊆ (backOps_W.map (Proc.devRef (τ := τ) .tc)).toFinset :=
  StableHlo.forall_writes_sub_of_map rfl
theorem backOps_fresh : (backOps : List (HloOp τ sig (Elt F))).Forall fun op => op.fresh = ∅ :=
  StableHlo.forall_fresh_of_map rfl
abbrev backOps_1_W : List (Ref sig .tc) := [main_while1b_call6_v0, main_while1b_call6_c, main_while1b_call6_v1, main_while1b_call6_c_0, main_while1b_call6_v2, main_while1b_call6_v3, main_while1b_call6_v4, main_while1b_call6_c_1, main_while1b_call6_v5, main_while1b_call6_v6, main_while1b_call6_c_2, main_while1b_call6_v7, main_while1b_call6_v8, main_while1b_call6_c_3, main_while1b_call6_v9, main_while1b_call6_v10, main_while1b_call6_v11, main_while1b_call6_v12, main_while1b_call6_v13, main_while1b_call6_v14, main_while1b_v30]
theorem backOps_1_writes : (backOps_1 : List (HloOp τ sig (Elt F))).Forall fun op => op.writes ⊆ (backOps_1_W.map (Proc.devRef (τ := τ) .tc)).toFinset :=
  StableHlo.forall_writes_sub_of_map rfl
theorem backOps_1_fresh : (backOps_1 : List (HloOp τ sig (Elt F))).Forall fun op => op.fresh = ∅ :=
  StableHlo.forall_fresh_of_map rfl
abbrev backOps_2_W : List (Ref sig .tc) := [main_while1b_v31, main_while1b_v32, main_while1b_v33, main_while1b_v34, main_while1b_v35, main_while1b_v36, main_while1b_v37, main_while1b_v38, main_while1b_v39, main_while1b_v40, main_while1b_c_17]
theorem backOps_2_writes : (backOps_2 : List (HloOp τ sig (Elt F))).Forall fun op => op.writes ⊆ (backOps_2_W.map (Proc.devRef (τ := τ) .tc)).toFinset :=
  StableHlo.forall_writes_sub_of_map rfl
theorem backOps_2_fresh : (backOps_2 : List (HloOp τ sig (Elt F))).Forall fun op => op.fresh = ∅ :=
  StableHlo.forall_fresh_of_map rfl
abbrev backOps_3_W : List (Ref sig .tc) := [main_while1b_call7_v0, main_while1b_call7_v1, main_while1b_v41]
theorem backOps_3_writes : (backOps_3 : List (HloOp τ sig (Elt F))).Forall fun op => op.writes ⊆ (backOps_3_W.map (Proc.devRef (τ := τ) .tc)).toFinset :=
  StableHlo.forall_writes_sub_of_map rfl
theorem backOps_3_fresh : (backOps_3 : List (HloOp τ sig (Elt F))).Forall fun op => op.fresh = ∅ :=
  StableHlo.forall_fresh_of_map rfl
abbrev backOps_4_W : List (Ref sig .tc) := [main_while1b_c_18, main_while1b_v42, main_while1b_c_19]
theorem backOps_4_writes : (backOps_4 : List (HloOp τ sig (Elt F))).Forall fun op => op.writes ⊆ (backOps_4_W.map (Proc.devRef (τ := τ) .tc)).toFinset :=
  StableHlo.forall_writes_sub_of_map rfl
theorem backOps_4_fresh : (backOps_4 : List (HloOp τ sig (Elt F))).Forall fun op => op.fresh = ∅ :=
  StableHlo.forall_fresh_of_map rfl
abbrev backOps_5_W : List (Ref sig .tc) := [main_while1b_call8_c, main_while1b_call8_v0, main_while1b_call8_c_0, main_while1b_call8_v1, main_while1b_call8_v2, main_while1b_call8_c_1, main_while1b_call8_v3, main_while1b_call8_c_2, main_while1b_call8_v4, main_while1b_call8_c_3, main_while1b_call8_v5, main_while1b_call8_v6, main_while1b_call8_v7, main_while1b_call8_v8, main_while1b_v43]
theorem backOps_5_writes : (backOps_5 : List (HloOp τ sig (Elt F))).Forall fun op => op.writes ⊆ (backOps_5_W.map (Proc.devRef (τ := τ) .tc)).toFinset :=
  StableHlo.forall_writes_sub_of_map rfl
theorem backOps_5_fresh : (backOps_5 : List (HloOp τ sig (Elt F))).Forall fun op => op.fresh = ∅ :=
  StableHlo.forall_fresh_of_map rfl
abbrev backOps_6_W : List (Ref sig .tc) := [main_while1b_c_20, main_while1b_v44, main_while1b_v45, main_while1b_c_21]
theorem backOps_6_writes : (backOps_6 : List (HloOp τ sig (Elt F))).Forall fun op => op.writes ⊆ (backOps_6_W.map (Proc.devRef (τ := τ) .tc)).toFinset :=
  StableHlo.forall_writes_sub_of_map rfl
theorem backOps_6_fresh : (backOps_6 : List (HloOp τ sig (Elt F))).Forall fun op => op.fresh = ∅ :=
  StableHlo.forall_fresh_of_map rfl
abbrev backOps_7_W : List (Ref sig .tc) := [main_while1b_call9_v0, main_while1b_call9_c, main_while1b_call9_v1, main_while1b_call9_c_0, main_while1b_call9_v2, main_while1b_call9_v3, main_while1b_call9_v4, main_while1b_call9_c_1, main_while1b_call9_v5, main_while1b_call9_v6, main_while1b_call9_c_2, main_while1b_call9_v7, main_while1b_call9_v8, main_while1b_call9_c_3, main_while1b_call9_v9, main_while1b_call9_v10, main_while1b_call9_v11, main_while1b_call9_v12, main_while1b_call9_v13, main_while1b_call9_v14, main_while1b_v46]
theorem backOps_7_writes : (backOps_7 : List (HloOp τ sig (Elt F))).Forall fun op => op.writes ⊆ (backOps_7_W.map (Proc.devRef (τ := τ) .tc)).toFinset :=
  StableHlo.forall_writes_sub_of_map rfl
theorem backOps_7_fresh : (backOps_7 : List (HloOp τ sig (Elt F))).Forall fun op => op.fresh = ∅ :=
  StableHlo.forall_fresh_of_map rfl
abbrev backOps_8_W : List (Ref sig .tc) := [main_while1b_c_22, main_while1b_v47, main_while1b_v48, main_while1b_v49, main_while1b_v50, main_while1b_v51, main_while1b_v52, main_while1b_c_23, main_while1b_v53, main_while1b_c_24, main_while1b_v54, main_while1b_v55, main_while1b_c_25, main_while1b_v56, main_while1b_v57, main_while1b_c_26, main_while1b_v58, main_while1b_v59, main_while1b_v60, main_while1b_c_27, main_while1b_v61, main_while1b_v62, main_while1b_c_28, main_while1b_v63, main_while1b_v64, main_while1b_v65, main_while1b_v66, main_while1b_v67, main_while1b_v68, main_while1b_v69, main_while1b_v70, main_while1b_v71, main_while1b_v72, main_while1b_c_29, main_while1b_v73, main_while1b_c_30, main_while1b_v74, main_while1b_v75, main_while1b_c_31, main_while1b_v76, main_while1b_v77, main_while1b_c_32, main_while1b_v78, main_while1b_v79, main_while1b_v80, main_while1b_c_33, main_while1b_v81, main_while1b_v82, main_while1b_c_34, main_while1b_v83, main_while1b_v84, main_while1b_v85, main_while1b_v86, main_while1b_v87, main_while1b_v88, main_while1b_v89, main_while1b_v90, main_while1b_v91, main_while1b_v92, main_while1b_v93, main_while1b_v94, main_while1b_v95, main_while1b_c_35, main_while1b_v96, main_while1b_v97]
theorem backOps_8_writes : (backOps_8 : List (HloOp τ sig (Elt F))).Forall fun op => op.writes ⊆ (backOps_8_W.map (Proc.devRef (τ := τ) .tc)).toFinset :=
  StableHlo.forall_writes_sub_of_map rfl
theorem backOps_8_fresh : (backOps_8 : List (HloOp τ sig (Elt F))).Forall fun op => op.fresh = ∅ :=
  StableHlo.forall_fresh_of_map rfl
abbrev backOps_9_W : List (Ref sig .tc) := [main_while1b_v98]
theorem backOps_9_writes : (backOps_9 : List (HloOp τ sig (Elt F))).Forall fun op => op.writes ⊆ (backOps_9_W.map (Proc.devRef (τ := τ) .tc)).toFinset :=
  StableHlo.forall_writes_sub_of_map rfl
theorem backOps_9_fresh : (backOps_9 : List (HloOp τ sig (Elt F))).Forall fun op => op.fresh = ∅ :=
  StableHlo.forall_fresh_of_map rfl
abbrev backOps_10_W : List (Ref sig .tc) := [main_while1b_c_36, main_while1b_v99, main_v23_5, main_v23_6, main_v23_7, main_v23_8]
theorem backOps_10_writes : (backOps_10 : List (HloOp τ sig (Elt F))).Forall fun op => op.writes ⊆ (backOps_10_W.map (Proc.devRef (τ := τ) .tc)).toFinset :=
  StableHlo.forall_writes_sub_of_map rfl
theorem backOps_10_fresh : (backOps_10 : List (HloOp τ sig (Elt F))).Forall fun op => op.fresh = ∅ :=
  StableHlo.forall_fresh_of_map rfl

/-- The forward loop's test. -/
abbrev test0 : List (HloOp τ sig (Elt F)) :=
  [ StableHlo.nullary main_while0c_c_13 (constantI S_ 32 2048#32),
    StableHlo.binary main_v16_5 main_while0c_c_13 main_while0c_v25 (cmpi .slt) ]
abbrev test0_W : List (Ref sig .tc) := [main_while0c_c_13, main_while0c_v25]
theorem test0_writes : (test0 : List (HloOp τ sig (Elt F))).Forall fun op => op.writes ⊆ (test0_W.map (Proc.devRef (τ := τ) .tc)).toFinset :=
  StableHlo.forall_writes_sub_of_map rfl

/-- The backward loop's test. -/
abbrev test1 : List (HloOp τ sig (Elt F)) :=
  [ StableHlo.nullary main_while1c_c_14 (constantI S_ 32 2048#32),
    StableHlo.binary main_v23_5 main_while1c_c_14 main_while1c_v25 (cmpi .slt) ]
abbrev test1_W : List (Ref sig .tc) := [main_while1c_c_14, main_while1c_v25]
theorem test1_writes : (test1 : List (HloOp τ sig (Elt F))).Forall fun op => op.writes ⊆ (test1_W.map (Proc.devRef (τ := τ) .tc)).toFinset :=
  StableHlo.forall_writes_sub_of_map rfl

/-- The stretches of a body, -/
abbrev body0 : List (List (HloOp τ sig (Elt F))) := [fwdOps, fwdOps_1, fwdOps_2, fwdOps_3, fwdOps_4, fwdOps_5, fwdOps_6, fwdOps_7, fwdOps_8, fwdOps_9]
/-- which allocate nothing. -/
theorem body0_plain : StableHlo.Plain (body0 (F := F)) :=
  .cons fwdOps_sub (hf := List.forall_iff_forall_mem.mp fwdOps_fresh) <| .cons fwdOps_1_sub (hf := List.forall_iff_forall_mem.mp fwdOps_1_fresh) <| .cons fwdOps_2_sub (hf := List.forall_iff_forall_mem.mp fwdOps_2_fresh) <| .cons fwdOps_3_sub (hf := List.forall_iff_forall_mem.mp fwdOps_3_fresh) <| .cons fwdOps_4_sub (hf := List.forall_iff_forall_mem.mp fwdOps_4_fresh) <| .cons fwdOps_5_sub (hf := List.forall_iff_forall_mem.mp fwdOps_5_fresh) <| .cons fwdOps_6_sub (hf := List.forall_iff_forall_mem.mp fwdOps_6_fresh) <| .cons fwdOps_7_sub (hf := List.forall_iff_forall_mem.mp fwdOps_7_fresh) <| .cons fwdOps_8_sub (hf := List.forall_iff_forall_mem.mp fwdOps_8_fresh) <| .cons fwdOps_9_sub (hf := List.forall_iff_forall_mem.mp fwdOps_9_fresh) <| .nil

/-- The stretches of a body, -/
abbrev body1 : List (List (HloOp τ sig (Elt F))) := [backOps, backOps_1, backOps_2, backOps_3, backOps_4, backOps_5, backOps_6, backOps_7, backOps_8, backOps_9, backOps_10]
/-- which allocate nothing. -/
theorem body1_plain : StableHlo.Plain (body1 (F := F)) :=
  .cons backOps_sub (hf := List.forall_iff_forall_mem.mp backOps_fresh) <| .cons backOps_1_sub (hf := List.forall_iff_forall_mem.mp backOps_1_fresh) <| .cons backOps_2_sub (hf := List.forall_iff_forall_mem.mp backOps_2_fresh) <| .cons backOps_3_sub (hf := List.forall_iff_forall_mem.mp backOps_3_fresh) <| .cons backOps_4_sub (hf := List.forall_iff_forall_mem.mp backOps_4_fresh) <| .cons backOps_5_sub (hf := List.forall_iff_forall_mem.mp backOps_5_fresh) <| .cons backOps_6_sub (hf := List.forall_iff_forall_mem.mp backOps_6_fresh) <| .cons backOps_7_sub (hf := List.forall_iff_forall_mem.mp backOps_7_fresh) <| .cons backOps_8_sub (hf := List.forall_iff_forall_mem.mp backOps_8_fresh) <| .cons backOps_9_sub (hf := List.forall_iff_forall_mem.mp backOps_9_fresh) <| .cons backOps_10_sub (hf := List.forall_iff_forall_mem.mp backOps_10_fresh) <| .nil

end Cert.ReferenceIdeal.Mas

end
-- ==== Proof.ReferenceIdeal.Run.lean ====
/- The reference's run: three stretches of operations and two counted loops of 2048 trips between them, and what every buffer
   holds at the end. -/
module

public import proofs.«01_k».proof.Proof.ReferenceIdeal.Lists
public import Idealize.ShloMosaic.Lib.Pipeline.RegionsLoop
public import Idealize.ShloMosaic.Lib.StableHlo.RunLoop
public import Idealize.ShloMosaic.Lib.Scf.ExitTest
public import Idealize.ShloMosaic.Lib.Scf.Counter
public import Idealize.ShloMosaic.Lib.Quiescent

@[expose] public section

set_option maxRecDepth 4000

noncomputable section

namespace Cert.ReferenceIdeal.Mas

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal.Gen

variable {F : FTy → Type} [FloatOps F]

/-! ## A trip of each loop -/

/-- The references a trip of this loop writes; -/
abbrev trip0_W : List (Ref sig .tc) := test0_W ++ fwdOps_W ++ fwdOps_1_W ++ fwdOps_2_W ++ fwdOps_3_W ++ fwdOps_4_W ++ fwdOps_5_W ++ fwdOps_6_W ++ fwdOps_7_W ++ fwdOps_8_W ++ fwdOps_9_W
/-- a trip leaves every other reference alone. -/
theorem trip0_keep (V : Valuation τ sig (Elt F)) {r : Ref sig .tc} (h : r ∉ trip0_W) :
    afterL body0 (after test0 V) (Proc.devRef .tc r) = V (Proc.devRef .tc r) := by
  simp only [trip0_W, List.mem_append, not_or] at h
  obtain ⟨⟨⟨⟨⟨⟨⟨⟨⟨⟨ht, h0⟩, h1⟩, h2⟩, h3⟩, h4⟩, h5⟩, h6⟩, h7⟩, h8⟩, h9⟩ := h
  simp only [afterL_cons, afterL_nil]
  rw [after_of_writes_sub fwdOps_9 _ fwdOps_9_writes h9, after_of_writes_sub fwdOps_8 _ fwdOps_8_writes h8, after_of_writes_sub fwdOps_7 _ fwdOps_7_writes h7, after_of_writes_sub fwdOps_6 _ fwdOps_6_writes h6, after_of_writes_sub fwdOps_5 _ fwdOps_5_writes h5, after_of_writes_sub fwdOps_4 _ fwdOps_4_writes h4, after_of_writes_sub fwdOps_3 _ fwdOps_3_writes h3, after_of_writes_sub fwdOps_2 _ fwdOps_2_writes h2, after_of_writes_sub fwdOps_1 _ fwdOps_1_writes h1, after_of_writes_sub fwdOps _ fwdOps_writes h0, after_of_writes_sub test0 _ test0_writes ht]
/-- The loop's counter is one more after a trip. -/
theorem trip0_ctr (V : Valuation τ sig (Elt F)) :
    afterL body0 (after test0 V) (Proc.devRef .tc main_v16_5) = addi (V (Proc.devRef .tc main_v16_5)) (constantI S_ 32 1#32) := by
  simp only [afterL_cons, afterL_nil]
  have h : ∀ X : Valuation τ sig (Elt F), after fwdOps_9 X (Proc.devRef .tc main_v16_5) = addi (X (Proc.devRef .tc main_v16_5)) (constantI S_ 32 1#32) := by
    intro X
    after_results
    rfl
  rw [h, after_of_writes_sub fwdOps_8 _ fwdOps_8_writes (by decide), after_of_writes_sub fwdOps_7 _ fwdOps_7_writes (by decide), after_of_writes_sub fwdOps_6 _ fwdOps_6_writes (by decide), after_of_writes_sub fwdOps_5 _ fwdOps_5_writes (by decide), after_of_writes_sub fwdOps_4 _ fwdOps_4_writes (by decide), after_of_writes_sub fwdOps_3 _ fwdOps_3_writes (by decide), after_of_writes_sub fwdOps_2 _ fwdOps_2_writes (by decide), after_of_writes_sub fwdOps_1 _ fwdOps_1_writes (by decide), after_of_writes_sub fwdOps _ fwdOps_writes (by decide), after_of_writes_sub test0 _ test0_writes (by decide)]

/-- The references a trip of this loop writes; -/
abbrev trip1_W : List (Ref sig .tc) := test1_W ++ backOps_W ++ backOps_1_W ++ backOps_2_W ++ backOps_3_W ++ backOps_4_W ++ backOps_5_W ++ backOps_6_W ++ backOps_7_W ++ backOps_8_W ++ backOps_9_W ++ backOps_10_W
/-- a trip leaves every other reference alone. -/
theorem trip1_keep (V : Valuation τ sig (Elt F)) {r : Ref sig .tc} (h : r ∉ trip1_W) :
    afterL body1 (after test1 V) (Proc.devRef .tc r) = V (Proc.devRef .tc r) := by
  simp only [trip1_W, List.mem_append, not_or] at h
  obtain ⟨⟨⟨⟨⟨⟨⟨⟨⟨⟨⟨ht, h0⟩, h1⟩, h2⟩, h3⟩, h4⟩, h5⟩, h6⟩, h7⟩, h8⟩, h9⟩, h10⟩ := h
  simp only [afterL_cons, afterL_nil]
  rw [after_of_writes_sub backOps_10 _ backOps_10_writes h10, after_of_writes_sub backOps_9 _ backOps_9_writes h9, after_of_writes_sub backOps_8 _ backOps_8_writes h8, after_of_writes_sub backOps_7 _ backOps_7_writes h7, after_of_writes_sub backOps_6 _ backOps_6_writes h6, after_of_writes_sub backOps_5 _ backOps_5_writes h5, after_of_writes_sub backOps_4 _ backOps_4_writes h4, after_of_writes_sub backOps_3 _ backOps_3_writes h3, after_of_writes_sub backOps_2 _ backOps_2_writes h2, after_of_writes_sub backOps_1 _ backOps_1_writes h1, after_of_writes_sub backOps _ backOps_writes h0, after_of_writes_sub test1 _ test1_writes ht]
/-- The loop's counter is one more after a trip. -/
theorem trip1_ctr (V : Valuation τ sig (Elt F)) :
    afterL body1 (after test1 V) (Proc.devRef .tc main_v23_5) = addi (V (Proc.devRef .tc main_v23_5)) (constantI S_ 32 1#32) := by
  simp only [afterL_cons, afterL_nil]
  have h : ∀ X : Valuation τ sig (Elt F), after backOps_10 X (Proc.devRef .tc main_v23_5) = addi (X (Proc.devRef .tc main_v23_5)) (constantI S_ 32 1#32) := by
    intro X
    after_results
    rfl
  rw [h, after_of_writes_sub backOps_9 _ backOps_9_writes (by decide), after_of_writes_sub backOps_8 _ backOps_8_writes (by decide), after_of_writes_sub backOps_7 _ backOps_7_writes (by decide), after_of_writes_sub backOps_6 _ backOps_6_writes (by decide), after_of_writes_sub backOps_5 _ backOps_5_writes (by decide), after_of_writes_sub backOps_4 _ backOps_4_writes (by decide), after_of_writes_sub backOps_3 _ backOps_3_writes (by decide), after_of_writes_sub backOps_2 _ backOps_2_writes (by decide), after_of_writes_sub backOps_1 _ backOps_1_writes (by decide), after_of_writes_sub backOps _ backOps_writes (by decide), after_of_writes_sub test1 _ test1_writes (by decide)]

/-! ## The contents at each boundary -/

variable (m : (ℓ : Loc nD τ sig) → Buf (Elt F) ℓ)

/-- The buffers when the forward loop is entered, -/
def W1 : Dev nD → Valuation τ sig (Elt F) := fun c => after entryOps (launchContents m c)
/-- before its trip `k`, -/
def Wfwd (k : ℕ) : Dev nD → Valuation τ sig (Elt F) := fun c => atTrip test0 body0 (W1 m) k c
/-- when the backward loop is entered, -/
def W3 : Dev nD → Valuation τ sig (Elt F) := fun c => after midOps (after test0 (Wfwd m 2048 c))
/-- before its trip `k`, -/
def Wback (k : ℕ) : Dev nD → Valuation τ sig (Elt F) := fun c => atTrip test1 body1 (W3 m) k c
/-- and at the end. -/
def Wend : Dev nD → Valuation τ sig (Elt F) := fun c => after lastOps (after test1 (Wback m 2048 c))

theorem W1_ctr (c : Dev nD) : W1 m c (Proc.devRef .tc main_v16_5) = fun _ => (0#32 : BitVec 32) := by
  unfold W1
  after_results
  rfl
theorem W3_ctr (c : Dev nD) : W3 m c (Proc.devRef .tc main_v23_5) = fun _ => (0#32 : BitVec 32) := by
  unfold W3
  after_results
  rfl

/-- The counter before trip `k` is `k`. -/
theorem Wfwd_ctr (c : Dev nD) : ∀ k, Wfwd m k c (Proc.devRef .tc main_v16_5) = fun _ => Scf.iv 0#32 1#32 k
  | 0 => by rw [show Wfwd m 0 c = W1 m c from rfl, W1_ctr, Scf.iv_zero]
  | k + 1 => by
    rw [show Wfwd m (k + 1) c = afterL body0 (after test0 (Wfwd m k c)) from rfl, trip0_ctr, Wfwd_ctr c k, Scf.iv_succ]
    rfl

set_option backward.isDefEq.respectTransparency.types false in
/-- The loop's test holds before the first 2048 trips and fails then. -/
theorem cond0_spec (Rc : Dev nD → sProp (MT nD τ sig Unit (Elt F) ℕ (Option PUnit) ℕ)) :
    LoopCond (pcfgs (F := F)) defs₀ Variants.none loops Rc (main_while0_cond (F := F)) test0 body0 (W1 m) 2048 := by
  intro k hk c bd
  have hctr := Wfwd_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wfwd m k c) main_v16_5 HostLoop.idx0)
        (HloOp.result _ (Wfwd m k c) main_while0c_c_13 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-- The counter before trip `k` is `k`. -/
theorem Wback_ctr (c : Dev nD) : ∀ k, Wback m k c (Proc.devRef .tc main_v23_5) = fun _ => Scf.iv 0#32 1#32 k
  | 0 => by rw [show Wback m 0 c = W3 m c from rfl, W3_ctr, Scf.iv_zero]
  | k + 1 => by
    rw [show Wback m (k + 1) c = afterL body1 (after test1 (Wback m k c)) from rfl, trip1_ctr, Wback_ctr c k, Scf.iv_succ]
    rfl

set_option backward.isDefEq.respectTransparency.types false in
/-- The loop's test holds before the first 2048 trips and fails then. -/
theorem cond1_spec (Rc : Dev nD → sProp (MT nD τ sig Unit (Elt F) ℕ (Option PUnit) ℕ)) :
    LoopCond (pcfgs (F := F)) defs₀ Variants.none loops Rc (main_while1_cond (F := F)) test1 body1 (W3 m) 2048 := by
  intro k hk c bd
  have hctr := Wback_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wback m k c) main_v23_5 HostLoop.idx0)
        (HloOp.result _ (Wback m k c) main_while1c_c_14 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-! ## The segments -/

local notation "𝕄" => MT nD τ sig Unit (Elt F) ℕ (Option PUnit) ℕ

/-- The program launches no kernel. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem hinj : Function.Injective (Pipeline.cellOf (nD := nD) (τ := τ) (Pipeline.pin (pcfgs (F := F)) adm)) := fun p _ _ => p.1.elim0

/-- What rides beside the buffers. -/
abbrev Rd (c : Dev nD) : sProp 𝕄 := iprop(∃ W, owes (c : Thread nD τ) (0 : CellTallies nD τ sig Unit) W)

abbrev KitSeg : Type 1 := Pipeline.CSeg (pcfgs (F := F)) adm defs₀ Variants.none L lv loops tk

abbrev stretch (ops : List (HloOp τ sig (Elt F))) (hs : ops.Forall fun op => op.bufs ⊆ tcRefs τ sig)
    (hf : ops.Forall fun op => op.fresh = ∅) (V : Dev nD → Valuation τ sig (Elt F)) : KitSeg (F := F) :=
  Pipeline.CSeg.ofOps _ _ _ _ _ _ _ _ (ucRefs τ sig) ops
    (fun op h => sub_ucRefs op ((List.forall_iff_forall_mem.mp hs) op h))
    (fun op h => (List.forall_iff_forall_mem.mp hf) op h) V Rd
abbrev fwdSeg : KitSeg (F := F) :=
  loopSeg _ _ _ _ _ _ _ _ 0 (main_while0_cond (F := F)) (main_while0_body (F := F)) rfl test0 body0 body0_plain
    (by rw [while0_body_chain]; rfl) 2048 (W1 m) Rd (cond0_spec m Rd)
abbrev backSeg : KitSeg (F := F) :=
  loopSeg _ _ _ _ _ _ _ _ 1 (main_while1_cond (F := F)) (main_while1_body (F := F)) rfl test1 body1 body1_plain
    (by rw [while1_body_chain]; rfl) 2048 (W3 m) Rd (cond1_spec m Rd)

abbrev segs : List (KitSeg (F := F)) :=
  [stretch entryOps entryOps_sub entryOps_fresh (launchContents m), fwdSeg m,
   stretch midOps midOps_sub midOps_fresh (fun c => after test0 (Wfwd m 2048 c)), backSeg m,
   stretch lastOps lastOps_sub lastOps_fresh (fun c => after test1 (Wback m 2048 c))]

theorem main_run (c : Dev nD) : main (F := F) c = Pipeline.CSeg.runL (segs m) := (main_chain c).trans (by chain_rfl)

/-! ## The run -/

set_option backward.isDefEq.respectTransparency.types false in
/-- Every execution ends, with every tensor buffer at `Wend` and every counter at zero. -/
theorem run_main [∀ e, Nonempty (Elt F e)] (ρ : Dev nD → PrngReg) : θ_run defs (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = Wend m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    (pcfgs (F := F)) adm hinj defs₀ Variants.none L lv loops tk m ρ main (segs m)
    (fun c Q => by rw [main_run m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ Rd c))
    (Tₙ := fun c => iprop(held (c : Thread nD τ) (ucRefs τ sig) (Wend m c)))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wend m c b)
    (hfin := fun c s' => by
      unfold held
      iintro ⟨Hh, HSI⟩
      ihave Hr := (pointsTo_read_all (ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems rfl s⟩)

/-! ## What the run leaves alone -/

theorem Wfwd_keep (c : Dev nD) {r : Ref sig .tc} (h : r ∉ trip0_W) : ∀ k, Wfwd m k c (Proc.devRef .tc r) = W1 m c (Proc.devRef .tc r)
  | 0 => rfl
  | k + 1 => (trip0_keep (Wfwd m k c) h).trans (Wfwd_keep c h k)
theorem Wback_keep (c : Dev nD) {r : Ref sig .tc} (h : r ∉ trip1_W) : ∀ k, Wback m k c (Proc.devRef .tc r) = W3 m c (Proc.devRef .tc r)
  | 0 => rfl
  | k + 1 => (trip1_keep (Wback m k c) h).trans (Wback_keep c h k)

theorem Wend_args (c : Dev nD) : ∀ a ∈ [main_arg0, main_arg1], Wend m c (Proc.devRef .tc a) = m ((c : Thread nD τ).loc a) := fun a ha => by
  have h1 : W1 m c (Proc.devRef .tc a) = m ((c : Thread nD τ).loc a) :=
    after_of_writes_sub entryOps _ entryOps_writes ((by decide : ∀ a ∈ [main_arg0, main_arg1], a ∉ entryOps_W) a ha)
  have h2 := (Wfwd_keep m c ((by decide : ∀ a ∈ [main_arg0, main_arg1], a ∉ trip0_W) a ha) 2048).trans h1
  have h3 : W3 m c (Proc.devRef .tc a) = m ((c : Thread nD τ).loc a) :=
    ((after_of_writes_sub midOps _ midOps_writes ((by decide : ∀ a ∈ [main_arg0, main_arg1], a ∉ midOps_W) a ha)).trans
      (after_of_writes_sub test0 _ test0_writes ((by decide : ∀ a ∈ [main_arg0, main_arg1], a ∉ test0_W) a ha))).trans h2
  have h4 := (Wback_keep m c ((by decide : ∀ a ∈ [main_arg0, main_arg1], a ∉ trip1_W) a ha) 2048).trans h3
  exact ((after_of_writes_sub lastOps _ lastOps_writes ((by decide : ∀ a ∈ [main_arg0, main_arg1], a ∉ lastOps_W) a ha)).trans
      (after_of_writes_sub test1 _ test1_writes ((by decide : ∀ a ∈ [main_arg0, main_arg1], a ∉ test1_W) a ha))).trans h4

/-- The arguments end as they began, every counter at zero. -/
theorem frame_main [∀ e, Nonempty (Elt F e)] (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c main_arg0 (by decide)).trans (Wend_args m c _ (by decide)),
    (h.1 c main_arg1 (by decide)).trans (Wend_args m c _ (by decide))⟩, h.2⟩) (run_main m ρ)

end Cert.ReferenceIdeal.Mas

end
-- ==== Proof.ReferenceIdeal.Forward.lean ====
/- What one trip of the reference's forward loop computes. -/
module

public import proofs.«01_k».proof.Proof.ReferenceIdeal.Run
public import proofs.«01_k».proof.Proof.Spots
public import Idealize.ShloMosaic.Lib.Pointwise
public import Idealize.ShloMosaic.Lib.Pipeline.Value
public import Idealize.ShloMosaic.Lib.DynamicIndex
public import Idealize.ShloMosaic.Lib.WordCmp

@[expose] public section

set_option maxRecDepth 4000

noncomputable section

namespace Cert.ReferenceIdeal.Mas

open Idealize.ShloMosaic Idealize.ShloMosaic.TcCoe
open Idealize.SL Idealize.SL.Sem
open Idealize.ShloMosaic.StableHlo
open Cert.ReferenceIdeal.Gen
open Cert.Mas (Row lft neg prev rowA rowB rowC row score)

variable {F : FTy → Type} [FloatOps F]

/-- A row as an array. -/
def ofRow {α : Type} (q : Row α) : S8x512.Idx → α := fun j => q (j 0) (j 1)

/-- A row for each frame as an array. -/
def ofRows {α : Type} (x : ℕ → Row α) : S2048x8x512.Idx → α := fun j => x (j 0).val (j 1) (j 2)

theorem toInt_ofNat {k : ℕ} (hk : k < 2048) : (BitVec.ofNat 32 k).toInt = (k : ℤ) := by
  rw [BitVec.toInt_eq_toNat_cond, BitVec.toNat_ofNat, Nat.mod_eq_of_lt (by omega)]
  split <;> omega

theorem iv_eq (k : ℕ) : Scf.iv 0#32 1#32 k = BitVec.ofNat 32 k := by
  simp [Scf.iv]

/-! ## Slices at a frame -/

/-- An index of a frame's number. -/
def atFrame (k : Fin 2048) : S2048.Idx := fun | ⟨0, _⟩ => k

/-- Where a frame's row starts in the stack of rows. -/
def rowStart (k : ℕ) : Fin 3 → ℕ := fun | ⟨0, _⟩ => k | ⟨1, _⟩ => 0 | ⟨2, _⟩ => 0

theorem rowStart_slices {k : ℕ} (hk : k < 2048) : S2048x8x512.Slices (rowStart k) S1x8x512 :=
  ⟨rfl, fun a => by
    match a with
    | ⟨0, _⟩ => exact (show k + 1 ≤ 2048 by omega)
    | ⟨1, _⟩ => exact (show 0 + 8 ≤ 8 by omega)
    | ⟨2, _⟩ => exact (show 0 + 512 ≤ 512 by omega)⟩

/-- One element of a vector. -/
theorem slice1 {α : Type} (x : S2048.Idx → α) (start : Fin 1 → Int) {k : ℕ} (hk : k < 2048) (h0 : start 0 = k) :
    shapeCast S_ (Host.dynamicSlice S1 x start sliceFits_S2048_S1) shapeCasts_S1_S_ = fun _ => x (atFrame ⟨k, hk⟩) := by
  have h : Host.dynamicSlice S1 x start sliceFits_S2048_S1 = fun _ => x (atFrame ⟨k, hk⟩) := by
    rw [Host.dynamicSlice_eq_extractStridedSlice S1 x start (fun _ => k) sliceFits_S2048_S1 ⟨rfl, fun a => by
      match a with
      | ⟨0, _⟩ => exact (show k + 1 ≤ 2048 by omega)⟩ (fun a => by
      match a with
      | ⟨0, _⟩ => exact h0)]
    funext i
    have h1 : (i 0).val < 1 := (i 0).isLt
    refine congrArg x (funext fun a => ?_)
    match a with
    | ⟨0, _⟩ => exact Fin.ext (show k + (i 0).val = k by omega)
  rw [h]
  rfl

/-- An index of one row of the stack. -/
def atRow (b : Fin 8) (t : Fin 512) : S1x8x512.Idx := fun | ⟨0, _⟩ => (⟨0, by decide⟩ : Fin 1) | ⟨1, _⟩ => b | ⟨2, _⟩ => t

theorem cast_row {α : Type} (y : S1x8x512.Idx → α) : shapeCast S8x512 y shapeCasts_S1x8x512_S8x512 = ofRow fun b t => y (atRow b t) := by
  funext j
  refine shapeCast_apply y _ j (atRow (j 0) (j 1)) ?_
  rw [Shape.rowMajor_val_two, Shape.rowMajor_val_three]
  show (0 * 8 + (j 0).val) * 512 + (j 1).val = (j 0).val * 512 + (j 1).val
  omega

/-- One row of the stack of rows. -/
theorem slice3 {α : Type} (x : ℕ → Row α) (start : Fin 3 → Int) {k : ℕ} (hk : k < 2048) (h0 : ∀ a, start a = (rowStart k a : ℤ)) :
    shapeCast S8x512 (Host.dynamicSlice S1x8x512 (ofRows x) start sliceFits_S2048x8x512_S1x8x512) shapeCasts_S1x8x512_S8x512 = ofRow (x k) := by
  rw [cast_row, Host.dynamicSlice_eq_extractStridedSlice S1x8x512 (ofRows x) start (rowStart k) sliceFits_S2048x8x512_S1x8x512 (rowStart_slices hk) h0]
  refine congrArg ofRow (funext fun b => funext fun t => ?_)
  show x (k + 0) ⟨0 + b.val, _⟩ ⟨0 + t.val, _⟩ = x k b t
  exact congrArg₂ (x k) (Fin.ext (Nat.zero_add _)) (Fin.ext (Nat.zero_add _))

/-- One row of the stack replaced. -/
theorem put3 {α : Type} (x : ℕ → Row α) (q : Row α) (start : Fin 3 → Int) {k : ℕ} (hk : k < 2048) (h0 : ∀ a, start a = (rowStart k a : ℤ)) :
    Host.dynamicUpdateSlice (ofRows x) (broadcastInDim S1x8x512 ![1, 2] bcast_S8x512_S1x8x512_1_2 (ofRow q)) start
      updateFits_S2048x8x512_S1x8x512 = ofRows (Function.update x k q) := by
  rw [WordCmp.dynamicUpdateSlice_eq_update (ofRows x) _ start updateFits_S2048x8x512_S1x8x512 (rowStart k) (rowStart_slices hk) h0]
  funext j
  have hj1 : (j 1).val < 8 := (j 1).isLt
  have hj2 : (j 2).val < 512 := (j 2).isLt
  rw [updateSlice_apply]
  by_cases hk' : (j 0).val = k
  · have hin : ∀ a : Fin 3, rowStart k a ≤ (j a).val ∧ (j a).val < rowStart k a + S1x8x512.size a := fun a => by
      match a with
      | ⟨0, _⟩ => exact (show k ≤ (j 0).val ∧ (j 0).val < k + 1 by omega)
      | ⟨1, _⟩ => exact (show 0 ≤ (j 1).val ∧ (j 1).val < 0 + 8 by omega)
      | ⟨2, _⟩ => exact (show 0 ≤ (j 2).val ∧ (j 2).val < 0 + 512 by omega)
    refine (dif_pos hin).trans ?_
    have e : ofRows (Function.update x k q) j = q (j 1) (j 2) := by
      show Function.update x k q (j 0).val (j 1) (j 2) = _
      exact congrFun (congrFun ((congrArg (Function.update x k q) hk').trans (Function.update_self k q x)) (j 1)) (j 2)
    rw [e]
    exact congrArg₂ q (Fin.ext (Nat.sub_zero _)) (Fin.ext (Nat.sub_zero _))
  · refine (dif_neg fun h => ?_).trans ?_
    · have h' : k ≤ (j 0).val ∧ (j 0).val < k + 1 := h 0
      omega
    · show x (j 0).val (j 1) (j 2) = Function.update x k q (j 0).val (j 1) (j 2)
      rw [Function.update_of_ne hk']

/-- A row shifted by one lane, another value coming in. -/
theorem shift_row {α : Type} (e : α) (q : Row α) :
    concatenate S8x512 1 [⟨S8x1, broadcastInDim (s := S_) S8x1 ![] bcast_S_S8x1 fun _ => e⟩,
      ⟨S8x511, extractStridedSlice (s := S8x512) S8x511 ![0, 0] (ofRow q) slices_S8x512_S8x511_0_0⟩] concatenates_S8x1_S8x511_S8x512_d1
      = ofRow fun b t => if t.val = 0 then e else q b (lft t) := by
  funext j
  have hj1 : (j 1).val < 512 := (j 1).isLt
  rw [concatenate_pair_apply]
  by_cases h : (j 1).val = 0
  · refine (dif_pos (show (j 1).val < 1 by omega)).trans ?_
    exact (if_pos h).symm
  · refine (dif_neg (show ¬ (j 1).val < 1 by omega)).trans ?_
    refine Eq.trans ?_ (if_neg h).symm
    show q ⟨0 + (j 0).val, _⟩ ⟨0 + ((j 1).val - 1), _⟩ = q (j 0) (lft (j 1))
    exact congrArg₂ q (Fin.ext (Nat.zero_add _)) (Fin.ext (by
      show 0 + ((j 1).val - 1) = ((j 1).val + 511) % 512
      omega))

/-! ## The trip's stretches -/

/-- The frame number read. -/
theorem fwd_frame (X : Valuation τ sig (Elt F)) {k : ℕ} (hk : k < 2048)
    (h0 : X (Proc.devRef .tc main_v16_0) = fun j : S2048.Idx => BitVec.ofNat 32 (j 0).val)
    (h5 : X (Proc.devRef .tc main_v16_5) = fun _ => BitVec.ofNat 32 k) :
    after fwdOps X (Proc.devRef .tc main_while0b_v25) = fun _ => BitVec.ofNat 32 k := by
  after_results
  refine (slice1 (X (Proc.devRef .tc main_v16_0)) _ hk ?_).trans ?_
  · show (X (Proc.devRef .tc main_v16_5) _ : BitVec 32).toInt = k
    rw [h5]; exact toInt_ofNat hk
  · rw [h0]; rfl

/-- The frame's row read. -/
theorem fwd_input (X : Valuation τ sig (Elt F)) {k : ℕ} (hk : k < 2048) (x : ℕ → Row (F .f32))
    (h1 : X (Proc.devRef .tc main_v16_1) = ofRows x)
    (h5 : X (Proc.devRef .tc main_v16_5) = fun _ => BitVec.ofNat 32 k) :
    after fwdOps_1 X (Proc.devRef .tc main_while0b_v26) = ofRow (x k) := by
  after_results
  refine Eq.trans ?_ (slice3 x (fun k => (![X (Proc.devRef .tc main_v16_5), constantI S_ 32 0#32, constantI S_ 32 0#32] k (Shape.Idx.first h_S_) : BitVec 32).toInt) hk ?_)
  · rw [← h1]
    refine congrArg (fun s => shapeCast S8x512 (Host.dynamicSlice S1x8x512 (X (Proc.devRef .tc main_v16_1)) s sliceFits_S2048x8x512_S1x8x512) shapeCasts_S1x8x512_S8x512) (funext fun a => ?_)
    match a with
    | ⟨0, _⟩ => rfl
    | ⟨1, _⟩ => rfl
    | ⟨2, _⟩ => rfl
  · intro a
    match a with
    | ⟨0, _⟩ =>
      show (X (Proc.devRef .tc main_v16_5) _ : BitVec 32).toInt = k
      rw [h5]; exact toInt_ofNat hk
    | ⟨1, _⟩ => rfl
    | ⟨2, _⟩ => rfl

/-- Which lanes are in range. -/
theorem fwd_range (X : Valuation τ sig (Elt F)) {k : ℕ}
    (h : X (Proc.devRef .tc main_while0b_v25) = fun _ => BitVec.ofNat 32 k)
    (h2 : X (Proc.devRef .tc main_v16_2) = fun _ => 512#32) (h3 : X (Proc.devRef .tc main_v16_3) = fun _ => 2048#32)
    (h4 : X (Proc.devRef .tc main_v16_4) = fun j : S1x512.Idx => BitVec.ofNat 32 (j 1).val) :
    after fwdOps_2 X (Proc.devRef .tc main_while0b_v48) = ofRow fun _ t =>
      IntOp.andi (IntOp.andi
        (IntOp.cmpi .sge (BitVec.ofNat 32 t.val) (IntOp.maxsi 0#32 (IntOp.subi (IntOp.addi 512#32 (BitVec.ofNat 32 k)) 2048#32)))
        (IntOp.cmpi .slt (BitVec.ofNat 32 t.val) (IntOp.minsi 512#32 (IntOp.addi (BitVec.ofNat 32 k) 1#32))))
        (IntOp.cmpi .slt (BitVec.ofNat 32 k) 2048#32) := by
  after_results
  rw [h, h2, h3, h4]
  rfl

/-- Which lane is the last one. -/
theorem fwd_diag (X : Valuation τ sig (Elt F)) {k : ℕ}
    (h : X (Proc.devRef .tc main_while0b_v25) = fun _ => BitVec.ofNat 32 k)
    (h4 : X (Proc.devRef .tc main_v16_4) = fun j : S1x512.Idx => BitVec.ofNat 32 (j 1).val) :
    after fwdOps_2 X (Proc.devRef .tc main_while0b_v50) = fun j : S1x512.Idx => IntOp.cmpi .eq (BitVec.ofNat 32 (j 1).val) (BitVec.ofNat 32 k) := by
  after_results
  rw [h, h4]
  rfl

theorem fwd_neg (X : Valuation τ sig (Elt F)) :
    after fwdOps_2 X (Proc.devRef .tc main_while0b_cst_15) = fun _ => (neg : F .f32) := by
  after_results
  rfl

/-- The score of staying. -/
theorem fwd_stay (X : Valuation τ sig (Elt F)) {k : ℕ} (q : Row (F .f32))
    (h : X (Proc.devRef .tc main_while0b_v50) = fun j : S1x512.Idx => IntOp.cmpi .eq (BitVec.ofNat 32 (j 1).val) (BitVec.ofNat 32 k))
    (hn : X (Proc.devRef .tc main_while0b_cst_15) = fun _ => (neg : F .f32))
    (h6 : X (Proc.devRef .tc main_v16_6) = ofRow q) :
    after fwdOps_3 X (Proc.devRef .tc main_while0b_v51) = ofRow fun b t =>
      Scalar.select (IntOp.cmpi .eq (BitVec.ofNat 32 t.val) (BitVec.ofNat 32 k)) neg (q b t) := by
  after_results
  rw [h, hn, h6]
  rfl

/-- The score entering lane 0. -/
theorem fwd_enter (X : Valuation τ sig (Elt F)) {k : ℕ}
    (h : X (Proc.devRef .tc main_while0b_v25) = fun _ => BitVec.ofNat 32 k) :
    after fwdOps_5 (after fwdOps_4 X) (Proc.devRef .tc main_while0b_v53) = fun _ =>
      Scalar.select (IntOp.cmpi .eq (BitVec.ofNat 32 k) 0#32) (Scalar.ofBits .f32 0x00000000#32) (neg : F .f32) := by
  after_results
  rw [h]
  rfl

/-- The score of the frame's lanes that are in range. -/
theorem fwd_sum (X : Valuation τ sig (Elt F)) (e : F .f32) (x s q : Row (F .f32))
    (h : X (Proc.devRef .tc main_while0b_v53) = fun _ => e)
    (h1 : X (Proc.devRef .tc main_while0b_v26) = ofRow x)
    (hs : X (Proc.devRef .tc main_while0b_v51) = ofRow s)
    (h6 : X (Proc.devRef .tc main_v16_6) = ofRow q) :
    after fwdOps_6 X (Proc.devRef .tc main_while0b_v58) = ofRow fun b t =>
      FloatOps.addf (x b t) (FloatOps.maximumf (if t.val = 0 then e else q b (lft t)) (s b t)) := by
  after_results
  rw [h, h1, hs, h6]
  exact congrArg (fun a => addf (ofRow x) (maximumf a (ofRow s))) (shift_row e q)

theorem fwd_new (X : Valuation τ sig (Elt F)) (c : Row (BitVec 1)) (y x : Row (F .f32))
    (h : X (Proc.devRef .tc main_while0b_v48) = ofRow c)
    (h1 : X (Proc.devRef .tc main_while0b_v58) = ofRow y)
    (h2 : X (Proc.devRef .tc main_while0b_v26) = ofRow x) :
    after fwdOps_7 X (Proc.devRef .tc main_while0b_v59) = ofRow fun b t => Scalar.select (c b t) (y b t) (x b t) := by
  after_results
  rw [h, h1, h2]
  rfl

/-- The stack of rows with the new one put in. -/
theorem fwd_put (X : Valuation τ sig (Elt F)) {k : ℕ} (hk : k < 2048) (Q : ℕ → Row (F .f32)) (q : Row (F .f32))
    (h7 : X (Proc.devRef .tc main_v16_7) = ofRows Q)
    (h : X (Proc.devRef .tc main_while0b_v59) = ofRow q)
    (h5 : X (Proc.devRef .tc main_v16_5) = fun _ => BitVec.ofNat 32 k) :
    after fwdOps_8 X (Proc.devRef .tc main_while0b_v60) = ofRows (Function.update Q k q) := by
  after_results
  rw [h]
  refine Eq.trans ?_ (put3 Q q (fun k => (![X (Proc.devRef .tc main_v16_5), constantI S_ 32 0#32, constantI S_ 32 0#32] k (Shape.Idx.first h_S_) : BitVec 32).toInt) hk ?_)
  · rw [← h7]
    refine congrArg (fun s => Host.dynamicUpdateSlice (X (Proc.devRef .tc main_v16_7)) (broadcastInDim S1x8x512 ![1, 2] bcast_S8x512_S1x8x512_1_2 (ofRow q)) s updateFits_S2048x8x512_S1x8x512) (funext fun a => ?_)
    match a with
    | ⟨0, _⟩ => rfl
    | ⟨1, _⟩ => rfl
    | ⟨2, _⟩ => rfl
  · intro a
    match a with
    | ⟨0, _⟩ =>
      show (X (Proc.devRef .tc main_v16_5) _ : BitVec 32).toInt = k
      rw [h5]; exact toInt_ofNat hk
    | ⟨1, _⟩ => rfl
    | ⟨2, _⟩ => rfl

theorem fwd_carry6 (X : Valuation τ sig (Elt F)) :
    after fwdOps_9 X (Proc.devRef .tc main_v16_6) = X (Proc.devRef .tc main_while0b_v59) := by
  after_results
  rfl
theorem fwd_carry7 (X : Valuation τ sig (Elt F)) :
    after fwdOps_9 X (Proc.devRef .tc main_v16_7) = X (Proc.devRef .tc main_while0b_v60) := by
  after_results
  rfl

end Cert.ReferenceIdeal.Mas

end
-- ==== Proof.ReferenceIdeal.Scores.lean ====
/- The reference's forward loop: every frame's scores are stacked. -/
module

public import proofs.«01_k».proof.Proof.ReferenceIdeal.Forward

@[expose] public section

set_option maxRecDepth 4000

noncomputable section

namespace Cert.ReferenceIdeal.Mas

open Idealize.ShloMosaic Idealize.ShloMosaic.TcCoe
open Idealize.SL Idealize.SL.Sem
open Idealize.ShloMosaic.StableHlo
open Cert.ReferenceIdeal.Gen
open Cert.Mas (Row lft neg prev rowA rowB rowC row score)

section
variable {F : FTy → Type} [FloatOps F]

/-- The row a trip computes for frame `k` from its values `x` and the row `q` before. -/
def newRow (k : ℕ) (x q : Row (F .f32)) : Row (F .f32) := fun b t =>
  Scalar.select
    (IntOp.andi (IntOp.andi
        (IntOp.cmpi .sge (BitVec.ofNat 32 t.val) (IntOp.maxsi 0#32 (IntOp.subi (IntOp.addi 512#32 (BitVec.ofNat 32 k)) 2048#32)))
        (IntOp.cmpi .slt (BitVec.ofNat 32 t.val) (IntOp.minsi 512#32 (IntOp.addi (BitVec.ofNat 32 k) 1#32))))
        (IntOp.cmpi .slt (BitVec.ofNat 32 k) 2048#32))
    (FloatOps.addf (x b t) (FloatOps.maximumf
      (if t.val = 0 then Scalar.select (IntOp.cmpi .eq (BitVec.ofNat 32 k) 0#32) (Scalar.ofBits .f32 0x00000000#32) neg else q b (lft t))
      (Scalar.select (IntOp.cmpi .eq (BitVec.ofNat 32 t.val) (BitVec.ofNat 32 k)) neg (q b t))))
    (x b t)

/-- A trip at frame `k` carries the new row and puts it into the stack. -/
theorem fwd_trip (V : Valuation τ sig (Elt F)) {k : ℕ} (hk : k < 2048) (x : ℕ → Row (F .f32)) (q : Row (F .f32)) (Q : ℕ → Row (F .f32))
    (h0 : V (Proc.devRef .tc main_v16_0) = fun j : S2048.Idx => BitVec.ofNat 32 (j 0).val)
    (h1 : V (Proc.devRef .tc main_v16_1) = ofRows x)
    (h2 : V (Proc.devRef .tc main_v16_2) = fun _ => 512#32) (h3 : V (Proc.devRef .tc main_v16_3) = fun _ => 2048#32)
    (h4 : V (Proc.devRef .tc main_v16_4) = fun j : S1x512.Idx => BitVec.ofNat 32 (j 1).val)
    (h5 : V (Proc.devRef .tc main_v16_5) = fun _ => BitVec.ofNat 32 k)
    (h6 : V (Proc.devRef .tc main_v16_6) = ofRow q) (h7 : V (Proc.devRef .tc main_v16_7) = ofRows Q) :
    afterL body0 (after test0 V) (Proc.devRef .tc main_v16_6) = ofRow (newRow k (x k) q)
      ∧ afterL body0 (after test0 V) (Proc.devRef .tc main_v16_7) = ofRows (Function.update Q k (newRow k (x k) q)) := by
  simp only [afterL_cons, afterL_nil]
  obtain ⟨X0, e0⟩ : ∃ X, X = after test0 V := ⟨_, rfl⟩
  have p0 : ∀ r : Ref sig .tc, r ∉ test0_W → X0 (Proc.devRef .tc r) = V (Proc.devRef .tc r) := fun r h => by
    rw [e0]; exact after_of_writes_sub test0 V test0_writes h
  rw [← e0]
  obtain ⟨X1, e1⟩ : ∃ X, X = after fwdOps X0 := ⟨_, rfl⟩
  have p1 : ∀ r : Ref sig .tc, r ∉ fwdOps_W → X1 (Proc.devRef .tc r) = X0 (Proc.devRef .tc r) := fun r h => by
    rw [e1]; exact after_of_writes_sub fwdOps X0 fwdOps_writes h
  rw [← e1]
  have v25 := fwd_frame X0 hk (by rw [p0 _ (by decide)]; exact h0) (by rw [p0 _ (by decide)]; exact h5)
  rw [← e1] at v25
  obtain ⟨X2, e2⟩ : ∃ X, X = after fwdOps_1 X1 := ⟨_, rfl⟩
  have p2 : ∀ r : Ref sig .tc, r ∉ fwdOps_1_W → X2 (Proc.devRef .tc r) = X1 (Proc.devRef .tc r) := fun r h => by
    rw [e2]; exact after_of_writes_sub fwdOps_1 X1 fwdOps_1_writes h
  rw [← e2]
  have v26 := fwd_input X1 hk x (by rw [p1 _ (by decide), p0 _ (by decide)]; exact h1) (by rw [p1 _ (by decide), p0 _ (by decide)]; exact h5)
  rw [← e2] at v26
  obtain ⟨X3, e3⟩ : ∃ X, X = after fwdOps_2 X2 := ⟨_, rfl⟩
  have p3 : ∀ r : Ref sig .tc, r ∉ fwdOps_2_W → X3 (Proc.devRef .tc r) = X2 (Proc.devRef .tc r) := fun r h => by
    rw [e3]; exact after_of_writes_sub fwdOps_2 X2 fwdOps_2_writes h
  rw [← e3]
  have v48 := fwd_range X2 (by rw [p2 _ (by decide)]; exact v25) (by rw [p2 _ (by decide), p1 _ (by decide), p0 _ (by decide)]; exact h2) (by rw [p2 _ (by decide), p1 _ (by decide), p0 _ (by decide)]; exact h3) (by rw [p2 _ (by decide), p1 _ (by decide), p0 _ (by decide)]; exact h4)
  rw [← e3] at v48
  have v50 := fwd_diag X2 (by rw [p2 _ (by decide)]; exact v25) (by rw [p2 _ (by decide), p1 _ (by decide), p0 _ (by decide)]; exact h4)
  rw [← e3] at v50
  have cst := fwd_neg X2
  rw [← e3] at cst
  obtain ⟨X4, e4⟩ : ∃ X, X = after fwdOps_3 X3 := ⟨_, rfl⟩
  have p4 : ∀ r : Ref sig .tc, r ∉ fwdOps_3_W → X4 (Proc.devRef .tc r) = X3 (Proc.devRef .tc r) := fun r h => by
    rw [e4]; exact after_of_writes_sub fwdOps_3 X3 fwdOps_3_writes h
  rw [← e4]
  have v51 := fwd_stay X3 q v50 cst (by rw [p3 _ (by decide), p2 _ (by decide), p1 _ (by decide), p0 _ (by decide)]; exact h6)
  rw [← e4] at v51
  obtain ⟨X5, e5⟩ : ∃ X, X = after fwdOps_4 X4 := ⟨_, rfl⟩
  have p5 : ∀ r : Ref sig .tc, r ∉ fwdOps_4_W → X5 (Proc.devRef .tc r) = X4 (Proc.devRef .tc r) := fun r h => by
    rw [e5]; exact after_of_writes_sub fwdOps_4 X4 fwdOps_4_writes h
  rw [← e5]
  obtain ⟨X6, e6⟩ : ∃ X, X = after fwdOps_5 X5 := ⟨_, rfl⟩
  have p6 : ∀ r : Ref sig .tc, r ∉ fwdOps_5_W → X6 (Proc.devRef .tc r) = X5 (Proc.devRef .tc r) := fun r h => by
    rw [e6]; exact after_of_writes_sub fwdOps_5 X5 fwdOps_5_writes h
  rw [← e6]
  have v53 := fwd_enter X4 (k := k) (by rw [p4 _ (by decide), p3 _ (by decide), p2 _ (by decide)]; exact v25)
  rw [← e5, ← e6] at v53
  obtain ⟨X7, e7⟩ : ∃ X, X = after fwdOps_6 X6 := ⟨_, rfl⟩
  have p7 : ∀ r : Ref sig .tc, r ∉ fwdOps_6_W → X7 (Proc.devRef .tc r) = X6 (Proc.devRef .tc r) := fun r h => by
    rw [e7]; exact after_of_writes_sub fwdOps_6 X6 fwdOps_6_writes h
  rw [← e7]
  have v58 := fwd_sum X6 _ (x k) _ q v53 (by rw [p6 _ (by decide), p5 _ (by decide), p4 _ (by decide), p3 _ (by decide)]; exact v26) (by rw [p6 _ (by decide), p5 _ (by decide)]; exact v51) (by rw [p6 _ (by decide), p5 _ (by decide), p4 _ (by decide), p3 _ (by decide), p2 _ (by decide), p1 _ (by decide), p0 _ (by decide)]; exact h6)
  rw [← e7] at v58
  obtain ⟨X8, e8⟩ : ∃ X, X = after fwdOps_7 X7 := ⟨_, rfl⟩
  have p8 : ∀ r : Ref sig .tc, r ∉ fwdOps_7_W → X8 (Proc.devRef .tc r) = X7 (Proc.devRef .tc r) := fun r h => by
    rw [e8]; exact after_of_writes_sub fwdOps_7 X7 fwdOps_7_writes h
  rw [← e8]
  have v59 := fwd_new X7 _ _ (x k) (by rw [p7 _ (by decide), p6 _ (by decide), p5 _ (by decide), p4 _ (by decide)]; exact v48) v58 (by rw [p7 _ (by decide), p6 _ (by decide), p5 _ (by decide), p4 _ (by decide), p3 _ (by decide)]; exact v26)
  rw [← e8] at v59
  obtain ⟨X9, e9⟩ : ∃ X, X = after fwdOps_8 X8 := ⟨_, rfl⟩
  have p9 : ∀ r : Ref sig .tc, r ∉ fwdOps_8_W → X9 (Proc.devRef .tc r) = X8 (Proc.devRef .tc r) := fun r h => by
    rw [e9]; exact after_of_writes_sub fwdOps_8 X8 fwdOps_8_writes h
  rw [← e9]
  have v60 := fwd_put X8 hk Q _ (by rw [p8 _ (by decide), p7 _ (by decide), p6 _ (by decide), p5 _ (by decide), p4 _ (by decide), p3 _ (by decide), p2 _ (by decide), p1 _ (by decide), p0 _ (by decide)]; exact h7) v59 (by rw [p8 _ (by decide), p7 _ (by decide), p6 _ (by decide), p5 _ (by decide), p4 _ (by decide), p3 _ (by decide), p2 _ (by decide), p1 _ (by decide), p0 _ (by decide)]; exact h5)
  rw [← e9] at v60
  refine ⟨(fwd_carry6 X9).trans ?_, (fwd_carry7 X9).trans v60⟩
  rw [p9 _ (by decide)]
  exact v59

/-! ## The new row is the frame's scores -/

/-- The first lane in range. -/
theorem first_lane {k : ℕ} (hk : k < 2048) :
    IntOp.maxsi 0#32 (IntOp.subi (IntOp.addi 512#32 (BitVec.ofNat 32 k)) 2048#32) = BitVec.ofNat 32 (k - 1536) := by
  have e : IntOp.subi (IntOp.addi 512#32 (BitVec.ofNat 32 k)) 2048#32 = BitVec.ofInt 32 ((k : ℤ) - 1536) := by
    apply BitVec.eq_of_toNat_eq
    simp only [IntOp.subi, IntOp.addi, BitVec.toNat_sub, BitVec.toNat_add, BitVec.toNat_ofNat, BitVec.toNat_ofInt]
    omega
  have hi : (BitVec.ofInt 32 ((k : ℤ) - 1536)).toInt = (k : ℤ) - 1536 := by
    rw [BitVec.toInt_ofInt_eq_self (by decide) (by omega) (by omega)]
  rw [e]
  unfold IntOp.maxsi
  simp only [BitVec.slt, BitVec.toInt_zero, hi]
  split
  · next h =>
    have : (k : ℤ) - 1536 < 0 := by simpa using h
    rw [show k - 1536 = 0 by omega]
  · next h =>
    have : ¬ (k : ℤ) - 1536 < 0 := by simpa using h
    apply BitVec.eq_of_toInt_eq
    rw [hi, WordCmp.toInt_ofNat_of_lt (by omega)]
    omega

/-- The end of the lanes in range. -/
theorem end_lane {k : ℕ} (hk : k < 2048) :
    IntOp.minsi 512#32 (IntOp.addi (BitVec.ofNat 32 k) 1#32) = BitVec.ofNat 32 (min 512 (k + 1)) := by
  rw [show IntOp.addi (BitVec.ofNat 32 k) 1#32 = BitVec.ofNat 32 (k + 1) from WordCmp.addi_ofNat k 1]
  unfold IntOp.minsi
  simp only [BitVec.slt, WordCmp.toInt_ofNat_of_lt (show k + 1 < 2 ^ (32 - 1) by omega)]
  rw [show (512#32 : BitVec 32).toInt = 512 from by decide]
  split
  · next h =>
    have : (512 : ℤ) < ((k + 1 : ℕ) : ℤ) := by simpa using h
    rw [show min 512 (k + 1) = 512 by omega]
  · next h =>
    have : ¬ (512 : ℤ) < ((k + 1 : ℕ) : ℤ) := by simpa using h
    rw [show min 512 (k + 1) = k + 1 by omega]

/-- The lanes in range of a frame. -/
theorem range_eq {k : ℕ} (hk : k < 2048) (t : Fin 512) :
    IntOp.andi (IntOp.andi
        (IntOp.cmpi .sge (BitVec.ofNat 32 t.val) (IntOp.maxsi 0#32 (IntOp.subi (IntOp.addi 512#32 (BitVec.ofNat 32 k)) 2048#32)))
        (IntOp.cmpi .slt (BitVec.ofNat 32 t.val) (IntOp.minsi 512#32 (IntOp.addi (BitVec.ofNat 32 k) 1#32))))
        (IntOp.cmpi .slt (BitVec.ofNat 32 k) 2048#32) = BitVec.ofBool (decide (k - 1536 ≤ t.val ∧ t.val ≤ k)) := by
  have ht := t.isLt
  rw [first_lane hk, end_lane hk, WordCmp.cmpi_sge_ofNat (by omega) (by omega), WordCmp.cmpi_slt_ofNat (by omega) (by omega),
    show (2048#32 : BitVec 32) = BitVec.ofNat 32 2048 from rfl, WordCmp.cmpi_slt_ofNat (by omega) (by omega),
    WordCmp.andi_ofBool, WordCmp.andi_ofBool]
  refine congrArg BitVec.ofBool ?_
  rw [← Bool.decide_and, ← Bool.decide_and]
  exact decide_eq_decide.mpr (by omega)

/-- After the first frame, the new row is the frame's scores. -/
theorem newRow_eq {k : ℕ} (h0 : k ≠ 0) (hk : k < 2048) (x q : Row (F .f32)) : newRow k x q = row k x q := by
  funext b t
  have ht := t.isLt
  unfold newRow
  rw [range_eq hk, WordCmp.select_ofBool, show (0#32 : BitVec 32) = BitVec.ofNat 32 0 from rfl, WordCmp.cmpi_eq_ofNat (by omega) (by omega),
    WordCmp.select_ofBool, decide_eq_false h0]
  have hs : ∀ h : ¬ t.val = k, Scalar.select (IntOp.cmpi .eq (BitVec.ofNat 32 t.val) (BitVec.ofNat 32 k)) neg (q b t) = q b t := fun h => by
    rw [WordCmp.cmpi_eq_ofNat (by omega) (by omega), decide_eq_false h]; rfl
  unfold row
  by_cases hA : k < 512
  · rw [if_pos hA]
    unfold rowA
    rw [WordCmp.cmpi_sle_ofNat (by omega) (by omega), WordCmp.select_ofBool]
    have e : decide (k - 1536 ≤ t.val ∧ t.val ≤ k) = decide (t.val ≤ k) := decide_eq_decide.mpr (by omega)
    rw [e]
    rfl
  · rw [if_neg hA]
    by_cases hB : k < 1536
    · rw [if_pos hB]
      have e : decide (k - 1536 ≤ t.val ∧ t.val ≤ k) = true := decide_eq_true (by omega)
      rw [e, hs (by omega)]
      rfl
    · rw [if_neg hB]
      unfold rowC
      have e1 : IntOp.subi (BitVec.ofNat 32 k) 1536#32 = BitVec.ofNat 32 (k - 1536) := by
        apply BitVec.eq_of_toNat_eq
        simp only [IntOp.subi, BitVec.toNat_sub, BitVec.toNat_ofNat]
        omega
      have e : decide (k - 1536 ≤ t.val ∧ t.val ≤ k) = decide (k - 1536 ≤ t.val) := decide_eq_decide.mpr (by omega)
      rw [e1, WordCmp.cmpi_sge_ofNat (by omega) (by omega), WordCmp.select_ofBool, e, hs (by omega)]
      rfl

end

/-! ## The first frame, over the extended reals -/

theorem neg_le : (Ideal.ofBits .f32 0xCE6E6B28#32 : EReal) ≤ 0 := by
  simp [Ideal.ofBits, Ideal.ieee, -EReal.coe_mul]
  try norm_num

/-- Of the first frame, the row is its values. -/
theorem newRow_zero (x q : Row (Ideal .f32)) : newRow 0 x q = x := by
  funext b t
  have ht := t.isLt
  unfold newRow
  rw [range_eq (by omega), WordCmp.select_ofBool]
  by_cases h : t.val = 0
  · rw [decide_eq_true (by omega), h]
    show (x b t + max (Ideal.ofBits .f32 0x00000000#32) (Ideal.ofBits .f32 0xCE6E6B28#32) : EReal) = x b t
    rw [Cert.Mas.ofBits_zero, max_eq_left neg_le, add_zero]
  · rw [decide_eq_false (by omega)]
    rfl

/-- The new row after the rows before is the frame's scores. -/
theorem newRow_score (x : ℕ → Row (Ideal .f32)) {k : ℕ} (hk : k < 2048) (q : Row (Ideal .f32)) (hq : k ≠ 0 → q = score x (k - 1)) :
    newRow k (x k) q = score x k := by
  cases k with
  | zero => exact newRow_zero (x 0) q
  | succ f =>
    rw [newRow_eq (by omega) hk, hq (by omega)]
    rfl

/-! ## The loop -/

variable (m : (ℓ : Loc nD τ sig) → Buf (Elt Ideal) ℓ) (c : Dev nD)

/-- What holds when the forward loop is entered. -/
structure Entered (x : ℕ → Row (Ideal .f32)) : Prop where
  h0 : W1 m c (Proc.devRef .tc main_v16_0) = fun j : S2048.Idx => BitVec.ofNat 32 (j 0).val
  h1 : W1 m c (Proc.devRef .tc main_v16_1) = ofRows x
  h2 : W1 m c (Proc.devRef .tc main_v16_2) = fun _ => 512#32
  h3 : W1 m c (Proc.devRef .tc main_v16_3) = fun _ => 2048#32
  h4 : W1 m c (Proc.devRef .tc main_v16_4) = fun j : S1x512.Idx => BitVec.ofNat 32 (j 1).val
  h6 : ∃ q, W1 m c (Proc.devRef .tc main_v16_6) = ofRow q
  h7 : ∃ Q, W1 m c (Proc.devRef .tc main_v16_7) = ofRows Q

/-- Before trip `k` the scores of the frames before it are stacked. -/
theorem fwd_inv {x : ℕ → Row (Ideal .f32)} (h : Entered m c x) : ∀ k, k ≤ 2048 →
    (∃ q, Wfwd m k c (Proc.devRef .tc main_v16_6) = ofRow q ∧ (k ≠ 0 → q = score x (k - 1)))
      ∧ ∃ Q, Wfwd m k c (Proc.devRef .tc main_v16_7) = ofRows Q ∧ ∀ f < k, Q f = score x f
  | 0, _ => ⟨h.h6.imp fun q e => ⟨e, fun e => absurd rfl e⟩, h.h7.imp fun Q e => ⟨e, fun f hf => absurd hf (Nat.not_lt_zero f)⟩⟩
  | k + 1, hk => by
    obtain ⟨⟨q, e6, hq⟩, Q, e7, hQ⟩ := fwd_inv h k (by omega)
    have := fwd_trip (Wfwd m k c) (k := k) (by omega) x q Q
      ((Wfwd_keep m c (by decide) k).trans h.h0) ((Wfwd_keep m c (by decide) k).trans h.h1) ((Wfwd_keep m c (by decide) k).trans h.h2)
      ((Wfwd_keep m c (by decide) k).trans h.h3) ((Wfwd_keep m c (by decide) k).trans h.h4)
      ((Wfwd_ctr m c k).trans (by rw [iv_eq])) e6 e7
    rw [newRow_score x (by omega) q hq] at this
    refine ⟨⟨_, this.1, fun _ => rfl⟩, _, this.2, fun f hf => ?_⟩
    by_cases hfk : f = k
    · subst hfk; rw [Function.update_self]
    · rw [Function.update_of_ne hfk]; exact hQ f (by omega)

end Cert.ReferenceIdeal.Mas

end
-- ==== Proof.ReferenceIdeal.Backward.lean ====
/- What one trip of the reference's backward loop computes. -/
module

public import proofs.«01_k».proof.Proof.ReferenceIdeal.Forward

@[expose] public section

set_option maxRecDepth 4000

noncomputable section

namespace Cert.ReferenceIdeal.Mas

open Idealize.ShloMosaic Idealize.ShloMosaic.TcCoe
open Idealize.SL Idealize.SL.Sem
open Idealize.ShloMosaic.StableHlo
open Cert.ReferenceIdeal.Gen
open Cert.Mas (Row lft)

variable {F : FTy → Type} [FloatOps F]

/-- A value for each batch as an array. -/
def ofVec {α : Type} (v : Fin 8 → α) : S8.Idx → α := fun j => v (j 0)

/-- The remainder whose sign is the divisor's, as the program computes it. -/
def fmod (n w : BitVec 32) : BitVec 32 :=
  Scalar.select
    (IntOp.andi
      (IntOp.cmpi .ne (IntOp.cmpi .slt (IntOp.remsi .host w (Scalar.select (IntOp.cmpi .eq n 0#32) 1#32 n)) 0#32)
        (IntOp.cmpi .slt (Scalar.select (IntOp.cmpi .eq n 0#32) 1#32 n) 0#32))
      (IntOp.cmpi .ne (IntOp.remsi .host w (Scalar.select (IntOp.cmpi .eq n 0#32) 1#32 n)) 0#32))
    (IntOp.addi (IntOp.remsi .host w (Scalar.select (IntOp.cmpi .eq n 0#32) 1#32 n)) (Scalar.select (IntOp.cmpi .eq n 0#32) 1#32 n))
    (IntOp.remsi .host w (Scalar.select (IntOp.cmpi .eq n 0#32) 1#32 n))

/-- An index counted from the end where it is negative. -/
def wrap (n i : BitVec 32) : BitVec 32 := Scalar.select (IntOp.cmpi .slt i 0#32) (IntOp.addi i n) i

/-! ## The gather -/

/-- An index of the gather's table. -/
def atCol (b : Fin 8) (k : Fin 3) : S8x3.Idx := fun | ⟨0, _⟩ => b | ⟨1, _⟩ => k

/-- An index of one column of it. -/
def atOne (b : Fin 8) : S8x1.Idx := fun | ⟨0, _⟩ => b | ⟨1, _⟩ => (⟨0, by decide⟩ : Fin 1)

/-- The element of the stack at three words. -/
def pick {α : Type} (Q : ℕ → Row α) (f b t : BitVec 32) : α :=
  Q (min f.toInt.toNat 2047) ⟨min b.toInt.toNat 7, by omega⟩ ⟨min t.toInt.toNat 511, by omega⟩

theorem gather_start (idx : S8x3.Idx → BitVec 32) (j : S8.Idx) (a : Fin 3) :
    ((gather_S2048x8x512_S8x3_S8_n_012_n_n_012_1_111.operandIdx j idx) a).val
      = min (idx (atCol (j 0) a)).toInt.toNat (S2048x8x512.size a - 1) := by
  have hm : a ∈ ([0, 1, 2] : List (Fin 3)) := by fin_cases a <;> simp
  show gather_S2048x8x512_S8x3_S8_n_012_n_n_012_1_111.start j idx a + gather_S2048x8x512_S8x3_S8_n_012_n_n_012_1_111.batchCoord j a
    + gather_S2048x8x512_S8x3_S8_n_012_n_n_012_1_111.offCoord j a = _
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ gather_S2048x8x512_S8x3_S8_n_012_n_n_012_1_111.startIndexMap from hm)]
  have hsi : gather_S2048x8x512_S8x3_S8_n_012_n_n_012_1_111.siIdx j ⟨List.idxOf a gather_S2048x8x512_S8x3_S8_n_012_n_n_012_1_111.startIndexMap,
      List.idxOf_lt_length_iff.2 hm⟩ = atCol (j 0) a := by
    funext c; refine Fin.ext ?_
    match a, c with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
  rw [hsi]
  match a with
  | ⟨0, _⟩ => rfl
  | ⟨1, _⟩ => rfl
  | ⟨2, _⟩ => rfl

theorem gather_pick {α : Type} (Q : ℕ → Row α) (idx : S8x3.Idx → BitVec 32) :
    Host.gather gather_S2048x8x512_S8x3_S8_n_012_n_n_012_1_111 (ofRows Q) idx
      = fun j => pick Q (idx (atCol (j 0) 0)) (idx (atCol (j 0) 1)) (idx (atCol (j 0) 2)) := by
  funext j
  unfold Host.gather ofRows pick
  rw [gather_start idx j 0]
  refine congrArg₂ (Q _) (Fin.ext ?_) (Fin.ext ?_)
  · exact gather_start idx j 1
  · exact gather_start idx j 2

/-- Three columns side by side. -/
theorem columns {α : Type} (p q r : S8x1.Idx → α)
    (h : Shape.Concatenates (([⟨S8x1, p⟩, ⟨S8x1, q⟩, ⟨S8x1, r⟩] : List ((s : Shape) × (s.Idx → α))).map (·.1)) S8x3 1) (b : Fin 8) :
    concatenate S8x3 1 [⟨S8x1, p⟩, ⟨S8x1, q⟩, ⟨S8x1, r⟩] h (atCol b 0) = p (atOne b)
      ∧ concatenate S8x3 1 [⟨S8x1, p⟩, ⟨S8x1, q⟩, ⟨S8x1, r⟩] h (atCol b 1) = q (atOne b)
      ∧ concatenate S8x3 1 [⟨S8x1, p⟩, ⟨S8x1, q⟩, ⟨S8x1, r⟩] h (atCol b 2) = r (atOne b) := by
  refine ⟨concatenate_apply_piece (t := S8x3) 1 [⟨S8x1, p⟩, ⟨S8x1, q⟩, ⟨S8x1, r⟩] h (atCol b 0) 0 (Nat.zero_lt_succ 2) S8x1 p rfl rfl 0 rfl (atOne b) (fun c hc => ?_) rfl,
    concatenate_apply_piece (t := S8x3) 1 [⟨S8x1, p⟩, ⟨S8x1, q⟩, ⟨S8x1, r⟩] h (atCol b 1) 1 (show 1 < 3 by omega) S8x1 q rfl rfl 1 rfl (atOne b) (fun c hc => ?_) rfl,
    concatenate_apply_piece (t := S8x3) 1 [⟨S8x1, p⟩, ⟨S8x1, q⟩, ⟨S8x1, r⟩] h (atCol b 2) 2 (show 2 < 3 by omega) S8x1 r rfl rfl 2 rfl (atOne b) (fun c hc => ?_) rfl⟩
  all_goals
    match c, hc with
    | ⟨0, _⟩, _ => rfl
    | ⟨1, _⟩, hc => exact absurd rfl hc

/-! ## The trip's stretches -/

theorem back_next (X : Valuation τ sig (Elt F)) {n : ℕ}
    (h6 : X (Proc.devRef .tc main_v23_6) = fun _ => BitVec.ofNat 32 n) :
    after backOps X (Proc.devRef .tc main_while1b_v25) = fun _ => BitVec.ofNat 32 (n + 1) := by
  after_results
  rw [h6]
  exact funext fun _ => WordCmp.addi_ofNat n 1

theorem sub_ofNat {a b : ℕ} (h : b ≤ a) (ha : a < 2 ^ 31) : IntOp.subi (BitVec.ofNat 32 a) (BitVec.ofNat 32 b) = BitVec.ofNat 32 (a - b) := by
  apply BitVec.eq_of_toNat_eq
  simp only [IntOp.subi, BitVec.toNat_sub, BitVec.toNat_ofNat]
  omega

/-- The frame walked. -/
theorem back_frame (X : Valuation τ sig (Elt F)) {n : ℕ} (hn : n < 2048)
    (h6 : X (Proc.devRef .tc main_v23_6) = fun _ => BitVec.ofNat 32 n) :
    after backOps X (Proc.devRef .tc main_while1b_v26) = fun _ => BitVec.ofNat 32 (2047 - n) := by
  after_results
  rw [h6]
  exact funext fun _ => sub_ofNat (a := 2047) (by omega) (by omega)

/-- It is one of the frames. -/
theorem back_within (X : Valuation τ sig (Elt F)) {n : ℕ} (hn : n < 2048)
    (h0 : X (Proc.devRef .tc main_v23_0) = fun _ => 2048#32)
    (h6 : X (Proc.devRef .tc main_v23_6) = fun _ => BitVec.ofNat 32 n) :
    after backOps X (Proc.devRef .tc main_while1b_v29) = fun _ => 1#1 := by
  after_results
  rw [h6, h0]
  funext j
  show IntOp.cmpi .slt (IntOp.subi 2047#32 (BitVec.ofNat 32 n)) 2048#32 = 1#1
  rw [show IntOp.subi 2047#32 (BitVec.ofNat 32 n) = BitVec.ofNat 32 (2047 - n) from sub_ofNat (a := 2047) (by omega) (by omega),
    show (2048#32 : BitVec 32) = BitVec.ofNat 32 2048 from rfl, WordCmp.cmpi_slt_ofNat (by omega) (by omega), decide_eq_true (by omega)]
  rfl

theorem back_512 (X : Valuation τ sig (Elt F)) :
    after backOps X (Proc.devRef .tc main_while1b_c_16) = fun _ => 512#32 := by
  after_results
  rfl

/-- The token's lane. -/
theorem back_lane (X : Valuation τ sig (Elt F)) (T : Fin 8 → BitVec 32)
    (h : X (Proc.devRef .tc main_while1b_c_16) = fun _ => 512#32)
    (h8 : X (Proc.devRef .tc main_v23_8) = ofVec T) :
    after backOps_1 X (Proc.devRef .tc main_while1b_v30) = ofVec fun b => fmod 512#32 (T b) := by
  after_results
  rw [h, h8]
  rfl

/-- Where the path is marked. -/
theorem back_mark (X : Valuation τ sig (Elt F)) {f : BitVec 32} (R : Fin 8 → BitVec 32)
    (h1 : X (Proc.devRef .tc main_v23_1) = fun j : S8x2048x512.Idx => BitVec.ofNat 32 (j 1).val)
    (h2 : X (Proc.devRef .tc main_v23_2) = fun j : S8x2048x512.Idx => BitVec.ofNat 32 (j 2).val)
    (h26 : X (Proc.devRef .tc main_while1b_v26) = fun _ => f)
    (h29 : X (Proc.devRef .tc main_while1b_v29) = fun _ => 1#1)
    (h30 : X (Proc.devRef .tc main_while1b_v30) = ofVec R) :
    after backOps_2 X (Proc.devRef .tc main_while1b_v40) = fun j : S8x2048x512.Idx =>
      IntOp.andi 1#1 (IntOp.andi (IntOp.cmpi .eq (BitVec.ofNat 32 (j 1).val) f) (IntOp.cmpi .eq (BitVec.ofNat 32 (j 2).val) (R (j 0)))) := by
  after_results
  rw [h1, h2, h26, h29, h30]
  rfl

theorem back_one (X : Valuation τ sig (Elt F)) :
    after backOps_2 X (Proc.devRef .tc main_while1b_c_17) = fun _ => 1#32 := by
  after_results
  rfl

/-- The path with its mark. -/
theorem back_path (X : Valuation τ sig (Elt F)) (A : S8x2048x512.Idx → BitVec 32) (B : S8x2048x512.Idx → BitVec 1)
    (h : X (Proc.devRef .tc main_while1b_c_17) = fun _ => 1#32)
    (h40 : X (Proc.devRef .tc main_while1b_v40) = B)
    (h7 : X (Proc.devRef .tc main_v23_7) = A) :
    after backOps_3 X (Proc.devRef .tc main_while1b_v41) = fun j : S8x2048x512.Idx => Scalar.select (B j) 1#32 (A j) := by
  after_results
  rw [h, h40, h7]
  rfl

theorem back_before (X : Valuation τ sig (Elt F)) {f : BitVec 32}
    (h26 : X (Proc.devRef .tc main_while1b_v26) = fun _ => f) :
    after backOps_4 X (Proc.devRef .tc main_while1b_v42) = fun _ => IntOp.subi f 1#32 := by
  after_results
  rw [h26]
  rfl

theorem back_2048 (X : Valuation τ sig (Elt F)) :
    after backOps_4 X (Proc.devRef .tc main_while1b_c_19) = fun _ => 2048#32 := by
  after_results
  rfl

/-- The frame before. -/
theorem back_row (X : Valuation τ sig (Elt F)) {g : BitVec 32}
    (h : X (Proc.devRef .tc main_while1b_c_19) = fun _ => 2048#32)
    (h42 : X (Proc.devRef .tc main_while1b_v42) = fun _ => g) :
    after backOps_5 X (Proc.devRef .tc main_while1b_v43) = fun _ => fmod 2048#32 g := by
  after_results
  rw [h, h42]
  rfl

theorem back_minus (X : Valuation τ sig (Elt F)) (T : Fin 8 → BitVec 32)
    (h8 : X (Proc.devRef .tc main_v23_8) = ofVec T) :
    after backOps_6 X (Proc.devRef .tc main_while1b_v45) = ofVec fun b => IntOp.subi (T b) 1#32 := by
  after_results
  rw [h8]
  rfl

theorem back_512' (X : Valuation τ sig (Elt F)) :
    after backOps_6 X (Proc.devRef .tc main_while1b_c_21) = fun _ => 512#32 := by
  after_results
  rfl

/-- The lane before the token's. -/
theorem back_left (X : Valuation τ sig (Elt F)) (T : Fin 8 → BitVec 32)
    (h : X (Proc.devRef .tc main_while1b_c_21) = fun _ => 512#32)
    (h45 : X (Proc.devRef .tc main_while1b_v45) = ofVec T) :
    after backOps_7 X (Proc.devRef .tc main_while1b_v46) = ofVec fun b => fmod 512#32 (T b) := by
  after_results
  rw [h, h45]
  rfl

/-- The token after the step. -/
theorem back_choose (X : Valuation τ sig (Elt F)) (C : Fin 8 → BitVec 1) (S T : Fin 8 → BitVec 32)
    (h95 : X (Proc.devRef .tc main_while1b_v95) = ofVec C)
    (h97 : X (Proc.devRef .tc main_while1b_v97) = ofVec S)
    (h8 : X (Proc.devRef .tc main_v23_8) = ofVec T) :
    after backOps_9 X (Proc.devRef .tc main_while1b_v98) = ofVec fun b => Scalar.select (C b) (S b) (T b) := by
  after_results
  rw [h95, h97, h8]
  rfl

theorem back_carry6 (X : Valuation τ sig (Elt F)) :
    after backOps_10 X (Proc.devRef .tc main_v23_6) = X (Proc.devRef .tc main_while1b_v25) := by
  after_results
  rfl
theorem back_carry7 (X : Valuation τ sig (Elt F)) :
    after backOps_10 X (Proc.devRef .tc main_v23_7) = X (Proc.devRef .tc main_while1b_v41) := by
  after_results
  rfl
theorem back_carry8 (X : Valuation τ sig (Elt F)) :
    after backOps_10 X (Proc.devRef .tc main_v23_8) = X (Proc.devRef .tc main_while1b_v98) := by
  after_results
  rfl

end Cert.ReferenceIdeal.Mas

end
-- ==== Proof.ReferenceIdeal.Decide.lean ====
/- The reference's decision whether its walk steps: two gathers compared. -/
module

public import proofs.«01_k».proof.Proof.ReferenceIdeal.Backward

@[expose] public section

set_option maxRecDepth 4000

noncomputable section

namespace Cert.ReferenceIdeal.Mas

open Idealize.ShloMosaic Idealize.ShloMosaic.TcCoe
open Idealize.SL Idealize.SL.Sem
open Idealize.ShloMosaic.StableHlo
open Cert.ReferenceIdeal.Gen
open Cert.Mas (Row lft)

variable {F : FTy → Type} [FloatOps F]

/-- The operations of the token's corner and the first index. -/
abbrev takeA : List (HloOp τ sig (Elt F)) :=
  [ StableHlo.nullary main_while1b_c_22 (constantI S_ 32 0#32),
    StableHlo.unary main_while1b_c_22 main_while1b_v47 (broadcastInDim S8 ![] bcast_S_S8 : (⟨S_, .i32⟩ : BufTy).Contents (Elt F) → (⟨S8, .i32⟩ : BufTy).Contents (Elt F)),
    StableHlo.binary main_v23_8 main_while1b_v47 main_while1b_v48 (cmpi .ne : (⟨S8, .i32⟩ : BufTy).Contents (Elt F) → (⟨S8, .i32⟩ : BufTy).Contents (Elt F) → (⟨S8, .i1⟩ : BufTy).Contents (Elt F)),
    StableHlo.unary main_while1b_v26 main_while1b_v49 (id : (⟨S_, .i32⟩ : BufTy).Contents (Elt F) → (⟨S_, .i32⟩ : BufTy).Contents (Elt F)),
    StableHlo.unary main_while1b_v49 main_while1b_v50 (broadcastInDim S8 ![] bcast_S_S8 : (⟨S_, .i32⟩ : BufTy).Contents (Elt F) → (⟨S8, .i32⟩ : BufTy).Contents (Elt F)),
    StableHlo.binary main_v23_8 main_while1b_v50 main_while1b_v51 (cmpi .eq : (⟨S8, .i32⟩ : BufTy).Contents (Elt F) → (⟨S8, .i32⟩ : BufTy).Contents (Elt F) → (⟨S8, .i1⟩ : BufTy).Contents (Elt F)),
    StableHlo.binary main_while1b_v48 main_while1b_v51 main_while1b_v52 (andi : (⟨S8, .i1⟩ : BufTy).Contents (Elt F) → (⟨S8, .i1⟩ : BufTy).Contents (Elt F) → (⟨S8, .i1⟩ : BufTy).Contents (Elt F)),
    StableHlo.nullary main_while1b_c_23 (constantI S_ 32 0#32),
    StableHlo.binary main_while1b_v43 main_while1b_c_23 main_while1b_v53 (cmpi .slt : (⟨S_, .i32⟩ : BufTy).Contents (Elt F) → (⟨S_, .i32⟩ : BufTy).Contents (Elt F) → (⟨S_, .i1⟩ : BufTy).Contents (Elt F)),
    StableHlo.nullary main_while1b_c_24 (constantI S_ 32 2048#32),
    StableHlo.binary main_while1b_v43 main_while1b_c_24 main_while1b_v54 (addi : (⟨S_, .i32⟩ : BufTy).Contents (Elt F) → (⟨S_, .i32⟩ : BufTy).Contents (Elt F) → (⟨S_, .i32⟩ : BufTy).Contents (Elt F)),
    StableHlo.ternary main_while1b_v53 main_while1b_v54 main_while1b_v43 main_while1b_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_25 (constantI S_ 32 0#32),
    StableHlo.unary main_while1b_c_25 main_while1b_v56 (broadcastInDim S8 ![] bcast_S_S8 : (⟨S_, .i32⟩ : BufTy).Contents (Elt F) → (⟨S8, .i32⟩ : BufTy).Contents (Elt F)),
    StableHlo.binary main_v23_3 main_while1b_v56 main_while1b_v57 (cmpi .slt : (⟨S8, .i32⟩ : BufTy).Contents (Elt F) → (⟨S8, .i32⟩ : BufTy).Contents (Elt F) → (⟨S8, .i1⟩ : BufTy).Contents (Elt F)),
    StableHlo.nullary main_while1b_c_26 (constantI S_ 32 8#32),
    StableHlo.unary main_while1b_c_26 main_while1b_v58 (broadcastInDim S8 ![] bcast_S_S8 : (⟨S_, .i32⟩ : BufTy).Contents (Elt F) → (⟨S8, .i32⟩ : BufTy).Contents (Elt F)),
    StableHlo.binary main_v23_3 main_while1b_v58 main_while1b_v59 (addi : (⟨S8, .i32⟩ : BufTy).Contents (Elt F) → (⟨S8, .i32⟩ : BufTy).Contents (Elt F) → (⟨S8, .i32⟩ : BufTy).Contents (Elt F)),
    StableHlo.ternary main_while1b_v57 main_while1b_v59 main_v23_3 main_while1b_v60 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while1b_c_27 (constantI S_ 32 0#32),
    StableHlo.unary main_while1b_c_27 main_while1b_v61 (broadcastInDim S8 ![] bcast_S_S8 : (⟨S_, .i32⟩ : BufTy).Contents (Elt F) → (⟨S8, .i32⟩ : BufTy).Contents (Elt F)),
    StableHlo.binary main_while1b_v30 main_while1b_v61 main_while1b_v62 (cmpi .slt : (⟨S8, .i32⟩ : BufTy).Contents (Elt F) → (⟨S8, .i32⟩ : BufTy).Contents (Elt F) → (⟨S8, .i1⟩ : BufTy).Contents (Elt F)),
    StableHlo.nullary main_while1b_c_28 (constantI S_ 32 512#32),
    StableHlo.unary main_while1b_c_28 main_while1b_v63 (broadcastInDim S8 ![] bcast_S_S8 : (⟨S_, .i32⟩ : BufTy).Contents (Elt F) → (⟨S8, .i32⟩ : BufTy).Contents (Elt F)),
    StableHlo.binary main_while1b_v30 main_while1b_v63 main_while1b_v64 (addi : (⟨S8, .i32⟩ : BufTy).Contents (Elt F) → (⟨S8, .i32⟩ : BufTy).Contents (Elt F) → (⟨S8, .i32⟩ : BufTy).Contents (Elt F)),
    StableHlo.ternary main_while1b_v62 main_while1b_v64 main_while1b_v30 main_while1b_v65 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while1b_v55 main_while1b_v66 (broadcastInDim S8 ![] bcast_S_S8 : (⟨S_, .i32⟩ : BufTy).Contents (Elt F) → (⟨S8, .i32⟩ : BufTy).Contents (Elt F)),
    StableHlo.unary main_while1b_v66 main_while1b_v67 (id : (⟨S8, .i32⟩ : BufTy).Contents (Elt F) → (⟨S8, .i32⟩ : BufTy).Contents (Elt F)),
    StableHlo.unary main_while1b_v67 main_while1b_v68 (broadcastInDim S8x1 ![0] bcast_S8_S8x1_0 : (⟨S8, .i32⟩ : BufTy).Contents (Elt F) → (⟨S8x1, .i32⟩ : BufTy).Contents (Elt F)),
    StableHlo.unary main_while1b_v60 main_while1b_v69 (broadcastInDim S8x1 ![0] bcast_S8_S8x1_0 : (⟨S8, .i32⟩ : BufTy).Contents (Elt F) → (⟨S8x1, .i32⟩ : BufTy).Contents (Elt F)),
    StableHlo.unary main_while1b_v65 main_while1b_v70 (broadcastInDim S8x1 ![0] bcast_S8_S8x1_0 : (⟨S8, .i32⟩ : BufTy).Contents (Elt F) → (⟨S8x1, .i32⟩ : BufTy).Contents (Elt F)) ]

/-- The operations of the first gather. -/
abbrev takeB : List (HloOp τ sig (Elt F)) :=
  [ StableHlo.nary ![main_while1b_v68, main_while1b_v69, main_while1b_v70] main_while1b_v71 (fun u => (concatenate S8x3 1 [⟨S8x1, (u 0 : (⟨S8x1, .i32⟩ : BufTy).Contents (Elt F))⟩, ⟨S8x1, (u 1 : (⟨S8x1, .i32⟩ : BufTy).Contents (Elt F))⟩, ⟨S8x1, (u 2 : (⟨S8x1, .i32⟩ : BufTy).Contents (Elt F))⟩] concatenates_S8x1_S8x1_S8x1_S8x3_d1 : (⟨S8x3, .i32⟩ : BufTy).Contents (Elt F))),
    StableHlo.binary main_v23_4 main_while1b_v71 main_while1b_v72 ((fun x i => Host.gather gather_S2048x8x512_S8x3_S8_n_012_n_n_012_1_111 x i) : (⟨S2048x8x512, .f32⟩ : BufTy).Contents (Elt F) → (⟨S8x3, .i32⟩ : BufTy).Contents (Elt F) → (⟨S8, .f32⟩ : BufTy).Contents (Elt F)) ]

/-- The operations of the second index. -/
abbrev takeC : List (HloOp τ sig (Elt F)) :=
  [ StableHlo.nullary main_while1b_c_29 (constantI S_ 32 0#32),
    StableHlo.binary main_while1b_v43 main_while1b_c_29 main_while1b_v73 (cmpi .slt : (⟨S_, .i32⟩ : BufTy).Contents (Elt F) → (⟨S_, .i32⟩ : BufTy).Contents (Elt F) → (⟨S_, .i1⟩ : BufTy).Contents (Elt F)),
    StableHlo.nullary main_while1b_c_30 (constantI S_ 32 2048#32),
    StableHlo.binary main_while1b_v43 main_while1b_c_30 main_while1b_v74 (addi : (⟨S_, .i32⟩ : BufTy).Contents (Elt F) → (⟨S_, .i32⟩ : BufTy).Contents (Elt F) → (⟨S_, .i32⟩ : BufTy).Contents (Elt F)),
    StableHlo.ternary main_while1b_v73 main_while1b_v74 main_while1b_v43 main_while1b_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_31 (constantI S_ 32 0#32),
    StableHlo.unary main_while1b_c_31 main_while1b_v76 (broadcastInDim S8 ![] bcast_S_S8 : (⟨S_, .i32⟩ : BufTy).Contents (Elt F) → (⟨S8, .i32⟩ : BufTy).Contents (Elt F)),
    StableHlo.binary main_v23_3 main_while1b_v76 main_while1b_v77 (cmpi .slt : (⟨S8, .i32⟩ : BufTy).Contents (Elt F) → (⟨S8, .i32⟩ : BufTy).Contents (Elt F) → (⟨S8, .i1⟩ : BufTy).Contents (Elt F)),
    StableHlo.nullary main_while1b_c_32 (constantI S_ 32 8#32),
    StableHlo.unary main_while1b_c_32 main_while1b_v78 (broadcastInDim S8 ![] bcast_S_S8 : (⟨S_, .i32⟩ : BufTy).Contents (Elt F) → (⟨S8, .i32⟩ : BufTy).Contents (Elt F)),
    StableHlo.binary main_v23_3 main_while1b_v78 main_while1b_v79 (addi : (⟨S8, .i32⟩ : BufTy).Contents (Elt F) → (⟨S8, .i32⟩ : BufTy).Contents (Elt F) → (⟨S8, .i32⟩ : BufTy).Contents (Elt F)),
    StableHlo.ternary main_while1b_v77 main_while1b_v79 main_v23_3 main_while1b_v80 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while1b_c_33 (constantI S_ 32 0#32),
    StableHlo.unary main_while1b_c_33 main_while1b_v81 (broadcastInDim S8 ![] bcast_S_S8 : (⟨S_, .i32⟩ : BufTy).Contents (Elt F) → (⟨S8, .i32⟩ : BufTy).Contents (Elt F)),
    StableHlo.binary main_while1b_v46 main_while1b_v81 main_while1b_v82 (cmpi .slt : (⟨S8, .i32⟩ : BufTy).Contents (Elt F) → (⟨S8, .i32⟩ : BufTy).Contents (Elt F) → (⟨S8, .i1⟩ : BufTy).Contents (Elt F)),
    StableHlo.nullary main_while1b_c_34 (constantI S_ 32 512#32),
    StableHlo.unary main_while1b_c_34 main_while1b_v83 (broadcastInDim S8 ![] bcast_S_S8 : (⟨S_, .i32⟩ : BufTy).Contents (Elt F) → (⟨S8, .i32⟩ : BufTy).Contents (Elt F)),
    StableHlo.binary main_while1b_v46 main_while1b_v83 main_while1b_v84 (addi : (⟨S8, .i32⟩ : BufTy).Contents (Elt F) → (⟨S8, .i32⟩ : BufTy).Contents (Elt F) → (⟨S8, .i32⟩ : BufTy).Contents (Elt F)),
    StableHlo.ternary main_while1b_v82 main_while1b_v84 main_while1b_v46 main_while1b_v85 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while1b_v75 main_while1b_v86 (broadcastInDim S8 ![] bcast_S_S8 : (⟨S_, .i32⟩ : BufTy).Contents (Elt F) → (⟨S8, .i32⟩ : BufTy).Contents (Elt F)),
    StableHlo.unary main_while1b_v86 main_while1b_v87 (id : (⟨S8, .i32⟩ : BufTy).Contents (Elt F) → (⟨S8, .i32⟩ : BufTy).Contents (Elt F)),
    StableHlo.unary main_while1b_v87 main_while1b_v88 (broadcastInDim S8x1 ![0] bcast_S8_S8x1_0 : (⟨S8, .i32⟩ : BufTy).Contents (Elt F) → (⟨S8x1, .i32⟩ : BufTy).Contents (Elt F)),
    StableHlo.unary main_while1b_v80 main_while1b_v89 (broadcastInDim S8x1 ![0] bcast_S8_S8x1_0 : (⟨S8, .i32⟩ : BufTy).Contents (Elt F) → (⟨S8x1, .i32⟩ : BufTy).Contents (Elt F)),
    StableHlo.unary main_while1b_v85 main_while1b_v90 (broadcastInDim S8x1 ![0] bcast_S8_S8x1_0 : (⟨S8, .i32⟩ : BufTy).Contents (Elt F) → (⟨S8x1, .i32⟩ : BufTy).Contents (Elt F)) ]

/-- The operations of the second gather. -/
abbrev takeD : List (HloOp τ sig (Elt F)) :=
  [ StableHlo.nary ![main_while1b_v88, main_while1b_v89, main_while1b_v90] main_while1b_v91 (fun u => (concatenate S8x3 1 [⟨S8x1, (u 0 : (⟨S8x1, .i32⟩ : BufTy).Contents (Elt F))⟩, ⟨S8x1, (u 1 : (⟨S8x1, .i32⟩ : BufTy).Contents (Elt F))⟩, ⟨S8x1, (u 2 : (⟨S8x1, .i32⟩ : BufTy).Contents (Elt F))⟩] concatenates_S8x1_S8x1_S8x1_S8x3_d1 : (⟨S8x3, .i32⟩ : BufTy).Contents (Elt F))),
    StableHlo.binary main_v23_4 main_while1b_v91 main_while1b_v92 ((fun x i => Host.gather gather_S2048x8x512_S8x3_S8_n_012_n_n_012_1_111 x i) : (⟨S2048x8x512, .f32⟩ : BufTy).Contents (Elt F) → (⟨S8x3, .i32⟩ : BufTy).Contents (Elt F) → (⟨S8, .f32⟩ : BufTy).Contents (Elt F)) ]

/-- The operations of the decision. -/
abbrev takeE : List (HloOp τ sig (Elt F)) :=
  [ StableHlo.binary main_while1b_v72 main_while1b_v92 main_while1b_v93 (cmpf .olt : (⟨S8, .f32⟩ : BufTy).Contents (Elt F) → (⟨S8, .f32⟩ : BufTy).Contents (Elt F) → (⟨S8, .i1⟩ : BufTy).Contents (Elt F)),
    StableHlo.binary main_while1b_v52 main_while1b_v93 main_while1b_v94 (ori : (⟨S8, .i1⟩ : BufTy).Contents (Elt F) → (⟨S8, .i1⟩ : BufTy).Contents (Elt F) → (⟨S8, .i1⟩ : BufTy).Contents (Elt F)),
    StableHlo.binary main_while1b_v29 main_while1b_v94 main_while1b_v95 (andi : (⟨S8, .i1⟩ : BufTy).Contents (Elt F) → (⟨S8, .i1⟩ : BufTy).Contents (Elt F) → (⟨S8, .i1⟩ : BufTy).Contents (Elt F)),
    StableHlo.nullary main_while1b_c_35 (constantI S_ 32 1#32),
    StableHlo.unary main_while1b_c_35 main_while1b_v96 (broadcastInDim S8 ![] bcast_S_S8 : (⟨S_, .i32⟩ : BufTy).Contents (Elt F) → (⟨S8, .i32⟩ : BufTy).Contents (Elt F)),
    StableHlo.binary main_v23_8 main_while1b_v96 main_while1b_v97 (subi : (⟨S8, .i32⟩ : BufTy).Contents (Elt F) → (⟨S8, .i32⟩ : BufTy).Contents (Elt F) → (⟨S8, .i32⟩ : BufTy).Contents (Elt F)) ]

theorem backOps_8_split (X : Valuation τ sig (Elt F)) :
    after backOps_8 X = after takeE (after takeD (after takeC (after takeB (after takeA X)))) := rfl

theorem takeA_keep (X : Valuation τ sig (Elt F)) :
    after takeA X (Proc.devRef .tc main_v23_4) = X (Proc.devRef .tc main_v23_4)
      ∧ after takeA X (Proc.devRef .tc main_v23_3) = X (Proc.devRef .tc main_v23_3)
      ∧ after takeA X (Proc.devRef .tc main_v23_8) = X (Proc.devRef .tc main_v23_8)
      ∧ after takeA X (Proc.devRef .tc main_while1b_v43) = X (Proc.devRef .tc main_while1b_v43)
      ∧ after takeA X (Proc.devRef .tc main_while1b_v46) = X (Proc.devRef .tc main_while1b_v46)
      ∧ after takeA X (Proc.devRef .tc main_while1b_v29) = X (Proc.devRef .tc main_while1b_v29) := by
  refine ⟨?_, ?_, ?_, ?_, ?_, ?_⟩
  all_goals
    after_results

theorem takeB_keep (X : Valuation τ sig (Elt F)) :
    after takeB X (Proc.devRef .tc main_v23_4) = X (Proc.devRef .tc main_v23_4)
      ∧ after takeB X (Proc.devRef .tc main_v23_3) = X (Proc.devRef .tc main_v23_3)
      ∧ after takeB X (Proc.devRef .tc main_v23_8) = X (Proc.devRef .tc main_v23_8)
      ∧ after takeB X (Proc.devRef .tc main_while1b_v43) = X (Proc.devRef .tc main_while1b_v43)
      ∧ after takeB X (Proc.devRef .tc main_while1b_v46) = X (Proc.devRef .tc main_while1b_v46)
      ∧ after takeB X (Proc.devRef .tc main_while1b_v29) = X (Proc.devRef .tc main_while1b_v29)
      ∧ after takeB X (Proc.devRef .tc main_while1b_v52) = X (Proc.devRef .tc main_while1b_v52) := by
  refine ⟨?_, ?_, ?_, ?_, ?_, ?_, ?_⟩
  all_goals
    after_results

theorem takeC_keep (X : Valuation τ sig (Elt F)) :
    after takeC X (Proc.devRef .tc main_v23_4) = X (Proc.devRef .tc main_v23_4)
      ∧ after takeC X (Proc.devRef .tc main_v23_8) = X (Proc.devRef .tc main_v23_8)
      ∧ after takeC X (Proc.devRef .tc main_while1b_v29) = X (Proc.devRef .tc main_while1b_v29)
      ∧ after takeC X (Proc.devRef .tc main_while1b_v52) = X (Proc.devRef .tc main_while1b_v52)
      ∧ after takeC X (Proc.devRef .tc main_while1b_v72) = X (Proc.devRef .tc main_while1b_v72) := by
  refine ⟨?_, ?_, ?_, ?_, ?_⟩
  all_goals
    after_results

theorem takeD_keep (X : Valuation τ sig (Elt F)) :
    after takeD X (Proc.devRef .tc main_v23_8) = X (Proc.devRef .tc main_v23_8)
      ∧ after takeD X (Proc.devRef .tc main_while1b_v29) = X (Proc.devRef .tc main_while1b_v29)
      ∧ after takeD X (Proc.devRef .tc main_while1b_v52) = X (Proc.devRef .tc main_while1b_v52)
      ∧ after takeD X (Proc.devRef .tc main_while1b_v72) = X (Proc.devRef .tc main_while1b_v72) := by
  refine ⟨?_, ?_, ?_, ?_⟩
  all_goals
    after_results

/-- Whether the walk starts its descent at the token. -/
def corner (T f : BitVec 32) : BitVec 1 := IntOp.andi (IntOp.cmpi .ne T 0#32) (IntOp.cmpi .eq T f)

theorem takeA_corner (X : Valuation τ sig (Elt F)) {f : BitVec 32} (T : Fin 8 → BitVec 32)
    (h8 : X (Proc.devRef .tc main_v23_8) = ofVec T)
    (h26 : X (Proc.devRef .tc main_while1b_v26) = fun _ => f) :
    after takeA X (Proc.devRef .tc main_while1b_v52) = ofVec fun b => corner (T b) f := by
  after_results
  rw [h8, h26]
  rfl

theorem takeA_index (X : Valuation τ sig (Elt F)) {g : BitVec 32} (R : Fin 8 → BitVec 32)
    (h3 : X (Proc.devRef .tc main_v23_3) = fun j : S8.Idx => BitVec.ofNat 32 (j 0).val)
    (h30 : X (Proc.devRef .tc main_while1b_v30) = ofVec R)
    (h43 : X (Proc.devRef .tc main_while1b_v43) = fun _ => g) :
    after takeA X (Proc.devRef .tc main_while1b_v68) = (fun _ => wrap 2048#32 g)
      ∧ after takeA X (Proc.devRef .tc main_while1b_v69) = (fun i : S8x1.Idx => wrap 8#32 (BitVec.ofNat 32 (i 0).val))
      ∧ after takeA X (Proc.devRef .tc main_while1b_v70) = fun i : S8x1.Idx => wrap 512#32 (R (i 0)) := by
  refine ⟨?_, ?_, ?_⟩
  · after_results
    rw [h43]
    rfl
  · after_results
    rw [h3]
    rfl
  · after_results
    rw [h30]
    rfl

theorem takeC_index (X : Valuation τ sig (Elt F)) {g : BitVec 32} (L : Fin 8 → BitVec 32)
    (h3 : X (Proc.devRef .tc main_v23_3) = fun j : S8.Idx => BitVec.ofNat 32 (j 0).val)
    (h46 : X (Proc.devRef .tc main_while1b_v46) = ofVec L)
    (h43 : X (Proc.devRef .tc main_while1b_v43) = fun _ => g) :
    after takeC X (Proc.devRef .tc main_while1b_v88) = (fun _ => wrap 2048#32 g)
      ∧ after takeC X (Proc.devRef .tc main_while1b_v89) = (fun i : S8x1.Idx => wrap 8#32 (BitVec.ofNat 32 (i 0).val))
      ∧ after takeC X (Proc.devRef .tc main_while1b_v90) = fun i : S8x1.Idx => wrap 512#32 (L (i 0)) := by
  refine ⟨?_, ?_, ?_⟩
  · after_results
    rw [h43]
    rfl
  · after_results
    rw [h3]
    rfl
  · after_results
    rw [h46]
    rfl

/-- A gather at three columns. -/
theorem gather_columns {α : Type} (Q : ℕ → Row α) (p q r : S8x1.Idx → BitVec 32)
    (h : Shape.Concatenates (([⟨S8x1, p⟩, ⟨S8x1, q⟩, ⟨S8x1, r⟩] : List ((s : Shape) × (s.Idx → BitVec 32))).map (·.1)) S8x3 1) :
    Host.gather gather_S2048x8x512_S8x3_S8_n_012_n_n_012_1_111 (ofRows Q)
      (concatenate S8x3 1 [⟨S8x1, p⟩, ⟨S8x1, q⟩, ⟨S8x1, r⟩] h) = ofVec fun b => pick Q (p (atOne b)) (q (atOne b)) (r (atOne b)) := by
  rw [gather_pick]
  funext j
  obtain ⟨e0, e1, e2⟩ := columns p q r h (j 0)
  show pick Q _ _ _ = pick Q _ _ _
  rw [e0, e1, e2]

theorem takeB_gather (X : Valuation τ sig (Elt F)) (Q : ℕ → Row (F .f32))
    (p q r : S8x1.Idx → BitVec 32)
    (h4 : X (Proc.devRef .tc main_v23_4) = ofRows Q)
    (hp : X (Proc.devRef .tc main_while1b_v68) = p) (hq : X (Proc.devRef .tc main_while1b_v69) = q) (hr : X (Proc.devRef .tc main_while1b_v70) = r) :
    after takeB X (Proc.devRef .tc main_while1b_v72) = ofVec fun b => pick Q (p (atOne b)) (q (atOne b)) (r (atOne b)) := by
  subst hp hq hr
  after_results
  rw [h4]
  exact gather_columns Q _ _ _ _

theorem takeD_gather (X : Valuation τ sig (Elt F)) (Q : ℕ → Row (F .f32))
    (p q r : S8x1.Idx → BitVec 32)
    (h4 : X (Proc.devRef .tc main_v23_4) = ofRows Q)
    (hp : X (Proc.devRef .tc main_while1b_v88) = p) (hq : X (Proc.devRef .tc main_while1b_v89) = q) (hr : X (Proc.devRef .tc main_while1b_v90) = r) :
    after takeD X (Proc.devRef .tc main_while1b_v92) = ofVec fun b => pick Q (p (atOne b)) (q (atOne b)) (r (atOne b)) := by
  subst hp hq hr
  after_results
  rw [h4]
  exact gather_columns Q _ _ _ _

theorem takeE_decide (X : Valuation τ sig (Elt F)) (C : Fin 8 → BitVec 1) (y z : Fin 8 → F .f32)
    (h29 : X (Proc.devRef .tc main_while1b_v29) = fun _ => 1#1)
    (h52 : X (Proc.devRef .tc main_while1b_v52) = ofVec C)
    (h72 : X (Proc.devRef .tc main_while1b_v72) = ofVec y)
    (h92 : X (Proc.devRef .tc main_while1b_v92) = ofVec z) :
    after takeE X (Proc.devRef .tc main_while1b_v95) = ofVec fun b =>
      IntOp.andi 1#1 (IntOp.ori (C b) (FloatOps.cmpf .olt (y b) (z b))) := by
  after_results
  rw [h29, h52, h72, h92]
  rfl

theorem takeE_back (X : Valuation τ sig (Elt F)) (T : Fin 8 → BitVec 32)
    (h8 : X (Proc.devRef .tc main_v23_8) = ofVec T) :
    after takeE X (Proc.devRef .tc main_while1b_v97) = ofVec fun b => IntOp.subi (T b) 1#32 := by
  after_results
  rw [h8]
  rfl

/-- The decision and the token one lane before. -/
theorem back_steps (X : Valuation τ sig (Elt F)) (Q : ℕ → Row (F .f32)) {f g : BitVec 32} (T R L : Fin 8 → BitVec 32)
    (h3 : X (Proc.devRef .tc main_v23_3) = fun j : S8.Idx => BitVec.ofNat 32 (j 0).val)
    (h4 : X (Proc.devRef .tc main_v23_4) = ofRows Q)
    (h8 : X (Proc.devRef .tc main_v23_8) = ofVec T)
    (h26 : X (Proc.devRef .tc main_while1b_v26) = fun _ => f)
    (h29 : X (Proc.devRef .tc main_while1b_v29) = fun _ => 1#1)
    (h30 : X (Proc.devRef .tc main_while1b_v30) = ofVec R)
    (h43 : X (Proc.devRef .tc main_while1b_v43) = fun _ => g)
    (h46 : X (Proc.devRef .tc main_while1b_v46) = ofVec L) :
    after backOps_8 X (Proc.devRef .tc main_while1b_v95) = (ofVec fun b =>
      IntOp.andi 1#1 (IntOp.ori (corner (T b) f)
        (FloatOps.cmpf .olt (pick Q (wrap 2048#32 g) (wrap 8#32 (BitVec.ofNat 32 b.val)) (wrap 512#32 (R b)))
          (pick Q (wrap 2048#32 g) (wrap 8#32 (BitVec.ofNat 32 b.val)) (wrap 512#32 (L b))))))
      ∧ after backOps_8 X (Proc.devRef .tc main_while1b_v97) = ofVec fun b => IntOp.subi (T b) 1#32 := by
  rw [backOps_8_split]
  obtain ⟨a4, a3, a8, a43, a46, a29⟩ := takeA_keep X
  have a52 := takeA_corner X T h8 h26
  obtain ⟨a68, a69, a70⟩ := takeA_index X R h3 h30 h43
  generalize after takeA X = X1 at *
  obtain ⟨b4, b3, b8, b43, b46, b29, b52⟩ := takeB_keep X1
  have b72 := takeB_gather X1 Q _ _ _ (a4.trans h4) a68 a69 a70
  generalize after takeB X1 = X2 at *
  obtain ⟨c4, c8, c29, c52, c72⟩ := takeC_keep X2
  obtain ⟨c88, c89, c90⟩ := takeC_index X2 L (b3.trans (a3.trans h3)) (b46.trans (a46.trans h46)) (b43.trans (a43.trans h43))
  generalize after takeC X2 = X3 at *
  obtain ⟨d8, d29, d52, d72⟩ := takeD_keep X3
  have d92 := takeD_gather X3 Q _ _ _ (c4.trans (b4.trans (a4.trans h4))) c88 c89 c90
  generalize after takeD X3 = X4 at *
  exact ⟨takeE_decide X4 _ _ _ (d29.trans (c29.trans (b29.trans (a29.trans h29)))) (d52.trans (c52.trans (b52.trans a52)))
    (d72.trans (c72.trans b72)) d92, takeE_back X4 T (d8.trans (c8.trans (b8.trans (a8.trans h8))))⟩

end Cert.ReferenceIdeal.Mas

end
-- ==== Proof.ReferenceIdeal.Walk.lean ====
/- The reference's backward loop: it walks the spots and marks them. -/
module

public import proofs.«01_k».proof.Proof.ReferenceIdeal.Decide
public import Idealize.ShloMosaic.Lib.Affine

@[expose] public section

set_option maxRecDepth 4000

noncomputable section

namespace Cert.ReferenceIdeal.Mas

open Idealize.ShloMosaic Idealize.ShloMosaic.TcCoe
open Idealize.SL Idealize.SL.Sem
open Idealize.ShloMosaic.StableHlo
open Cert.ReferenceIdeal.Gen
open Cert.Mas (Row lft score better goes spot Spot spot_le word_before)

variable {F : FTy → Type} [FloatOps F]

/-- Whether a trip at frame `f` steps from the token `T`. -/
def steps (Q : ℕ → Row (F .f32)) (f : BitVec 32) (b : Fin 8) (T : BitVec 32) : BitVec 1 :=
  IntOp.andi 1#1 (IntOp.ori (corner T f)
    (FloatOps.cmpf .olt (pick Q (wrap 2048#32 (fmod 2048#32 (IntOp.subi f 1#32))) (wrap 8#32 (BitVec.ofNat 32 b.val)) (wrap 512#32 (fmod 512#32 T)))
      (pick Q (wrap 2048#32 (fmod 2048#32 (IntOp.subi f 1#32))) (wrap 8#32 (BitVec.ofNat 32 b.val)) (wrap 512#32 (fmod 512#32 (IntOp.subi T 1#32))))))

/-- Whether a trip at frame `f` marks an element. -/
def marks (f : BitVec 32) (T : Fin 8 → BitVec 32) (j : S8x2048x512.Idx) : BitVec 1 :=
  IntOp.andi 1#1 (IntOp.andi (IntOp.cmpi .eq (BitVec.ofNat 32 (j 1).val) f) (IntOp.cmpi .eq (BitVec.ofNat 32 (j 2).val) (fmod 512#32 (T (j 0)))))

/-- A trip counts, marks the path and steps. -/
theorem back_trip (V : Valuation τ sig (Elt F)) {n : ℕ} (hn : n < 2048) (Q : ℕ → Row (F .f32)) (A : S8x2048x512.Idx → BitVec 32) (T : Fin 8 → BitVec 32)
    (h0 : V (Proc.devRef .tc main_v23_0) = fun _ => 2048#32)
    (h1 : V (Proc.devRef .tc main_v23_1) = fun j : S8x2048x512.Idx => BitVec.ofNat 32 (j 1).val)
    (h2 : V (Proc.devRef .tc main_v23_2) = fun j : S8x2048x512.Idx => BitVec.ofNat 32 (j 2).val)
    (h3 : V (Proc.devRef .tc main_v23_3) = fun j : S8.Idx => BitVec.ofNat 32 (j 0).val)
    (h4 : V (Proc.devRef .tc main_v23_4) = ofRows Q)
    (h6 : V (Proc.devRef .tc main_v23_6) = fun _ => BitVec.ofNat 32 n)
    (h7 : V (Proc.devRef .tc main_v23_7) = A) (h8 : V (Proc.devRef .tc main_v23_8) = ofVec T) :
    afterL body1 (after test1 V) (Proc.devRef .tc main_v23_6) = (fun _ => BitVec.ofNat 32 (n + 1))
      ∧ afterL body1 (after test1 V) (Proc.devRef .tc main_v23_7)
        = (fun j : S8x2048x512.Idx => Scalar.select (marks (BitVec.ofNat 32 (2047 - n)) T j) 1#32 (A j))
      ∧ afterL body1 (after test1 V) (Proc.devRef .tc main_v23_8)
        = ofVec fun b => Scalar.select (steps Q (BitVec.ofNat 32 (2047 - n)) b (T b)) (IntOp.subi (T b) 1#32) (T b) := by
  simp only [afterL_cons, afterL_nil]
  obtain ⟨X0, e0⟩ : ∃ X, X = after test1 V := ⟨_, rfl⟩
  have p0 : ∀ r : Ref sig .tc, r ∉ test1_W → X0 (Proc.devRef .tc r) = V (Proc.devRef .tc r) := fun r h => by
    rw [e0]; exact after_of_writes_sub test1 V test1_writes h
  rw [← e0]
  obtain ⟨X1, e1⟩ : ∃ X, X = after backOps X0 := ⟨_, rfl⟩
  have p1 : ∀ r : Ref sig .tc, r ∉ backOps_W → X1 (Proc.devRef .tc r) = X0 (Proc.devRef .tc r) := fun r h => by
    rw [e1]; exact after_of_writes_sub backOps X0 backOps_writes h
  rw [← e1]
  have v25 := back_next X0 (by rw [p0 _ (by decide)]; exact h6)
  rw [← e1] at v25
  have v26 := back_frame X0 hn (by rw [p0 _ (by decide)]; exact h6)
  rw [← e1] at v26
  have v29 := back_within X0 hn (by rw [p0 _ (by decide)]; exact h0) (by rw [p0 _ (by decide)]; exact h6)
  rw [← e1] at v29
  have c16 := back_512 X0
  rw [← e1] at c16
  obtain ⟨X2, e2⟩ : ∃ X, X = after backOps_1 X1 := ⟨_, rfl⟩
  have p2 : ∀ r : Ref sig .tc, r ∉ backOps_1_W → X2 (Proc.devRef .tc r) = X1 (Proc.devRef .tc r) := fun r h => by
    rw [e2]; exact after_of_writes_sub backOps_1 X1 backOps_1_writes h
  rw [← e2]
  have v30 := back_lane X1 T c16 (by rw [p1 _ (by decide), p0 _ (by decide)]; exact h8)
  rw [← e2] at v30
  obtain ⟨X3, e3⟩ : ∃ X, X = after backOps_2 X2 := ⟨_, rfl⟩
  have p3 : ∀ r : Ref sig .tc, r ∉ backOps_2_W → X3 (Proc.devRef .tc r) = X2 (Proc.devRef .tc r) := fun r h => by
    rw [e3]; exact after_of_writes_sub backOps_2 X2 backOps_2_writes h
  rw [← e3]
  have v40 := back_mark X2 _ (by rw [p2 _ (by decide), p1 _ (by decide), p0 _ (by decide)]; exact h1) (by rw [p2 _ (by decide), p1 _ (by decide), p0 _ (by decide)]; exact h2) (by rw [p2 _ (by decide)]; exact v26) (by rw [p2 _ (by decide)]; exact v29) v30
  rw [← e3] at v40
  have c17 := back_one X2
  rw [← e3] at c17
  obtain ⟨X4, e4⟩ : ∃ X, X = after backOps_3 X3 := ⟨_, rfl⟩
  have p4 : ∀ r : Ref sig .tc, r ∉ backOps_3_W → X4 (Proc.devRef .tc r) = X3 (Proc.devRef .tc r) := fun r h => by
    rw [e4]; exact after_of_writes_sub backOps_3 X3 backOps_3_writes h
  rw [← e4]
  have v41 := back_path X3 A _ c17 v40 (by rw [p3 _ (by decide), p2 _ (by decide), p1 _ (by decide), p0 _ (by decide)]; exact h7)
  rw [← e4] at v41
  obtain ⟨X5, e5⟩ : ∃ X, X = after backOps_4 X4 := ⟨_, rfl⟩
  have p5 : ∀ r : Ref sig .tc, r ∉ backOps_4_W → X5 (Proc.devRef .tc r) = X4 (Proc.devRef .tc r) := fun r h => by
    rw [e5]; exact after_of_writes_sub backOps_4 X4 backOps_4_writes h
  rw [← e5]
  have v42 := back_before X4 (by rw [p4 _ (by decide), p3 _ (by decide), p2 _ (by decide)]; exact v26)
  rw [← e5] at v42
  have c19 := back_2048 X4
  rw [← e5] at c19
  obtain ⟨X6, e6⟩ : ∃ X, X = after backOps_5 X5 := ⟨_, rfl⟩
  have p6 : ∀ r : Ref sig .tc, r ∉ backOps_5_W → X6 (Proc.devRef .tc r) = X5 (Proc.devRef .tc r) := fun r h => by
    rw [e6]; exact after_of_writes_sub backOps_5 X5 backOps_5_writes h
  rw [← e6]
  have v43 := back_row X5 c19 v42
  rw [← e6] at v43
  obtain ⟨X7, e7⟩ : ∃ X, X = after backOps_6 X6 := ⟨_, rfl⟩
  have p7 : ∀ r : Ref sig .tc, r ∉ backOps_6_W → X7 (Proc.devRef .tc r) = X6 (Proc.devRef .tc r) := fun r h => by
    rw [e7]; exact after_of_writes_sub backOps_6 X6 backOps_6_writes h
  rw [← e7]
  have v45 := back_minus X6 T (by rw [p6 _ (by decide), p5 _ (by decide), p4 _ (by decide), p3 _ (by decide), p2 _ (by decide), p1 _ (by decide), p0 _ (by decide)]; exact h8)
  rw [← e7] at v45
  have c21 := back_512' X6
  rw [← e7] at c21
  obtain ⟨X8, e8⟩ : ∃ X, X = after backOps_7 X7 := ⟨_, rfl⟩
  have p8 : ∀ r : Ref sig .tc, r ∉ backOps_7_W → X8 (Proc.devRef .tc r) = X7 (Proc.devRef .tc r) := fun r h => by
    rw [e8]; exact after_of_writes_sub backOps_7 X7 backOps_7_writes h
  rw [← e8]
  have v46 := back_left X7 _ c21 v45
  rw [← e8] at v46
  obtain ⟨X9, e9⟩ : ∃ X, X = after backOps_8 X8 := ⟨_, rfl⟩
  have p9 : ∀ r : Ref sig .tc, r ∉ backOps_8_W → X9 (Proc.devRef .tc r) = X8 (Proc.devRef .tc r) := fun r h => by
    rw [e9]; exact after_of_writes_sub backOps_8 X8 backOps_8_writes h
  rw [← e9]
  obtain ⟨v95, v97⟩ := back_steps X8 Q T _ _ (by rw [p8 _ (by decide), p7 _ (by decide), p6 _ (by decide), p5 _ (by decide), p4 _ (by decide), p3 _ (by decide), p2 _ (by decide), p1 _ (by decide), p0 _ (by decide)]; exact h3) (by rw [p8 _ (by decide), p7 _ (by decide), p6 _ (by decide), p5 _ (by decide), p4 _ (by decide), p3 _ (by decide), p2 _ (by decide), p1 _ (by decide), p0 _ (by decide)]; exact h4) (by rw [p8 _ (by decide), p7 _ (by decide), p6 _ (by decide), p5 _ (by decide), p4 _ (by decide), p3 _ (by decide), p2 _ (by decide), p1 _ (by decide), p0 _ (by decide)]; exact h8) (by rw [p8 _ (by decide), p7 _ (by decide), p6 _ (by decide), p5 _ (by decide), p4 _ (by decide), p3 _ (by decide), p2 _ (by decide)]; exact v26) (by rw [p8 _ (by decide), p7 _ (by decide), p6 _ (by decide), p5 _ (by decide), p4 _ (by decide), p3 _ (by decide), p2 _ (by decide)]; exact v29) (by rw [p8 _ (by decide), p7 _ (by decide), p6 _ (by decide), p5 _ (by decide), p4 _ (by decide), p3 _ (by decide)]; exact v30) (by rw [p8 _ (by decide), p7 _ (by decide)]; exact v43) v46
  rw [← e9] at v95 v97
  obtain ⟨X10, e10⟩ : ∃ X, X = after backOps_9 X9 := ⟨_, rfl⟩
  have p10 : ∀ r : Ref sig .tc, r ∉ backOps_9_W → X10 (Proc.devRef .tc r) = X9 (Proc.devRef .tc r) := fun r h => by
    rw [e10]; exact after_of_writes_sub backOps_9 X9 backOps_9_writes h
  rw [← e10]
  have v98 := back_choose X9 _ _ T v95 v97 (by rw [p9 _ (by decide), p8 _ (by decide), p7 _ (by decide), p6 _ (by decide), p5 _ (by decide), p4 _ (by decide), p3 _ (by decide), p2 _ (by decide), p1 _ (by decide), p0 _ (by decide)]; exact h8)
  rw [← e10] at v98
  exact ⟨(back_carry6 X10).trans (by rw [p10 _ (by decide), p9 _ (by decide), p8 _ (by decide), p7 _ (by decide), p6 _ (by decide), p5 _ (by decide), p4 _ (by decide), p3 _ (by decide), p2 _ (by decide)]; exact v25), (back_carry7 X10).trans (by rw [p10 _ (by decide), p9 _ (by decide), p8 _ (by decide), p7 _ (by decide), p6 _ (by decide), p5 _ (by decide)]; exact v41), (back_carry8 X10).trans v98⟩

/-! ## The words -/

theorem and_one (z : BitVec 1) : IntOp.andi 1#1 z = z := by
  rcases BitVec.eq_zero_or_eq_one z with rfl | rfl <;> rfl

theorem or_one (z : BitVec 1) : IntOp.ori 1#1 z = 1#1 := by
  rcases BitVec.eq_zero_or_eq_one z with rfl | rfl <;> rfl

theorem or_decide (p : Prop) [Decidable p] (z : BitVec 1) : IntOp.ori (BitVec.ofBool (decide p)) z = BitVec.ofBool (decide (p ∨ z = 1#1)) := by
  by_cases hg : p
  · rw [decide_eq_true hg, decide_eq_true (Or.inl hg)]
    exact or_one z
  · rw [decide_eq_false hg]
    rcases BitVec.eq_zero_or_eq_one z with rfl | rfl
    · rw [decide_eq_false (by rintro (h | h); exact hg h; exact absurd h (by decide))]; rfl
    · rw [decide_eq_true (Or.inr rfl)]; rfl

/-- The remainder is the integers'. -/
theorem fmod_toInt {n : ℕ} (h0 : 0 < n) (hn : n < 2 ^ 30) (w : BitVec 32) : (fmod (BitVec.ofNat 32 n) w).toInt = w.toInt % (n : ℤ) := by
  have en : (BitVec.ofNat 32 n).toInt = n := WordCmp.toInt_ofNat_of_lt (by omega)
  have e1 : Scalar.select (IntOp.cmpi .eq (BitVec.ofNat 32 n) 0#32) 1#32 (BitVec.ofNat 32 n) = BitVec.ofNat 32 n := by
    rw [show (0#32 : BitVec 32) = BitVec.ofNat 32 0 from rfl, WordCmp.cmpi_eq_ofNat (by omega) (by omega), decide_eq_false (by omega)]
    rfl
  have hd : IntOp.cmpi .slt (BitVec.ofNat 32 n) 0#32 = 0#1 := by
    rw [show (0#32 : BitVec 32) = BitVec.ofNat 32 0 from rfl, WordCmp.cmpi_slt_ofNat (by omega) (by omega), decide_eq_false (by omega)]
    rfl
  have er : IntOp.remsi .host w (BitVec.ofNat 32 n) = w.srem (BitVec.ofNat 32 n) := IntOp.remsi_of_pos .host (by omega)
  have hr : (w.srem (BitVec.ofNat 32 n)).toInt = w.toInt.tmod n := by rw [BitVec.toInt_srem, en]
  unfold fmod
  rw [e1, hd, er]
  generalize w.srem (BitVec.ofNat 32 n) = r at hr
  have hm : w.toInt.tmod (n : ℤ) = if 0 ≤ w.toInt ∨ (n : ℤ) ∣ w.toInt then w.toInt % n else w.toInt % n - n := by
    rw [Int.tmod_eq_emod]
    split <;> simp
  have hlt := Int.emod_lt_of_pos w.toInt (show (0 : ℤ) < n by omega)
  have hge := Int.emod_nonneg w.toInt (show (n : ℤ) ≠ 0 by omega)
  rw [WordCmp.cmpi_slt_eq]
  by_cases hneg : r.toInt < 0
  · have hadd : (IntOp.addi r (BitVec.ofNat 32 n)).toInt = r.toInt + n := by
      unfold IntOp.addi
      rw [BitVec.toInt_add, en]
      apply Int.bmod_eq_of_le <;> omega
    have hc : r.toInt = w.toInt % n - n := by
      rw [hr, hm] at *
      split at hneg <;> omega
    rw [decide_eq_true (show r.toInt < (0#32 : BitVec 32).toInt from hneg), WordCmp.cmpi_ne_eq r, decide_eq_true (show r ≠ 0#32 from fun e => by rw [e] at hneg; exact absurd hneg (by decide))]
    show (IntOp.addi r (BitVec.ofNat 32 n)).toInt = _
    rw [hadd, hc]; omega
  · have hc : r.toInt = w.toInt % n := by
      rw [hr, hm] at *
      split at hneg <;> omega
    rw [decide_eq_false (show ¬ r.toInt < (0#32 : BitVec 32).toInt from hneg)]
    refine Eq.trans (congrArg BitVec.toInt ?_) hc
    generalize IntOp.cmpi .ne r 0#32 = z
    rcases BitVec.eq_zero_or_eq_one z with rfl | rfl <;> rfl

theorem fmod_eq {n : ℕ} (h0 : 0 < n) (hn : n < 2 ^ 30) (w : BitVec 32) {k : ℕ} (h : w.toInt % (n : ℤ) = k) :
    fmod (BitVec.ofNat 32 n) w = BitVec.ofNat 32 k := by
  have hlt := Int.emod_lt_of_pos w.toInt (show (0 : ℤ) < n by omega)
  apply BitVec.eq_of_toInt_eq
  rw [fmod_toInt h0 hn, h, WordCmp.toInt_ofNat_of_lt (by omega)]

/-- An index that is not negative stays. -/
theorem wrap_eq (n : BitVec 32) {k : ℕ} (hk : k < 2 ^ 31) : wrap n (BitVec.ofNat 32 k) = BitVec.ofNat 32 k := by
  unfold wrap
  rw [show (0#32 : BitVec 32) = BitVec.ofNat 32 0 from rfl, WordCmp.cmpi_slt_ofNat (by omega) (by omega), decide_eq_false (by omega)]
  rfl

/-- The element of the stack at three numbers. -/
theorem pick_eq {α : Type} (Q : ℕ → Row α) {f : ℕ} (hf : f < 2048) (b : Fin 8) (t : Fin 512) :
    pick Q (BitVec.ofNat 32 f) (BitVec.ofNat 32 b.val) (BitVec.ofNat 32 t.val) = Q f b t := by
  have hb := b.isLt
  have ht := t.isLt
  have ef : (BitVec.ofNat 32 f).toInt.toNat = f := by rw [WordCmp.toInt_ofNat_of_lt (by omega)]; rfl
  have eb : (BitVec.ofNat 32 b.val).toInt.toNat = b.val := by rw [WordCmp.toInt_ofNat_of_lt (by omega)]; rfl
  have et : (BitVec.ofNat 32 t.val).toInt.toNat = t.val := by rw [WordCmp.toInt_ofNat_of_lt (by omega)]; rfl
  unfold pick
  rw [ef, show min f 2047 = f by omega]
  exact congrArg₂ (Q f) (Fin.ext (by show min (BitVec.ofNat 32 b.val).toInt.toNat 7 = b.val; rw [eb]; omega))
    (Fin.ext (by show min (BitVec.ofNat 32 t.val).toInt.toNat 511 = t.val; rw [et]; omega))

/-- The token of a spot, as an integer. -/
theorem word_toInt (s : Spot) (h : s.2 ≤ 4096) : s.word.toInt = (s.1.val : ℤ) - 512 * (s.2 : ℤ) := by
  have hu := s.1.isLt
  have e : s.word = BitVec.ofInt 32 ((s.1.val : ℤ) - 512 * (s.2 : ℤ)) := by
    unfold Spot.word
    apply BitVec.eq_of_toNat_eq
    simp only [BitVec.toNat_sub, BitVec.toNat_ofNat, BitVec.toNat_ofInt]
    omega
  rw [e, BitVec.toInt_ofInt_eq_self (by decide) (by omega) (by omega)]

theorem lane_word (s : Spot) (h : s.2 ≤ 4096) : fmod 512#32 s.word = BitVec.ofNat 32 s.1.val := by
  have hu := s.1.isLt
  refine fmod_eq (n := 512) (by omega) (by omega) _ ?_
  rw [word_toInt s h]
  omega

/-- A trip steps where the walk goes. -/
theorem steps_eq (x Q : ℕ → Row (F .f32)) (hQ : ∀ f < 2048, Q f = score x f) {f : ℕ} (h0 : f ≠ 0) (hf : f < 2048) (b : Fin 8) (s : Spot)
    (hs : s.2 ≤ 2048) : steps Q (BitVec.ofNat 32 f) b s.word = BitVec.ofBool (decide (goes x b f s)) := by
  have hu := s.1.isLt
  have hb := b.isLt
  have e1 : wrap 2048#32 (fmod 2048#32 (IntOp.subi (BitVec.ofNat 32 f) 1#32)) = BitVec.ofNat 32 (f - 1) := by
    rw [show IntOp.subi (BitVec.ofNat 32 f) 1#32 = BitVec.ofNat 32 (f - 1) from sub_ofNat (b := 1) (by omega) (by omega),
      show fmod 2048#32 (BitVec.ofNat 32 (f - 1)) = BitVec.ofNat 32 (f - 1) from fmod_eq (n := 2048) (by omega) (by omega) _ (by
        rw [WordCmp.toInt_ofNat_of_lt (by omega)]; omega)]
    exact wrap_eq _ (by omega)
  have e2 : wrap 512#32 (fmod 512#32 s.word) = BitVec.ofNat 32 s.1.val := by
    rw [lane_word s (by omega)]; exact wrap_eq _ (by omega)
  have hl : (lft s.1).val < 512 := (lft s.1).isLt
  have e3 : wrap 512#32 (fmod 512#32 (IntOp.subi s.word 1#32)) = BitVec.ofNat 32 (lft s.1).val := by
    rw [show IntOp.subi s.word 1#32 = s.before.word from (word_before s).symm, lane_word s.before (by unfold Spot.before; split <;> omega)]
    exact wrap_eq _ (by omega)
  have ec : corner s.word (BitVec.ofNat 32 f) = BitVec.ofBool (decide (s.2 = 0 ∧ s.1.val = f ∧ f ≠ 0)) := by
    have hw := word_toInt s (by omega)
    have hfi : (BitVec.ofNat 32 f).toInt = f := WordCmp.toInt_ofNat_of_lt (by omega)
    unfold corner
    rw [WordCmp.cmpi_ne_eq, WordCmp.cmpi_eq_eq, WordCmp.andi_ofBool, ← Bool.decide_and]
    refine congrArg BitVec.ofBool (decide_eq_decide.mpr ⟨fun ⟨_, e⟩ => ?_, fun e => ?_⟩)
    · rw [e, hfi] at hw
      omega
    · have e' : s.word = BitVec.ofNat 32 f := by
        apply BitVec.eq_of_toInt_eq
        rw [hw, hfi]; omega
      refine ⟨fun e0 => ?_, e'⟩
      rw [e0] at hw
      have : (0#32 : BitVec 32).toInt = 0 := rfl
      omega
  unfold steps
  rw [e1, e2, e3, ec, wrap_eq _ (by omega), pick_eq Q (by omega), pick_eq Q (by omega), hQ _ (by omega)]
  rw [and_one]
  show IntOp.ori (BitVec.ofBool (decide (s.2 = 0 ∧ s.1.val = f ∧ f ≠ 0))) (better x f b s.1) = _
  rw [or_decide]
  exact congrArg BitVec.ofBool (decide_eq_decide.mpr Iff.rfl)

/-! ## The loop -/

/-- The path once the frames from `2048 - n` on are marked. -/
def marked (x : ℕ → Row (F .f32)) (n : ℕ) : S8x2048x512.Idx → BitVec 32 := fun j =>
  if 2048 - n ≤ (j 1).val then
    (IntOp.cmpi .eq (BitVec.ofNat 32 (j 2).val) (BitVec.ofNat 32 (spot x (j 0) (2047 - (j 1).val)).1.val)).setWidth 32
  else 0#32

theorem marked_succ (x : ℕ → Row (F .f32)) {n : ℕ} (hn : n < 2048) :
    (fun j : S8x2048x512.Idx => Scalar.select (marks (BitVec.ofNat 32 (2047 - n)) (fun b => (spot x b n).word) j) 1#32 (marked x n j)) = marked x (n + 1) := by
  funext j
  have h1 : (j 1).val < 2048 := (j 1).isLt
  unfold marks marked
  rw [and_one, WordCmp.cmpi_eq_ofNat (by omega) (by omega),
    lane_word _ (by have := spot_le x (j 0) n; omega)]
  by_cases h : (j 1).val = 2047 - n
  · rw [decide_eq_true h, if_neg (by omega), if_pos (by omega), h, show 2047 - (2047 - n) = n by omega]
    generalize IntOp.cmpi .eq _ _ = z
    rcases BitVec.eq_zero_or_eq_one z with rfl | rfl <;> rfl
  · rw [decide_eq_false h]
    have e : IntOp.andi (BitVec.ofBool false) (IntOp.cmpi .eq (BitVec.ofNat 32 (j 2).val) (BitVec.ofNat 32 (spot x (j 0) n).1.val)) = 0#1 := by
      generalize IntOp.cmpi .eq _ _ = z
      rcases BitVec.eq_zero_or_eq_one z with rfl | rfl <;> rfl
    rw [e, WordCmp.select_zero]
    by_cases h' : 2048 - n ≤ (j 1).val
    · rw [if_pos h', if_pos (by omega)]
    · rw [if_neg h', if_neg (by omega)]

variable (m : (ℓ : Loc nD τ sig) → Buf (Elt F) ℓ) (c : Dev nD)

/-- What holds when the backward loop is entered. -/
structure Turned (x : ℕ → Row (F .f32)) : Prop where
  h0 : W3 m c (Proc.devRef .tc main_v23_0) = fun _ => 2048#32
  h1 : W3 m c (Proc.devRef .tc main_v23_1) = fun j : S8x2048x512.Idx => BitVec.ofNat 32 (j 1).val
  h2 : W3 m c (Proc.devRef .tc main_v23_2) = fun j : S8x2048x512.Idx => BitVec.ofNat 32 (j 2).val
  h3 : W3 m c (Proc.devRef .tc main_v23_3) = fun j : S8.Idx => BitVec.ofNat 32 (j 0).val
  h4 : ∃ Q, W3 m c (Proc.devRef .tc main_v23_4) = ofRows Q ∧ ∀ f < 2048, Q f = score x f
  h6 : W3 m c (Proc.devRef .tc main_v23_6) = fun _ => 0#32
  h7 : W3 m c (Proc.devRef .tc main_v23_7) = fun _ => 0#32
  h8 : W3 m c (Proc.devRef .tc main_v23_8) = fun _ => 511#32

/-- Before trip `n` the walk is at its spot and the frames walked are marked. -/
theorem back_inv {x : ℕ → Row (F .f32)} (h : Turned m c x) : ∀ n, n ≤ 2048 →
    Wback m n c (Proc.devRef .tc main_v23_6) = (fun _ => BitVec.ofNat 32 n)
      ∧ Wback m n c (Proc.devRef .tc main_v23_7) = marked x n
      ∧ (n < 2048 → Wback m n c (Proc.devRef .tc main_v23_8) = ofVec fun b => (spot x b n).word)
  | 0, _ => by
    refine ⟨h.h6, h.h7.trans (funext fun j => ?_), fun _ => h.h8.trans (funext fun j => ?_)⟩
    · have h1 : (j 1).val < 2048 := (j 1).isLt
      unfold marked
      rw [if_neg (by omega)]
    · show 511#32 = Spot.word (⟨511, by decide⟩, 0)
      decide
  | n + 1, hn => by
    obtain ⟨i6, i7, i8⟩ := back_inv h n (by omega)
    obtain ⟨Q, e4, hQ⟩ := h.h4
    obtain ⟨r6, r7, r8⟩ := back_trip (Wback m n c) (n := n) (by omega) Q _ _
      ((Wback_keep m c (by decide) n).trans h.h0) ((Wback_keep m c (by decide) n).trans h.h1) ((Wback_keep m c (by decide) n).trans h.h2)
      ((Wback_keep m c (by decide) n).trans h.h3) ((Wback_keep m c (by decide) n).trans e4) i6 i7 (i8 (by omega))
    refine ⟨r6, r7.trans (marked_succ x (by omega)), fun hn' => r8.trans (congrArg ofVec (funext fun b => ?_))⟩
    rw [steps_eq x Q hQ (by omega) (by omega) b _ (by have := spot_le x b n; omega), WordCmp.select_decide]
    show _ = (if goes x b (2047 - n) (spot x b n) then (spot x b n).before else spot x b n).word
    by_cases hg : goes x b (2047 - n) (spot x b n)
    · rw [if_pos hg, if_pos hg]; exact (word_before _).symm
    · rw [if_neg hg, if_neg hg]

end Cert.ReferenceIdeal.Mas

end
-- ==== Proof.ReferenceIdeal.Ends.lean ====
/- The reference's loops joined: what it returns where the mask is one everywhere. -/
module

public import proofs.«01_k».proof.Proof.ReferenceIdeal.Scores
public import proofs.«01_k».proof.Proof.ReferenceIdeal.Walk
public import proofs.«01_k».proof.Proof.Frames

@[expose] public section

set_option maxRecDepth 4000

noncomputable section

namespace Cert.ReferenceIdeal.Mas

open Idealize.ShloMosaic Idealize.ShloMosaic.TcCoe
open Idealize.SL Idealize.SL.Sem
open Idealize.ShloMosaic.StableHlo
open Cert.ReferenceIdeal.Gen
open Cert.Mas (Row score path spot frames atFrameLane path_spot)

/-! ## The lengths -/

theorem sum_tokens (init : EReal) (hi : init = 0) (j : S8x2048.Idx) :
    Ideal.hostReduceAdd reducesTo_S8x2048x512_S8x2048_d2 (fun _ => (1 : EReal)) init j = ((512 : ℝ) : EReal) := by
  rw [Ideal.hostReduceAdd_r3_a2, hi, zero_add, Finset.sum_const, Finset.card_univ, Fintype.card_fin]
  rw [← EReal.coe_one, ← EReal.coe_nsmul]
  norm_num

theorem sum_frames (init : EReal) (hi : init = 0) (j : S8x512.Idx) :
    Ideal.hostReduceAdd reducesTo_S8x2048x512_S8x512_d1 (fun _ => (1 : EReal)) init j = ((2048 : ℝ) : EReal) := by
  rw [Ideal.hostReduceAdd_r3_a1, hi, zero_add, Finset.sum_const, Finset.card_univ, Fintype.card_fin]
  rw [← EReal.coe_one, ← EReal.coe_nsmul]
  norm_num

theorem fptosi_512 : Ideal.fptosi 32 ((512 : ℝ) : EReal) = 512#32 := by
  rw [Ideal.fptosi, Ideal.toIntClamped_coe]; norm_num
theorem fptosi_2048 : Ideal.fptosi 32 ((2048 : ℝ) : EReal) = 2048#32 := by
  rw [Ideal.fptosi, Ideal.toIntClamped_coe]; norm_num

/-- The number of tokens: the mask's first row summed. -/
theorem tokens :
    (fptosi 32 (shapeCast S8 (extractStridedSlice S8x1 ![0, 0] (Host.reduceAdd (F := Ideal) (φ := .f32) (fun _ => (1 : EReal)) (constant S_ .f32 0x00000000#32)
      reducesTo_S8x2048x512_S8x2048_d2 h_S_) slices_S8x2048_S8x1_0_0) shapeCasts_S8x1_S8) : IVec S8 32) = fun _ => 512#32 := by
  rw [show (Host.reduceAdd (F := Ideal) (φ := .f32) (fun _ => (1 : EReal)) (constant S_ .f32 0x00000000#32)
      reducesTo_S8x2048x512_S8x2048_d2 h_S_) = fun _ => ((512 : ℝ) : EReal) from funext fun j => sum_tokens _ Cert.Mas.ofBits_zero j]
  exact funext fun _ => fptosi_512

/-- The number of frames: the mask's first column summed. -/
theorem lengths :
    (fptosi 32 (shapeCast S8 (extractStridedSlice S8x1 ![0, 0] (Host.reduceAdd (F := Ideal) (φ := .f32) (fun _ => (1 : EReal)) (constant S_ .f32 0x00000000#32)
      reducesTo_S8x2048x512_S8x512_d1 h_S_) slices_S8x512_S8x1_0_0) shapeCasts_S8x1_S8) : IVec S8 32) = fun _ => 2048#32 := by
  rw [show (Host.reduceAdd (F := Ideal) (φ := .f32) (fun _ => (1 : EReal)) (constant S_ .f32 0x00000000#32)
      reducesTo_S8x2048x512_S8x512_d1 h_S_) = fun _ => ((2048 : ℝ) : EReal) from funext fun j => sum_frames _ Cert.Mas.ofBits_zero j]
  exact funext fun _ => fptosi_2048

/-- An array of the batch's rows is one. -/
theorem ofRow_eta {α : Type} (A : S8x512.Idx → α) : ∃ q, A = ofRow q := by
  refine ⟨fun b t => A (fun | ⟨0, _⟩ => b | ⟨1, _⟩ => t), funext fun j => congrArg A (funext fun a => ?_)⟩
  match a with
  | ⟨0, _⟩ => rfl
  | ⟨1, _⟩ => rfl

/-- The frames first. -/
theorem frames_first {α : Type} (A : S8x2048x512.Idx → α) :
    transpose S2048x8x512 [1, 0, 2] A transposes_S8x2048x512_S2048x8x512_1_0_2 = ofRows (frames A) := by
  funext j
  have hj : (j 0).val < 2048 := (j 0).isLt
  rw [Pointwise.transpose_apply]
  refine congrArg A (funext fun a => ?_)
  match a with
  | ⟨0, _⟩ => rfl
  | ⟨1, _⟩ => exact Fin.ext (Nat.mod_eq_of_lt hj).symm
  | ⟨2, _⟩ => rfl

variable (m : (ℓ : Loc nD τ sig) → Buf (Elt Ideal) ℓ) (c : Dev nD)

/-- The mask is one everywhere. -/
abbrev Ones : Prop := m ((c : Thread nD τ).loc main_arg1) = fun _ => (1 : EReal)

/-- The frames' values as the reference is given them. -/
abbrev vals : ℕ → Row (Ideal .f32) := frames (m ((c : Thread nD τ).loc main_arg0))

theorem v4_eq (h : Ones m c) : W1 m c (Proc.devRef .tc main_v4) = fun _ => 512#32 := by
  unfold W1
  after_results
  rw [show launchContents m c (Proc.devRef .tc main_arg1) = _ from h]
  exact tokens

theorem v8_eq (h : Ones m c) : W1 m c (Proc.devRef .tc main_v8) = fun _ => 2048#32 := by
  unfold W1
  after_results
  rw [show launchContents m c (Proc.devRef .tc main_arg1) = _ from h]
  exact lengths

theorem mul_ones (A : FVec Ideal S8x2048x512 .f32) : mulf A (fun _ => (1 : EReal)) = A := funext fun j => mul_one (A j : EReal)

theorem entered (h : Ones m c) : Entered m c (vals m c) where
  h0 := by
    unfold W1
    after_results
    rfl
  h1 := by
    unfold W1
    after_results
    rw [show launchContents m c (Proc.devRef .tc main_arg1) = _ from h]
    exact (congrArg (fun A => transpose S2048x8x512 [1, 0, 2] A transposes_S8x2048x512_S2048x8x512_1_0_2) (mul_ones _)).trans (frames_first _)
  h2 := by
    refine Eq.trans ?_ (v4_eq m c h)
    unfold W1
    after_results
    rfl
  h3 := by
    refine Eq.trans ?_ (v8_eq m c h)
    unfold W1
    after_results
    rfl
  h4 := by
    unfold W1
    after_results
    rfl
  h6 := ofRow_eta _
  h7 := ⟨fun _ _ _ => (0 : EReal), by
    unfold W1
    after_results
    exact funext fun _ => Cert.Mas.ofBits_zero⟩

theorem turned (h : Ones m c) : Turned m c (vals m c) where
  h0 := by
    unfold W3
    after_results
    rw [Wfwd_keep m c (by decide) 2048, v8_eq m c h]
    rfl
  h1 := by
    unfold W3
    after_results
    rfl
  h2 := by
    unfold W3
    after_results
    rfl
  h3 := by
    unfold W3
    after_results
    rfl
  h4 := by
    obtain ⟨-, Q, e, hQ⟩ := fwd_inv m c (entered m c h) 2048 (Nat.le_refl _)
    refine ⟨Q, Eq.trans ?_ e, hQ⟩
    unfold W3
    after_results
    rfl
  h6 := by
    unfold W3
    after_results
    rfl
  h7 := by
    unfold W3
    after_results
    rfl
  h8 := by
    unfold W3
    after_results
    rw [Wfwd_keep m c (by decide) 2048, v4_eq m c h]
    exact funext fun _ => (by decide : (512#32 : BitVec 32) - 1#32 = 511#32)

/-- What the reference returns: the path walked over the frames' values. -/
theorem returned (h : Ones m c) :
    Wend m c (Proc.devRef .tc main_v24) = fun y : S8x2048x512.Idx => path (vals m c) (y 0) (y 1).val (y 2) := by
  have e := (back_inv m c (turned m c h) 2048 (Nat.le_refl _)).2.1
  unfold Wend
  after_results
  rw [e]
  funext y
  have hy : (y 1).val < 2048 := (y 1).isLt
  refine Eq.trans ?_ (path_spot (vals m c) (y 0) (y 1).val hy (y 2)).symm
  show FloatOps.sitofp (F := Ideal) .f32 (marked (vals m c) 2048 y) = _
  unfold marked
  rw [if_pos (by omega)]

end Cert.ReferenceIdeal.Mas

end
-- ==== Proof.lean ====
/- The certificate: every execution of the kernel, of the kernel over the extended reals and of the reference ends without fault, its
   arguments unchanged and every counter at zero; the kernel over the extended reals is the kernel's own text; and where the mask is one
   everywhere, the kernel and the reference over the extended reals return the same path. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Kernel.Launch
public import proofs.«01_k».proof.Proof.KernelIdeal.Inputs
public import proofs.«01_k».proof.Proof.ReferenceIdeal.Ends

@[expose] public section

noncomputable section

namespace Cert.Proof

open Idealize.ShloMosaic Idealize.SL.Sem

/-- The path walked over the values of an array of scores. -/
def walked (A : Cert.KernelIdeal.S8x2048x512.Idx → Ideal .f32) : Cert.KernelIdeal.S8x2048x512.Idx → Ideal .f32 :=
  fun y => Cert.Mas.path (F := Ideal) (Cert.Mas.frames A) (y 0) (y 1).val (y 2)

/-- Where the mask is one everywhere, both programs return the path walked over the frames' values. -/
theorem algebraic : algebraic_KernelIdeal_ReferenceIdeal_pre_ones_mask (hKernelIdeal := Cert.KernelIdeal.Gen.facts)
    (hReferenceIdeal := Cert.ReferenceIdeal.Gen.facts) (hPre_ones_mask := Cert.Pre_ones_mask.facts) := by
  letI : Cert.Pre_ones_mask.Facts := Cert.Pre_ones_mask.facts
  intro m g m' g' hpre hargs
  refine ⟨fun c => walked (m ((c.tc : Thread _ _).loc Cert.KernelIdeal.main_arg0)), Cert.KernelIdeal.Mas.result_main m g, ?_⟩
  refine (θ_run _ _ _).mono (fun r h c => ⟨?_, ?_, ?_⟩) (Cert.ReferenceIdeal.Mas.run_main (F := Ideal) m' g')
  · refine (h.1 c Cert.ReferenceIdeal.main_v24 (by decide)).trans ?_
    have ho : Cert.ReferenceIdeal.Mas.Ones m' c := (hargs c).2.trans (Cert.Pre_ones_mask.mask_one _ _ (hpre c))
    refine (Cert.ReferenceIdeal.Mas.returned m' c ho).trans ?_
    exact congrArg walked (hargs c).1
  · exact (h.1 c Cert.ReferenceIdeal.main_arg0 (by decide)).trans (Cert.ReferenceIdeal.Mas.Wend_args m' c _ (by decide))
  · exact (h.1 c Cert.ReferenceIdeal.main_arg1 (by decide)).trans (Cert.ReferenceIdeal.Mas.Wend_args m' c _ (by decide))

theorem claim : Cert.Claim := ⟨Cert.Kernel.Gen.facts, Cert.KernelIdeal.Gen.facts, Cert.ReferenceIdeal.Gen.facts, Cert.Pre_ones_mask.facts,
  fun m ρ _ => Cert.Kernel.Mas.frame_main m ρ,
  fun m ρ _ => Cert.KernelIdeal.Mas.frame_main m ρ,
  fun m ρ _ => Cert.KernelIdeal.Mas.frame_main m ρ,
  fun m ρ _ => Cert.ReferenceIdeal.Mas.frame_main m ρ,
  fun m ρ _ => Cert.ReferenceIdeal.Mas.frame_main m ρ,
  trivial,
  algebraic⟩

end Cert.Proof

end
